-- ==== Defs.lean ====
def Pre_MlpX (m : (ℓ : Loc Cert.MlpX.nD Cert.MlpX.τ Cert.MlpX.sig) → Buf (Elt Bits) ℓ) : Prop :=
  True

def Pre_MlpXIdeal (m : (ℓ : Loc Cert.MlpXIdeal.nD Cert.MlpXIdeal.τ Cert.MlpXIdeal.sig) → Buf (Elt Ideal) ℓ) : Prop :=
  True

def Pre_MlpXIdeal_mlp_finite [hPre_mlp_finite : Cert.Pre_mlp_finite.Facts] (m : (ℓ : Loc Cert.MlpXIdeal.nD Cert.MlpXIdeal.τ Cert.MlpXIdeal.sig) → Buf (Elt Ideal) ℓ) : Prop :=
  ∀ c : Dev Cert.MlpXIdeal.nD,
    (Cert.Pre_mlp_finite.fn (F := Ideal) (m ((c.tc : Thread Cert.MlpXIdeal.nD Cert.MlpXIdeal.τ).loc Cert.MlpXIdeal.main_arg0)) (m ((c.tc : Thread Cert.MlpXIdeal.nD Cert.MlpXIdeal.τ).loc Cert.MlpXIdeal.main_arg1)) (m ((c.tc : Thread Cert.MlpXIdeal.nD Cert.MlpXIdeal.τ).loc Cert.MlpXIdeal.main_arg2)) (m ((c.tc : Thread Cert.MlpXIdeal.nD Cert.MlpXIdeal.τ).loc Cert.MlpXIdeal.main_arg3)) (m ((c.tc : Thread Cert.MlpXIdeal.nD Cert.MlpXIdeal.τ).loc Cert.MlpXIdeal.main_arg4))).1 = (fun _ => 1#1)
    ∧ (Cert.Pre_mlp_finite.fn (F := Ideal) (m ((c.tc : Thread Cert.MlpXIdeal.nD Cert.MlpXIdeal.τ).loc Cert.MlpXIdeal.main_arg0)) (m ((c.tc : Thread Cert.MlpXIdeal.nD Cert.MlpXIdeal.τ).loc Cert.MlpXIdeal.main_arg1)) (m ((c.tc : Thread Cert.MlpXIdeal.nD Cert.MlpXIdeal.τ).loc Cert.MlpXIdeal.main_arg2)) (m ((c.tc : Thread Cert.MlpXIdeal.nD Cert.MlpXIdeal.τ).loc Cert.MlpXIdeal.main_arg3)) (m ((c.tc : Thread Cert.MlpXIdeal.nD Cert.MlpXIdeal.τ).loc Cert.MlpXIdeal.main_arg4))).2.1 = (fun _ => 1#1)
    ∧ (Cert.Pre_mlp_finite.fn (F := Ideal) (m ((c.tc : Thread Cert.MlpXIdeal.nD Cert.MlpXIdeal.τ).loc Cert.MlpXIdeal.main_arg0)) (m ((c.tc : Thread Cert.MlpXIdeal.nD Cert.MlpXIdeal.τ).loc Cert.MlpXIdeal.main_arg1)) (m ((c.tc : Thread Cert.MlpXIdeal.nD Cert.MlpXIdeal.τ).loc Cert.MlpXIdeal.main_arg2)) (m ((c.tc : Thread Cert.MlpXIdeal.nD Cert.MlpXIdeal.τ).loc Cert.MlpXIdeal.main_arg3)) (m ((c.tc : Thread Cert.MlpXIdeal.nD Cert.MlpXIdeal.τ).loc Cert.MlpXIdeal.main_arg4))).2.2.1 = (fun _ => 1#1)
    ∧ (Cert.Pre_mlp_finite.fn (F := Ideal) (m ((c.tc : Thread Cert.MlpXIdeal.nD Cert.MlpXIdeal.τ).loc Cert.MlpXIdeal.main_arg0)) (m ((c.tc : Thread Cert.MlpXIdeal.nD Cert.MlpXIdeal.τ).loc Cert.MlpXIdeal.main_arg1)) (m ((c.tc : Thread Cert.MlpXIdeal.nD Cert.MlpXIdeal.τ).loc Cert.MlpXIdeal.main_arg2)) (m ((c.tc : Thread Cert.MlpXIdeal.nD Cert.MlpXIdeal.τ).loc Cert.MlpXIdeal.main_arg3)) (m ((c.tc : Thread Cert.MlpXIdeal.nD Cert.MlpXIdeal.τ).loc Cert.MlpXIdeal.main_arg4))).2.2.2.1 = (fun _ => 1#1)
    ∧ (Cert.Pre_mlp_finite.fn (F := Ideal) (m ((c.tc : Thread Cert.MlpXIdeal.nD Cert.MlpXIdeal.τ).loc Cert.MlpXIdeal.main_arg0)) (m ((c.tc : Thread Cert.MlpXIdeal.nD Cert.MlpXIdeal.τ).loc Cert.MlpXIdeal.main_arg1)) (m ((c.tc : Thread Cert.MlpXIdeal.nD Cert.MlpXIdeal.τ).loc Cert.MlpXIdeal.main_arg2)) (m ((c.tc : Thread Cert.MlpXIdeal.nD Cert.MlpXIdeal.τ).loc Cert.MlpXIdeal.main_arg3)) (m ((c.tc : Thread Cert.MlpXIdeal.nD Cert.MlpXIdeal.τ).loc Cert.MlpXIdeal.main_arg4))).2.2.2.2 = (fun _ => 1#1)

def Pre_MlpXRefIdeal (m : (ℓ : Loc Cert.MlpXRefIdeal.nD Cert.MlpXRefIdeal.τ Cert.MlpXRefIdeal.sig) → Buf (Elt Ideal) ℓ) : Prop :=
  True

def Pre_MlpXRefIdeal_mlp_finite [hPre_mlp_finite : Cert.Pre_mlp_finite.Facts] (m : (ℓ : Loc Cert.MlpXRefIdeal.nD Cert.MlpXRefIdeal.τ Cert.MlpXRefIdeal.sig) → Buf (Elt Ideal) ℓ) : Prop :=
  ∀ c : Dev Cert.MlpXRefIdeal.nD,
    (Cert.Pre_mlp_finite.fn (F := Ideal) (m ((c.tc : Thread Cert.MlpXRefIdeal.nD Cert.MlpXRefIdeal.τ).loc Cert.MlpXRefIdeal.main_arg0)) (m ((c.tc : Thread Cert.MlpXRefIdeal.nD Cert.MlpXRefIdeal.τ).loc Cert.MlpXRefIdeal.main_arg1)) (m ((c.tc : Thread Cert.MlpXRefIdeal.nD Cert.MlpXRefIdeal.τ).loc Cert.MlpXRefIdeal.main_arg2)) (m ((c.tc : Thread Cert.MlpXRefIdeal.nD Cert.MlpXRefIdeal.τ).loc Cert.MlpXRefIdeal.main_arg3)) (m ((c.tc : Thread Cert.MlpXRefIdeal.nD Cert.MlpXRefIdeal.τ).loc Cert.MlpXRefIdeal.main_arg4))).1 = (fun _ => 1#1)
    ∧ (Cert.Pre_mlp_finite.fn (F := Ideal) (m ((c.tc : Thread Cert.MlpXRefIdeal.nD Cert.MlpXRefIdeal.τ).loc Cert.MlpXRefIdeal.main_arg0)) (m ((c.tc : Thread Cert.MlpXRefIdeal.nD Cert.MlpXRefIdeal.τ).loc Cert.MlpXRefIdeal.main_arg1)) (m ((c.tc : Thread Cert.MlpXRefIdeal.nD Cert.MlpXRefIdeal.τ).loc Cert.MlpXRefIdeal.main_arg2)) (m ((c.tc : Thread Cert.MlpXRefIdeal.nD Cert.MlpXRefIdeal.τ).loc Cert.MlpXRefIdeal.main_arg3)) (m ((c.tc : Thread Cert.MlpXRefIdeal.nD Cert.MlpXRefIdeal.τ).loc Cert.MlpXRefIdeal.main_arg4))).2.1 = (fun _ => 1#1)
    ∧ (Cert.Pre_mlp_finite.fn (F := Ideal) (m ((c.tc : Thread Cert.MlpXRefIdeal.nD Cert.MlpXRefIdeal.τ).loc Cert.MlpXRefIdeal.main_arg0)) (m ((c.tc : Thread Cert.MlpXRefIdeal.nD Cert.MlpXRefIdeal.τ).loc Cert.MlpXRefIdeal.main_arg1)) (m ((c.tc : Thread Cert.MlpXRefIdeal.nD Cert.MlpXRefIdeal.τ).loc Cert.MlpXRefIdeal.main_arg2)) (m ((c.tc : Thread Cert.MlpXRefIdeal.nD Cert.MlpXRefIdeal.τ).loc Cert.MlpXRefIdeal.main_arg3)) (m ((c.tc : Thread Cert.MlpXRefIdeal.nD Cert.MlpXRefIdeal.τ).loc Cert.MlpXRefIdeal.main_arg4))).2.2.1 = (fun _ => 1#1)
    ∧ (Cert.Pre_mlp_finite.fn (F := Ideal) (m ((c.tc : Thread Cert.MlpXRefIdeal.nD Cert.MlpXRefIdeal.τ).loc Cert.MlpXRefIdeal.main_arg0)) (m ((c.tc : Thread Cert.MlpXRefIdeal.nD Cert.MlpXRefIdeal.τ).loc Cert.MlpXRefIdeal.main_arg1)) (m ((c.tc : Thread Cert.MlpXRefIdeal.nD Cert.MlpXRefIdeal.τ).loc Cert.MlpXRefIdeal.main_arg2)) (m ((c.tc : Thread Cert.MlpXRefIdeal.nD Cert.MlpXRefIdeal.τ).loc Cert.MlpXRefIdeal.main_arg3)) (m ((c.tc : Thread Cert.MlpXRefIdeal.nD Cert.MlpXRefIdeal.τ).loc Cert.MlpXRefIdeal.main_arg4))).2.2.2.1 = (fun _ => 1#1)
    ∧ (Cert.Pre_mlp_finite.fn (F := Ideal) (m ((c.tc : Thread Cert.MlpXRefIdeal.nD Cert.MlpXRefIdeal.τ).loc Cert.MlpXRefIdeal.main_arg0)) (m ((c.tc : Thread Cert.MlpXRefIdeal.nD Cert.MlpXRefIdeal.τ).loc Cert.MlpXRefIdeal.main_arg1)) (m ((c.tc : Thread Cert.MlpXRefIdeal.nD Cert.MlpXRefIdeal.τ).loc Cert.MlpXRefIdeal.main_arg2)) (m ((c.tc : Thread Cert.MlpXRefIdeal.nD Cert.MlpXRefIdeal.τ).loc Cert.MlpXRefIdeal.main_arg3)) (m ((c.tc : Thread Cert.MlpXRefIdeal.nD Cert.MlpXRefIdeal.τ).loc Cert.MlpXRefIdeal.main_arg4))).2.2.2.2 = (fun _ => 1#1)

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InIdeal_in_finite [hPre_in_finite : Cert.Pre_in_finite.Facts] (m : (ℓ : Loc Cert.InIdeal.nD Cert.InIdeal.τ Cert.InIdeal.sig) → Buf (Elt Ideal) ℓ) : Prop :=
  ∀ c : Dev Cert.InIdeal.nD,
    (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.2.1 = (fun _ => 1#1)
    ∧ (Cert.Pre_in_finite.fn (F := Ideal) (m ((c.tc : Thread Cert.InIdeal.nD Cert.InIdeal.τ).loc Cert.InIdeal.main_arg0)) (m ((c.tc : Thread Cert.InIdeal.nD Cert.InIdeal.τ).loc Cert.InIdeal.main_arg1)) (m ((c.tc : Thread Cert.InIdeal.nD Cert.InIdeal.τ).loc Cert.InIdeal.main_arg2)) (m ((c.tc : Thread Cert.InIdeal.nD Cert.InIdeal.τ).loc Cert.InIdeal.main_arg3)) (m ((c.tc : Thread Cert.InIdeal.nD Cert.InIdeal.τ).loc Cert.InIdeal.main_arg4))).2.2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2.2 = (fun _ => 1#1)

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_head_finite [hPre_head_finite : Cert.Pre_head_finite.Facts] (m : (ℓ : Loc Cert.HeadIdeal.nD Cert.HeadIdeal.τ Cert.HeadIdeal.sig) → Buf (Elt Ideal) ℓ) : Prop :=
  ∀ c : Dev Cert.HeadIdeal.nD,
    (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.2.2.2.2.2.1 = (fun _ => 1#1)
    ∧ (Cert.Pre_head_finite.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4)) (m ((c.tc : Thread Cert.HeadIdeal.nD Cert.HeadIdeal.τ).loc Cert.HeadIdeal.main_arg5)) (m ((c.tc : Thread Cert.HeadIdeal.nD Cert.HeadIdeal.τ).loc Cert.HeadIdeal.main_arg6)) (m ((c.tc : Thread Cert.HeadIdeal.nD Cert.HeadIdeal.τ).loc Cert.HeadIdeal.main_arg7))).2.2.2.2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_head_finite [hPre_head_finite : Cert.Pre_head_finite.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.2.2.2.2.2.1 = (fun _ => 1#1)
    ∧ (Cert.Pre_head_finite.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4)) (m ((c.tc : Thread Cert.HeadRefIdeal.nD Cert.HeadRefIdeal.τ).loc Cert.HeadRefIdeal.main_arg5)) (m ((c.tc : Thread Cert.HeadRefIdeal.nD Cert.HeadRefIdeal.τ).loc Cert.HeadRefIdeal.main_arg6)) (m ((c.tc : Thread Cert.HeadRefIdeal.nD Cert.HeadRefIdeal.τ).loc Cert.HeadRefIdeal.main_arg7))).2.2.2.2.2.2.2 = (fun _ => 1#1)

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixRefIdeal (m : (ℓ : Loc Cert.FwdMixRefIdeal.nD Cert.FwdMixRefIdeal.τ Cert.FwdMixRefIdeal.sig) → Buf (Elt Ideal) ℓ) : Prop :=
  True

def Pre_FwdMlp (m : (ℓ : Loc Cert.FwdMlp.nD Cert.FwdMlp.τ Cert.FwdMlp.sig) → Buf (Elt Bits) ℓ) : Prop :=
  True

def Pre_FwdMlpIdeal (m : (ℓ : Loc Cert.FwdMlpIdeal.nD Cert.FwdMlpIdeal.τ Cert.FwdMlpIdeal.sig) → Buf (Elt Ideal) ℓ) : Prop :=
  True

def Pre_FwdMlpRefIdeal (m : (ℓ : Loc Cert.FwdMlpRefIdeal.nD Cert.FwdMlpRefIdeal.τ Cert.FwdMlpRefIdeal.sig) → Buf (Elt Ideal) ℓ) : Prop :=
  True

def Pre_MlpW (m : (ℓ : Loc Cert.MlpW.nD Cert.MlpW.τ Cert.MlpW.sig) → Buf (Elt Bits) ℓ) : Prop :=
  True

def Pre_MlpWIdeal (m : (ℓ : Loc Cert.MlpWIdeal.nD Cert.MlpWIdeal.τ Cert.MlpWIdeal.sig) → Buf (Elt Ideal) ℓ) : Prop :=
  True

def Pre_MlpWRefIdeal (m : (ℓ : Loc Cert.MlpWRefIdeal.nD Cert.MlpWRefIdeal.τ Cert.MlpWRefIdeal.sig) → Buf (Elt Ideal) ℓ) : Prop :=
  True

def Pre_AddPairs (m : (ℓ : Loc Cert.AddPairs.nD Cert.AddPairs.τ Cert.AddPairs.sig) → Buf (Elt Bits) ℓ) : Prop :=
  True

def Pre_AddPairsIdeal (m : (ℓ : Loc Cert.AddPairsIdeal.nD Cert.AddPairsIdeal.τ Cert.AddPairsIdeal.sig) → Buf (Elt Ideal) ℓ) : Prop :=
  True

def Pre_AddPairsRefIdeal (m : (ℓ : Loc Cert.AddPairsRefIdeal.nD Cert.AddPairsRefIdeal.τ Cert.AddPairsRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def quiescent_MlpX [hMlpX : Cert.MlpX.Facts] : Prop :=
  ∀ (m : (ℓ : Loc Cert.MlpX.nD Cert.MlpX.τ Cert.MlpX.sig) → Buf (Elt Bits) ℓ) (g : Dev Cert.MlpX.nD → PrngReg), Pre_MlpX m →
    θ_run (Cert.MlpX.defs (F := Bits)) (onTc (τ := Cert.MlpX.τ) (Cert.MlpX.main (F := Bits))) ⟨m, fun _ => 0, g⟩ (fun r => (∀ c : Dev Cert.MlpX.nD,
      r.2.mem ((c.tc : Thread Cert.MlpX.nD Cert.MlpX.τ).loc Cert.MlpX.main_arg0) = m ((c.tc : Thread Cert.MlpX.nD Cert.MlpX.τ).loc Cert.MlpX.main_arg0)
      ∧ r.2.mem ((c.tc : Thread Cert.MlpX.nD Cert.MlpX.τ).loc Cert.MlpX.main_arg1) = m ((c.tc : Thread Cert.MlpX.nD Cert.MlpX.τ).loc Cert.MlpX.main_arg1)
      ∧ r.2.mem ((c.tc : Thread Cert.MlpX.nD Cert.MlpX.τ).loc Cert.MlpX.main_arg2) = m ((c.tc : Thread Cert.MlpX.nD Cert.MlpX.τ).loc Cert.MlpX.main_arg2)
      ∧ r.2.mem ((c.tc : Thread Cert.MlpX.nD Cert.MlpX.τ).loc Cert.MlpX.main_arg3) = m ((c.tc : Thread Cert.MlpX.nD Cert.MlpX.τ).loc Cert.MlpX.main_arg3)
      ∧ r.2.mem ((c.tc : Thread Cert.MlpX.nD Cert.MlpX.τ).loc Cert.MlpX.main_arg4) = m ((c.tc : Thread Cert.MlpX.nD Cert.MlpX.τ).loc Cert.MlpX.main_arg4))
      ∧ r.2.sem = fun _ => 0)

def quiescent_MlpXIdeal [hMlpXIdeal : Cert.MlpXIdeal.Facts] : Prop :=
  ∀ (m : (ℓ : Loc Cert.MlpXIdeal.nD Cert.MlpXIdeal.τ Cert.MlpXIdeal.sig) → Buf (Elt Ideal) ℓ) (g : Dev Cert.MlpXIdeal.nD → PrngReg), Pre_MlpXIdeal m →
    θ_run (Cert.MlpXIdeal.defs (F := Ideal)) (onTc (τ := Cert.MlpXIdeal.τ) (Cert.MlpXIdeal.main (F := Ideal))) ⟨m, fun _ => 0, g⟩ (fun r => (∀ c : Dev Cert.MlpXIdeal.nD,
      r.2.mem ((c.tc : Thread Cert.MlpXIdeal.nD Cert.MlpXIdeal.τ).loc Cert.MlpXIdeal.main_arg0) = m ((c.tc : Thread Cert.MlpXIdeal.nD Cert.MlpXIdeal.τ).loc Cert.MlpXIdeal.main_arg0)
      ∧ r.2.mem ((c.tc : Thread Cert.MlpXIdeal.nD Cert.MlpXIdeal.τ).loc Cert.MlpXIdeal.main_arg1) = m ((c.tc : Thread Cert.MlpXIdeal.nD Cert.MlpXIdeal.τ).loc Cert.MlpXIdeal.main_arg1)
      ∧ r.2.mem ((c.tc : Thread Cert.MlpXIdeal.nD Cert.MlpXIdeal.τ).loc Cert.MlpXIdeal.main_arg2) = m ((c.tc : Thread Cert.MlpXIdeal.nD Cert.MlpXIdeal.τ).loc Cert.MlpXIdeal.main_arg2)
      ∧ r.2.mem ((c.tc : Thread Cert.MlpXIdeal.nD Cert.MlpXIdeal.τ).loc Cert.MlpXIdeal.main_arg3) = m ((c.tc : Thread Cert.MlpXIdeal.nD Cert.MlpXIdeal.τ).loc Cert.MlpXIdeal.main_arg3)
      ∧ r.2.mem ((c.tc : Thread Cert.MlpXIdeal.nD Cert.MlpXIdeal.τ).loc Cert.MlpXIdeal.main_arg4) = m ((c.tc : Thread Cert.MlpXIdeal.nD Cert.MlpXIdeal.τ).loc Cert.MlpXIdeal.main_arg4))
      ∧ r.2.sem = fun _ => 0)

def quiescent_MlpXIdeal_pre_mlp_finite [hMlpXIdeal : Cert.MlpXIdeal.Facts] [hPre_mlp_finite : Cert.Pre_mlp_finite.Facts] : Prop :=
  ∀ (m : (ℓ : Loc Cert.MlpXIdeal.nD Cert.MlpXIdeal.τ Cert.MlpXIdeal.sig) → Buf (Elt Ideal) ℓ) (g : Dev Cert.MlpXIdeal.nD → PrngReg), Pre_MlpXIdeal_mlp_finite m →
    θ_run (Cert.MlpXIdeal.defs (F := Ideal)) (onTc (τ := Cert.MlpXIdeal.τ) (Cert.MlpXIdeal.main (F := Ideal))) ⟨m, fun _ => 0, g⟩ (fun r => (∀ c : Dev Cert.MlpXIdeal.nD,
      r.2.mem ((c.tc : Thread Cert.MlpXIdeal.nD Cert.MlpXIdeal.τ).loc Cert.MlpXIdeal.main_arg0) = m ((c.tc : Thread Cert.MlpXIdeal.nD Cert.MlpXIdeal.τ).loc Cert.MlpXIdeal.main_arg0)
      ∧ r.2.mem ((c.tc : Thread Cert.MlpXIdeal.nD Cert.MlpXIdeal.τ).loc Cert.MlpXIdeal.main_arg1) = m ((c.tc : Thread Cert.MlpXIdeal.nD Cert.MlpXIdeal.τ).loc Cert.MlpXIdeal.main_arg1)
      ∧ r.2.mem ((c.tc : Thread Cert.MlpXIdeal.nD Cert.MlpXIdeal.τ).loc Cert.MlpXIdeal.main_arg2) = m ((c.tc : Thread Cert.MlpXIdeal.nD Cert.MlpXIdeal.τ).loc Cert.MlpXIdeal.main_arg2)
      ∧ r.2.mem ((c.tc : Thread Cert.MlpXIdeal.nD Cert.MlpXIdeal.τ).loc Cert.MlpXIdeal.main_arg3) = m ((c.tc : Thread Cert.MlpXIdeal.nD Cert.MlpXIdeal.τ).loc Cert.MlpXIdeal.main_arg3)
      ∧ r.2.mem ((c.tc : Thread Cert.MlpXIdeal.nD Cert.MlpXIdeal.τ).loc Cert.MlpXIdeal.main_arg4) = m ((c.tc : Thread Cert.MlpXIdeal.nD Cert.MlpXIdeal.τ).loc Cert.MlpXIdeal.main_arg4))
      ∧ r.2.sem = fun _ => 0)

def quiescent_MlpXRefIdeal [hMlpXRefIdeal : Cert.MlpXRefIdeal.Facts] : Prop :=
  ∀ (m : (ℓ : Loc Cert.MlpXRefIdeal.nD Cert.MlpXRefIdeal.τ Cert.MlpXRefIdeal.sig) → Buf (Elt Ideal) ℓ) (g : Dev Cert.MlpXRefIdeal.nD → PrngReg), Pre_MlpXRefIdeal m →
    θ_run (Cert.MlpXRefIdeal.defs (F := Ideal)) (onTc (τ := Cert.MlpXRefIdeal.τ) (Cert.MlpXRefIdeal.main (F := Ideal))) ⟨m, fun _ => 0, g⟩ (fun r => (∀ c : Dev Cert.MlpXRefIdeal.nD,
      r.2.mem ((c.tc : Thread Cert.MlpXRefIdeal.nD Cert.MlpXRefIdeal.τ).loc Cert.MlpXRefIdeal.main_arg0) = m ((c.tc : Thread Cert.MlpXRefIdeal.nD Cert.MlpXRefIdeal.τ).loc Cert.MlpXRefIdeal.main_arg0)
      ∧ r.2.mem ((c.tc : Thread Cert.MlpXRefIdeal.nD Cert.MlpXRefIdeal.τ).loc Cert.MlpXRefIdeal.main_arg1) = m ((c.tc : Thread Cert.MlpXRefIdeal.nD Cert.MlpXRefIdeal.τ).loc Cert.MlpXRefIdeal.main_arg1)
      ∧ r.2.mem ((c.tc : Thread Cert.MlpXRefIdeal.nD Cert.MlpXRefIdeal.τ).loc Cert.MlpXRefIdeal.main_arg2) = m ((c.tc : Thread Cert.MlpXRefIdeal.nD Cert.MlpXRefIdeal.τ).loc Cert.MlpXRefIdeal.main_arg2)
      ∧ r.2.mem ((c.tc : Thread Cert.MlpXRefIdeal.nD Cert.MlpXRefIdeal.τ).loc Cert.MlpXRefIdeal.main_arg3) = m ((c.tc : Thread Cert.MlpXRefIdeal.nD Cert.MlpXRefIdeal.τ).loc Cert.MlpXRefIdeal.main_arg3)
      ∧ r.2.mem ((c.tc : Thread Cert.MlpXRefIdeal.nD Cert.MlpXRefIdeal.τ).loc Cert.MlpXRefIdeal.main_arg4) = m ((c.tc : Thread Cert.MlpXRefIdeal.nD Cert.MlpXRefIdeal.τ).loc Cert.MlpXRefIdeal.main_arg4))
      ∧ r.2.sem = fun _ => 0)

def quiescent_MlpXRefIdeal_pre_mlp_finite [hMlpXRefIdeal : Cert.MlpXRefIdeal.Facts] [hPre_mlp_finite : Cert.Pre_mlp_finite.Facts] : Prop :=
  ∀ (m : (ℓ : Loc Cert.MlpXRefIdeal.nD Cert.MlpXRefIdeal.τ Cert.MlpXRefIdeal.sig) → Buf (Elt Ideal) ℓ) (g : Dev Cert.MlpXRefIdeal.nD → PrngReg), Pre_MlpXRefIdeal_mlp_finite m →
    θ_run (Cert.MlpXRefIdeal.defs (F := Ideal)) (onTc (τ := Cert.MlpXRefIdeal.τ) (Cert.MlpXRefIdeal.main (F := Ideal))) ⟨m, fun _ => 0, g⟩ (fun r => (∀ c : Dev Cert.MlpXRefIdeal.nD,
      r.2.mem ((c.tc : Thread Cert.MlpXRefIdeal.nD Cert.MlpXRefIdeal.τ).loc Cert.MlpXRefIdeal.main_arg0) = m ((c.tc : Thread Cert.MlpXRefIdeal.nD Cert.MlpXRefIdeal.τ).loc Cert.MlpXRefIdeal.main_arg0)
      ∧ r.2.mem ((c.tc : Thread Cert.MlpXRefIdeal.nD Cert.MlpXRefIdeal.τ).loc Cert.MlpXRefIdeal.main_arg1) = m ((c.tc : Thread Cert.MlpXRefIdeal.nD Cert.MlpXRefIdeal.τ).loc Cert.MlpXRefIdeal.main_arg1)
      ∧ r.2.mem ((c.tc : Thread Cert.MlpXRefIdeal.nD Cert.MlpXRefIdeal.τ).loc Cert.MlpXRefIdeal.main_arg2) = m ((c.tc : Thread Cert.MlpXRefIdeal.nD Cert.MlpXRefIdeal.τ).loc Cert.MlpXRefIdeal.main_arg2)
      ∧ r.2.mem ((c.tc : Thread Cert.MlpXRefIdeal.nD Cert.MlpXRefIdeal.τ).loc Cert.MlpXRefIdeal.main_arg3) = m ((c.tc : Thread Cert.MlpXRefIdeal.nD Cert.MlpXRefIdeal.τ).loc Cert.MlpXRefIdeal.main_arg3)
      ∧ r.2.mem ((c.tc : Thread Cert.MlpXRefIdeal.nD Cert.MlpXRefIdeal.τ).loc Cert.MlpXRefIdeal.main_arg4) = m ((c.tc : Thread Cert.MlpXRefIdeal.nD Cert.MlpXRefIdeal.τ).loc Cert.MlpXRefIdeal.main_arg4))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InIdeal_pre_in_finite [hInIdeal : Cert.InIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg), Pre_InIdeal_in_finite m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4)
      ∧ r.2.mem ((c.tc : Thread Cert.Head.nD Cert.Head.τ).loc Cert.Head.main_arg5) = m ((c.tc : Thread Cert.Head.nD Cert.Head.τ).loc Cert.Head.main_arg5)
      ∧ r.2.mem ((c.tc : Thread Cert.Head.nD Cert.Head.τ).loc Cert.Head.main_arg6) = m ((c.tc : Thread Cert.Head.nD Cert.Head.τ).loc Cert.Head.main_arg6)
      ∧ r.2.mem ((c.tc : Thread Cert.Head.nD Cert.Head.τ).loc Cert.Head.main_arg7) = m ((c.tc : Thread Cert.Head.nD Cert.Head.τ).loc Cert.Head.main_arg7))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ r.2.sem = fun _ => 0)

def quiescent_HeadIdeal_pre_head_finite [hHeadIdeal : Cert.HeadIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_head_finite m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
      ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
      ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
      ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7))
      ∧ r.2.sem = fun _ => 0)

def quiescent_HeadRefIdeal_pre_head_finite [hHeadRefIdeal : Cert.HeadRefIdeal.Facts] [hPre_head_finite : Cert.Pre_head_finite.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_head_finite m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4)
      ∧ r.2.mem ((c.tc : Thread Cert.HeadRefIdeal.nD Cert.HeadRefIdeal.τ).loc Cert.HeadRefIdeal.main_arg5) = m ((c.tc : Thread Cert.HeadRefIdeal.nD Cert.HeadRefIdeal.τ).loc Cert.HeadRefIdeal.main_arg5)
      ∧ r.2.mem ((c.tc : Thread Cert.HeadRefIdeal.nD Cert.HeadRefIdeal.τ).loc Cert.HeadRefIdeal.main_arg6) = m ((c.tc : Thread Cert.HeadRefIdeal.nD Cert.HeadRefIdeal.τ).loc Cert.HeadRefIdeal.main_arg6)
      ∧ r.2.mem ((c.tc : Thread Cert.HeadRefIdeal.nD Cert.HeadRefIdeal.τ).loc Cert.HeadRefIdeal.main_arg7) = m ((c.tc : Thread Cert.HeadRefIdeal.nD Cert.HeadRefIdeal.τ).loc Cert.HeadRefIdeal.main_arg7))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5)
      ∧ r.2.mem ((c.tc : Thread Cert.FwdMix.nD Cert.FwdMix.τ).loc Cert.FwdMix.main_arg6) = m ((c.tc : Thread Cert.FwdMix.nD Cert.FwdMix.τ).loc Cert.FwdMix.main_arg6)
      ∧ r.2.mem ((c.tc : Thread Cert.FwdMix.nD Cert.FwdMix.τ).loc Cert.FwdMix.main_arg7) = m ((c.tc : Thread Cert.FwdMix.nD Cert.FwdMix.τ).loc Cert.FwdMix.main_arg7)
      ∧ r.2.mem ((c.tc : Thread Cert.FwdMix.nD Cert.FwdMix.τ).loc Cert.FwdMix.main_arg8) = m ((c.tc : Thread Cert.FwdMix.nD Cert.FwdMix.τ).loc Cert.FwdMix.main_arg8)
      ∧ r.2.mem ((c.tc : Thread Cert.FwdMix.nD Cert.FwdMix.τ).loc Cert.FwdMix.main_arg9) = m ((c.tc : Thread Cert.FwdMix.nD Cert.FwdMix.τ).loc Cert.FwdMix.main_arg9)
      ∧ r.2.mem ((c.tc : Thread Cert.FwdMix.nD Cert.FwdMix.τ).loc Cert.FwdMix.main_arg10) = m ((c.tc : Thread Cert.FwdMix.nD Cert.FwdMix.τ).loc Cert.FwdMix.main_arg10)
      ∧ r.2.mem ((c.tc : Thread Cert.FwdMix.nD Cert.FwdMix.τ).loc Cert.FwdMix.main_arg11) = m ((c.tc : Thread Cert.FwdMix.nD Cert.FwdMix.τ).loc Cert.FwdMix.main_arg11)
      ∧ r.2.mem ((c.tc : Thread Cert.FwdMix.nD Cert.FwdMix.τ).loc Cert.FwdMix.main_arg12) = m ((c.tc : Thread Cert.FwdMix.nD Cert.FwdMix.τ).loc Cert.FwdMix.main_arg12)
      ∧ r.2.mem ((c.tc : Thread Cert.FwdMix.nD Cert.FwdMix.τ).loc Cert.FwdMix.main_arg13) = m ((c.tc : Thread Cert.FwdMix.nD Cert.FwdMix.τ).loc Cert.FwdMix.main_arg13))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
      ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
      ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
      ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
      ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9)
      ∧ r.2.mem ((c.tc : Thread Cert.FwdMixIdeal.nD Cert.FwdMixIdeal.τ).loc Cert.FwdMixIdeal.main_arg10) = m ((c.tc : Thread Cert.FwdMixIdeal.nD Cert.FwdMixIdeal.τ).loc Cert.FwdMixIdeal.main_arg10)
      ∧ r.2.mem ((c.tc : Thread Cert.FwdMixIdeal.nD Cert.FwdMixIdeal.τ).loc Cert.FwdMixIdeal.main_arg11) = m ((c.tc : Thread Cert.FwdMixIdeal.nD Cert.FwdMixIdeal.τ).loc Cert.FwdMixIdeal.main_arg11)
      ∧ r.2.mem ((c.tc : Thread Cert.FwdMixIdeal.nD Cert.FwdMixIdeal.τ).loc Cert.FwdMixIdeal.main_arg12) = m ((c.tc : Thread Cert.FwdMixIdeal.nD Cert.FwdMixIdeal.τ).loc Cert.FwdMixIdeal.main_arg12)
      ∧ r.2.mem ((c.tc : Thread Cert.FwdMixIdeal.nD Cert.FwdMixIdeal.τ).loc Cert.FwdMixIdeal.main_arg13) = m ((c.tc : Thread Cert.FwdMixIdeal.nD Cert.FwdMixIdeal.τ).loc Cert.FwdMixIdeal.main_arg13))
      ∧ r.2.sem = fun _ => 0)

def quiescent_FwdMixRefIdeal [hFwdMixRefIdeal : Cert.FwdMixRefIdeal.Facts] : Prop :=
  ∀ (m : (ℓ : Loc Cert.FwdMixRefIdeal.nD Cert.FwdMixRefIdeal.τ Cert.FwdMixRefIdeal.sig) → Buf (Elt Ideal) ℓ) (g : Dev Cert.FwdMixRefIdeal.nD → PrngReg), Pre_FwdMixRefIdeal m →
    θ_run (Cert.FwdMixRefIdeal.defs (F := Ideal)) (onTc (τ := Cert.FwdMixRefIdeal.τ) (Cert.FwdMixRefIdeal.main (F := Ideal))) ⟨m, fun _ => 0, g⟩ (fun r => (∀ c : Dev Cert.FwdMixRefIdeal.nD,
      r.2.mem ((c.tc : Thread Cert.FwdMixRefIdeal.nD Cert.FwdMixRefIdeal.τ).loc Cert.FwdMixRefIdeal.main_arg0) = m ((c.tc : Thread Cert.FwdMixRefIdeal.nD Cert.FwdMixRefIdeal.τ).loc Cert.FwdMixRefIdeal.main_arg0)
      ∧ r.2.mem ((c.tc : Thread Cert.FwdMixRefIdeal.nD Cert.FwdMixRefIdeal.τ).loc Cert.FwdMixRefIdeal.main_arg1) = m ((c.tc : Thread Cert.FwdMixRefIdeal.nD Cert.FwdMixRefIdeal.τ).loc Cert.FwdMixRefIdeal.main_arg1)
      ∧ r.2.mem ((c.tc : Thread Cert.FwdMixRefIdeal.nD Cert.FwdMixRefIdeal.τ).loc Cert.FwdMixRefIdeal.main_arg2) = m ((c.tc : Thread Cert.FwdMixRefIdeal.nD Cert.FwdMixRefIdeal.τ).loc Cert.FwdMixRefIdeal.main_arg2)
      ∧ r.2.mem ((c.tc : Thread Cert.FwdMixRefIdeal.nD Cert.FwdMixRefIdeal.τ).loc Cert.FwdMixRefIdeal.main_arg3) = m ((c.tc : Thread Cert.FwdMixRefIdeal.nD Cert.FwdMixRefIdeal.τ).loc Cert.FwdMixRefIdeal.main_arg3)
      ∧ r.2.mem ((c.tc : Thread Cert.FwdMixRefIdeal.nD Cert.FwdMixRefIdeal.τ).loc Cert.FwdMixRefIdeal.main_arg4) = m ((c.tc : Thread Cert.FwdMixRefIdeal.nD Cert.FwdMixRefIdeal.τ).loc Cert.FwdMixRefIdeal.main_arg4)
      ∧ r.2.mem ((c.tc : Thread Cert.FwdMixRefIdeal.nD Cert.FwdMixRefIdeal.τ).loc Cert.FwdMixRefIdeal.main_arg5) = m ((c.tc : Thread Cert.FwdMixRefIdeal.nD Cert.FwdMixRefIdeal.τ).loc Cert.FwdMixRefIdeal.main_arg5)
      ∧ r.2.mem ((c.tc : Thread Cert.FwdMixRefIdeal.nD Cert.FwdMixRefIdeal.τ).loc Cert.FwdMixRefIdeal.main_arg6) = m ((c.tc : Thread Cert.FwdMixRefIdeal.nD Cert.FwdMixRefIdeal.τ).loc Cert.FwdMixRefIdeal.main_arg6)
      ∧ r.2.mem ((c.tc : Thread Cert.FwdMixRefIdeal.nD Cert.FwdMixRefIdeal.τ).loc Cert.FwdMixRefIdeal.main_arg7) = m ((c.tc : Thread Cert.FwdMixRefIdeal.nD Cert.FwdMixRefIdeal.τ).loc Cert.FwdMixRefIdeal.main_arg7)
      ∧ r.2.mem ((c.tc : Thread Cert.FwdMixRefIdeal.nD Cert.FwdMixRefIdeal.τ).loc Cert.FwdMixRefIdeal.main_arg8) = m ((c.tc : Thread Cert.FwdMixRefIdeal.nD Cert.FwdMixRefIdeal.τ).loc Cert.FwdMixRefIdeal.main_arg8)
      ∧ r.2.mem ((c.tc : Thread Cert.FwdMixRefIdeal.nD Cert.FwdMixRefIdeal.τ).loc Cert.FwdMixRefIdeal.main_arg9) = m ((c.tc : Thread Cert.FwdMixRefIdeal.nD Cert.FwdMixRefIdeal.τ).loc Cert.FwdMixRefIdeal.main_arg9)
      ∧ r.2.mem ((c.tc : Thread Cert.FwdMixRefIdeal.nD Cert.FwdMixRefIdeal.τ).loc Cert.FwdMixRefIdeal.main_arg10) = m ((c.tc : Thread Cert.FwdMixRefIdeal.nD Cert.FwdMixRefIdeal.τ).loc Cert.FwdMixRefIdeal.main_arg10)
      ∧ r.2.mem ((c.tc : Thread Cert.FwdMixRefIdeal.nD Cert.FwdMixRefIdeal.τ).loc Cert.FwdMixRefIdeal.main_arg11) = m ((c.tc : Thread Cert.FwdMixRefIdeal.nD Cert.FwdMixRefIdeal.τ).loc Cert.FwdMixRefIdeal.main_arg11)
      ∧ r.2.mem ((c.tc : Thread Cert.FwdMixRefIdeal.nD Cert.FwdMixRefIdeal.τ).loc Cert.FwdMixRefIdeal.main_arg12) = m ((c.tc : Thread Cert.FwdMixRefIdeal.nD Cert.FwdMixRefIdeal.τ).loc Cert.FwdMixRefIdeal.main_arg12)
      ∧ r.2.mem ((c.tc : Thread Cert.FwdMixRefIdeal.nD Cert.FwdMixRefIdeal.τ).loc Cert.FwdMixRefIdeal.main_arg13) = m ((c.tc : Thread Cert.FwdMixRefIdeal.nD Cert.FwdMixRefIdeal.τ).loc Cert.FwdMixRefIdeal.main_arg13))
      ∧ r.2.sem = fun _ => 0)

def quiescent_FwdMlp [hFwdMlp : Cert.FwdMlp.Facts] : Prop :=
  ∀ (m : (ℓ : Loc Cert.FwdMlp.nD Cert.FwdMlp.τ Cert.FwdMlp.sig) → Buf (Elt Bits) ℓ) (g : Dev Cert.FwdMlp.nD → PrngReg), Pre_FwdMlp m →
    θ_run (Cert.FwdMlp.defs (F := Bits)) (onTc (τ := Cert.FwdMlp.τ) (Cert.FwdMlp.main (F := Bits))) ⟨m, fun _ => 0, g⟩ (fun r => (∀ c : Dev Cert.FwdMlp.nD,
      r.2.mem ((c.tc : Thread Cert.FwdMlp.nD Cert.FwdMlp.τ).loc Cert.FwdMlp.main_arg0) = m ((c.tc : Thread Cert.FwdMlp.nD Cert.FwdMlp.τ).loc Cert.FwdMlp.main_arg0)
      ∧ r.2.mem ((c.tc : Thread Cert.FwdMlp.nD Cert.FwdMlp.τ).loc Cert.FwdMlp.main_arg1) = m ((c.tc : Thread Cert.FwdMlp.nD Cert.FwdMlp.τ).loc Cert.FwdMlp.main_arg1)
      ∧ r.2.mem ((c.tc : Thread Cert.FwdMlp.nD Cert.FwdMlp.τ).loc Cert.FwdMlp.main_arg2) = m ((c.tc : Thread Cert.FwdMlp.nD Cert.FwdMlp.τ).loc Cert.FwdMlp.main_arg2)
      ∧ r.2.mem ((c.tc : Thread Cert.FwdMlp.nD Cert.FwdMlp.τ).loc Cert.FwdMlp.main_arg3) = m ((c.tc : Thread Cert.FwdMlp.nD Cert.FwdMlp.τ).loc Cert.FwdMlp.main_arg3))
      ∧ r.2.sem = fun _ => 0)

def quiescent_FwdMlpIdeal [hFwdMlpIdeal : Cert.FwdMlpIdeal.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg), Pre_FwdMlpIdeal m →
    θ_run (Cert.FwdMlpIdeal.defs (F := Ideal)) (onTc (τ := Cert.FwdMlpIdeal.τ) (Cert.FwdMlpIdeal.main (F := Ideal))) ⟨m, fun _ => 0, g⟩ (fun r => (∀ c : Dev Cert.FwdMlpIdeal.nD,
      r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
      ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
      ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
      ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3))
      ∧ r.2.sem = fun _ => 0)

def quiescent_FwdMlpRefIdeal [hFwdMlpRefIdeal : Cert.FwdMlpRefIdeal.Facts] : Prop :=
  ∀ (m : (ℓ : Loc Cert.FwdMlpRefIdeal.nD Cert.FwdMlpRefIdeal.τ Cert.FwdMlpRefIdeal.sig) → Buf (Elt Ideal) ℓ) (g : Dev Cert.FwdMlpRefIdeal.nD → PrngReg), Pre_FwdMlpRefIdeal m →
    θ_run (Cert.FwdMlpRefIdeal.defs (F := Ideal)) (onTc (τ := Cert.FwdMlpRefIdeal.τ) (Cert.FwdMlpRefIdeal.main (F := Ideal))) ⟨m, fun _ => 0, g⟩ (fun r => (∀ c : Dev Cert.FwdMlpRefIdeal.nD,
      r.2.mem ((c.tc : Thread Cert.FwdMlpRefIdeal.nD Cert.FwdMlpRefIdeal.τ).loc Cert.FwdMlpRefIdeal.main_arg0) = m ((c.tc : Thread Cert.FwdMlpRefIdeal.nD Cert.FwdMlpRefIdeal.τ).loc Cert.FwdMlpRefIdeal.main_arg0)
      ∧ r.2.mem ((c.tc : Thread Cert.FwdMlpRefIdeal.nD Cert.FwdMlpRefIdeal.τ).loc Cert.FwdMlpRefIdeal.main_arg1) = m ((c.tc : Thread Cert.FwdMlpRefIdeal.nD Cert.FwdMlpRefIdeal.τ).loc Cert.FwdMlpRefIdeal.main_arg1)
      ∧ r.2.mem ((c.tc : Thread Cert.FwdMlpRefIdeal.nD Cert.FwdMlpRefIdeal.τ).loc Cert.FwdMlpRefIdeal.main_arg2) = m ((c.tc : Thread Cert.FwdMlpRefIdeal.nD Cert.FwdMlpRefIdeal.τ).loc Cert.FwdMlpRefIdeal.main_arg2)
      ∧ r.2.mem ((c.tc : Thread Cert.FwdMlpRefIdeal.nD Cert.FwdMlpRefIdeal.τ).loc Cert.FwdMlpRefIdeal.main_arg3) = m ((c.tc : Thread Cert.FwdMlpRefIdeal.nD Cert.FwdMlpRefIdeal.τ).loc Cert.FwdMlpRefIdeal.main_arg3))
      ∧ r.2.sem = fun _ => 0)

def quiescent_MlpW [hMlpW : Cert.MlpW.Facts] : Prop :=
  ∀ (m : (ℓ : Loc Cert.MlpW.nD Cert.MlpW.τ Cert.MlpW.sig) → Buf (Elt Bits) ℓ) (g : Dev Cert.MlpW.nD → PrngReg), Pre_MlpW m →
    θ_run (Cert.MlpW.defs (F := Bits)) (onTc (τ := Cert.MlpW.τ) (Cert.MlpW.main (F := Bits))) ⟨m, fun _ => 0, g⟩ (fun r => (∀ c : Dev Cert.MlpW.nD,
      r.2.mem ((c.tc : Thread Cert.MlpW.nD Cert.MlpW.τ).loc Cert.MlpW.main_arg0) = m ((c.tc : Thread Cert.MlpW.nD Cert.MlpW.τ).loc Cert.MlpW.main_arg0)
      ∧ r.2.mem ((c.tc : Thread Cert.MlpW.nD Cert.MlpW.τ).loc Cert.MlpW.main_arg1) = m ((c.tc : Thread Cert.MlpW.nD Cert.MlpW.τ).loc Cert.MlpW.main_arg1)
      ∧ r.2.mem ((c.tc : Thread Cert.MlpW.nD Cert.MlpW.τ).loc Cert.MlpW.main_arg2) = m ((c.tc : Thread Cert.MlpW.nD Cert.MlpW.τ).loc Cert.MlpW.main_arg2)
      ∧ r.2.mem ((c.tc : Thread Cert.MlpW.nD Cert.MlpW.τ).loc Cert.MlpW.main_arg3) = m ((c.tc : Thread Cert.MlpW.nD Cert.MlpW.τ).loc Cert.MlpW.main_arg3)
      ∧ r.2.mem ((c.tc : Thread Cert.MlpW.nD Cert.MlpW.τ).loc Cert.MlpW.main_arg4) = m ((c.tc : Thread Cert.MlpW.nD Cert.MlpW.τ).loc Cert.MlpW.main_arg4))
      ∧ r.2.sem = fun _ => 0)

def quiescent_MlpWIdeal [hMlpWIdeal : Cert.MlpWIdeal.Facts] : Prop :=
  ∀ (m : (ℓ : Loc Cert.MlpWIdeal.nD Cert.MlpWIdeal.τ Cert.MlpWIdeal.sig) → Buf (Elt Ideal) ℓ) (g : Dev Cert.MlpWIdeal.nD → PrngReg), Pre_MlpWIdeal m →
    θ_run (Cert.MlpWIdeal.defs (F := Ideal)) (onTc (τ := Cert.MlpWIdeal.τ) (Cert.MlpWIdeal.main (F := Ideal))) ⟨m, fun _ => 0, g⟩ (fun r => (∀ c : Dev Cert.MlpWIdeal.nD,
      r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
      ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1)
      ∧ r.2.mem ((c.tc : Thread Cert.MlpWIdeal.nD Cert.MlpWIdeal.τ).loc Cert.MlpWIdeal.main_arg2) = m ((c.tc : Thread Cert.MlpWIdeal.nD Cert.MlpWIdeal.τ).loc Cert.MlpWIdeal.main_arg2)
      ∧ r.2.mem ((c.tc : Thread Cert.MlpWIdeal.nD Cert.MlpWIdeal.τ).loc Cert.MlpWIdeal.main_arg3) = m ((c.tc : Thread Cert.MlpWIdeal.nD Cert.MlpWIdeal.τ).loc Cert.MlpWIdeal.main_arg3)
      ∧ r.2.mem ((c.tc : Thread Cert.MlpWIdeal.nD Cert.MlpWIdeal.τ).loc Cert.MlpWIdeal.main_arg4) = m ((c.tc : Thread Cert.MlpWIdeal.nD Cert.MlpWIdeal.τ).loc Cert.MlpWIdeal.main_arg4))
      ∧ r.2.sem = fun _ => 0)

def quiescent_MlpWRefIdeal [hMlpWRefIdeal : Cert.MlpWRefIdeal.Facts] : Prop :=
  ∀ (m : (ℓ : Loc Cert.MlpWRefIdeal.nD Cert.MlpWRefIdeal.τ Cert.MlpWRefIdeal.sig) → Buf (Elt Ideal) ℓ) (g : Dev Cert.MlpWRefIdeal.nD → PrngReg), Pre_MlpWRefIdeal m →
    θ_run (Cert.MlpWRefIdeal.defs (F := Ideal)) (onTc (τ := Cert.MlpWRefIdeal.τ) (Cert.MlpWRefIdeal.main (F := Ideal))) ⟨m, fun _ => 0, g⟩ (fun r => (∀ c : Dev Cert.MlpWRefIdeal.nD,
      r.2.mem ((c.tc : Thread Cert.MlpWRefIdeal.nD Cert.MlpWRefIdeal.τ).loc Cert.MlpWRefIdeal.main_arg0) = m ((c.tc : Thread Cert.MlpWRefIdeal.nD Cert.MlpWRefIdeal.τ).loc Cert.MlpWRefIdeal.main_arg0)
      ∧ r.2.mem ((c.tc : Thread Cert.MlpWRefIdeal.nD Cert.MlpWRefIdeal.τ).loc Cert.MlpWRefIdeal.main_arg1) = m ((c.tc : Thread Cert.MlpWRefIdeal.nD Cert.MlpWRefIdeal.τ).loc Cert.MlpWRefIdeal.main_arg1)
      ∧ r.2.mem ((c.tc : Thread Cert.MlpWRefIdeal.nD Cert.MlpWRefIdeal.τ).loc Cert.MlpWRefIdeal.main_arg2) = m ((c.tc : Thread Cert.MlpWRefIdeal.nD Cert.MlpWRefIdeal.τ).loc Cert.MlpWRefIdeal.main_arg2)
      ∧ r.2.mem ((c.tc : Thread Cert.MlpWRefIdeal.nD Cert.MlpWRefIdeal.τ).loc Cert.MlpWRefIdeal.main_arg3) = m ((c.tc : Thread Cert.MlpWRefIdeal.nD Cert.MlpWRefIdeal.τ).loc Cert.MlpWRefIdeal.main_arg3)
      ∧ r.2.mem ((c.tc : Thread Cert.MlpWRefIdeal.nD Cert.MlpWRefIdeal.τ).loc Cert.MlpWRefIdeal.main_arg4) = m ((c.tc : Thread Cert.MlpWRefIdeal.nD Cert.MlpWRefIdeal.τ).loc Cert.MlpWRefIdeal.main_arg4))
      ∧ r.2.sem = fun _ => 0)

def quiescent_AddPairs [hAddPairs : Cert.AddPairs.Facts] : Prop :=
  ∀ (m : (ℓ : Loc Cert.AddPairs.nD Cert.AddPairs.τ Cert.AddPairs.sig) → Buf (Elt Bits) ℓ) (g : Dev Cert.AddPairs.nD → PrngReg), Pre_AddPairs m →
    θ_run (Cert.AddPairs.defs (F := Bits)) (onTc (τ := Cert.AddPairs.τ) (Cert.AddPairs.main (F := Bits))) ⟨m, fun _ => 0, g⟩ (fun r => (∀ c : Dev Cert.AddPairs.nD,
      r.2.mem ((c.tc : Thread Cert.AddPairs.nD Cert.AddPairs.τ).loc Cert.AddPairs.main_arg0) = m ((c.tc : Thread Cert.AddPairs.nD Cert.AddPairs.τ).loc Cert.AddPairs.main_arg0)
      ∧ r.2.mem ((c.tc : Thread Cert.AddPairs.nD Cert.AddPairs.τ).loc Cert.AddPairs.main_arg1) = m ((c.tc : Thread Cert.AddPairs.nD Cert.AddPairs.τ).loc Cert.AddPairs.main_arg1)
      ∧ r.2.mem ((c.tc : Thread Cert.AddPairs.nD Cert.AddPairs.τ).loc Cert.AddPairs.main_arg2) = m ((c.tc : Thread Cert.AddPairs.nD Cert.AddPairs.τ).loc Cert.AddPairs.main_arg2)
      ∧ r.2.mem ((c.tc : Thread Cert.AddPairs.nD Cert.AddPairs.τ).loc Cert.AddPairs.main_arg3) = m ((c.tc : Thread Cert.AddPairs.nD Cert.AddPairs.τ).loc Cert.AddPairs.main_arg3)
      ∧ r.2.mem ((c.tc : Thread Cert.AddPairs.nD Cert.AddPairs.τ).loc Cert.AddPairs.main_arg4) = m ((c.tc : Thread Cert.AddPairs.nD Cert.AddPairs.τ).loc Cert.AddPairs.main_arg4)
      ∧ r.2.mem ((c.tc : Thread Cert.AddPairs.nD Cert.AddPairs.τ).loc Cert.AddPairs.main_arg5) = m ((c.tc : Thread Cert.AddPairs.nD Cert.AddPairs.τ).loc Cert.AddPairs.main_arg5)
      ∧ r.2.mem ((c.tc : Thread Cert.AddPairs.nD Cert.AddPairs.τ).loc Cert.AddPairs.main_arg6) = m ((c.tc : Thread Cert.AddPairs.nD Cert.AddPairs.τ).loc Cert.AddPairs.main_arg6)
      ∧ r.2.mem ((c.tc : Thread Cert.AddPairs.nD Cert.AddPairs.τ).loc Cert.AddPairs.main_arg7) = m ((c.tc : Thread Cert.AddPairs.nD Cert.AddPairs.τ).loc Cert.AddPairs.main_arg7))
      ∧ r.2.sem = fun _ => 0)

def quiescent_AddPairsIdeal [hAddPairsIdeal : Cert.AddPairsIdeal.Facts] : Prop :=
  ∀ (m : (ℓ : Loc Cert.AddPairsIdeal.nD Cert.AddPairsIdeal.τ Cert.AddPairsIdeal.sig) → Buf (Elt Ideal) ℓ) (g : Dev Cert.AddPairsIdeal.nD → PrngReg), Pre_AddPairsIdeal m →
    θ_run (Cert.AddPairsIdeal.defs (F := Ideal)) (onTc (τ := Cert.AddPairsIdeal.τ) (Cert.AddPairsIdeal.main (F := Ideal))) ⟨m, fun _ => 0, g⟩ (fun r => (∀ c : Dev Cert.AddPairsIdeal.nD,
      r.2.mem ((c.tc : Thread Cert.AddPairsIdeal.nD Cert.AddPairsIdeal.τ).loc Cert.AddPairsIdeal.main_arg0) = m ((c.tc : Thread Cert.AddPairsIdeal.nD Cert.AddPairsIdeal.τ).loc Cert.AddPairsIdeal.main_arg0)
      ∧ r.2.mem ((c.tc : Thread Cert.AddPairsIdeal.nD Cert.AddPairsIdeal.τ).loc Cert.AddPairsIdeal.main_arg1) = m ((c.tc : Thread Cert.AddPairsIdeal.nD Cert.AddPairsIdeal.τ).loc Cert.AddPairsIdeal.main_arg1)
      ∧ r.2.mem ((c.tc : Thread Cert.AddPairsIdeal.nD Cert.AddPairsIdeal.τ).loc Cert.AddPairsIdeal.main_arg2) = m ((c.tc : Thread Cert.AddPairsIdeal.nD Cert.AddPairsIdeal.τ).loc Cert.AddPairsIdeal.main_arg2)
      ∧ r.2.mem ((c.tc : Thread Cert.AddPairsIdeal.nD Cert.AddPairsIdeal.τ).loc Cert.AddPairsIdeal.main_arg3) = m ((c.tc : Thread Cert.AddPairsIdeal.nD Cert.AddPairsIdeal.τ).loc Cert.AddPairsIdeal.main_arg3)
      ∧ r.2.mem ((c.tc : Thread Cert.AddPairsIdeal.nD Cert.AddPairsIdeal.τ).loc Cert.AddPairsIdeal.main_arg4) = m ((c.tc : Thread Cert.AddPairsIdeal.nD Cert.AddPairsIdeal.τ).loc Cert.AddPairsIdeal.main_arg4)
      ∧ r.2.mem ((c.tc : Thread Cert.AddPairsIdeal.nD Cert.AddPairsIdeal.τ).loc Cert.AddPairsIdeal.main_arg5) = m ((c.tc : Thread Cert.AddPairsIdeal.nD Cert.AddPairsIdeal.τ).loc Cert.AddPairsIdeal.main_arg5)
      ∧ r.2.mem ((c.tc : Thread Cert.AddPairsIdeal.nD Cert.AddPairsIdeal.τ).loc Cert.AddPairsIdeal.main_arg6) = m ((c.tc : Thread Cert.AddPairsIdeal.nD Cert.AddPairsIdeal.τ).loc Cert.AddPairsIdeal.main_arg6)
      ∧ r.2.mem ((c.tc : Thread Cert.AddPairsIdeal.nD Cert.AddPairsIdeal.τ).loc Cert.AddPairsIdeal.main_arg7) = m ((c.tc : Thread Cert.AddPairsIdeal.nD Cert.AddPairsIdeal.τ).loc Cert.AddPairsIdeal.main_arg7))
      ∧ r.2.sem = fun _ => 0)

def quiescent_AddPairsRefIdeal [hAddPairsRefIdeal : Cert.AddPairsRefIdeal.Facts] : Prop :=
  ∀ (m : (ℓ : Loc Cert.AddPairsRefIdeal.nD Cert.AddPairsRefIdeal.τ Cert.AddPairsRefIdeal.sig) → Buf (Elt Ideal) ℓ) (g : Dev Cert.AddPairsRefIdeal.nD → PrngReg), Pre_AddPairsRefIdeal m →
    θ_run (Cert.AddPairsRefIdeal.defs (F := Ideal)) (onTc (τ := Cert.AddPairsRefIdeal.τ) (Cert.AddPairsRefIdeal.main (F := Ideal))) ⟨m, fun _ => 0, g⟩ (fun r => (∀ c : Dev Cert.AddPairsRefIdeal.nD,
      r.2.mem ((c.tc : Thread Cert.AddPairsRefIdeal.nD Cert.AddPairsRefIdeal.τ).loc Cert.AddPairsRefIdeal.main_arg0) = m ((c.tc : Thread Cert.AddPairsRefIdeal.nD Cert.AddPairsRefIdeal.τ).loc Cert.AddPairsRefIdeal.main_arg0)
      ∧ r.2.mem ((c.tc : Thread Cert.AddPairsRefIdeal.nD Cert.AddPairsRefIdeal.τ).loc Cert.AddPairsRefIdeal.main_arg1) = m ((c.tc : Thread Cert.AddPairsRefIdeal.nD Cert.AddPairsRefIdeal.τ).loc Cert.AddPairsRefIdeal.main_arg1)
      ∧ r.2.mem ((c.tc : Thread Cert.AddPairsRefIdeal.nD Cert.AddPairsRefIdeal.τ).loc Cert.AddPairsRefIdeal.main_arg2) = m ((c.tc : Thread Cert.AddPairsRefIdeal.nD Cert.AddPairsRefIdeal.τ).loc Cert.AddPairsRefIdeal.main_arg2)
      ∧ r.2.mem ((c.tc : Thread Cert.AddPairsRefIdeal.nD Cert.AddPairsRefIdeal.τ).loc Cert.AddPairsRefIdeal.main_arg3) = m ((c.tc : Thread Cert.AddPairsRefIdeal.nD Cert.AddPairsRefIdeal.τ).loc Cert.AddPairsRefIdeal.main_arg3)
      ∧ r.2.mem ((c.tc : Thread Cert.AddPairsRefIdeal.nD Cert.AddPairsRefIdeal.τ).loc Cert.AddPairsRefIdeal.main_arg4) = m ((c.tc : Thread Cert.AddPairsRefIdeal.nD Cert.AddPairsRefIdeal.τ).loc Cert.AddPairsRefIdeal.main_arg4)
      ∧ r.2.mem ((c.tc : Thread Cert.AddPairsRefIdeal.nD Cert.AddPairsRefIdeal.τ).loc Cert.AddPairsRefIdeal.main_arg5) = m ((c.tc : Thread Cert.AddPairsRefIdeal.nD Cert.AddPairsRefIdeal.τ).loc Cert.AddPairsRefIdeal.main_arg5)
      ∧ r.2.mem ((c.tc : Thread Cert.AddPairsRefIdeal.nD Cert.AddPairsRefIdeal.τ).loc Cert.AddPairsRefIdeal.main_arg6) = m ((c.tc : Thread Cert.AddPairsRefIdeal.nD Cert.AddPairsRefIdeal.τ).loc Cert.AddPairsRefIdeal.main_arg6)
      ∧ r.2.mem ((c.tc : Thread Cert.AddPairsRefIdeal.nD Cert.AddPairsRefIdeal.τ).loc Cert.AddPairsRefIdeal.main_arg7) = m ((c.tc : Thread Cert.AddPairsRefIdeal.nD Cert.AddPairsRefIdeal.τ).loc Cert.AddPairsRefIdeal.main_arg7))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3)
      ∧ r.2.mem ((c.tc : Thread Cert.Adam.nD Cert.Adam.τ).loc Cert.Adam.main_arg4) = m ((c.tc : Thread Cert.Adam.nD Cert.Adam.τ).loc Cert.Adam.main_arg4)
      ∧ r.2.mem ((c.tc : Thread Cert.Adam.nD Cert.Adam.τ).loc Cert.Adam.main_arg5) = m ((c.tc : Thread Cert.Adam.nD Cert.Adam.τ).loc Cert.Adam.main_arg5)
      ∧ r.2.mem ((c.tc : Thread Cert.Adam.nD Cert.Adam.τ).loc Cert.Adam.main_arg6) = m ((c.tc : Thread Cert.Adam.nD Cert.Adam.τ).loc Cert.Adam.main_arg6)
      ∧ r.2.mem ((c.tc : Thread Cert.Adam.nD Cert.Adam.τ).loc Cert.Adam.main_arg7) = m ((c.tc : Thread Cert.Adam.nD Cert.Adam.τ).loc Cert.Adam.main_arg7)
      ∧ r.2.mem ((c.tc : Thread Cert.Adam.nD Cert.Adam.τ).loc Cert.Adam.main_arg8) = m ((c.tc : Thread Cert.Adam.nD Cert.Adam.τ).loc Cert.Adam.main_arg8)
      ∧ r.2.mem ((c.tc : Thread Cert.Adam.nD Cert.Adam.τ).loc Cert.Adam.main_arg9) = m ((c.tc : Thread Cert.Adam.nD Cert.Adam.τ).loc Cert.Adam.main_arg9)
      ∧ r.2.mem ((c.tc : Thread Cert.Adam.nD Cert.Adam.τ).loc Cert.Adam.main_arg10) = m ((c.tc : Thread Cert.Adam.nD Cert.Adam.τ).loc Cert.Adam.main_arg10)
      ∧ r.2.mem ((c.tc : Thread Cert.Adam.nD Cert.Adam.τ).loc Cert.Adam.main_arg11) = m ((c.tc : Thread Cert.Adam.nD Cert.Adam.τ).loc Cert.Adam.main_arg11))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
      ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
      ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
      ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
      ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
      ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
      ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
      ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
      ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3)
      ∧ r.2.mem ((c.tc : Thread Cert.AdamRefIdeal.nD Cert.AdamRefIdeal.τ).loc Cert.AdamRefIdeal.main_arg4) = m ((c.tc : Thread Cert.AdamRefIdeal.nD Cert.AdamRefIdeal.τ).loc Cert.AdamRefIdeal.main_arg4)
      ∧ r.2.mem ((c.tc : Thread Cert.AdamRefIdeal.nD Cert.AdamRefIdeal.τ).loc Cert.AdamRefIdeal.main_arg5) = m ((c.tc : Thread Cert.AdamRefIdeal.nD Cert.AdamRefIdeal.τ).loc Cert.AdamRefIdeal.main_arg5)
      ∧ r.2.mem ((c.tc : Thread Cert.AdamRefIdeal.nD Cert.AdamRefIdeal.τ).loc Cert.AdamRefIdeal.main_arg6) = m ((c.tc : Thread Cert.AdamRefIdeal.nD Cert.AdamRefIdeal.τ).loc Cert.AdamRefIdeal.main_arg6)
      ∧ r.2.mem ((c.tc : Thread Cert.AdamRefIdeal.nD Cert.AdamRefIdeal.τ).loc Cert.AdamRefIdeal.main_arg7) = m ((c.tc : Thread Cert.AdamRefIdeal.nD Cert.AdamRefIdeal.τ).loc Cert.AdamRefIdeal.main_arg7)
      ∧ r.2.mem ((c.tc : Thread Cert.AdamRefIdeal.nD Cert.AdamRefIdeal.τ).loc Cert.AdamRefIdeal.main_arg8) = m ((c.tc : Thread Cert.AdamRefIdeal.nD Cert.AdamRefIdeal.τ).loc Cert.AdamRefIdeal.main_arg8)
      ∧ r.2.mem ((c.tc : Thread Cert.AdamRefIdeal.nD Cert.AdamRefIdeal.τ).loc Cert.AdamRefIdeal.main_arg9) = m ((c.tc : Thread Cert.AdamRefIdeal.nD Cert.AdamRefIdeal.τ).loc Cert.AdamRefIdeal.main_arg9)
      ∧ r.2.mem ((c.tc : Thread Cert.AdamRefIdeal.nD Cert.AdamRefIdeal.τ).loc Cert.AdamRefIdeal.main_arg10) = m ((c.tc : Thread Cert.AdamRefIdeal.nD Cert.AdamRefIdeal.τ).loc Cert.AdamRefIdeal.main_arg10)
      ∧ r.2.mem ((c.tc : Thread Cert.AdamRefIdeal.nD Cert.AdamRefIdeal.τ).loc Cert.AdamRefIdeal.main_arg11) = m ((c.tc : Thread Cert.AdamRefIdeal.nD Cert.AdamRefIdeal.τ).loc Cert.AdamRefIdeal.main_arg11))
      ∧ r.2.sem = fun _ => 0)

def preserves_MlpX_MlpXIdeal : Prop :=
  True

def algebraic_MlpXIdeal_MlpXRefIdeal_pre_mlp_finite [hMlpXIdeal : Cert.MlpXIdeal.Facts] [hMlpXRefIdeal : Cert.MlpXRefIdeal.Facts] [hPre_mlp_finite : Cert.Pre_mlp_finite.Facts] : Prop :=
  ∀ (m : (ℓ : Loc Cert.MlpXIdeal.nD Cert.MlpXIdeal.τ Cert.MlpXIdeal.sig) → Buf (Elt Ideal) ℓ) (g : Dev Cert.MlpXIdeal.nD → PrngReg)
    (m' : (ℓ : Loc Cert.MlpXRefIdeal.nD Cert.MlpXRefIdeal.τ Cert.MlpXRefIdeal.sig) → Buf (Elt Ideal) ℓ) (g' : Dev Cert.MlpXRefIdeal.nD → PrngReg), Pre_MlpXIdeal_mlp_finite m →
    (∀ c : Dev Cert.MlpXIdeal.nD,
      m' ((c.tc : Thread Cert.MlpXRefIdeal.nD Cert.MlpXRefIdeal.τ).loc Cert.MlpXRefIdeal.main_arg0) = m ((c.tc : Thread Cert.MlpXIdeal.nD Cert.MlpXIdeal.τ).loc Cert.MlpXIdeal.main_arg0)
      ∧ m' ((c.tc : Thread Cert.MlpXRefIdeal.nD Cert.MlpXRefIdeal.τ).loc Cert.MlpXRefIdeal.main_arg1) = m ((c.tc : Thread Cert.MlpXIdeal.nD Cert.MlpXIdeal.τ).loc Cert.MlpXIdeal.main_arg1)
      ∧ m' ((c.tc : Thread Cert.MlpXRefIdeal.nD Cert.MlpXRefIdeal.τ).loc Cert.MlpXRefIdeal.main_arg2) = m ((c.tc : Thread Cert.MlpXIdeal.nD Cert.MlpXIdeal.τ).loc Cert.MlpXIdeal.main_arg2)
      ∧ m' ((c.tc : Thread Cert.MlpXRefIdeal.nD Cert.MlpXRefIdeal.τ).loc Cert.MlpXRefIdeal.main_arg3) = m ((c.tc : Thread Cert.MlpXIdeal.nD Cert.MlpXIdeal.τ).loc Cert.MlpXIdeal.main_arg3)
      ∧ m' ((c.tc : Thread Cert.MlpXRefIdeal.nD Cert.MlpXRefIdeal.τ).loc Cert.MlpXRefIdeal.main_arg4) = m ((c.tc : Thread Cert.MlpXIdeal.nD Cert.MlpXIdeal.τ).loc Cert.MlpXIdeal.main_arg4)) →
    ∃ (v0 : (c : Dev Cert.MlpXIdeal.nD) → Buf (Elt Ideal) ((c.tc : Thread Cert.MlpXIdeal.nD Cert.MlpXIdeal.τ).loc Cert.MlpXIdeal.main_v25_0)) (v1 : (c : Dev Cert.MlpXIdeal.nD) → Buf (Elt Ideal) ((c.tc : Thread Cert.MlpXIdeal.nD Cert.MlpXIdeal.τ).loc Cert.MlpXIdeal.main_v25_1)) (v2 : (c : Dev Cert.MlpXIdeal.nD) → Buf (Elt Ideal) ((c.tc : Thread Cert.MlpXIdeal.nD Cert.MlpXIdeal.τ).loc Cert.MlpXIdeal.main_v25_2)),
      θ_run (Cert.MlpXIdeal.defs (F := Ideal)) (onTc (τ := Cert.MlpXIdeal.τ) (Cert.MlpXIdeal.main (F := Ideal))) ⟨m, fun _ => 0, g⟩ (fun r => ∀ c : Dev Cert.MlpXIdeal.nD,
          r.2.mem ((c.tc : Thread Cert.MlpXIdeal.nD Cert.MlpXIdeal.τ).loc Cert.MlpXIdeal.main_v25_0) = v0 c
          ∧ r.2.mem ((c.tc : Thread Cert.MlpXIdeal.nD Cert.MlpXIdeal.τ).loc Cert.MlpXIdeal.main_v25_1) = v1 c
          ∧ r.2.mem ((c.tc : Thread Cert.MlpXIdeal.nD Cert.MlpXIdeal.τ).loc Cert.MlpXIdeal.main_v25_2) = v2 c
          ∧ r.2.mem ((c.tc : Thread Cert.MlpXIdeal.nD Cert.MlpXIdeal.τ).loc Cert.MlpXIdeal.main_arg0) = m ((c.tc : Thread Cert.MlpXIdeal.nD Cert.MlpXIdeal.τ).loc Cert.MlpXIdeal.main_arg0)
          ∧ r.2.mem ((c.tc : Thread Cert.MlpXIdeal.nD Cert.MlpXIdeal.τ).loc Cert.MlpXIdeal.main_arg1) = m ((c.tc : Thread Cert.MlpXIdeal.nD Cert.MlpXIdeal.τ).loc Cert.MlpXIdeal.main_arg1)
          ∧ r.2.mem ((c.tc : Thread Cert.MlpXIdeal.nD Cert.MlpXIdeal.τ).loc Cert.MlpXIdeal.main_arg2) = m ((c.tc : Thread Cert.MlpXIdeal.nD Cert.MlpXIdeal.τ).loc Cert.MlpXIdeal.main_arg2)
          ∧ r.2.mem ((c.tc : Thread Cert.MlpXIdeal.nD Cert.MlpXIdeal.τ).loc Cert.MlpXIdeal.main_arg3) = m ((c.tc : Thread Cert.MlpXIdeal.nD Cert.MlpXIdeal.τ).loc Cert.MlpXIdeal.main_arg3)
          ∧ r.2.mem ((c.tc : Thread Cert.MlpXIdeal.nD Cert.MlpXIdeal.τ).loc Cert.MlpXIdeal.main_arg4) = m ((c.tc : Thread Cert.MlpXIdeal.nD Cert.MlpXIdeal.τ).loc Cert.MlpXIdeal.main_arg4))
      ∧ θ_run (Cert.MlpXRefIdeal.defs (F := Ideal)) (onTc (τ := Cert.MlpXRefIdeal.τ) (Cert.MlpXRefIdeal.main (F := Ideal))) ⟨m', fun _ => 0, g'⟩ (fun r => ∀ c : Dev Cert.MlpXRefIdeal.nD,
          r.2.mem ((c.tc : Thread Cert.MlpXRefIdeal.nD Cert.MlpXRefIdeal.τ).loc Cert.MlpXRefIdeal.main_v54) = v0 c
          ∧ r.2.mem ((c.tc : Thread Cert.MlpXRefIdeal.nD Cert.MlpXRefIdeal.τ).loc Cert.MlpXRefIdeal.main_v55) = v1 c
          ∧ r.2.mem ((c.tc : Thread Cert.MlpXRefIdeal.nD Cert.MlpXRefIdeal.τ).loc Cert.MlpXRefIdeal.main_v56) = v2 c
          ∧ r.2.mem ((c.tc : Thread Cert.MlpXRefIdeal.nD Cert.MlpXRefIdeal.τ).loc Cert.MlpXRefIdeal.main_arg0) = m' ((c.tc : Thread Cert.MlpXRefIdeal.nD Cert.MlpXRefIdeal.τ).loc Cert.MlpXRefIdeal.main_arg0)
          ∧ r.2.mem ((c.tc : Thread Cert.MlpXRefIdeal.nD Cert.MlpXRefIdeal.τ).loc Cert.MlpXRefIdeal.main_arg1) = m' ((c.tc : Thread Cert.MlpXRefIdeal.nD Cert.MlpXRefIdeal.τ).loc Cert.MlpXRefIdeal.main_arg1)
          ∧ r.2.mem ((c.tc : Thread Cert.MlpXRefIdeal.nD Cert.MlpXRefIdeal.τ).loc Cert.MlpXRefIdeal.main_arg2) = m' ((c.tc : Thread Cert.MlpXRefIdeal.nD Cert.MlpXRefIdeal.τ).loc Cert.MlpXRefIdeal.main_arg2)
          ∧ r.2.mem ((c.tc : Thread Cert.MlpXRefIdeal.nD Cert.MlpXRefIdeal.τ).loc Cert.MlpXRefIdeal.main_arg3) = m' ((c.tc : Thread Cert.MlpXRefIdeal.nD Cert.MlpXRefIdeal.τ).loc Cert.MlpXRefIdeal.main_arg3)
          ∧ r.2.mem ((c.tc : Thread Cert.MlpXRefIdeal.nD Cert.MlpXRefIdeal.τ).loc Cert.MlpXRefIdeal.main_arg4) = m' ((c.tc : Thread Cert.MlpXRefIdeal.nD Cert.MlpXRefIdeal.τ).loc Cert.MlpXRefIdeal.main_arg4))

def preserves_In_InIdeal : Prop :=
  True

def algebraic_InIdeal_InRefIdeal_pre_in_finite [hInIdeal : Cert.InIdeal.Facts] [hInRefIdeal : Cert.InRefIdeal.Facts] [hPre_in_finite : Cert.Pre_in_finite.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal_in_finite m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)) →
    ∃ (v0 : (c : Dev Cert.InIdeal.nD) → Buf (Elt Ideal) ((c.tc : Thread Cert.InIdeal.nD Cert.InIdeal.τ).loc Cert.InIdeal.main_v5_0)) (v1 : (c : Dev Cert.InIdeal.nD) → Buf (Elt Ideal) ((c.tc : Thread Cert.InIdeal.nD Cert.InIdeal.τ).loc Cert.InIdeal.main_v5_1)) (v2 : (c : Dev Cert.InIdeal.nD) → Buf (Elt Ideal) ((c.tc : Thread Cert.InIdeal.nD Cert.InIdeal.τ).loc Cert.InIdeal.main_v5_2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v5_0) = v0 c
          ∧ r.2.mem ((c.tc : Thread Cert.InIdeal.nD Cert.InIdeal.τ).loc Cert.InIdeal.main_v5_1) = v1 c
          ∧ r.2.mem ((c.tc : Thread Cert.InIdeal.nD Cert.InIdeal.τ).loc Cert.InIdeal.main_v5_2) = v2 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v47) = v0 c
          ∧ r.2.mem ((c.tc : Thread Cert.InRefIdeal.nD Cert.InRefIdeal.τ).loc Cert.InRefIdeal.main_v48) = v1 c
          ∧ r.2.mem ((c.tc : Thread Cert.InRefIdeal.nD Cert.InRefIdeal.τ).loc Cert.InRefIdeal.main_v49) = v2 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_Head_HeadIdeal : Prop :=
  True

def algebraic_HeadIdeal_HeadRefIdeal_pre_head_finite [hHeadIdeal : Cert.HeadIdeal.Facts] [hHeadRefIdeal : Cert.HeadRefIdeal.Facts] [hPre_head_finite : Cert.Pre_head_finite.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_head_finite m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)
      ∧ m' ((c.tc : Thread Cert.HeadRefIdeal.nD Cert.HeadRefIdeal.τ).loc Cert.HeadRefIdeal.main_arg5) = m ((c.tc : Thread Cert.HeadIdeal.nD Cert.HeadIdeal.τ).loc Cert.HeadIdeal.main_arg5)
      ∧ m' ((c.tc : Thread Cert.HeadRefIdeal.nD Cert.HeadRefIdeal.τ).loc Cert.HeadRefIdeal.main_arg6) = m ((c.tc : Thread Cert.HeadIdeal.nD Cert.HeadIdeal.τ).loc Cert.HeadIdeal.main_arg6)
      ∧ m' ((c.tc : Thread Cert.HeadRefIdeal.nD Cert.HeadRefIdeal.τ).loc Cert.HeadRefIdeal.main_arg7) = m ((c.tc : Thread Cert.HeadIdeal.nD Cert.HeadIdeal.τ).loc Cert.HeadIdeal.main_arg7)) →
    ∃ (v0 : (c : Dev Cert.HeadIdeal.nD) → Buf (Elt Ideal) ((c.tc : Thread Cert.HeadIdeal.nD Cert.HeadIdeal.τ).loc Cert.HeadIdeal.main_v13_0)) (v1 : (c : Dev Cert.HeadIdeal.nD) → Buf (Elt Ideal) ((c.tc : Thread Cert.HeadIdeal.nD Cert.HeadIdeal.τ).loc Cert.HeadIdeal.main_v13_1)) (v2 : (c : Dev Cert.HeadIdeal.nD) → Buf (Elt Ideal) ((c.tc : Thread Cert.HeadIdeal.nD Cert.HeadIdeal.τ).loc Cert.HeadIdeal.main_v13_2)) (v3 : (c : Dev Cert.HeadIdeal.nD) → Buf (Elt Ideal) ((c.tc : Thread Cert.HeadIdeal.nD Cert.HeadIdeal.τ).loc Cert.HeadIdeal.main_v13_3)) (v4 : (c : Dev Cert.HeadIdeal.nD) → Buf (Elt Ideal) ((c.tc : Thread Cert.HeadIdeal.nD Cert.HeadIdeal.τ).loc Cert.HeadIdeal.main_v13_4)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v13_0) = v0 c
          ∧ r.2.mem ((c.tc : Thread Cert.HeadIdeal.nD Cert.HeadIdeal.τ).loc Cert.HeadIdeal.main_v13_1) = v1 c
          ∧ r.2.mem ((c.tc : Thread Cert.HeadIdeal.nD Cert.HeadIdeal.τ).loc Cert.HeadIdeal.main_v13_2) = v2 c
          ∧ r.2.mem ((c.tc : Thread Cert.HeadIdeal.nD Cert.HeadIdeal.τ).loc Cert.HeadIdeal.main_v13_3) = v3 c
          ∧ r.2.mem ((c.tc : Thread Cert.HeadIdeal.nD Cert.HeadIdeal.τ).loc Cert.HeadIdeal.main_v13_4) = v4 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4)
          ∧ r.2.mem ((c.tc : Thread Cert.HeadIdeal.nD Cert.HeadIdeal.τ).loc Cert.HeadIdeal.main_arg5) = m ((c.tc : Thread Cert.HeadIdeal.nD Cert.HeadIdeal.τ).loc Cert.HeadIdeal.main_arg5)
          ∧ r.2.mem ((c.tc : Thread Cert.HeadIdeal.nD Cert.HeadIdeal.τ).loc Cert.HeadIdeal.main_arg6) = m ((c.tc : Thread Cert.HeadIdeal.nD Cert.HeadIdeal.τ).loc Cert.HeadIdeal.main_arg6)
          ∧ r.2.mem ((c.tc : Thread Cert.HeadIdeal.nD Cert.HeadIdeal.τ).loc Cert.HeadIdeal.main_arg7) = m ((c.tc : Thread Cert.HeadIdeal.nD Cert.HeadIdeal.τ).loc Cert.HeadIdeal.main_arg7))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v123) = v0 c
          ∧ r.2.mem ((c.tc : Thread Cert.HeadRefIdeal.nD Cert.HeadRefIdeal.τ).loc Cert.HeadRefIdeal.main_v132) = v1 c
          ∧ r.2.mem ((c.tc : Thread Cert.HeadRefIdeal.nD Cert.HeadRefIdeal.τ).loc Cert.HeadRefIdeal.main_v134) = v2 c
          ∧ r.2.mem ((c.tc : Thread Cert.HeadRefIdeal.nD Cert.HeadRefIdeal.τ).loc Cert.HeadRefIdeal.main_v135) = v3 c
          ∧ r.2.mem ((c.tc : Thread Cert.HeadRefIdeal.nD Cert.HeadRefIdeal.τ).loc Cert.HeadRefIdeal.main_v131) = v4 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4)
          ∧ r.2.mem ((c.tc : Thread Cert.HeadRefIdeal.nD Cert.HeadRefIdeal.τ).loc Cert.HeadRefIdeal.main_arg5) = m' ((c.tc : Thread Cert.HeadRefIdeal.nD Cert.HeadRefIdeal.τ).loc Cert.HeadRefIdeal.main_arg5)
          ∧ r.2.mem ((c.tc : Thread Cert.HeadRefIdeal.nD Cert.HeadRefIdeal.τ).loc Cert.HeadRefIdeal.main_arg6) = m' ((c.tc : Thread Cert.HeadRefIdeal.nD Cert.HeadRefIdeal.τ).loc Cert.HeadRefIdeal.main_arg6)
          ∧ r.2.mem ((c.tc : Thread Cert.HeadRefIdeal.nD Cert.HeadRefIdeal.τ).loc Cert.HeadRefIdeal.main_arg7) = m' ((c.tc : Thread Cert.HeadRefIdeal.nD Cert.HeadRefIdeal.τ).loc Cert.HeadRefIdeal.main_arg7))

def preserves_FwdMix_FwdMixIdeal : Prop :=
  True

def algebraic_FwdMixIdeal_FwdMixRefIdeal [hFwdMixIdeal : Cert.FwdMixIdeal.Facts] [hFwdMixRefIdeal : Cert.FwdMixRefIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRefIdeal.nD Cert.FwdMixRefIdeal.τ Cert.FwdMixRefIdeal.sig) → Buf (Elt Ideal) ℓ) (g' : Dev Cert.FwdMixRefIdeal.nD → PrngReg), Pre_FwdMixIdeal m →
    (∀ c : Dev Cert.FwdMixIdeal.nD,
      m' ((c.tc : Thread Cert.FwdMixRefIdeal.nD Cert.FwdMixRefIdeal.τ).loc Cert.FwdMixRefIdeal.main_arg0) = m ((c.tc : Thread Cert.FwdMixIdeal.nD Cert.FwdMixIdeal.τ).loc Cert.FwdMixIdeal.main_arg0)
      ∧ m' ((c.tc : Thread Cert.FwdMixRefIdeal.nD Cert.FwdMixRefIdeal.τ).loc Cert.FwdMixRefIdeal.main_arg1) = m ((c.tc : Thread Cert.FwdMixIdeal.nD Cert.FwdMixIdeal.τ).loc Cert.FwdMixIdeal.main_arg1)
      ∧ m' ((c.tc : Thread Cert.FwdMixRefIdeal.nD Cert.FwdMixRefIdeal.τ).loc Cert.FwdMixRefIdeal.main_arg2) = m ((c.tc : Thread Cert.FwdMixIdeal.nD Cert.FwdMixIdeal.τ).loc Cert.FwdMixIdeal.main_arg2)
      ∧ m' ((c.tc : Thread Cert.FwdMixRefIdeal.nD Cert.FwdMixRefIdeal.τ).loc Cert.FwdMixRefIdeal.main_arg3) = m ((c.tc : Thread Cert.FwdMixIdeal.nD Cert.FwdMixIdeal.τ).loc Cert.FwdMixIdeal.main_arg3)
      ∧ m' ((c.tc : Thread Cert.FwdMixRefIdeal.nD Cert.FwdMixRefIdeal.τ).loc Cert.FwdMixRefIdeal.main_arg4) = m ((c.tc : Thread Cert.FwdMixIdeal.nD Cert.FwdMixIdeal.τ).loc Cert.FwdMixIdeal.main_arg4)
      ∧ m' ((c.tc : Thread Cert.FwdMixRefIdeal.nD Cert.FwdMixRefIdeal.τ).loc Cert.FwdMixRefIdeal.main_arg5) = m ((c.tc : Thread Cert.FwdMixIdeal.nD Cert.FwdMixIdeal.τ).loc Cert.FwdMixIdeal.main_arg5)
      ∧ m' ((c.tc : Thread Cert.FwdMixRefIdeal.nD Cert.FwdMixRefIdeal.τ).loc Cert.FwdMixRefIdeal.main_arg6) = m ((c.tc : Thread Cert.FwdMixIdeal.nD Cert.FwdMixIdeal.τ).loc Cert.FwdMixIdeal.main_arg6)
      ∧ m' ((c.tc : Thread Cert.FwdMixRefIdeal.nD Cert.FwdMixRefIdeal.τ).loc Cert.FwdMixRefIdeal.main_arg7) = m ((c.tc : Thread Cert.FwdMixIdeal.nD Cert.FwdMixIdeal.τ).loc Cert.FwdMixIdeal.main_arg7)
      ∧ m' ((c.tc : Thread Cert.FwdMixRefIdeal.nD Cert.FwdMixRefIdeal.τ).loc Cert.FwdMixRefIdeal.main_arg8) = m ((c.tc : Thread Cert.FwdMixIdeal.nD Cert.FwdMixIdeal.τ).loc Cert.FwdMixIdeal.main_arg8)
      ∧ m' ((c.tc : Thread Cert.FwdMixRefIdeal.nD Cert.FwdMixRefIdeal.τ).loc Cert.FwdMixRefIdeal.main_arg9) = m ((c.tc : Thread Cert.FwdMixIdeal.nD Cert.FwdMixIdeal.τ).loc Cert.FwdMixIdeal.main_arg9)
      ∧ m' ((c.tc : Thread Cert.FwdMixRefIdeal.nD Cert.FwdMixRefIdeal.τ).loc Cert.FwdMixRefIdeal.main_arg10) = m ((c.tc : Thread Cert.FwdMixIdeal.nD Cert.FwdMixIdeal.τ).loc Cert.FwdMixIdeal.main_arg10)
      ∧ m' ((c.tc : Thread Cert.FwdMixRefIdeal.nD Cert.FwdMixRefIdeal.τ).loc Cert.FwdMixRefIdeal.main_arg11) = m ((c.tc : Thread Cert.FwdMixIdeal.nD Cert.FwdMixIdeal.τ).loc Cert.FwdMixIdeal.main_arg11)
      ∧ m' ((c.tc : Thread Cert.FwdMixRefIdeal.nD Cert.FwdMixRefIdeal.τ).loc Cert.FwdMixRefIdeal.main_arg12) = m ((c.tc : Thread Cert.FwdMixIdeal.nD Cert.FwdMixIdeal.τ).loc Cert.FwdMixIdeal.main_arg12)
      ∧ m' ((c.tc : Thread Cert.FwdMixRefIdeal.nD Cert.FwdMixRefIdeal.τ).loc Cert.FwdMixRefIdeal.main_arg13) = m ((c.tc : Thread Cert.FwdMixIdeal.nD Cert.FwdMixIdeal.τ).loc Cert.FwdMixIdeal.main_arg13)) →
    ∃ (v0 : (c : Dev Cert.FwdMixIdeal.nD) → Buf (Elt Ideal) ((c.tc : Thread Cert.FwdMixIdeal.nD Cert.FwdMixIdeal.τ).loc Cert.FwdMixIdeal.main_v34_0)) (v1 : (c : Dev Cert.FwdMixIdeal.nD) → Buf (Elt Ideal) ((c.tc : Thread Cert.FwdMixIdeal.nD Cert.FwdMixIdeal.τ).loc Cert.FwdMixIdeal.main_v34_3)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v34_0) = v0 c
          ∧ r.2.mem ((c.tc : Thread Cert.FwdMixIdeal.nD Cert.FwdMixIdeal.τ).loc Cert.FwdMixIdeal.main_v34_3) = v1 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5)
          ∧ r.2.mem ((c.tc : Thread Cert.FwdMixIdeal.nD Cert.FwdMixIdeal.τ).loc Cert.FwdMixIdeal.main_arg6) = m ((c.tc : Thread Cert.FwdMixIdeal.nD Cert.FwdMixIdeal.τ).loc Cert.FwdMixIdeal.main_arg6)
          ∧ r.2.mem ((c.tc : Thread Cert.FwdMixIdeal.nD Cert.FwdMixIdeal.τ).loc Cert.FwdMixIdeal.main_arg7) = m ((c.tc : Thread Cert.FwdMixIdeal.nD Cert.FwdMixIdeal.τ).loc Cert.FwdMixIdeal.main_arg7)
          ∧ r.2.mem ((c.tc : Thread Cert.FwdMixIdeal.nD Cert.FwdMixIdeal.τ).loc Cert.FwdMixIdeal.main_arg8) = m ((c.tc : Thread Cert.FwdMixIdeal.nD Cert.FwdMixIdeal.τ).loc Cert.FwdMixIdeal.main_arg8)
          ∧ r.2.mem ((c.tc : Thread Cert.FwdMixIdeal.nD Cert.FwdMixIdeal.τ).loc Cert.FwdMixIdeal.main_arg9) = m ((c.tc : Thread Cert.FwdMixIdeal.nD Cert.FwdMixIdeal.τ).loc Cert.FwdMixIdeal.main_arg9)
          ∧ r.2.mem ((c.tc : Thread Cert.FwdMixIdeal.nD Cert.FwdMixIdeal.τ).loc Cert.FwdMixIdeal.main_arg10) = m ((c.tc : Thread Cert.FwdMixIdeal.nD Cert.FwdMixIdeal.τ).loc Cert.FwdMixIdeal.main_arg10)
          ∧ r.2.mem ((c.tc : Thread Cert.FwdMixIdeal.nD Cert.FwdMixIdeal.τ).loc Cert.FwdMixIdeal.main_arg11) = m ((c.tc : Thread Cert.FwdMixIdeal.nD Cert.FwdMixIdeal.τ).loc Cert.FwdMixIdeal.main_arg11)
          ∧ r.2.mem ((c.tc : Thread Cert.FwdMixIdeal.nD Cert.FwdMixIdeal.τ).loc Cert.FwdMixIdeal.main_arg12) = m ((c.tc : Thread Cert.FwdMixIdeal.nD Cert.FwdMixIdeal.τ).loc Cert.FwdMixIdeal.main_arg12)
          ∧ r.2.mem ((c.tc : Thread Cert.FwdMixIdeal.nD Cert.FwdMixIdeal.τ).loc Cert.FwdMixIdeal.main_arg13) = m ((c.tc : Thread Cert.FwdMixIdeal.nD Cert.FwdMixIdeal.τ).loc Cert.FwdMixIdeal.main_arg13))
      ∧ θ_run (Cert.FwdMixRefIdeal.defs (F := Ideal)) (onTc (τ := Cert.FwdMixRefIdeal.τ) (Cert.FwdMixRefIdeal.main (F := Ideal))) ⟨m', fun _ => 0, g'⟩ (fun r => ∀ c : Dev Cert.FwdMixRefIdeal.nD,
          r.2.mem ((c.tc : Thread Cert.FwdMixRefIdeal.nD Cert.FwdMixRefIdeal.τ).loc Cert.FwdMixRefIdeal.main_v79) = v0 c
          ∧ r.2.mem ((c.tc : Thread Cert.FwdMixRefIdeal.nD Cert.FwdMixRefIdeal.τ).loc Cert.FwdMixRefIdeal.main_v81) = v1 c
          ∧ r.2.mem ((c.tc : Thread Cert.FwdMixRefIdeal.nD Cert.FwdMixRefIdeal.τ).loc Cert.FwdMixRefIdeal.main_arg0) = m' ((c.tc : Thread Cert.FwdMixRefIdeal.nD Cert.FwdMixRefIdeal.τ).loc Cert.FwdMixRefIdeal.main_arg0)
          ∧ r.2.mem ((c.tc : Thread Cert.FwdMixRefIdeal.nD Cert.FwdMixRefIdeal.τ).loc Cert.FwdMixRefIdeal.main_arg1) = m' ((c.tc : Thread Cert.FwdMixRefIdeal.nD Cert.FwdMixRefIdeal.τ).loc Cert.FwdMixRefIdeal.main_arg1)
          ∧ r.2.mem ((c.tc : Thread Cert.FwdMixRefIdeal.nD Cert.FwdMixRefIdeal.τ).loc Cert.FwdMixRefIdeal.main_arg2) = m' ((c.tc : Thread Cert.FwdMixRefIdeal.nD Cert.FwdMixRefIdeal.τ).loc Cert.FwdMixRefIdeal.main_arg2)
          ∧ r.2.mem ((c.tc : Thread Cert.FwdMixRefIdeal.nD Cert.FwdMixRefIdeal.τ).loc Cert.FwdMixRefIdeal.main_arg3) = m' ((c.tc : Thread Cert.FwdMixRefIdeal.nD Cert.FwdMixRefIdeal.τ).loc Cert.FwdMixRefIdeal.main_arg3)
          ∧ r.2.mem ((c.tc : Thread Cert.FwdMixRefIdeal.nD Cert.FwdMixRefIdeal.τ).loc Cert.FwdMixRefIdeal.main_arg4) = m' ((c.tc : Thread Cert.FwdMixRefIdeal.nD Cert.FwdMixRefIdeal.τ).loc Cert.FwdMixRefIdeal.main_arg4)
          ∧ r.2.mem ((c.tc : Thread Cert.FwdMixRefIdeal.nD Cert.FwdMixRefIdeal.τ).loc Cert.FwdMixRefIdeal.main_arg5) = m' ((c.tc : Thread Cert.FwdMixRefIdeal.nD Cert.FwdMixRefIdeal.τ).loc Cert.FwdMixRefIdeal.main_arg5)
          ∧ r.2.mem ((c.tc : Thread Cert.FwdMixRefIdeal.nD Cert.FwdMixRefIdeal.τ).loc Cert.FwdMixRefIdeal.main_arg6) = m' ((c.tc : Thread Cert.FwdMixRefIdeal.nD Cert.FwdMixRefIdeal.τ).loc Cert.FwdMixRefIdeal.main_arg6)
          ∧ r.2.mem ((c.tc : Thread Cert.FwdMixRefIdeal.nD Cert.FwdMixRefIdeal.τ).loc Cert.FwdMixRefIdeal.main_arg7) = m' ((c.tc : Thread Cert.FwdMixRefIdeal.nD Cert.FwdMixRefIdeal.τ).loc Cert.FwdMixRefIdeal.main_arg7)
          ∧ r.2.mem ((c.tc : Thread Cert.FwdMixRefIdeal.nD Cert.FwdMixRefIdeal.τ).loc Cert.FwdMixRefIdeal.main_arg8) = m' ((c.tc : Thread Cert.FwdMixRefIdeal.nD Cert.FwdMixRefIdeal.τ).loc Cert.FwdMixRefIdeal.main_arg8)
          ∧ r.2.mem ((c.tc : Thread Cert.FwdMixRefIdeal.nD Cert.FwdMixRefIdeal.τ).loc Cert.FwdMixRefIdeal.main_arg9) = m' ((c.tc : Thread Cert.FwdMixRefIdeal.nD Cert.FwdMixRefIdeal.τ).loc Cert.FwdMixRefIdeal.main_arg9)
          ∧ r.2.mem ((c.tc : Thread Cert.FwdMixRefIdeal.nD Cert.FwdMixRefIdeal.τ).loc Cert.FwdMixRefIdeal.main_arg10) = m' ((c.tc : Thread Cert.FwdMixRefIdeal.nD Cert.FwdMixRefIdeal.τ).loc Cert.FwdMixRefIdeal.main_arg10)
          ∧ r.2.mem ((c.tc : Thread Cert.FwdMixRefIdeal.nD Cert.FwdMixRefIdeal.τ).loc Cert.FwdMixRefIdeal.main_arg11) = m' ((c.tc : Thread Cert.FwdMixRefIdeal.nD Cert.FwdMixRefIdeal.τ).loc Cert.FwdMixRefIdeal.main_arg11)
          ∧ r.2.mem ((c.tc : Thread Cert.FwdMixRefIdeal.nD Cert.FwdMixRefIdeal.τ).loc Cert.FwdMixRefIdeal.main_arg12) = m' ((c.tc : Thread Cert.FwdMixRefIdeal.nD Cert.FwdMixRefIdeal.τ).loc Cert.FwdMixRefIdeal.main_arg12)
          ∧ r.2.mem ((c.tc : Thread Cert.FwdMixRefIdeal.nD Cert.FwdMixRefIdeal.τ).loc Cert.FwdMixRefIdeal.main_arg13) = m' ((c.tc : Thread Cert.FwdMixRefIdeal.nD Cert.FwdMixRefIdeal.τ).loc Cert.FwdMixRefIdeal.main_arg13))

def preserves_FwdMlp_FwdMlpIdeal : Prop :=
  True

def algebraic_FwdMlpIdeal_FwdMlpRefIdeal [hFwdMlpIdeal : Cert.FwdMlpIdeal.Facts] [hFwdMlpRefIdeal : Cert.FwdMlpRefIdeal.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg)
    (m' : (ℓ : Loc Cert.FwdMlpRefIdeal.nD Cert.FwdMlpRefIdeal.τ Cert.FwdMlpRefIdeal.sig) → Buf (Elt Ideal) ℓ) (g' : Dev Cert.FwdMlpRefIdeal.nD → PrngReg), Pre_FwdMlpIdeal m →
    (∀ c : Dev Cert.FwdMlpIdeal.nD,
      m' ((c.tc : Thread Cert.FwdMlpRefIdeal.nD Cert.FwdMlpRefIdeal.τ).loc Cert.FwdMlpRefIdeal.main_arg0) = m ((c.tc : Thread Cert.FwdMlpIdeal.nD Cert.FwdMlpIdeal.τ).loc Cert.FwdMlpIdeal.main_arg0)
      ∧ m' ((c.tc : Thread Cert.FwdMlpRefIdeal.nD Cert.FwdMlpRefIdeal.τ).loc Cert.FwdMlpRefIdeal.main_arg1) = m ((c.tc : Thread Cert.FwdMlpIdeal.nD Cert.FwdMlpIdeal.τ).loc Cert.FwdMlpIdeal.main_arg1)
      ∧ m' ((c.tc : Thread Cert.FwdMlpRefIdeal.nD Cert.FwdMlpRefIdeal.τ).loc Cert.FwdMlpRefIdeal.main_arg2) = m ((c.tc : Thread Cert.FwdMlpIdeal.nD Cert.FwdMlpIdeal.τ).loc Cert.FwdMlpIdeal.main_arg2)
      ∧ m' ((c.tc : Thread Cert.FwdMlpRefIdeal.nD Cert.FwdMlpRefIdeal.τ).loc Cert.FwdMlpRefIdeal.main_arg3) = m ((c.tc : Thread Cert.FwdMlpIdeal.nD Cert.FwdMlpIdeal.τ).loc Cert.FwdMlpIdeal.main_arg3)) →
    ∃ (v0 : (c : Dev Cert.FwdMlpIdeal.nD) → Buf (Elt Ideal) ((c.tc : Thread Cert.FwdMlpIdeal.nD Cert.FwdMlpIdeal.τ).loc Cert.FwdMlpIdeal.main_v7_0)) (v1 : (c : Dev Cert.FwdMlpIdeal.nD) → Buf (Elt Ideal) ((c.tc : Thread Cert.FwdMlpIdeal.nD Cert.FwdMlpIdeal.τ).loc Cert.FwdMlpIdeal.main_v7_1)) (v2 : (c : Dev Cert.FwdMlpIdeal.nD) → Buf (Elt Ideal) ((c.tc : Thread Cert.FwdMlpIdeal.nD Cert.FwdMlpIdeal.τ).loc Cert.FwdMlpIdeal.main_v7_2)),
      θ_run (Cert.FwdMlpIdeal.defs (F := Ideal)) (onTc (τ := Cert.FwdMlpIdeal.τ) (Cert.FwdMlpIdeal.main (F := Ideal))) ⟨m, fun _ => 0, g⟩ (fun r => ∀ c : Dev Cert.FwdMlpIdeal.nD,
          r.2.mem ((c.tc : Thread Cert.FwdMlpIdeal.nD Cert.FwdMlpIdeal.τ).loc Cert.FwdMlpIdeal.main_v7_0) = v0 c
          ∧ r.2.mem ((c.tc : Thread Cert.FwdMlpIdeal.nD Cert.FwdMlpIdeal.τ).loc Cert.FwdMlpIdeal.main_v7_1) = v1 c
          ∧ r.2.mem ((c.tc : Thread Cert.FwdMlpIdeal.nD Cert.FwdMlpIdeal.τ).loc Cert.FwdMlpIdeal.main_v7_2) = v2 c
          ∧ r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
          ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
          ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
          ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3))
      ∧ θ_run (Cert.FwdMlpRefIdeal.defs (F := Ideal)) (onTc (τ := Cert.FwdMlpRefIdeal.τ) (Cert.FwdMlpRefIdeal.main (F := Ideal))) ⟨m', fun _ => 0, g'⟩ (fun r => ∀ c : Dev Cert.FwdMlpRefIdeal.nD,
          r.2.mem ((c.tc : Thread Cert.FwdMlpRefIdeal.nD Cert.FwdMlpRefIdeal.τ).loc Cert.FwdMlpRefIdeal.main_v17) = v0 c
          ∧ r.2.mem ((c.tc : Thread Cert.FwdMlpRefIdeal.nD Cert.FwdMlpRefIdeal.τ).loc Cert.FwdMlpRefIdeal.main_v18) = v1 c
          ∧ r.2.mem ((c.tc : Thread Cert.FwdMlpRefIdeal.nD Cert.FwdMlpRefIdeal.τ).loc Cert.FwdMlpRefIdeal.main_v22) = v2 c
          ∧ r.2.mem ((c.tc : Thread Cert.FwdMlpRefIdeal.nD Cert.FwdMlpRefIdeal.τ).loc Cert.FwdMlpRefIdeal.main_arg0) = m' ((c.tc : Thread Cert.FwdMlpRefIdeal.nD Cert.FwdMlpRefIdeal.τ).loc Cert.FwdMlpRefIdeal.main_arg0)
          ∧ r.2.mem ((c.tc : Thread Cert.FwdMlpRefIdeal.nD Cert.FwdMlpRefIdeal.τ).loc Cert.FwdMlpRefIdeal.main_arg1) = m' ((c.tc : Thread Cert.FwdMlpRefIdeal.nD Cert.FwdMlpRefIdeal.τ).loc Cert.FwdMlpRefIdeal.main_arg1)
          ∧ r.2.mem ((c.tc : Thread Cert.FwdMlpRefIdeal.nD Cert.FwdMlpRefIdeal.τ).loc Cert.FwdMlpRefIdeal.main_arg2) = m' ((c.tc : Thread Cert.FwdMlpRefIdeal.nD Cert.FwdMlpRefIdeal.τ).loc Cert.FwdMlpRefIdeal.main_arg2)
          ∧ r.2.mem ((c.tc : Thread Cert.FwdMlpRefIdeal.nD Cert.FwdMlpRefIdeal.τ).loc Cert.FwdMlpRefIdeal.main_arg3) = m' ((c.tc : Thread Cert.FwdMlpRefIdeal.nD Cert.FwdMlpRefIdeal.τ).loc Cert.FwdMlpRefIdeal.main_arg3))

def preserves_MlpW_MlpWIdeal : Prop :=
  True

def algebraic_MlpWIdeal_MlpWRefIdeal [hMlpWIdeal : Cert.MlpWIdeal.Facts] [hMlpWRefIdeal : Cert.MlpWRefIdeal.Facts] : Prop :=
  ∀ (m : (ℓ : Loc Cert.MlpWIdeal.nD Cert.MlpWIdeal.τ Cert.MlpWIdeal.sig) → Buf (Elt Ideal) ℓ) (g : Dev Cert.MlpWIdeal.nD → PrngReg)
    (m' : (ℓ : Loc Cert.MlpWRefIdeal.nD Cert.MlpWRefIdeal.τ Cert.MlpWRefIdeal.sig) → Buf (Elt Ideal) ℓ) (g' : Dev Cert.MlpWRefIdeal.nD → PrngReg), Pre_MlpWIdeal m →
    (∀ c : Dev Cert.MlpWIdeal.nD,
      m' ((c.tc : Thread Cert.MlpWRefIdeal.nD Cert.MlpWRefIdeal.τ).loc Cert.MlpWRefIdeal.main_arg0) = m ((c.tc : Thread Cert.MlpWIdeal.nD Cert.MlpWIdeal.τ).loc Cert.MlpWIdeal.main_arg0)
      ∧ m' ((c.tc : Thread Cert.MlpWRefIdeal.nD Cert.MlpWRefIdeal.τ).loc Cert.MlpWRefIdeal.main_arg1) = m ((c.tc : Thread Cert.MlpWIdeal.nD Cert.MlpWIdeal.τ).loc Cert.MlpWIdeal.main_arg1)
      ∧ m' ((c.tc : Thread Cert.MlpWRefIdeal.nD Cert.MlpWRefIdeal.τ).loc Cert.MlpWRefIdeal.main_arg2) = m ((c.tc : Thread Cert.MlpWIdeal.nD Cert.MlpWIdeal.τ).loc Cert.MlpWIdeal.main_arg2)
      ∧ m' ((c.tc : Thread Cert.MlpWRefIdeal.nD Cert.MlpWRefIdeal.τ).loc Cert.MlpWRefIdeal.main_arg3) = m ((c.tc : Thread Cert.MlpWIdeal.nD Cert.MlpWIdeal.τ).loc Cert.MlpWIdeal.main_arg3)
      ∧ m' ((c.tc : Thread Cert.MlpWRefIdeal.nD Cert.MlpWRefIdeal.τ).loc Cert.MlpWRefIdeal.main_arg4) = m ((c.tc : Thread Cert.MlpWIdeal.nD Cert.MlpWIdeal.τ).loc Cert.MlpWIdeal.main_arg4)) →
    ∃ (v0 : (c : Dev Cert.MlpWIdeal.nD) → Buf (Elt Ideal) ((c.tc : Thread Cert.MlpWIdeal.nD Cert.MlpWIdeal.τ).loc Cert.MlpWIdeal.main_v21_0)) (v1 : (c : Dev Cert.MlpWIdeal.nD) → Buf (Elt Ideal) ((c.tc : Thread Cert.MlpWIdeal.nD Cert.MlpWIdeal.τ).loc Cert.MlpWIdeal.main_v21_1)),
      θ_run (Cert.MlpWIdeal.defs (F := Ideal)) (onTc (τ := Cert.MlpWIdeal.τ) (Cert.MlpWIdeal.main (F := Ideal))) ⟨m, fun _ => 0, g⟩ (fun r => ∀ c : Dev Cert.MlpWIdeal.nD,
          r.2.mem ((c.tc : Thread Cert.MlpWIdeal.nD Cert.MlpWIdeal.τ).loc Cert.MlpWIdeal.main_v21_0) = v0 c
          ∧ r.2.mem ((c.tc : Thread Cert.MlpWIdeal.nD Cert.MlpWIdeal.τ).loc Cert.MlpWIdeal.main_v21_1) = v1 c
          ∧ r.2.mem ((c.tc : Thread Cert.MlpWIdeal.nD Cert.MlpWIdeal.τ).loc Cert.MlpWIdeal.main_arg0) = m ((c.tc : Thread Cert.MlpWIdeal.nD Cert.MlpWIdeal.τ).loc Cert.MlpWIdeal.main_arg0)
          ∧ r.2.mem ((c.tc : Thread Cert.MlpWIdeal.nD Cert.MlpWIdeal.τ).loc Cert.MlpWIdeal.main_arg1) = m ((c.tc : Thread Cert.MlpWIdeal.nD Cert.MlpWIdeal.τ).loc Cert.MlpWIdeal.main_arg1)
          ∧ r.2.mem ((c.tc : Thread Cert.MlpWIdeal.nD Cert.MlpWIdeal.τ).loc Cert.MlpWIdeal.main_arg2) = m ((c.tc : Thread Cert.MlpWIdeal.nD Cert.MlpWIdeal.τ).loc Cert.MlpWIdeal.main_arg2)
          ∧ r.2.mem ((c.tc : Thread Cert.MlpWIdeal.nD Cert.MlpWIdeal.τ).loc Cert.MlpWIdeal.main_arg3) = m ((c.tc : Thread Cert.MlpWIdeal.nD Cert.MlpWIdeal.τ).loc Cert.MlpWIdeal.main_arg3)
          ∧ r.2.mem ((c.tc : Thread Cert.MlpWIdeal.nD Cert.MlpWIdeal.τ).loc Cert.MlpWIdeal.main_arg4) = m ((c.tc : Thread Cert.MlpWIdeal.nD Cert.MlpWIdeal.τ).loc Cert.MlpWIdeal.main_arg4))
      ∧ θ_run (Cert.MlpWRefIdeal.defs (F := Ideal)) (onTc (τ := Cert.MlpWRefIdeal.τ) (Cert.MlpWRefIdeal.main (F := Ideal))) ⟨m', fun _ => 0, g'⟩ (fun r => ∀ c : Dev Cert.MlpWRefIdeal.nD,
          r.2.mem ((c.tc : Thread Cert.MlpWRefIdeal.nD Cert.MlpWRefIdeal.τ).loc Cert.MlpWRefIdeal.main_v30) = v0 c
          ∧ r.2.mem ((c.tc : Thread Cert.MlpWRefIdeal.nD Cert.MlpWRefIdeal.τ).loc Cert.MlpWRefIdeal.main_v33) = v1 c
          ∧ r.2.mem ((c.tc : Thread Cert.MlpWRefIdeal.nD Cert.MlpWRefIdeal.τ).loc Cert.MlpWRefIdeal.main_arg0) = m' ((c.tc : Thread Cert.MlpWRefIdeal.nD Cert.MlpWRefIdeal.τ).loc Cert.MlpWRefIdeal.main_arg0)
          ∧ r.2.mem ((c.tc : Thread Cert.MlpWRefIdeal.nD Cert.MlpWRefIdeal.τ).loc Cert.MlpWRefIdeal.main_arg1) = m' ((c.tc : Thread Cert.MlpWRefIdeal.nD Cert.MlpWRefIdeal.τ).loc Cert.MlpWRefIdeal.main_arg1)
          ∧ r.2.mem ((c.tc : Thread Cert.MlpWRefIdeal.nD Cert.MlpWRefIdeal.τ).loc Cert.MlpWRefIdeal.main_arg2) = m' ((c.tc : Thread Cert.MlpWRefIdeal.nD Cert.MlpWRefIdeal.τ).loc Cert.MlpWRefIdeal.main_arg2)
          ∧ r.2.mem ((c.tc : Thread Cert.MlpWRefIdeal.nD Cert.MlpWRefIdeal.τ).loc Cert.MlpWRefIdeal.main_arg3) = m' ((c.tc : Thread Cert.MlpWRefIdeal.nD Cert.MlpWRefIdeal.τ).loc Cert.MlpWRefIdeal.main_arg3)
          ∧ r.2.mem ((c.tc : Thread Cert.MlpWRefIdeal.nD Cert.MlpWRefIdeal.τ).loc Cert.MlpWRefIdeal.main_arg4) = m' ((c.tc : Thread Cert.MlpWRefIdeal.nD Cert.MlpWRefIdeal.τ).loc Cert.MlpWRefIdeal.main_arg4))

def preserves_AddPairs_AddPairsIdeal : Prop :=
  True

def algebraic_AddPairsIdeal_AddPairsRefIdeal [hAddPairsIdeal : Cert.AddPairsIdeal.Facts] [hAddPairsRefIdeal : Cert.AddPairsRefIdeal.Facts] : Prop :=
  ∀ (m : (ℓ : Loc Cert.AddPairsIdeal.nD Cert.AddPairsIdeal.τ Cert.AddPairsIdeal.sig) → Buf (Elt Ideal) ℓ) (g : Dev Cert.AddPairsIdeal.nD → PrngReg)
    (m' : (ℓ : Loc Cert.AddPairsRefIdeal.nD Cert.AddPairsRefIdeal.τ Cert.AddPairsRefIdeal.sig) → Buf (Elt Ideal) ℓ) (g' : Dev Cert.AddPairsRefIdeal.nD → PrngReg), Pre_AddPairsIdeal m →
    (∀ c : Dev Cert.AddPairsIdeal.nD,
      m' ((c.tc : Thread Cert.AddPairsRefIdeal.nD Cert.AddPairsRefIdeal.τ).loc Cert.AddPairsRefIdeal.main_arg0) = m ((c.tc : Thread Cert.AddPairsIdeal.nD Cert.AddPairsIdeal.τ).loc Cert.AddPairsIdeal.main_arg0)
      ∧ m' ((c.tc : Thread Cert.AddPairsRefIdeal.nD Cert.AddPairsRefIdeal.τ).loc Cert.AddPairsRefIdeal.main_arg1) = m ((c.tc : Thread Cert.AddPairsIdeal.nD Cert.AddPairsIdeal.τ).loc Cert.AddPairsIdeal.main_arg1)
      ∧ m' ((c.tc : Thread Cert.AddPairsRefIdeal.nD Cert.AddPairsRefIdeal.τ).loc Cert.AddPairsRefIdeal.main_arg2) = m ((c.tc : Thread Cert.AddPairsIdeal.nD Cert.AddPairsIdeal.τ).loc Cert.AddPairsIdeal.main_arg2)
      ∧ m' ((c.tc : Thread Cert.AddPairsRefIdeal.nD Cert.AddPairsRefIdeal.τ).loc Cert.AddPairsRefIdeal.main_arg3) = m ((c.tc : Thread Cert.AddPairsIdeal.nD Cert.AddPairsIdeal.τ).loc Cert.AddPairsIdeal.main_arg3)
      ∧ m' ((c.tc : Thread Cert.AddPairsRefIdeal.nD Cert.AddPairsRefIdeal.τ).loc Cert.AddPairsRefIdeal.main_arg4) = m ((c.tc : Thread Cert.AddPairsIdeal.nD Cert.AddPairsIdeal.τ).loc Cert.AddPairsIdeal.main_arg4)
      ∧ m' ((c.tc : Thread Cert.AddPairsRefIdeal.nD Cert.AddPairsRefIdeal.τ).loc Cert.AddPairsRefIdeal.main_arg5) = m ((c.tc : Thread Cert.AddPairsIdeal.nD Cert.AddPairsIdeal.τ).loc Cert.AddPairsIdeal.main_arg5)
      ∧ m' ((c.tc : Thread Cert.AddPairsRefIdeal.nD Cert.AddPairsRefIdeal.τ).loc Cert.AddPairsRefIdeal.main_arg6) = m ((c.tc : Thread Cert.AddPairsIdeal.nD Cert.AddPairsIdeal.τ).loc Cert.AddPairsIdeal.main_arg6)
      ∧ m' ((c.tc : Thread Cert.AddPairsRefIdeal.nD Cert.AddPairsRefIdeal.τ).loc Cert.AddPairsRefIdeal.main_arg7) = m ((c.tc : Thread Cert.AddPairsIdeal.nD Cert.AddPairsIdeal.τ).loc Cert.AddPairsIdeal.main_arg7)) →
    ∃ (v0 : (c : Dev Cert.AddPairsIdeal.nD) → Buf (Elt Ideal) ((c.tc : Thread Cert.AddPairsIdeal.nD Cert.AddPairsIdeal.τ).loc Cert.AddPairsIdeal.main_v1_0)) (v1 : (c : Dev Cert.AddPairsIdeal.nD) → Buf (Elt Ideal) ((c.tc : Thread Cert.AddPairsIdeal.nD Cert.AddPairsIdeal.τ).loc Cert.AddPairsIdeal.main_v1_1)) (v2 : (c : Dev Cert.AddPairsIdeal.nD) → Buf (Elt Ideal) ((c.tc : Thread Cert.AddPairsIdeal.nD Cert.AddPairsIdeal.τ).loc Cert.AddPairsIdeal.main_v1_2)) (v3 : (c : Dev Cert.AddPairsIdeal.nD) → Buf (Elt Ideal) ((c.tc : Thread Cert.AddPairsIdeal.nD Cert.AddPairsIdeal.τ).loc Cert.AddPairsIdeal.main_v1_3)),
      θ_run (Cert.AddPairsIdeal.defs (F := Ideal)) (onTc (τ := Cert.AddPairsIdeal.τ) (Cert.AddPairsIdeal.main (F := Ideal))) ⟨m, fun _ => 0, g⟩ (fun r => ∀ c : Dev Cert.AddPairsIdeal.nD,
          r.2.mem ((c.tc : Thread Cert.AddPairsIdeal.nD Cert.AddPairsIdeal.τ).loc Cert.AddPairsIdeal.main_v1_0) = v0 c
          ∧ r.2.mem ((c.tc : Thread Cert.AddPairsIdeal.nD Cert.AddPairsIdeal.τ).loc Cert.AddPairsIdeal.main_v1_1) = v1 c
          ∧ r.2.mem ((c.tc : Thread Cert.AddPairsIdeal.nD Cert.AddPairsIdeal.τ).loc Cert.AddPairsIdeal.main_v1_2) = v2 c
          ∧ r.2.mem ((c.tc : Thread Cert.AddPairsIdeal.nD Cert.AddPairsIdeal.τ).loc Cert.AddPairsIdeal.main_v1_3) = v3 c
          ∧ r.2.mem ((c.tc : Thread Cert.AddPairsIdeal.nD Cert.AddPairsIdeal.τ).loc Cert.AddPairsIdeal.main_arg0) = m ((c.tc : Thread Cert.AddPairsIdeal.nD Cert.AddPairsIdeal.τ).loc Cert.AddPairsIdeal.main_arg0)
          ∧ r.2.mem ((c.tc : Thread Cert.AddPairsIdeal.nD Cert.AddPairsIdeal.τ).loc Cert.AddPairsIdeal.main_arg1) = m ((c.tc : Thread Cert.AddPairsIdeal.nD Cert.AddPairsIdeal.τ).loc Cert.AddPairsIdeal.main_arg1)
          ∧ r.2.mem ((c.tc : Thread Cert.AddPairsIdeal.nD Cert.AddPairsIdeal.τ).loc Cert.AddPairsIdeal.main_arg2) = m ((c.tc : Thread Cert.AddPairsIdeal.nD Cert.AddPairsIdeal.τ).loc Cert.AddPairsIdeal.main_arg2)
          ∧ r.2.mem ((c.tc : Thread Cert.AddPairsIdeal.nD Cert.AddPairsIdeal.τ).loc Cert.AddPairsIdeal.main_arg3) = m ((c.tc : Thread Cert.AddPairsIdeal.nD Cert.AddPairsIdeal.τ).loc Cert.AddPairsIdeal.main_arg3)
          ∧ r.2.mem ((c.tc : Thread Cert.AddPairsIdeal.nD Cert.AddPairsIdeal.τ).loc Cert.AddPairsIdeal.main_arg4) = m ((c.tc : Thread Cert.AddPairsIdeal.nD Cert.AddPairsIdeal.τ).loc Cert.AddPairsIdeal.main_arg4)
          ∧ r.2.mem ((c.tc : Thread Cert.AddPairsIdeal.nD Cert.AddPairsIdeal.τ).loc Cert.AddPairsIdeal.main_arg5) = m ((c.tc : Thread Cert.AddPairsIdeal.nD Cert.AddPairsIdeal.τ).loc Cert.AddPairsIdeal.main_arg5)
          ∧ r.2.mem ((c.tc : Thread Cert.AddPairsIdeal.nD Cert.AddPairsIdeal.τ).loc Cert.AddPairsIdeal.main_arg6) = m ((c.tc : Thread Cert.AddPairsIdeal.nD Cert.AddPairsIdeal.τ).loc Cert.AddPairsIdeal.main_arg6)
          ∧ r.2.mem ((c.tc : Thread Cert.AddPairsIdeal.nD Cert.AddPairsIdeal.τ).loc Cert.AddPairsIdeal.main_arg7) = m ((c.tc : Thread Cert.AddPairsIdeal.nD Cert.AddPairsIdeal.τ).loc Cert.AddPairsIdeal.main_arg7))
      ∧ θ_run (Cert.AddPairsRefIdeal.defs (F := Ideal)) (onTc (τ := Cert.AddPairsRefIdeal.τ) (Cert.AddPairsRefIdeal.main (F := Ideal))) ⟨m', fun _ => 0, g'⟩ (fun r => ∀ c : Dev Cert.AddPairsRefIdeal.nD,
          r.2.mem ((c.tc : Thread Cert.AddPairsRefIdeal.nD Cert.AddPairsRefIdeal.τ).loc Cert.AddPairsRefIdeal.main_v5) = v0 c
          ∧ r.2.mem ((c.tc : Thread Cert.AddPairsRefIdeal.nD Cert.AddPairsRefIdeal.τ).loc Cert.AddPairsRefIdeal.main_v10) = v1 c
          ∧ r.2.mem ((c.tc : Thread Cert.AddPairsRefIdeal.nD Cert.AddPairsRefIdeal.τ).loc Cert.AddPairsRefIdeal.main_v15) = v2 c
          ∧ r.2.mem ((c.tc : Thread Cert.AddPairsRefIdeal.nD Cert.AddPairsRefIdeal.τ).loc Cert.AddPairsRefIdeal.main_v20) = v3 c
          ∧ r.2.mem ((c.tc : Thread Cert.AddPairsRefIdeal.nD Cert.AddPairsRefIdeal.τ).loc Cert.AddPairsRefIdeal.main_arg0) = m' ((c.tc : Thread Cert.AddPairsRefIdeal.nD Cert.AddPairsRefIdeal.τ).loc Cert.AddPairsRefIdeal.main_arg0)
          ∧ r.2.mem ((c.tc : Thread Cert.AddPairsRefIdeal.nD Cert.AddPairsRefIdeal.τ).loc Cert.AddPairsRefIdeal.main_arg1) = m' ((c.tc : Thread Cert.AddPairsRefIdeal.nD Cert.AddPairsRefIdeal.τ).loc Cert.AddPairsRefIdeal.main_arg1)
          ∧ r.2.mem ((c.tc : Thread Cert.AddPairsRefIdeal.nD Cert.AddPairsRefIdeal.τ).loc Cert.AddPairsRefIdeal.main_arg2) = m' ((c.tc : Thread Cert.AddPairsRefIdeal.nD Cert.AddPairsRefIdeal.τ).loc Cert.AddPairsRefIdeal.main_arg2)
          ∧ r.2.mem ((c.tc : Thread Cert.AddPairsRefIdeal.nD Cert.AddPairsRefIdeal.τ).loc Cert.AddPairsRefIdeal.main_arg3) = m' ((c.tc : Thread Cert.AddPairsRefIdeal.nD Cert.AddPairsRefIdeal.τ).loc Cert.AddPairsRefIdeal.main_arg3)
          ∧ r.2.mem ((c.tc : Thread Cert.AddPairsRefIdeal.nD Cert.AddPairsRefIdeal.τ).loc Cert.AddPairsRefIdeal.main_arg4) = m' ((c.tc : Thread Cert.AddPairsRefIdeal.nD Cert.AddPairsRefIdeal.τ).loc Cert.AddPairsRefIdeal.main_arg4)
          ∧ r.2.mem ((c.tc : Thread Cert.AddPairsRefIdeal.nD Cert.AddPairsRefIdeal.τ).loc Cert.AddPairsRefIdeal.main_arg5) = m' ((c.tc : Thread Cert.AddPairsRefIdeal.nD Cert.AddPairsRefIdeal.τ).loc Cert.AddPairsRefIdeal.main_arg5)
          ∧ r.2.mem ((c.tc : Thread Cert.AddPairsRefIdeal.nD Cert.AddPairsRefIdeal.τ).loc Cert.AddPairsRefIdeal.main_arg6) = m' ((c.tc : Thread Cert.AddPairsRefIdeal.nD Cert.AddPairsRefIdeal.τ).loc Cert.AddPairsRefIdeal.main_arg6)
          ∧ r.2.mem ((c.tc : Thread Cert.AddPairsRefIdeal.nD Cert.AddPairsRefIdeal.τ).loc Cert.AddPairsRefIdeal.main_arg7) = m' ((c.tc : Thread Cert.AddPairsRefIdeal.nD Cert.AddPairsRefIdeal.τ).loc Cert.AddPairsRefIdeal.main_arg7))

def preserves_Adam_AdamIdeal : Prop :=
  IdealRules.named_const.Statement Cert.AdamIdeal.κ "c1" .f32 0x3FC48605#32 (((5463681 / 8388608)⁻¹ : ℝ) : EReal)
  ∧ IdealRules.named_const.Statement Cert.AdamIdeal.κ "c2" .f32 0x42C8E6D3#32 (((2672307 / 268435456)⁻¹ : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)
      ∧ m' ((c.tc : Thread Cert.AdamRefIdeal.nD Cert.AdamRefIdeal.τ).loc Cert.AdamRefIdeal.main_arg4) = m ((c.tc : Thread Cert.AdamIdeal.nD Cert.AdamIdeal.τ).loc Cert.AdamIdeal.main_arg4)
      ∧ m' ((c.tc : Thread Cert.AdamRefIdeal.nD Cert.AdamRefIdeal.τ).loc Cert.AdamRefIdeal.main_arg5) = m ((c.tc : Thread Cert.AdamIdeal.nD Cert.AdamIdeal.τ).loc Cert.AdamIdeal.main_arg5)
      ∧ m' ((c.tc : Thread Cert.AdamRefIdeal.nD Cert.AdamRefIdeal.τ).loc Cert.AdamRefIdeal.main_arg6) = m ((c.tc : Thread Cert.AdamIdeal.nD Cert.AdamIdeal.τ).loc Cert.AdamIdeal.main_arg6)
      ∧ m' ((c.tc : Thread Cert.AdamRefIdeal.nD Cert.AdamRefIdeal.τ).loc Cert.AdamRefIdeal.main_arg7) = m ((c.tc : Thread Cert.AdamIdeal.nD Cert.AdamIdeal.τ).loc Cert.AdamIdeal.main_arg7)
      ∧ m' ((c.tc : Thread Cert.AdamRefIdeal.nD Cert.AdamRefIdeal.τ).loc Cert.AdamRefIdeal.main_arg8) = m ((c.tc : Thread Cert.AdamIdeal.nD Cert.AdamIdeal.τ).loc Cert.AdamIdeal.main_arg8)
      ∧ m' ((c.tc : Thread Cert.AdamRefIdeal.nD Cert.AdamRefIdeal.τ).loc Cert.AdamRefIdeal.main_arg9) = m ((c.tc : Thread Cert.AdamIdeal.nD Cert.AdamIdeal.τ).loc Cert.AdamIdeal.main_arg9)
      ∧ m' ((c.tc : Thread Cert.AdamRefIdeal.nD Cert.AdamRefIdeal.τ).loc Cert.AdamRefIdeal.main_arg10) = m ((c.tc : Thread Cert.AdamIdeal.nD Cert.AdamIdeal.τ).loc Cert.AdamIdeal.main_arg10)
      ∧ m' ((c.tc : Thread Cert.AdamRefIdeal.nD Cert.AdamRefIdeal.τ).loc Cert.AdamRefIdeal.main_arg11) = m ((c.tc : Thread Cert.AdamIdeal.nD Cert.AdamIdeal.τ).loc Cert.AdamIdeal.main_arg11)) →
    ∃ (v0 : (c : Dev Cert.AdamIdeal.nD) → Buf (Elt Ideal) ((c.tc : Thread Cert.AdamIdeal.nD Cert.AdamIdeal.τ).loc Cert.AdamIdeal.main_v12_0)) (v1 : (c : Dev Cert.AdamIdeal.nD) → Buf (Elt Ideal) ((c.tc : Thread Cert.AdamIdeal.nD Cert.AdamIdeal.τ).loc Cert.AdamIdeal.main_v12_1)) (v2 : (c : Dev Cert.AdamIdeal.nD) → Buf (Elt Ideal) ((c.tc : Thread Cert.AdamIdeal.nD Cert.AdamIdeal.τ).loc Cert.AdamIdeal.main_v12_2)) (v3 : (c : Dev Cert.AdamIdeal.nD) → Buf (Elt Ideal) ((c.tc : Thread Cert.AdamIdeal.nD Cert.AdamIdeal.τ).loc Cert.AdamIdeal.main_v12_3)) (v4 : (c : Dev Cert.AdamIdeal.nD) → Buf (Elt Ideal) ((c.tc : Thread Cert.AdamIdeal.nD Cert.AdamIdeal.τ).loc Cert.AdamIdeal.main_v12_4)) (v5 : (c : Dev Cert.AdamIdeal.nD) → Buf (Elt Ideal) ((c.tc : Thread Cert.AdamIdeal.nD Cert.AdamIdeal.τ).loc Cert.AdamIdeal.main_v12_5)) (v6 : (c : Dev Cert.AdamIdeal.nD) → Buf (Elt Ideal) ((c.tc : Thread Cert.AdamIdeal.nD Cert.AdamIdeal.τ).loc Cert.AdamIdeal.main_v12_6)) (v7 : (c : Dev Cert.AdamIdeal.nD) → Buf (Elt Ideal) ((c.tc : Thread Cert.AdamIdeal.nD Cert.AdamIdeal.τ).loc Cert.AdamIdeal.main_v12_7)) (v8 : (c : Dev Cert.AdamIdeal.nD) → Buf (Elt Ideal) ((c.tc : Thread Cert.AdamIdeal.nD Cert.AdamIdeal.τ).loc Cert.AdamIdeal.main_v12_8)) (v9 : (c : Dev Cert.AdamIdeal.nD) → Buf (Elt Ideal) ((c.tc : Thread Cert.AdamIdeal.nD Cert.AdamIdeal.τ).loc Cert.AdamIdeal.main_v12_9)) (v10 : (c : Dev Cert.AdamIdeal.nD) → Buf (Elt Ideal) ((c.tc : Thread Cert.AdamIdeal.nD Cert.AdamIdeal.τ).loc Cert.AdamIdeal.main_v12_10)) (v11 : (c : Dev Cert.AdamIdeal.nD) → Buf (Elt Ideal) ((c.tc : Thread Cert.AdamIdeal.nD Cert.AdamIdeal.τ).loc Cert.AdamIdeal.main_v12_11)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v12_0) = v0 c
          ∧ r.2.mem ((c.tc : Thread Cert.AdamIdeal.nD Cert.AdamIdeal.τ).loc Cert.AdamIdeal.main_v12_1) = v1 c
          ∧ r.2.mem ((c.tc : Thread Cert.AdamIdeal.nD Cert.AdamIdeal.τ).loc Cert.AdamIdeal.main_v12_2) = v2 c
          ∧ r.2.mem ((c.tc : Thread Cert.AdamIdeal.nD Cert.AdamIdeal.τ).loc Cert.AdamIdeal.main_v12_3) = v3 c
          ∧ r.2.mem ((c.tc : Thread Cert.AdamIdeal.nD Cert.AdamIdeal.τ).loc Cert.AdamIdeal.main_v12_4) = v4 c
          ∧ r.2.mem ((c.tc : Thread Cert.AdamIdeal.nD Cert.AdamIdeal.τ).loc Cert.AdamIdeal.main_v12_5) = v5 c
          ∧ r.2.mem ((c.tc : Thread Cert.AdamIdeal.nD Cert.AdamIdeal.τ).loc Cert.AdamIdeal.main_v12_6) = v6 c
          ∧ r.2.mem ((c.tc : Thread Cert.AdamIdeal.nD Cert.AdamIdeal.τ).loc Cert.AdamIdeal.main_v12_7) = v7 c
          ∧ r.2.mem ((c.tc : Thread Cert.AdamIdeal.nD Cert.AdamIdeal.τ).loc Cert.AdamIdeal.main_v12_8) = v8 c
          ∧ r.2.mem ((c.tc : Thread Cert.AdamIdeal.nD Cert.AdamIdeal.τ).loc Cert.AdamIdeal.main_v12_9) = v9 c
          ∧ r.2.mem ((c.tc : Thread Cert.AdamIdeal.nD Cert.AdamIdeal.τ).loc Cert.AdamIdeal.main_v12_10) = v10 c
          ∧ r.2.mem ((c.tc : Thread Cert.AdamIdeal.nD Cert.AdamIdeal.τ).loc Cert.AdamIdeal.main_v12_11) = v11 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3)
          ∧ r.2.mem ((c.tc : Thread Cert.AdamIdeal.nD Cert.AdamIdeal.τ).loc Cert.AdamIdeal.main_arg4) = m ((c.tc : Thread Cert.AdamIdeal.nD Cert.AdamIdeal.τ).loc Cert.AdamIdeal.main_arg4)
          ∧ r.2.mem ((c.tc : Thread Cert.AdamIdeal.nD Cert.AdamIdeal.τ).loc Cert.AdamIdeal.main_arg5) = m ((c.tc : Thread Cert.AdamIdeal.nD Cert.AdamIdeal.τ).loc Cert.AdamIdeal.main_arg5)
          ∧ r.2.mem ((c.tc : Thread Cert.AdamIdeal.nD Cert.AdamIdeal.τ).loc Cert.AdamIdeal.main_arg6) = m ((c.tc : Thread Cert.AdamIdeal.nD Cert.AdamIdeal.τ).loc Cert.AdamIdeal.main_arg6)
          ∧ r.2.mem ((c.tc : Thread Cert.AdamIdeal.nD Cert.AdamIdeal.τ).loc Cert.AdamIdeal.main_arg7) = m ((c.tc : Thread Cert.AdamIdeal.nD Cert.AdamIdeal.τ).loc Cert.AdamIdeal.main_arg7)
          ∧ r.2.mem ((c.tc : Thread Cert.AdamIdeal.nD Cert.AdamIdeal.τ).loc Cert.AdamIdeal.main_arg8) = m ((c.tc : Thread Cert.AdamIdeal.nD Cert.AdamIdeal.τ).loc Cert.AdamIdeal.main_arg8)
          ∧ r.2.mem ((c.tc : Thread Cert.AdamIdeal.nD Cert.AdamIdeal.τ).loc Cert.AdamIdeal.main_arg9) = m ((c.tc : Thread Cert.AdamIdeal.nD Cert.AdamIdeal.τ).loc Cert.AdamIdeal.main_arg9)
          ∧ r.2.mem ((c.tc : Thread Cert.AdamIdeal.nD Cert.AdamIdeal.τ).loc Cert.AdamIdeal.main_arg10) = m ((c.tc : Thread Cert.AdamIdeal.nD Cert.AdamIdeal.τ).loc Cert.AdamIdeal.main_arg10)
          ∧ r.2.mem ((c.tc : Thread Cert.AdamIdeal.nD Cert.AdamIdeal.τ).loc Cert.AdamIdeal.main_arg11) = m ((c.tc : Thread Cert.AdamIdeal.nD Cert.AdamIdeal.τ).loc Cert.AdamIdeal.main_arg11))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v72) = v0 c
          ∧ r.2.mem ((c.tc : Thread Cert.AdamRefIdeal.nD Cert.AdamRefIdeal.τ).loc Cert.AdamRefIdeal.main_v73) = v1 c
          ∧ r.2.mem ((c.tc : Thread Cert.AdamRefIdeal.nD Cert.AdamRefIdeal.τ).loc Cert.AdamRefIdeal.main_v74) = v2 c
          ∧ r.2.mem ((c.tc : Thread Cert.AdamRefIdeal.nD Cert.AdamRefIdeal.τ).loc Cert.AdamRefIdeal.main_v75) = v3 c
          ∧ r.2.mem ((c.tc : Thread Cert.AdamRefIdeal.nD Cert.AdamRefIdeal.τ).loc Cert.AdamRefIdeal.main_v76) = v4 c
          ∧ r.2.mem ((c.tc : Thread Cert.AdamRefIdeal.nD Cert.AdamRefIdeal.τ).loc Cert.AdamRefIdeal.main_v77) = v5 c
          ∧ r.2.mem ((c.tc : Thread Cert.AdamRefIdeal.nD Cert.AdamRefIdeal.τ).loc Cert.AdamRefIdeal.main_v78) = v6 c
          ∧ r.2.mem ((c.tc : Thread Cert.AdamRefIdeal.nD Cert.AdamRefIdeal.τ).loc Cert.AdamRefIdeal.main_v79) = v7 c
          ∧ r.2.mem ((c.tc : Thread Cert.AdamRefIdeal.nD Cert.AdamRefIdeal.τ).loc Cert.AdamRefIdeal.main_v80) = v8 c
          ∧ r.2.mem ((c.tc : Thread Cert.AdamRefIdeal.nD Cert.AdamRefIdeal.τ).loc Cert.AdamRefIdeal.main_v81) = v9 c
          ∧ r.2.mem ((c.tc : Thread Cert.AdamRefIdeal.nD Cert.AdamRefIdeal.τ).loc Cert.AdamRefIdeal.main_v82) = v10 c
          ∧ r.2.mem ((c.tc : Thread Cert.AdamRefIdeal.nD Cert.AdamRefIdeal.τ).loc Cert.AdamRefIdeal.main_v83) = v11 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3)
          ∧ r.2.mem ((c.tc : Thread Cert.AdamRefIdeal.nD Cert.AdamRefIdeal.τ).loc Cert.AdamRefIdeal.main_arg4) = m' ((c.tc : Thread Cert.AdamRefIdeal.nD Cert.AdamRefIdeal.τ).loc Cert.AdamRefIdeal.main_arg4)
          ∧ r.2.mem ((c.tc : Thread Cert.AdamRefIdeal.nD Cert.AdamRefIdeal.τ).loc Cert.AdamRefIdeal.main_arg5) = m' ((c.tc : Thread Cert.AdamRefIdeal.nD Cert.AdamRefIdeal.τ).loc Cert.AdamRefIdeal.main_arg5)
          ∧ r.2.mem ((c.tc : Thread Cert.AdamRefIdeal.nD Cert.AdamRefIdeal.τ).loc Cert.AdamRefIdeal.main_arg6) = m' ((c.tc : Thread Cert.AdamRefIdeal.nD Cert.AdamRefIdeal.τ).loc Cert.AdamRefIdeal.main_arg6)
          ∧ r.2.mem ((c.tc : Thread Cert.AdamRefIdeal.nD Cert.AdamRefIdeal.τ).loc Cert.AdamRefIdeal.main_arg7) = m' ((c.tc : Thread Cert.AdamRefIdeal.nD Cert.AdamRefIdeal.τ).loc Cert.AdamRefIdeal.main_arg7)
          ∧ r.2.mem ((c.tc : Thread Cert.AdamRefIdeal.nD Cert.AdamRefIdeal.τ).loc Cert.AdamRefIdeal.main_arg8) = m' ((c.tc : Thread Cert.AdamRefIdeal.nD Cert.AdamRefIdeal.τ).loc Cert.AdamRefIdeal.main_arg8)
          ∧ r.2.mem ((c.tc : Thread Cert.AdamRefIdeal.nD Cert.AdamRefIdeal.τ).loc Cert.AdamRefIdeal.main_arg9) = m' ((c.tc : Thread Cert.AdamRefIdeal.nD Cert.AdamRefIdeal.τ).loc Cert.AdamRefIdeal.main_arg9)
          ∧ r.2.mem ((c.tc : Thread Cert.AdamRefIdeal.nD Cert.AdamRefIdeal.τ).loc Cert.AdamRefIdeal.main_arg10) = m' ((c.tc : Thread Cert.AdamRefIdeal.nD Cert.AdamRefIdeal.τ).loc Cert.AdamRefIdeal.main_arg10)
          ∧ r.2.mem ((c.tc : Thread Cert.AdamRefIdeal.nD Cert.AdamRefIdeal.τ).loc Cert.AdamRefIdeal.main_arg11) = m' ((c.tc : Thread Cert.AdamRefIdeal.nD Cert.AdamRefIdeal.τ).loc Cert.AdamRefIdeal.main_arg11))

def Claim : Prop :=
  ∃ (hMlpX : Cert.MlpX.Facts) (hMlpXIdeal : Cert.MlpXIdeal.Facts) (hMlpXRefIdeal : Cert.MlpXRefIdeal.Facts) (hIn : Cert.In.Facts) (hInIdeal : Cert.InIdeal.Facts) (hInRefIdeal : Cert.InRefIdeal.Facts) (hHead : Cert.Head.Facts) (hHeadIdeal : Cert.HeadIdeal.Facts) (hHeadRefIdeal : Cert.HeadRefIdeal.Facts) (hFwdMix : Cert.FwdMix.Facts) (hFwdMixIdeal : Cert.FwdMixIdeal.Facts) (hFwdMixRefIdeal : Cert.FwdMixRefIdeal.Facts) (hFwdMlp : Cert.FwdMlp.Facts) (hFwdMlpIdeal : Cert.FwdMlpIdeal.Facts) (hFwdMlpRefIdeal : Cert.FwdMlpRefIdeal.Facts) (hMlpW : Cert.MlpW.Facts) (hMlpWIdeal : Cert.MlpWIdeal.Facts) (hMlpWRefIdeal : Cert.MlpWRefIdeal.Facts) (hAddPairs : Cert.AddPairs.Facts) (hAddPairsIdeal : Cert.AddPairsIdeal.Facts) (hAddPairsRefIdeal : Cert.AddPairsRefIdeal.Facts) (hAdam : Cert.Adam.Facts) (hAdamIdeal : Cert.AdamIdeal.Facts) (hAdamRefIdeal : Cert.AdamRefIdeal.Facts) (hPre_mlp_finite : Cert.Pre_mlp_finite.Facts) (hPre_in_finite : Cert.Pre_in_finite.Facts) (hPre_head_finite : Cert.Pre_head_finite.Facts),
    quiescent_MlpX (hMlpX := hMlpX)
    ∧ quiescent_MlpXIdeal (hMlpXIdeal := hMlpXIdeal)
    ∧ quiescent_MlpXIdeal_pre_mlp_finite (hMlpXIdeal := hMlpXIdeal) (hPre_mlp_finite := hPre_mlp_finite)
    ∧ quiescent_MlpXRefIdeal (hMlpXRefIdeal := hMlpXRefIdeal)
    ∧ quiescent_MlpXRefIdeal_pre_mlp_finite (hMlpXRefIdeal := hMlpXRefIdeal) (hPre_mlp_finite := hPre_mlp_finite)
    ∧ quiescent_In (hIn := hIn)
    ∧ quiescent_InIdeal (hInIdeal := hInIdeal)
    ∧ quiescent_InIdeal_pre_in_finite (hInIdeal := hInIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_Head (hHead := hHead)
    ∧ quiescent_HeadIdeal (hHeadIdeal := hHeadIdeal)
    ∧ quiescent_HeadIdeal_pre_head_finite (hHeadIdeal := hHeadIdeal) (hPre_head_finite := hPre_head_finite)
    ∧ quiescent_HeadRefIdeal (hHeadRefIdeal := hHeadRefIdeal)
    ∧ quiescent_HeadRefIdeal_pre_head_finite (hHeadRefIdeal := hHeadRefIdeal) (hPre_head_finite := hPre_head_finite)
    ∧ quiescent_FwdMix (hFwdMix := hFwdMix)
    ∧ quiescent_FwdMixIdeal (hFwdMixIdeal := hFwdMixIdeal)
    ∧ quiescent_FwdMixRefIdeal (hFwdMixRefIdeal := hFwdMixRefIdeal)
    ∧ quiescent_FwdMlp (hFwdMlp := hFwdMlp)
    ∧ quiescent_FwdMlpIdeal (hFwdMlpIdeal := hFwdMlpIdeal)
    ∧ quiescent_FwdMlpRefIdeal (hFwdMlpRefIdeal := hFwdMlpRefIdeal)
    ∧ quiescent_MlpW (hMlpW := hMlpW)
    ∧ quiescent_MlpWIdeal (hMlpWIdeal := hMlpWIdeal)
    ∧ quiescent_MlpWRefIdeal (hMlpWRefIdeal := hMlpWRefIdeal)
    ∧ quiescent_AddPairs (hAddPairs := hAddPairs)
    ∧ quiescent_AddPairsIdeal (hAddPairsIdeal := hAddPairsIdeal)
    ∧ quiescent_AddPairsRefIdeal (hAddPairsRefIdeal := hAddPairsRefIdeal)
    ∧ quiescent_Adam (hAdam := hAdam)
    ∧ quiescent_AdamIdeal (hAdamIdeal := hAdamIdeal)
    ∧ quiescent_AdamRefIdeal (hAdamRefIdeal := hAdamRefIdeal)
    ∧ preserves_MlpX_MlpXIdeal
    ∧ algebraic_MlpXIdeal_MlpXRefIdeal_pre_mlp_finite (hMlpXIdeal := hMlpXIdeal) (hMlpXRefIdeal := hMlpXRefIdeal) (hPre_mlp_finite := hPre_mlp_finite)
    ∧ preserves_In_InIdeal
    ∧ algebraic_InIdeal_InRefIdeal_pre_in_finite (hInIdeal := hInIdeal) (hInRefIdeal := hInRefIdeal) (hPre_in_finite := hPre_in_finite)
    ∧ preserves_Head_HeadIdeal
    ∧ algebraic_HeadIdeal_HeadRefIdeal_pre_head_finite (hHeadIdeal := hHeadIdeal) (hHeadRefIdeal := hHeadRefIdeal) (hPre_head_finite := hPre_head_finite)
    ∧ preserves_FwdMix_FwdMixIdeal
    ∧ algebraic_FwdMixIdeal_FwdMixRefIdeal (hFwdMixIdeal := hFwdMixIdeal) (hFwdMixRefIdeal := hFwdMixRefIdeal)
    ∧ preserves_FwdMlp_FwdMlpIdeal
    ∧ algebraic_FwdMlpIdeal_FwdMlpRefIdeal (hFwdMlpIdeal := hFwdMlpIdeal) (hFwdMlpRefIdeal := hFwdMlpRefIdeal)
    ∧ preserves_MlpW_MlpWIdeal
    ∧ algebraic_MlpWIdeal_MlpWRefIdeal (hMlpWIdeal := hMlpWIdeal) (hMlpWRefIdeal := hMlpWRefIdeal)
    ∧ preserves_AddPairs_AddPairsIdeal
    ∧ algebraic_AddPairsIdeal_AddPairsRefIdeal (hAddPairsIdeal := hAddPairsIdeal) (hAddPairsRefIdeal := hAddPairsRefIdeal)
    ∧ preserves_Adam_AdamIdeal
    ∧ algebraic_AdamIdeal_AdamRefIdeal (hAdamIdeal := hAdamIdeal) (hAdamRefIdeal := hAdamRefIdeal)
-- ==== Pre_head_finite.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  bcast_S_S1x1x8192x256 : S_.BroadcastsInDim S1x1x8192x256 (![] : Fin 0 → Fin S1x1x8192x256.rank)
  bcast_S_S1x8192x1024 : S_.BroadcastsInDim S1x8192x1024 (![] : Fin 0 → Fin S1x8192x1024.rank)
  bcast_S_S1x1024 : S_.BroadcastsInDim S1x1024 (![] : Fin 0 → Fin S1x1024.rank)
  bcast_S_S1x1024x1024 : S_.BroadcastsInDim S1x1024x1024 (![] : Fin 0 → Fin S1x1024x1024.rank)
  bcast_S_S1x256x1024 : S_.BroadcastsInDim S1x256x1024 (![] : Fin 0 → Fin S1x256x1024.rank)
  bcast_S_S1024 : S_.BroadcastsInDim S1024 (![] : Fin 0 → Fin S1024.rank)

variable [Facts]

def fn_part1 {F : FTy → Type} [FloatOps F] (main_arg6 : FVec F S1x256x1024 .f32) (main_arg7 : FVec F S1024 .f32) (main_v2 : IVec S8192x1024 1) (main_v5 : IVec S1x1x8192x256 1) (main_v8 : IVec S1x8192x1024 1) (main_v11 : IVec S1x1024 1) (main_v14 : IVec S1x1024x1024 1) (main_v17 : IVec S1x1024 1) : IVec S8192x1024 1 × IVec S1x1x8192x256 1 × IVec S1x8192x1024 1 × IVec S1x1024 1 × IVec S1x1024x1024 1 × IVec S1x1024 1 × IVec S1x256x1024 1 × IVec S1024 1 :=
  let main_v18 : FVec F S1x256x1024 .f32 := Host.absf main_arg6
  let main_cst_5 : FVec F S_ .f32 := constant S_ .f32 0x7F800000#32
  let main_v19 : FVec F S1x256x1024 .f32 := broadcastInDim S1x256x1024 ![] bcast_S_S1x256x1024 main_cst_5
  let main_v20 : IVec S1x256x1024 1 := cmpf .olt main_v18 main_v19
  let main_v21 : FVec F S1024 .f32 := Host.absf main_arg7
  let main_cst_6 : FVec F S_ .f32 := constant S_ .f32 0x7F800000#32
  let main_v22 : FVec F S1024 .f32 := broadcastInDim S1024 ![] bcast_S_S1024 main_cst_6
  let main_v23 : IVec S1024 1 := cmpf .olt main_v21 main_v22
  (main_v2, main_v5, main_v8, main_v11, main_v14, main_v17, main_v20, main_v23)

def fn {F : FTy → Type} [FloatOps F] (main_arg0 : FVec F S8192x1024 .f32) (main_arg1 : FVec F S1x1x8192x256 .f32) (main_arg2 : FVec F S1x8192x1024 .f32) (main_arg3 : FVec F S1x1024 .f32) (main_arg4 : FVec F S1x1024x1024 .f32) (main_arg5 : FVec F S1x1024 .f32) (main_arg6 : FVec F S1x256x1024 .f32) (main_arg7 : FVec F S1024 .f32) : IVec S8192x1024 1 × IVec S1x1x8192x256 1 × IVec S1x8192x1024 1 × IVec S1x1024 1 × IVec S1x1024x1024 1 × IVec S1x1024 1 × IVec S1x256x1024 1 × IVec S1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1x8192x256 .f32 := Host.absf main_arg1
  let main_cst_0 : FVec F S_ .f32 := constant S_ .f32 0x7F800000#32
  let main_v4 : FVec F S1x1x8192x256 .f32 := broadcastInDim S1x1x8192x256 ![] bcast_S_S1x1x8192x256 main_cst_0
  let main_v5 : IVec S1x1x8192x256 1 := cmpf .olt main_v3 main_v4
  let main_v6 : FVec F S1x8192x1024 .f32 := Host.absf main_arg2
  let main_cst_1 : FVec F S_ .f32 := constant S_ .f32 0x7F800000#32
  let main_v7 : FVec F S1x8192x1024 .f32 := broadcastInDim S1x8192x1024 ![] bcast_S_S1x8192x1024 main_cst_1
  let main_v8 : IVec S1x8192x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024x1024 .f32 := Host.absf main_arg4
  let main_cst_3 : FVec F S_ .f32 := constant S_ .f32 0x7F800000#32
  let main_v13 : FVec F S1x1024x1024 .f32 := broadcastInDim S1x1024x1024 ![] bcast_S_S1x1024x1024 main_cst_3
  let main_v14 : IVec S1x1024x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_arg7 main_v2 main_v5 main_v8 main_v11 main_v14 main_v17
-- ==== Pre_in_finite.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x1536 : S_.BroadcastsInDim S1x1024x1536 (![] : Fin 0 → Fin S1x1024x1536.rank)
  bcast_S_S8192x1536 : S_.BroadcastsInDim S8192x1536 (![] : Fin 0 → Fin S8192x1536.rank)

variable [Facts]

def fn {F : FTy → Type} [FloatOps F] (main_arg0 : FVec F S8192x1024 .f32) (main_arg1 : FVec F S1x1024 .f32) (main_arg2 : FVec F S1x1024x1536 .f32) (main_arg3 : FVec F S8192x1536 .f32) (main_arg4 : FVec F S8192x1024 .f32) : IVec S8192x1024 1 × IVec S1x1024 1 × IVec S1x1024x1536 1 × IVec S8192x1536 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x1536 .f32 := Host.absf main_arg2
  let main_cst_1 : FVec F S_ .f32 := constant S_ .f32 0x7F800000#32
  let main_v7 : FVec F S1x1024x1536 .f32 := broadcastInDim S1x1024x1536 ![] bcast_S_S1x1024x1536 main_cst_1
  let main_v8 : IVec S1x1024x1536 1 := cmpf .olt main_v6 main_v7
  let main_v9 : FVec F S8192x1536 .f32 := Host.absf main_arg3
  let main_cst_2 : FVec F S_ .f32 := constant S_ .f32 0x7F800000#32
  let main_v10 : FVec F S8192x1536 .f32 := broadcastInDim S8192x1536 ![] bcast_S_S8192x1536 main_cst_2
  let main_v11 : IVec S8192x1536 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_mlp_finite.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1x1024x4096 : S_.BroadcastsInDim S1x1024x4096 (![] : Fin 0 → Fin S1x1024x4096.rank)
  bcast_S_S1x4096x1024 : S_.BroadcastsInDim S1x4096x1024 (![] : Fin 0 → Fin S1x4096x1024.rank)

variable [Facts]

def fn {F : FTy → Type} [FloatOps F] (main_arg0 : FVec F S8192x1024 .f32) (main_arg1 : FVec F S1x1024 .f32) (main_arg2 : FVec F S1x1024x4096 .f32) (main_arg3 : FVec F S1x4096x1024 .f32) (main_arg4 : FVec F S8192x1024 .f32) : IVec S8192x1024 1 × IVec S1x1024 1 × IVec S1x1024x4096 1 × IVec S1x4096x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1x1024x4096 .f32 := Host.absf main_arg2
  let main_cst_1 : FVec F S_ .f32 := constant S_ .f32 0x7F800000#32
  let main_v7 : FVec F S1x1024x4096 .f32 := broadcastInDim S1x1024x4096 ![] bcast_S_S1x1024x4096 main_cst_1
  let main_v8 : IVec S1x1024x4096 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== MlpX.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S8x1024 : Shape := ⟨2, ![8, 1024]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 38
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S4096x1024, .f32⟩
  | .hbm, ⟨10, _⟩ => ⟨S4x1024x1024, .f32⟩
  | .hbm, ⟨11, _⟩ => ⟨S4x1024x1024, .bf16⟩
  | .hbm, ⟨12, _⟩ => ⟨S1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S1024x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .f32⟩
  | .hbm, ⟨34, _⟩ => ⟨S8192x4096, .bf16⟩
  | .hbm, ⟨35, _⟩ => ⟨S8192x4096, .bf16⟩
  | .hbm, ⟨36, _⟩ => ⟨S8192x1024, .f32⟩
  | .hbm, ⟨37, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x1024, .bf16⟩
  | .local _ .vmem, ⟨8, _⟩ => ⟨S4x1024x1024, .bf16⟩
  | .local _ .vmem, ⟨9, _⟩ => ⟨S512x4096, .bf16⟩
  | .local _ .vmem, ⟨10, _⟩ => ⟨S512x4096, .bf16⟩
  | .local _ .vmem, ⟨11, _⟩ => ⟨S512x1024, .f32⟩
  | .local _ .vmem, ⟨12, _⟩ => ⟨S512x1024, .f32⟩
  | .local _ .vmem, ⟨13, _⟩ => ⟨S8x1024, .f32⟩
  | .local _ .vmem, ⟨14, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_cst : Ref sig .tc := ⟨.hbm, 31, rfl⟩
abbrev main_call0_v0 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev main_v25_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v108 : BitVec 1 := Scalar.cmpi .eq arg0 c15_i32
  let v109 : BitVec 32 := Scalar.extui v108
  let c0_i32_67 : BitVec 32 := 0#32
  let v110 : BitVec 1 := Scalar.cmpi .ne v109 c0_i32_67
  v110

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MlpXRefIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192x4096, .f32⟩
  | .hbm, ⟨33, _⟩ => ⟨S8192x4096, .i1⟩
  | .hbm, ⟨34, _⟩ => ⟨S_, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192x4096, .f32⟩
  | .hbm, ⟨39, _⟩ => ⟨S8192x4096, .f32⟩
  | .hbm, ⟨40, _⟩ => ⟨S4096x1024, .f32⟩
  | .hbm, ⟨41, _⟩ => ⟨S8192x1024, .f32⟩
  | .hbm, ⟨42, _⟩ => ⟨S8192x4096, .f32⟩
  | .hbm, ⟨43, _⟩ => ⟨S8192x4096, .f32⟩
  | .hbm, ⟨44, _⟩ => ⟨S_, .f32⟩
  | .hbm, ⟨45, _⟩ => ⟨S8192x4096, .f32⟩
  | .hbm, ⟨46, _⟩ => ⟨S8192x4096, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S1x1024, .f32⟩
  | .hbm, ⟨74, _⟩ => ⟨S8192x4096, .bf16⟩
  | .hbm, ⟨75, _⟩ => ⟨S8192x1024, .f32⟩
  | .hbm, ⟨76, _⟩ => ⟨S_, .i32⟩
  | .hbm, ⟨77, _⟩ => ⟨S_, .f32⟩
  | .hbm, ⟨78, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_cst_11 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_c : Ref sig .tc := ⟨.hbm, 76, rfl⟩
abbrev main_call1_v0 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== In.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024x1536 : Shape := ⟨2, ![1024, 1536]⟩
abbrev S1024x4x384 : Shape := ⟨3, ![1024, 4, 384]⟩
abbrev S4x1024x384 : Shape := ⟨3, ![4, 1024, 384]⟩
abbrev S8x1024 : Shape := ⟨2, ![8, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S512x384 : Shape := ⟨2, ![512, 384]⟩
abbrev S1x1024x384 : Shape := ⟨3, ![1, 1024, 384]⟩
abbrev S1024x384 : Shape := ⟨2, ![1024, 384]⟩
abbrev S1024 : Shape := ⟨1, ![1024]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1536, .f32⟩
  | .hbm, ⟨4, _⟩ => ⟨S8192x1024, .f32⟩
  | .hbm, ⟨5, _⟩ => ⟨S1024x1536, .f32⟩
  | .hbm, ⟨6, _⟩ => ⟨S1024x4x384, .f32⟩
  | .hbm, ⟨7, _⟩ => ⟨S4x1024x384, .f32⟩
  | .hbm, ⟨8, _⟩ => ⟨S4x1024x384, .bf16⟩
  | .hbm, ⟨9, _⟩ => ⟨S8192x1536, .bf16⟩
  | .hbm, ⟨10, _⟩ => ⟨S8192x1024, .f32⟩
  | .hbm, ⟨11, _⟩ => ⟨S4x1024x384, .bf16⟩
  | .hbm, ⟨12, _⟩ => ⟨S8x1024, .f32⟩
  | .local _ .vmem, ⟨0, _⟩ => ⟨S512x1536, .bf16⟩
  | .local _ .vmem, ⟨1, _⟩ => ⟨S512x1536, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x384, .bf16⟩
  | .local _ .vmem, ⟨8, _⟩ => ⟨S512x1024, .f32⟩
  | .local _ .vmem, ⟨9, _⟩ => ⟨S512x1024, .f32⟩
  | .local _ .vmem, ⟨10, _⟩ => ⟨S4x1024x384, .bf16⟩
  | .local _ .vmem, ⟨11, _⟩ => ⟨S8x1024, .f32⟩
  | .local _ .vmem, ⟨12, _⟩ => ⟨S4x1024x384, .f32⟩
  | .local _ .vmem, ⟨13, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v111 : BitVec 1 := Scalar.cmpi .eq arg0 c15_i32
  let v112 : BitVec 32 := Scalar.extui v111
  let c0_i32_69 : BitVec 32 := 0#32
  let v113 : BitVec 1 := Scalar.cmpi .ne v112 c0_i32_69
  v113

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x384 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InRefIdeal.lean ====
abbrev S8192x1024 : Shape := ⟨2, ![8192, 1024]⟩
abbrev S1x1024 : Shape := ⟨2, ![1, 1024]⟩
abbrev S1x1024x1536 : Shape := ⟨3, ![1, 1024, 1536]⟩
abbrev S8192x1536 : Shape := ⟨2, ![8192, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S1536x1024 : Shape := ⟨2, ![1536, 1024]⟩
abbrev S1024x4x384 : Shape := ⟨3, ![1024, 4, 384]⟩
abbrev S4x1024x384 : Shape := ⟨3, ![4, 1024, 384]⟩
abbrev S8x1024 : Shape := ⟨2, ![8, 1024]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S8192x1536, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S1536x1024, .f32⟩
  | .hbm, ⟨29, _⟩ => ⟨S1024x1536, .f32⟩
  | .hbm, ⟨30, _⟩ => ⟨S8192x1024, .f32⟩
  | .hbm, ⟨31, _⟩ => ⟨S1x1024x1536, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1x1024, .f32⟩
  | .hbm, ⟨58, _⟩ => ⟨S1024x1536, .f32⟩
  | .hbm, ⟨59, _⟩ => ⟨S1024x4x384, .f32⟩
  | .hbm, ⟨60, _⟩ => ⟨S4x1024x384, .f32⟩
  | .hbm, ⟨61, _⟩ => ⟨S8192x1024, .f32⟩
  | .hbm, ⟨62, _⟩ => ⟨S4x1024x384, .bf16⟩
  | .hbm, ⟨63, _⟩ => ⟨S_, .i32⟩
  | .hbm, ⟨64, _⟩ => ⟨S_, .f32⟩
  | .hbm, ⟨65, _⟩ => ⟨S8x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c : Ref sig .tc := ⟨.hbm, 63, rfl⟩
abbrev main_call0_v0 : Ref sig .tc := ⟨.hbm, 64, rfl⟩
abbrev main_v49 : Ref sig .tc := ⟨.hbm, 65, rfl⟩

abbrev nD : Nat := 1
abbrev τ : Topo := Topo.v7x

variable {F : FTy → Type} [FloatOps F]
-- ==== Head.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S8192x256 : Shape := ⟨2, ![8192, 256]⟩
abbrev S1024x1024 : Shape := ⟨2, ![1024, 1024]⟩
abbrev S4x256x1024 : Shape := ⟨3, ![4, 256, 1024]⟩
abbrev S256x1024 : Shape := ⟨2, ![256, 1024]⟩
abbrev S256x4x256 : Shape := ⟨3, ![256, 4, 256]⟩
abbrev S4x256x256 : Shape := ⟨3, ![4, 256, 256]⟩
abbrev S8x1024 : Shape := ⟨2, ![8, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩
abbrev S1 : Shape := ⟨1, ![1]⟩
abbrev S1x1 : Shape := ⟨2, ![1, 1]⟩
abbrev S256x256 : Shape := ⟨2, ![256, 256]⟩
abbrev S1x256x256 : Shape := ⟨3, ![1, 256, 256]⟩

abbrev nBuf : Space → Nat
  | .hbm => 26
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1x8192x256, .f32⟩
  | .hbm, ⟨2, _⟩ => ⟨S1x8192x1024, .f32⟩
  | .hbm, ⟨3, _⟩ => ⟨S1x1024, .f32⟩
  | .hbm, ⟨4, _⟩ => ⟨S1x1024x1024, .f32⟩
  | .hbm, ⟨5, _⟩ => ⟨S1x1024, .f32⟩
  | .hbm, ⟨6, _⟩ => ⟨S1x256x1024, .f32⟩
  | .hbm, ⟨7, _⟩ => ⟨S1024, .f32⟩
  | .hbm, ⟨8, _⟩ => ⟨S1x1024, .f32⟩
  | .hbm, ⟨9, _⟩ => ⟨S8192x256, .f32⟩
  | .hbm, ⟨10, _⟩ => ⟨S8192x1024, .f32⟩
  | .hbm, ⟨11, _⟩ => ⟨S1024x1024, .f32⟩
  | .hbm, ⟨12, _⟩ => ⟨S4x256x1024, .f32⟩
  | .hbm, ⟨13, _⟩ => ⟨S4x256x1024, .bf16⟩
  | .hbm, ⟨14, _⟩ => ⟨S256x1024, .f32⟩
  | .hbm, ⟨15, _⟩ => ⟨S256x4x256, .f32⟩
  | .hbm, ⟨16, _⟩ => ⟨S4x256x256, .f32⟩
  | .hbm, ⟨17, _⟩ => ⟨S4x256x256, .bf16⟩
  | .hbm, ⟨18, _⟩ => ⟨S1024x1024, .bf16⟩
  | .hbm, ⟨19, _⟩ => ⟨S256x4x256, .bf16⟩
  | .hbm, ⟨20, _⟩ => ⟨S256x1024, .bf16⟩
  | .hbm, ⟨21, _⟩ => ⟨S8192x1024, .f32⟩
  | .hbm, ⟨22, _⟩ => ⟨S8192x1024, .bf16⟩
  | .hbm, ⟨23, _⟩ => ⟨S1024x1024, .bf16⟩
  | .hbm, ⟨24, _⟩ => ⟨S4x256x256, .bf16⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S256x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S4x256x256, .bf16⟩
  | .local _ .vmem, ⟨17, _⟩ => ⟨S8x1024, .f32⟩
  | .local _ .vmem, ⟨18, _⟩ => ⟨S1024x1024, .f32⟩
  | .local _ .vmem, ⟨19, _⟩ => ⟨S256x1024, .f32⟩
  | .local _ .vmem, ⟨20, _⟩ => ⟨S8x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v184 : BitVec 1 := Scalar.cmpi .eq arg0 c15_i32
  let v185 : BitVec 32 := Scalar.extui v184
  let c0_i32_81 : BitVec 32 := 0#32
  let v186 : BitVec 1 := Scalar.cmpi .ne v185 c0_i32_81
  v186

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== HeadRefIdeal.lean ====
abbrev S8192x1024 : Shape := ⟨2, ![8192, 1024]⟩
abbrev S1x1x8192x256 : Shape := ⟨4, ![1, 1, 8192, 256]⟩
abbrev S1x8192x1024 : Shape := ⟨3, ![1, 8192, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1024 : Shape := ⟨2, ![1024, 1024]⟩
abbrev S8192x256 : Shape := ⟨2, ![8192, 256]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩
abbrev S4x1024 : Shape := ⟨2, ![4, 1024]⟩
abbrev S8x1024 : Shape := ⟨2, ![8, 1024]⟩

abbrev nBuf : Space → Nat
  | .hbm => 176
  | .vmem => 0
  | .smem => 0
  | _ => 0

abbrev hbmTy0_0 (i : Nat) : BufTy := match i % 128 with
  | 0 => ⟨S8192x1024, .f32⟩
  | 1 => ⟨S1x1x8192x256, .f32⟩
  | 2 => ⟨S1x8192x1024, .f32⟩
  | 3 => ⟨S1x1024, .f32⟩
  | 4 => ⟨S1x1024x1024, .f32⟩
  | 5 => ⟨S1x1024, .f32⟩
  | 6 => ⟨S1x256x1024, .f32⟩
  | 7 => ⟨S1024, .f32⟩
  | 8 => ⟨S1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1, .f32⟩
  | 21 => ⟨S_, .f32⟩
  | 22 => ⟨S8192x1, .f32⟩
  | 23 => ⟨S8192x1, .f32⟩
  | 24 => ⟨S8192x1024, .f32⟩
  | 25 => ⟨S8192x1024, .f32⟩
  | 26 => ⟨S1x1024, .f32⟩
  | 27 => ⟨S8192x1024, .f32⟩
  | 28 => ⟨S8192x1024, .f32⟩
  | 29 => ⟨S1024x1024, .f32⟩
  | 30 => ⟨S8192x1024, .f32⟩
  | 31 => ⟨S1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S_, .f32⟩
  | 38 => ⟨S8192x1024, .f32⟩
  | 39 => ⟨S8192x1024, .f32⟩
  | 40 => ⟨S_, .f32⟩
  | 41 => ⟨S8192x1024, .f32⟩
  | 42 => ⟨S8192x1024, .f32⟩
  | 43 => ⟨S_, .f32⟩
  | 44 => ⟨S8192x1024, .f32⟩
  | 45 => ⟨S8192x1024, .f32⟩
  | 46 => ⟨S8192x1024, .f32⟩
  | 47 => ⟨S8192x256, .f32⟩
  | 48 => ⟨S256x1024, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S8192, .f32⟩
  | 55 => ⟨S8192x1, .f32⟩
  | 56 => ⟨S_, .f32⟩
  | 57 => ⟨S8192x1, .f32⟩
  | 58 => ⟨S8192x1, .f32⟩
  | 59 => ⟨S_, .f32⟩
  | 60 => ⟨S8192x1, .f32⟩
  | 61 => ⟨S8192x1, .f32⟩
  | 62 => ⟨S8192x1, .f32⟩
  | 63 => ⟨S8192x1, .f32⟩
  | 64 => ⟨S_, .f32⟩
  | 65 => ⟨S8192x1, .f32⟩
  | 66 => ⟨S8192x1, .f32⟩
  | 67 => ⟨S8192x1024, .f32⟩
  | 68 => ⟨S8192x1024, .f32⟩
  | 69 => ⟨S1x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S_, .f32⟩
  | 79 => ⟨S8192, .f32⟩
  | 80 => ⟨S_, .f32⟩
  | 81 => ⟨S8192, .f32⟩
  | 82 => ⟨S8192, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S8192, .f32⟩
  | 91 => ⟨S_, .f32⟩
  | 92 => ⟨S8192, .f32⟩
  | 93 => ⟨S8192, .f32⟩
  | 94 => ⟨S8192x1024, .f32⟩
  | 95 => ⟨S8192x1024, .f32⟩
  | 96 => ⟨S8192x1024, .f32⟩
  | 97 => ⟨S_, .f32⟩
  | 98 => ⟨S1024, .f32⟩
  | 99 => ⟨S1x1024, .f32⟩
  | 100 => ⟨S8192x1024, .f32⟩
  | 101 => ⟨S8192x1024, .f32⟩
  | 102 => ⟨S_, .f32⟩
  | 103 => ⟨S1024, .f32⟩
  | 104 => ⟨S8192x1024, .f32⟩
  | 105 => ⟨S_, .f32⟩
  | 106 => ⟨S8192, .f32⟩
  | 107 => ⟨S8192x1, .f32⟩
  | 108 => ⟨S8192x1024, .f32⟩
  | 109 => ⟨S8192x1024, .f32⟩
  | 110 => ⟨S8192x1, .f32⟩
  | 111 => ⟨S_, .f32⟩
  | 112 => ⟨S8192x1, .f32⟩
  | 113 => ⟨S8192x1, .f32⟩
  | 114 => ⟨S_, .f32⟩
  | 115 => ⟨S8192, .f32⟩
  | 116 => ⟨S8192x1024, .f32⟩
  | 117 => ⟨S8192x1024, .f32⟩
  | 118 => ⟨S8192x1024, .f32⟩
  | 119 => ⟨S8192x1024, .f32⟩
  | 120 => ⟨S8192x1024, .f32⟩
  | 121 => ⟨S8192x1024, .f32⟩
  | 122 => ⟨S8192x1024, .f32⟩
  | 123 => ⟨S1024x256, .f32⟩
  | 124 => ⟨S256x1024, .f32⟩
  | 125 => ⟨S1x256x1024, .f32⟩
  | 126 => ⟨S8192x1024, .f32⟩
  | 127 => ⟨S_, .f32⟩
  | _ => ⟨S8192x1024, .f32⟩

abbrev hbmTy0_1 (i : Nat) : BufTy := match i % 128 with
  | 0 => ⟨S1024, .f32⟩
  | 1 => ⟨S1x1024, .f32⟩
  | 2 => ⟨S_, .f32⟩
  | 3 => ⟨S1024, .f32⟩
  | 4 => ⟨S1x1024, .f32⟩
  | 5 => ⟨S1024x1024, .f32⟩
  | 6 => ⟨S1024x1024, .f32⟩
  | 7 => ⟨S8192x1024, .f32⟩
  | 8 => ⟨S1x1024x1024, .f32⟩
  | 9 => ⟨S8192x1024, .f32⟩
  | 10 => ⟨S_, .f32⟩
  | 11 => ⟨S1024, .f32⟩
  | 12 => ⟨S1x1024, .f32⟩
  | 13 => ⟨S8192x1024, .f32⟩
  | 14 => ⟨S8192x1024, .f32⟩
  | 15 => ⟨S_, .f32⟩
  | 16 => ⟨S1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S256x1024, .f32⟩
  | 37 => ⟨S256x4x256, .f32⟩
  | 38 => ⟨S4x256x256, .f32⟩
  | 39 => ⟨S1x1024, .f32⟩
  | 40 => ⟨S1x1024, .f32⟩
  | 41 => ⟨S_, .f32⟩
  | 42 => ⟨S4x1024, .f32⟩
  | 43 => ⟨S8x1024, .f32⟩
  | 44 => ⟨S8192x1024, .bf16⟩
  | 45 => ⟨S1024x1024, .f32⟩
  | 46 => ⟨S1024x1024, .bf16⟩
  | 47 => ⟨S4x256x256, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_cst_4 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_cst_11 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_v60 : Ref sig .tc := ⟨.hbm, 82, rfl⟩
abbrev main_cst_13 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_cst_15 : Ref sig .tc := ⟨.hbm, 87, rfl⟩
abbrev main_cst_16 : Ref sig .tc := ⟨.hbm, 88, rfl⟩
abbrev main_v63 : Ref sig .tc := ⟨.hbm, 89, rfl⟩
abbrev main_v64 : Ref sig .tc := ⟨.hbm, 90, rfl⟩
abbrev main_cst_17 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_18 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_19 : Ref sig .tc := ⟨.hbm, 102, rfl⟩
abbrev main_v74 : Ref sig .tc := ⟨.hbm, 103, rfl⟩
abbrev main_v75 : Ref sig .tc := ⟨.hbm, 104, rfl⟩
abbrev main_cst_20 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_21 : Ref sig .tc := ⟨.hbm, 111, rfl⟩
abbrev main_v81 : Ref sig .tc := ⟨.hbm, 112, rfl⟩
abbrev main_v82 : Ref sig .tc := ⟨.hbm, 113, rfl⟩
abbrev main_cst_22 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_23 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_cst_25 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_cst_26 : Ref sig .tc := ⟨.hbm, 143, rfl⟩
abbrev main_v108 : Ref sig .tc := ⟨.hbm, 144, rfl⟩
abbrev main_v109 : Ref sig .tc := ⟨.hbm, 145, rfl⟩
abbrev main_cst_27 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_28 : Ref sig .tc := ⟨.hbm, 153, rfl⟩
abbrev main_v116 : Ref sig .tc := ⟨.hbm, 154, rfl⟩
abbrev main_v117 : Ref sig .tc := ⟨.hbm, 155, rfl⟩
abbrev main_cst_29 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_30 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩

abbrev nD : Nat := 1
abbrev τ : Topo := Topo.v7x

variable {F : FTy → Type} [FloatOps F]
-- ==== FwdMix.lean ====
abbrev S8192x1024 : Shape := ⟨2, ![8192, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x4x128 : Shape := ⟨3, ![1, 4, 128]⟩
abbrev S1x512 : Shape := ⟨2, ![1, 512]⟩
abbrev S1x4x512 : Shape := ⟨3, ![1, 4, 512]⟩
abbrev S1x8x64x64 : Shape := ⟨4, ![1, 8, 64, 64]⟩
abbrev S1x8x64 : Shape := ⟨3, ![1, 8, 64]⟩
abbrev S1x1024x1024 : Shape := ⟨3, ![1, 1024, 1024]⟩
abbrev S1024x1536 : Shape := ⟨2, ![1024, 1536]⟩
abbrev S1024x4x384 : Shape := ⟨3, ![1024, 4, 384]⟩
abbrev S4x1024x384 : Shape := ⟨3, ![4, 1024, 384]⟩
abbrev S4x128x128 : Shape := ⟨3, ![4, 128, 128]⟩
abbrev S4x512 : Shape := ⟨2, ![4, 512]⟩
abbrev S8x64x64 : Shape := ⟨3, ![8, 64, 64]⟩
abbrev S4x2x64x64 : Shape := ⟨4, ![4, 2, 64, 64]⟩
abbrev S_ : Shape := ⟨0, ![]⟩
abbrev S4x64x64 : Shape := ⟨3, ![4, 64, 64]⟩
abbrev S4x1x64x64 : Shape := ⟨4, ![4, 1, 64, 64]⟩
abbrev S4x64x128 : Shape := ⟨3, ![4, 64, 128]⟩
abbrev S1024x1024 : Shape := ⟨2, ![1024, 1024]⟩
abbrev S8192x512 : Shape := ⟨2, ![8192, 512]⟩
abbrev S512x1024 : Shape := ⟨2, ![512, 1024]⟩
abbrev S512x512 : Shape := ⟨2, ![512, 512]⟩
abbrev S16x512 : Shape := ⟨2, ![16, 512]⟩
abbrev S8x512 : Shape := ⟨2, ![8, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1x1024x384 : Shape := ⟨3, ![1, 1024, 384]⟩
abbrev S1024x384 : Shape := ⟨2, ![1024, 384]⟩
abbrev S256x384 : Shape := ⟨2, ![256, 384]⟩
abbrev S256x1536 : Shape := ⟨2, ![256, 1536]⟩
abbrev S256x128 : Shape := ⟨2, ![256, 128]⟩
abbrev S16x128 : Shape := ⟨2, ![16, 128]⟩
abbrev S272x128 : Shape := ⟨2, ![272, 128]⟩
abbrev S1x128x128 : Shape := ⟨3, ![1, 128, 128]⟩
abbrev S128x128 : Shape := ⟨2, ![128, 128]⟩
abbrev S264x512 : Shape := ⟨2, ![264, 512]⟩

abbrev nBuf : Space → Nat
  | .hbm => 56
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S1x4x128x128, .f32⟩
  | .hbm, ⟨4, _⟩ => ⟨S1x4x128, .f32⟩
  | .hbm, ⟨5, _⟩ => ⟨S1x512, .f32⟩
  | .hbm, ⟨6, _⟩ => ⟨S1x4x512, .f32⟩
  | .hbm, ⟨7, _⟩ => ⟨S1x512, .f32⟩
  | .hbm, ⟨8, _⟩ => ⟨S1x8x64x64, .f32⟩
  | .hbm, ⟨9, _⟩ => ⟨S1x8x64, .f32⟩
  | .hbm, ⟨10, _⟩ => ⟨S1x8x64x64, .f32⟩
  | .hbm, ⟨11, _⟩ => ⟨S1x8x64, .f32⟩
  | .hbm, ⟨12, _⟩ => ⟨S1x512, .f32⟩
  | .hbm, ⟨13, _⟩ => ⟨S1x1024x1024, .f32⟩
  | .hbm, ⟨14, _⟩ => ⟨S1024x1536, .f32⟩
  | .hbm, ⟨15, _⟩ => ⟨S1024x4x384, .f32⟩
  | .hbm, ⟨16, _⟩ => ⟨S4x1024x384, .f32⟩
  | .hbm, ⟨17, _⟩ => ⟨S4x1024x384, .bf16⟩
  | .hbm, ⟨18, _⟩ => ⟨S4x128x128, .f32⟩
  | .hbm, ⟨19, _⟩ => ⟨S4x128x128, .bf16⟩
  | .hbm, ⟨20, _⟩ => ⟨S1x512, .f32⟩
  | .hbm, ⟨21, _⟩ => ⟨S4x512, .f32⟩
  | .hbm, ⟨22, _⟩ => ⟨S8x64x64, .f32⟩
  | .hbm, ⟨23, _⟩ => ⟨S4x2x64x64, .f32⟩
  | .hbm, ⟨24, _⟩ => ⟨S_, .f32⟩
  | .hbm, ⟨25, _⟩ => ⟨S4x64x64, .f32⟩
  | .hbm, ⟨26, _⟩ => ⟨S4x1x64x64, .f32⟩
  | .hbm, ⟨27, _⟩ => ⟨S4x64x64, .f32⟩
  | .hbm, ⟨28, _⟩ => ⟨S4x64x128, .f32⟩
  | .hbm, ⟨29, _⟩ => ⟨S4x1x64x64, .f32⟩
  | .hbm, ⟨30, _⟩ => ⟨S4x64x64, .f32⟩
  | .hbm, ⟨31, _⟩ => ⟨S4x64x128, .f32⟩
  | .hbm, ⟨32, _⟩ => ⟨S4x128x128, .f32⟩
  | .hbm, ⟨33, _⟩ => ⟨S4x128x128, .bf16⟩
  | .hbm, ⟨34, _⟩ => ⟨S1x512, .f32⟩
  | .hbm, ⟨35, _⟩ => ⟨S8x64x64, .f32⟩
  | .hbm, ⟨36, _⟩ => ⟨S4x2x64x64, .f32⟩
  | .hbm, ⟨37, _⟩ => ⟨S_, .f32⟩
  | .hbm, ⟨38, _⟩ => ⟨S4x64x64, .f32⟩
  | .hbm, ⟨39, _⟩ => ⟨S4x1x64x64, .f32⟩
  | .hbm, ⟨40, _⟩ => ⟨S4x64x64, .f32⟩
  | .hbm, ⟨41, _⟩ => ⟨S4x64x128, .f32⟩
  | .hbm, ⟨42, _⟩ => ⟨S4x1x64x64, .f32⟩
  | .hbm, ⟨43, _⟩ => ⟨S4x64x64, .f32⟩
  | .hbm, ⟨44, _⟩ => ⟨S4x64x128, .f32⟩
  | .hbm, ⟨45, _⟩ => ⟨S4x128x128, .f32⟩
  | .hbm, ⟨46, _⟩ => ⟨S4x128x128, .bf16⟩
  | .hbm, ⟨47, _⟩ => ⟨S1x512, .f32⟩
  | .hbm, ⟨48, _⟩ => ⟨S1024x1024, .f32⟩
  | .hbm, ⟨49, _⟩ => ⟨S1024x1024, .bf16⟩
  | .hbm, ⟨50, _⟩ => ⟨S8192x512, .bf16⟩
  | .hbm, ⟨51, _⟩ => ⟨S8192x512, .bf16⟩
  | .hbm, ⟨52, _⟩ => ⟨S8192x1024, .bf16⟩
  | .hbm, ⟨53, _⟩ => ⟨S8192x1024, .bf16⟩
  | .hbm, ⟨54, _⟩ => ⟨S8192x512, .f32⟩
  | .hbm, ⟨55, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x384, .bf16⟩
  | .local _ .vmem, ⟨4, _⟩ => ⟨S4x128x128, .bf16⟩
  | .local _ .vmem, ⟨5, _⟩ => ⟨S1x512, .f32⟩
  | .local _ .vmem, ⟨6, _⟩ => ⟨S1x512, .f32⟩
  | .local _ .vmem, ⟨7, _⟩ => ⟨S4x512, .f32⟩
  | .local _ .vmem, ⟨8, _⟩ => ⟨S1x512, .f32⟩
  | .local _ .vmem, ⟨9, _⟩ => ⟨S4x128x128, .bf16⟩
  | .local _ .vmem, ⟨10, _⟩ => ⟨S1x512, .f32⟩
  | .local _ .vmem, ⟨11, _⟩ => ⟨S4x128x128, .bf16⟩
  | .local _ .vmem, ⟨12, _⟩ => ⟨S1x512, .f32⟩
  | .local _ .vmem, ⟨13, _⟩ => ⟨S1x512, .f32⟩
  | .local _ .vmem, ⟨14, _⟩ => ⟨S1024x1024, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x512, .f32⟩
  | .local _ .vmem, ⟨24, _⟩ => ⟨S512x512, .f32⟩
  | .local _ .vmem, ⟨25, _⟩ => ⟨S512x1024, .f32⟩
  | .local _ .vmem, ⟨26, _⟩ => ⟨S512x1024, .f32⟩
  | .local _ .vmem, ⟨27, _⟩ => ⟨S16x512, .f32⟩
  | .local _ .vmem, ⟨28, _⟩ => ⟨S8x512, .f32⟩
  | .local _ .vmem, ⟨29, _⟩ => ⟨S8x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S256x512, .f32⟩
  | .local _ .vmem, ⟨34, _⟩ => ⟨S256x512, .f32⟩
  | .local _ .vmem, ⟨35, _⟩ => ⟨S256x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34_0 : Ref sig .tc := ⟨.hbm, 50, rfl⟩
abbrev main_v34_1 : Ref sig .tc := ⟨.hbm, 51, rfl⟩
abbrev main_v34_2 : Ref sig .tc := ⟨.hbm, 52, rfl⟩
abbrev main_v34_3 : Ref sig .tc := ⟨.hbm, 53, rfl⟩
abbrev main_v34_4 : Ref sig .tc := ⟨.hbm, 54, rfl⟩
abbrev main_v34_5 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_scratch8 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== FwdMixRefIdeal.lean ====
abbrev S8192x1024 : Shape := ⟨2, ![8192, 1024]⟩
abbrev S1x1024 : Shape := ⟨2, ![1, 1024]⟩
abbrev S1x1024x1536 : Shape := ⟨3, ![1, 1024, 1536]⟩
abbrev S1x4x128x128 : Shape := ⟨4, ![1, 4, 128, 128]⟩
abbrev S1x4x128 : Shape := ⟨3, ![1, 4, 128]⟩
abbrev S1x512 : Shape := ⟨2, ![1, 512]⟩
abbrev S1x4x512 : Shape := ⟨3, ![1, 4, 512]⟩
abbrev S1x8x64x64 : Shape := ⟨4, ![1, 8, 64, 64]⟩
abbrev S1x8x64 : Shape := ⟨3, ![1, 8, 64]⟩
abbrev S1x1024x1024 : Shape := ⟨3, ![1, 1024, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1536 : Shape := ⟨2, ![1024, 1536]⟩
abbrev S8192x1536 : Shape := ⟨2, ![8192, 1536]⟩
abbrev S8192x512 : Shape := ⟨2, ![8192, 512]⟩
abbrev S4x512 : Shape := ⟨2, ![4, 512]⟩
abbrev S512 : Shape := ⟨1, ![512]⟩
abbrev S8195x512 : Shape := ⟨2, ![8195, 512]⟩
abbrev S8x64x64 : Shape := ⟨3, ![8, 64, 64]⟩
abbrev S8x64 : Shape := ⟨2, ![8, 64]⟩
abbrev S8192x8x64 : Shape := ⟨3, ![8192, 8, 64]⟩
abbrev S8x64x8192 : Shape := ⟨3, ![8, 64, 8192]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x1536, .f32⟩
  | .hbm, ⟨3, _⟩ => ⟨S1x4x128x128, .f32⟩
  | .hbm, ⟨4, _⟩ => ⟨S1x4x128, .f32⟩
  | .hbm, ⟨5, _⟩ => ⟨S1x512, .f32⟩
  | .hbm, ⟨6, _⟩ => ⟨S1x4x512, .f32⟩
  | .hbm, ⟨7, _⟩ => ⟨S1x512, .f32⟩
  | .hbm, ⟨8, _⟩ => ⟨S1x8x64x64, .f32⟩
  | .hbm, ⟨9, _⟩ => ⟨S1x8x64, .f32⟩
  | .hbm, ⟨10, _⟩ => ⟨S1x8x64x64, .f32⟩
  | .hbm, ⟨11, _⟩ => ⟨S1x8x64, .f32⟩
  | .hbm, ⟨12, _⟩ => ⟨S1x512, .f32⟩
  | .hbm, ⟨13, _⟩ => ⟨S1x1024x1024, .f32⟩
  | .hbm, ⟨14, _⟩ => ⟨S1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S1024x1536, .f32⟩
  | .hbm, ⟨32, _⟩ => ⟨S8192x1536, .f32⟩
  | .hbm, ⟨33, _⟩ => ⟨S8192x512, .f32⟩
  | .hbm, ⟨34, _⟩ => ⟨S4x512, .f32⟩
  | .hbm, ⟨35, _⟩ => ⟨S512, .f32⟩
  | .hbm, ⟨36, _⟩ => ⟨S_, .i32⟩
  | .hbm, ⟨37, _⟩ => ⟨S_, .f32⟩
  | .hbm, ⟨38, _⟩ => ⟨S8195x512, .f32⟩
  | .hbm, ⟨39, _⟩ => ⟨S8192x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S8192x512, .f32⟩
  | .hbm, ⟨44, _⟩ => ⟨S8192x512, .f32⟩
  | .hbm, ⟨45, _⟩ => ⟨S1x512, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S1x512, .f32⟩
  | .hbm, ⟨50, _⟩ => ⟨S512, .f32⟩
  | .hbm, ⟨51, _⟩ => ⟨S1x512, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S1x512, .f32⟩
  | .hbm, ⟨57, _⟩ => ⟨S512, .f32⟩
  | .hbm, ⟨58, _⟩ => ⟨S1x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S8192x512, .f32⟩
  | .hbm, ⟨63, _⟩ => ⟨S1x512, .f32⟩
  | .hbm, ⟨64, _⟩ => ⟨S512, .f32⟩
  | .hbm, ⟨65, _⟩ => ⟨S1x512, .f32⟩
  | .hbm, ⟨66, _⟩ => ⟨S8192x512, .f32⟩
  | .hbm, ⟨67, _⟩ => ⟨S8192x512, .f32⟩
  | .hbm, ⟨68, _⟩ => ⟨S8192x512, .f32⟩
  | .hbm, ⟨69, _⟩ => ⟨S8x64x64, .f32⟩
  | .hbm, ⟨70, _⟩ => ⟨S8x64, .f32⟩
  | .hbm, ⟨71, _⟩ => ⟨S8x64x64, .f32⟩
  | .hbm, ⟨72, _⟩ => ⟨S8x64, .f32⟩
  | .hbm, ⟨73, _⟩ => ⟨S8192x8x64, .f32⟩
  | .hbm, ⟨74, _⟩ => ⟨S8x64x8192, .f32⟩
  | .hbm, ⟨75, _⟩ => ⟨S8192x8x64, .f32⟩
  | .hbm, ⟨76, _⟩ => ⟨S1x8x64, .f32⟩
  | .hbm, ⟨77, _⟩ => ⟨S8192x8x64, .f32⟩
  | .hbm, ⟨78, _⟩ => ⟨S8192x8x64, .f32⟩
  | .hbm, ⟨79, _⟩ => ⟨S8192x8x64, .f32⟩
  | .hbm, ⟨80, _⟩ => ⟨S8192x8x64, .f32⟩
  | .hbm, ⟨81, _⟩ => ⟨S_, .f32⟩
  | .hbm, ⟨82, _⟩ => ⟨S8192x8x64, .f32⟩
  | .hbm, ⟨83, _⟩ => ⟨S8192x8x64, .f32⟩
  | .hbm, ⟨84, _⟩ => ⟨S_, .f32⟩
  | .hbm, ⟨85, _⟩ => ⟨S8192x8x64, .f32⟩
  | .hbm, ⟨86, _⟩ => ⟨S8192x8x64, .f32⟩
  | .hbm, ⟨87, _⟩ => ⟨S8192x512, .f32⟩
  | .hbm, ⟨88, _⟩ => ⟨S8x64x8192, .f32⟩
  | .hbm, ⟨89, _⟩ => ⟨S8192x8x64, .f32⟩
  | .hbm, ⟨90, _⟩ => ⟨S1x8x64, .f32⟩
  | .hbm, ⟨91, _⟩ => ⟨S8192x8x64, .f32⟩
  | .hbm, ⟨92, _⟩ => ⟨S8192x8x64, .f32⟩
  | .hbm, ⟨93, _⟩ => ⟨S8192x8x64, .f32⟩
  | .hbm, ⟨94, _⟩ => ⟨S8192x8x64, .f32⟩
  | .hbm, ⟨95, _⟩ => ⟨S_, .f32⟩
  | .hbm, ⟨96, _⟩ => ⟨S8192x8x64, .f32⟩
  | .hbm, ⟨97, _⟩ => ⟨S8192x8x64, .f32⟩
  | .hbm, ⟨98, _⟩ => ⟨S_, .f32⟩
  | .hbm, ⟨99, _⟩ => ⟨S8192x8x64, .f32⟩
  | .hbm, ⟨100, _⟩ => ⟨S8192x8x64, .f32⟩
  | .hbm, ⟨101, _⟩ => ⟨S8192x512, .f32⟩
  | .hbm, ⟨102, _⟩ => ⟨S8192x512, .bf16⟩
  | .hbm, ⟨103, _⟩ => ⟨S8192x1024, .f32⟩
  | .hbm, ⟨104, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_cst_0 : Ref sig .tc := ⟨.hbm, 19, rfl⟩
abbrev main_v4 : Ref sig .tc := ⟨.hbm, 20, rfl⟩
abbrev main_v5 : Ref sig .tc := ⟨.hbm, 21, rfl⟩
abbrev main_cst_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_call0_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_2 : Ref sig .tc := ⟨.hbm, 81, rfl⟩
abbrev main_v62 : Ref sig .tc := ⟨.hbm, 82, rfl⟩
abbrev main_v63 : Ref sig .tc := ⟨.hbm, 83, rfl⟩
abbrev main_cst_3 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_4 : Ref sig .tc := ⟨.hbm, 95, rfl⟩
abbrev main_v74 : Ref sig .tc := ⟨.hbm, 96, rfl⟩
abbrev main_v75 : Ref sig .tc := ⟨.hbm, 97, rfl⟩
abbrev main_cst_5 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== FwdMlp.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S4096x1024 : Shape := ⟨2, ![4096, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩

abbrev nBuf : Space → Nat
  | .hbm => 14
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024x4096, .f32⟩
  | .hbm, ⟨5, _⟩ => ⟨S1024x4x1024, .f32⟩
  | .hbm, ⟨6, _⟩ => ⟨S4x1024x1024, .f32⟩
  | .hbm, ⟨7, _⟩ => ⟨S4x1024x1024, .bf16⟩
  | .hbm, ⟨8, _⟩ => ⟨S4096x1024, .f32⟩
  | .hbm, ⟨9, _⟩ => ⟨S4x1024x1024, .f32⟩
  | .hbm, ⟨10, _⟩ => ⟨S4x1024x1024, .bf16⟩
  | .hbm, ⟨11, _⟩ => ⟨S8192x1024, .bf16⟩
  | .hbm, ⟨12, _⟩ => ⟨S8192x4096, .bf16⟩
  | .hbm, ⟨13, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1024, .bf16⟩
  | .local _ .vmem, ⟨4, _⟩ => ⟨S4x1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | .local _ .vmem, ⟨8, _⟩ => ⟨S512x4096, .bf16⟩
  | .local _ .vmem, ⟨9, _⟩ => ⟨S512x1024, .f32⟩
  | .local _ .vmem, ⟨10, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FwdMlpRefIdeal.lean ====
abbrev S8192x1024 : Shape := ⟨2, ![8192, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S8192x4096 : Shape := ⟨2, ![8192, 4096]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S1024x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x1024, .bf16⟩
  | .hbm, ⟨27, _⟩ => ⟨S8192x4096, .bf16⟩
  | .hbm, ⟨28, _⟩ => ⟨S8192x4096, .f32⟩
  | .hbm, ⟨29, _⟩ => ⟨S4096x1024, .f32⟩
  | .hbm, ⟨30, _⟩ => ⟨S8192x1024, .f32⟩
  | .hbm, ⟨31, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_cst : Ref sig .tc := ⟨.hbm, 23, rfl⟩
abbrev main_call0_v0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== MlpW.lean ====
abbrev S8192x1024 : Shape := ⟨2, ![8192, 1024]⟩
abbrev S1x1024 : Shape := ⟨2, ![1, 1024]⟩
abbrev S1x1024x4096 : Shape := ⟨3, ![1, 1024, 4096]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S4x1024x1024 : Shape := ⟨3, ![4, 1024, 1024]⟩
abbrev S512x1024 : Shape := ⟨2, ![512, 1024]⟩
abbrev S512x2048 : Shape := ⟨2, ![512, 2048]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 33
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S8192x4096, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S8192x1024, .bf16⟩
  | .hbm, ⟨29, _⟩ => ⟨S8192x4096, .bf16⟩
  | .hbm, ⟨30, _⟩ => ⟨S8192x1024, .bf16⟩
  | .hbm, ⟨31, _⟩ => ⟨S4x1024x1024, .bf16⟩
  | .hbm, ⟨32, _⟩ => ⟨S4x1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .bf16⟩
  | .local _ .vmem, ⟨7, _⟩ => ⟨S512x1024, .bf16⟩
  | .local _ .vmem, ⟨8, _⟩ => ⟨S2x1024x1024, .bf16⟩
  | .local _ .vmem, ⟨9, _⟩ => ⟨S2x1024x1024, .bf16⟩
  | .local _ .vmem, ⟨10, _⟩ => ⟨S2x1024x1024, .bf16⟩
  | .local _ .vmem, ⟨11, _⟩ => ⟨S2x1024x1024, .bf16⟩
  | .local _ .vmem, ⟨12, _⟩ => ⟨S2x1024x1024, .f32⟩
  | .local _ .vmem, ⟨13, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_41 : BitVec 32 := 0#32
  let v51 : BitVec 1 := Scalar.cmpi .ne v50 c0_i32_41
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpWRefIdeal.lean ====
abbrev S8192x1024 : Shape := ⟨2, ![8192, 1024]⟩
abbrev S1x1024 : Shape := ⟨2, ![1, 1024]⟩
abbrev S1x1024x4096 : Shape := ⟨3, ![1, 1024, 4096]⟩
abbrev S8192x4096 : Shape := ⟨2, ![8192, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x4096 : Shape := ⟨2, ![1024, 4096]⟩
abbrev S4096x1024 : Shape := ⟨2, ![4096, 1024]⟩
abbrev S1x4096x1024 : Shape := ⟨3, ![1, 4096, 1024]⟩
abbrev S1024x4x1024 : Shape := ⟨3, ![1024, 4, 1024]⟩
abbrev S4x1024x1024 : Shape := ⟨3, ![4, 1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024x4096, .f32⟩
  | .hbm, ⟨3, _⟩ => ⟨S8192x4096, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x4096, .f32⟩
  | .hbm, ⟨23, _⟩ => ⟨S8192x4096, .f32⟩
  | .hbm, ⟨24, _⟩ => ⟨S4096x1024, .f32⟩
  | .hbm, ⟨25, _⟩ => ⟨S1024x4096, .f32⟩
  | .hbm, ⟨26, _⟩ => ⟨S1x1024x4096, .f32⟩
  | .hbm, ⟨27, _⟩ => ⟨S_, .f32⟩
  | .hbm, ⟨28, _⟩ => ⟨S1x4096x1024, .f32⟩
  | .hbm, ⟨29, _⟩ => ⟨S_, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S4096x1024, .f32⟩
  | .hbm, ⟨34, _⟩ => ⟨S8192x1024, .f32⟩
  | .hbm, ⟨35, _⟩ => ⟨S1024x4096, .f32⟩
  | .hbm, ⟨36, _⟩ => ⟨S4096x1024, .f32⟩
  | .hbm, ⟨37, _⟩ => ⟨S1x4096x1024, .f32⟩
  | .hbm, ⟨38, _⟩ => ⟨S1024x4096, .f32⟩
  | .hbm, ⟨39, _⟩ => ⟨S1024x4x1024, .f32⟩
  | .hbm, ⟨40, _⟩ => ⟨S4x1024x1024, .f32⟩
  | .hbm, ⟨41, _⟩ => ⟨S4x1024x1024, .bf16⟩
  | .hbm, ⟨42, _⟩ => ⟨S4096x1024, .f32⟩
  | .hbm, ⟨43, _⟩ => ⟨S4x1024x1024, .f32⟩
  | .hbm, ⟨44, _⟩ => ⟨S4x1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_call0_cst : Ref sig .tc := ⟨.hbm, 29, rfl⟩
abbrev main_call0_v0 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]
-- ==== AddPairs.lean ====
abbrev S4x1024x1024 : Shape := ⟨3, ![4, 1024, 1024]⟩
abbrev S1024x1024 : Shape := ⟨2, ![1024, 1024]⟩
abbrev S4x256x256 : Shape := ⟨3, ![4, 256, 256]⟩
abbrev S4x512x1024 : Shape := ⟨3, ![4, 512, 1024]⟩
abbrev S4x128x1024 : Shape := ⟨3, ![4, 128, 1024]⟩
abbrev S4x128x256 : Shape := ⟨3, ![4, 128, 256]⟩
abbrev S4x256x1024 : Shape := ⟨3, ![4, 256, 1024]⟩
abbrev S4x64x1024 : Shape := ⟨3, ![4, 64, 1024]⟩
abbrev S4x16x1024 : Shape := ⟨3, ![4, 16, 1024]⟩
abbrev S4x16x256 : Shape := ⟨3, ![4, 16, 256]⟩

abbrev nBuf : Space → Nat
  | .hbm => 13
  | .vmem => 24
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .bf16⟩
  | .hbm, ⟨2, _⟩ => ⟨S1024x1024, .bf16⟩
  | .hbm, ⟨3, _⟩ => ⟨S4x256x256, .bf16⟩
  | .hbm, ⟨4, _⟩ => ⟨S4x512x1024, .bf16⟩
  | .hbm, ⟨5, _⟩ => ⟨S4x512x1024, .bf16⟩
  | .hbm, ⟨6, _⟩ => ⟨S4x128x1024, .bf16⟩
  | .hbm, ⟨7, _⟩ => ⟨S4x128x256, .bf16⟩
  | .hbm, ⟨8, _⟩ => ⟨S4x256x1024, .bf16⟩
  | .hbm, ⟨9, _⟩ => ⟨S4x512x1024, .bf16⟩
  | .hbm, ⟨10, _⟩ => ⟨S4x512x1024, .bf16⟩
  | .hbm, ⟨11, _⟩ => ⟨S4x128x1024, .bf16⟩
  | .hbm, ⟨12, _⟩ => ⟨S4x128x256, .bf16⟩
  | .local _ .vmem, ⟨0, _⟩ => ⟨S4x64x1024, .bf16⟩
  | .local _ .vmem, ⟨1, _⟩ => ⟨S4x64x1024, .bf16⟩
  | .local _ .vmem, ⟨2, _⟩ => ⟨S4x64x1024, .bf16⟩
  | .local _ .vmem, ⟨3, _⟩ => ⟨S4x64x1024, .bf16⟩
  | .local _ .vmem, ⟨4, _⟩ => ⟨S4x16x1024, .bf16⟩
  | .local _ .vmem, ⟨5, _⟩ => ⟨S4x16x1024, .bf16⟩
  | .local _ .vmem, ⟨6, _⟩ => ⟨S4x16x256, .bf16⟩
  | .local _ .vmem, ⟨7, _⟩ => ⟨S4x16x256, .bf16⟩
  | .local _ .vmem, ⟨8, _⟩ => ⟨S4x64x1024, .bf16⟩
  | .local _ .vmem, ⟨9, _⟩ => ⟨S4x64x1024, .bf16⟩
  | .local _ .vmem, ⟨10, _⟩ => ⟨S4x64x1024, .bf16⟩
  | .local _ .vmem, ⟨11, _⟩ => ⟨S4x64x1024, .bf16⟩
  | .local _ .vmem, ⟨12, _⟩ => ⟨S4x16x1024, .bf16⟩
  | .local _ .vmem, ⟨13, _⟩ => ⟨S4x16x1024, .bf16⟩
  | .local _ .vmem, ⟨14, _⟩ => ⟨S4x16x256, .bf16⟩
  | .local _ .vmem, ⟨15, _⟩ => ⟨S4x16x256, .bf16⟩
  | .local _ .vmem, ⟨16, _⟩ => ⟨S4x64x1024, .bf16⟩
  | .local _ .vmem, ⟨17, _⟩ => ⟨S4x64x1024, .bf16⟩
  | .local _ .vmem, ⟨18, _⟩ => ⟨S4x64x1024, .bf16⟩
  | .local _ .vmem, ⟨19, _⟩ => ⟨S4x64x1024, .bf16⟩
  | .local _ .vmem, ⟨20, _⟩ => ⟨S4x16x1024, .bf16⟩
  | .local _ .vmem, ⟨21, _⟩ => ⟨S4x16x1024, .bf16⟩
  | .local _ .vmem, ⟨22, _⟩ => ⟨S4x16x256, .bf16⟩
  | .local _ .vmem, ⟨23, _⟩ => ⟨S4x16x256, .bf16⟩
  | _, _ => ⟨S4x1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_1 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_2 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_3 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, v0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x16x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x64x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x64x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x16x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x16x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== AddPairsRefIdeal.lean ====
abbrev S4x1024x1024 : Shape := ⟨3, ![4, 1024, 1024]⟩
abbrev S1024x1024 : Shape := ⟨2, ![1024, 1024]⟩
abbrev S4x256x256 : Shape := ⟨3, ![4, 256, 256]⟩
abbrev S4x512x1024 : Shape := ⟨3, ![4, 512, 1024]⟩
abbrev S4x128x1024 : Shape := ⟨3, ![4, 128, 1024]⟩
abbrev S4x128x256 : Shape := ⟨3, ![4, 128, 256]⟩
abbrev S4x256x1024 : Shape := ⟨3, ![4, 256, 1024]⟩

abbrev nBuf : Space → Nat
  | .hbm => 29
  | .vmem => 0
  | .smem => 0
  | _ => 0

abbrev bufTy : (tb : Table) → Fin (tcTables nBuf tb) → BufTy
  | .hbm, ⟨0, _⟩ => ⟨S4x1024x1024, .bf16⟩
  | .hbm, ⟨1, _⟩ => ⟨S4x1024x1024, .bf16⟩
  | .hbm, ⟨2, _⟩ => ⟨S1024x1024, .bf16⟩
  | .hbm, ⟨3, _⟩ => ⟨S4x256x256, .bf16⟩
  | .hbm, ⟨4, _⟩ => ⟨S4x512x1024, .bf16⟩
  | .hbm, ⟨5, _⟩ => ⟨S4x512x1024, .bf16⟩
  | .hbm, ⟨6, _⟩ => ⟨S4x128x1024, .bf16⟩
  | .hbm, ⟨7, _⟩ => ⟨S4x128x256, .bf16⟩
  | .hbm, ⟨8, _⟩ => ⟨S4x256x1024, .bf16⟩
  | .hbm, ⟨9, _⟩ => ⟨S4x512x1024, .bf16⟩
  | .hbm, ⟨10, _⟩ => ⟨S4x512x1024, .f32⟩
  | .hbm, ⟨11, _⟩ => ⟨S4x512x1024, .f32⟩
  | .hbm, ⟨12, _⟩ => ⟨S4x512x1024, .f32⟩
  | .hbm, ⟨13, _⟩ => ⟨S4x512x1024, .bf16⟩
  | .hbm, ⟨14, _⟩ => ⟨S4x512x1024, .bf16⟩
  | .hbm, ⟨15, _⟩ => ⟨S4x512x1024, .f32⟩
  | .hbm, ⟨16, _⟩ => ⟨S4x512x1024, .f32⟩
  | .hbm, ⟨17, _⟩ => ⟨S4x512x1024, .f32⟩
  | .hbm, ⟨18, _⟩ => ⟨S4x512x1024, .bf16⟩
  | .hbm, ⟨19, _⟩ => ⟨S4x128x1024, .bf16⟩
  | .hbm, ⟨20, _⟩ => ⟨S4x128x1024, .f32⟩
  | .hbm, ⟨21, _⟩ => ⟨S4x128x1024, .f32⟩
  | .hbm, ⟨22, _⟩ => ⟨S4x128x1024, .f32⟩
  | .hbm, ⟨23, _⟩ => ⟨S4x128x1024, .bf16⟩
  | .hbm, ⟨24, _⟩ => ⟨S4x128x256, .bf16⟩
  | .hbm, ⟨25, _⟩ => ⟨S4x128x256, .f32⟩
  | .hbm, ⟨26, _⟩ => ⟨S4x128x256, .f32⟩
  | .hbm, ⟨27, _⟩ => ⟨S4x128x256, .f32⟩
  | .hbm, ⟨28, _⟩ => ⟨S4x128x256, .bf16⟩
  | _, _ => ⟨S4x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Adam.lean ====
abbrev S1x1024x384 : Shape := ⟨3, ![1, 1024, 384]⟩
abbrev S1x1024x1024 : Shape := ⟨3, ![1, 1024, 1024]⟩
abbrev S1024x384 : Shape := ⟨2, ![1024, 384]⟩
abbrev S1024x1024 : Shape := ⟨2, ![1024, 1024]⟩
abbrev S128x384 : Shape := ⟨2, ![128, 384]⟩
abbrev S128x1024 : Shape := ⟨2, ![128, 1024]⟩

abbrev nBuf : Space → Nat
  | .hbm => 36
  | .vmem => 48
  | .smem => 0
  | _ => 0

abbrev bufTy : (tb : Table) → Fin (tcTables nBuf tb) → BufTy
  | .hbm, ⟨0, _⟩ => ⟨S1x1024x384, .f32⟩
  | .hbm, ⟨1, _⟩ => ⟨S1x1024x1024, .f32⟩
  | .hbm, ⟨2, _⟩ => ⟨S1x1024x1024, .f32⟩
  | .hbm, ⟨3, _⟩ => ⟨S1x1024x384, .f32⟩
  | .hbm, ⟨4, _⟩ => ⟨S1x1024x1024, .f32⟩
  | .hbm, ⟨5, _⟩ => ⟨S1x1024x1024, .f32⟩
  | .hbm, ⟨6, _⟩ => ⟨S1x1024x384, .f32⟩
  | .hbm, ⟨7, _⟩ => ⟨S1x1024x1024, .f32⟩
  | .hbm, ⟨8, _⟩ => ⟨S1x1024x1024, .f32⟩
  | .hbm, ⟨9, _⟩ => ⟨S1x1024x384, .f32⟩
  | .hbm, ⟨10, _⟩ => ⟨S1x1024x1024, .f32⟩
  | .hbm, ⟨11, _⟩ => ⟨S1x1024x1024, .f32⟩
  | .hbm, ⟨12, _⟩ => ⟨S1024x384, .f32⟩
  | .hbm, ⟨13, _⟩ => ⟨S1024x1024, .f32⟩
  | .hbm, ⟨14, _⟩ => ⟨S1024x1024, .f32⟩
  | .hbm, ⟨15, _⟩ => ⟨S1024x384, .f32⟩
  | .hbm, ⟨16, _⟩ => ⟨S1024x1024, .f32⟩
  | .hbm, ⟨17, _⟩ => ⟨S1024x1024, .f32⟩
  | .hbm, ⟨18, _⟩ => ⟨S1024x384, .f32⟩
  | .hbm, ⟨19, _⟩ => ⟨S1024x1024, .f32⟩
  | .hbm, ⟨20, _⟩ => ⟨S1024x1024, .f32⟩
  | .hbm, ⟨21, _⟩ => ⟨S1024x384, .f32⟩
  | .hbm, ⟨22, _⟩ => ⟨S1024x1024, .f32⟩
  | .hbm, ⟨23, _⟩ => ⟨S1024x1024, .f32⟩
  | .hbm, ⟨24, _⟩ => ⟨S1024x384, .f32⟩
  | .hbm, ⟨25, _⟩ => ⟨S1024x1024, .f32⟩
  | .hbm, ⟨26, _⟩ => ⟨S1024x1024, .f32⟩
  | .hbm, ⟨27, _⟩ => ⟨S1024x384, .f32⟩
  | .hbm, ⟨28, _⟩ => ⟨S1024x1024, .f32⟩
  | .hbm, ⟨29, _⟩ => ⟨S1024x1024, .f32⟩
  | .hbm, ⟨30, _⟩ => ⟨S1024x384, .f32⟩
  | .hbm, ⟨31, _⟩ => ⟨S1024x1024, .f32⟩
  | .hbm, ⟨32, _⟩ => ⟨S1024x1024, .f32⟩
  | .hbm, ⟨33, _⟩ => ⟨S1024x384, .f32⟩
  | .hbm, ⟨34, _⟩ => ⟨S1024x1024, .f32⟩
  | .hbm, ⟨35, _⟩ => ⟨S1024x1024, .f32⟩
  | .local _ .vmem, ⟨0, _⟩ => ⟨S128x384, .f32⟩
  | .local _ .vmem, ⟨1, _⟩ => ⟨S128x384, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x384, .f32⟩
  | .local _ .vmem, ⟨7, _⟩ => ⟨S128x384, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x384, .f32⟩
  | .local _ .vmem, ⟨13, _⟩ => ⟨S128x384, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x384, .f32⟩
  | .local _ .vmem, ⟨19, _⟩ => ⟨S128x384, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S128x384, .f32⟩
  | .local _ .vmem, ⟨25, _⟩ => ⟨S128x384, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x384, .f32⟩
  | .local _ .vmem, ⟨31, _⟩ => ⟨S128x384, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x384, .f32⟩
  | .local _ .vmem, ⟨37, _⟩ => ⟨S128x384, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x384, .f32⟩
  | .local _ .vmem, ⟨43, _⟩ => ⟨S128x384, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | _, _ => ⟨S1x1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12_0 : Ref sig .tc := ⟨.hbm, 24, rfl⟩
abbrev main_v12_1 : Ref sig .tc := ⟨.hbm, 25, rfl⟩
abbrev main_v12_2 : Ref sig .tc := ⟨.hbm, 26, rfl⟩
abbrev main_v12_3 : Ref sig .tc := ⟨.hbm, 27, rfl⟩
abbrev main_v12_4 : Ref sig .tc := ⟨.hbm, 28, rfl⟩
abbrev main_v12_5 : Ref sig .tc := ⟨.hbm, 29, rfl⟩
abbrev main_v12_6 : Ref sig .tc := ⟨.hbm, 30, rfl⟩
abbrev main_v12_7 : Ref sig .tc := ⟨.hbm, 31, rfl⟩
abbrev main_v12_8 : Ref sig .tc := ⟨.hbm, 32, rfl⟩
abbrev main_v12_9 : Ref sig .tc := ⟨.hbm, 33, rfl⟩
abbrev main_v12_10 : Ref sig .tc := ⟨.hbm, 34, rfl⟩
abbrev main_v12_11 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x384 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x384 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x384 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== AdamIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamRefIdeal.lean ====
abbrev S1x1024x384 : Shape := ⟨3, ![1, 1024, 384]⟩
abbrev S1x1024x1024 : Shape := ⟨3, ![1, 1024, 1024]⟩
abbrev S_ : Shape := ⟨0, ![]⟩
abbrev S1024x384 : Shape := ⟨2, ![1024, 384]⟩
abbrev S1024x1024 : Shape := ⟨2, ![1024, 1024]⟩

abbrev nBuf : Space → Nat
  | .hbm => 123
  | .vmem => 0
  | .smem => 0
  | _ => 0

abbrev bufTy : (tb : Table) → Fin (tcTables nBuf tb) → BufTy
  | .hbm, ⟨0, _⟩ => ⟨S1x1024x384, .f32⟩
  | .hbm, ⟨1, _⟩ => ⟨S1x1024x1024, .f32⟩
  | .hbm, ⟨2, _⟩ => ⟨S1x1024x1024, .f32⟩
  | .hbm, ⟨3, _⟩ => ⟨S1x1024x384, .f32⟩
  | .hbm, ⟨4, _⟩ => ⟨S1x1024x1024, .f32⟩
  | .hbm, ⟨5, _⟩ => ⟨S1x1024x1024, .f32⟩
  | .hbm, ⟨6, _⟩ => ⟨S1x1024x384, .f32⟩
  | .hbm, ⟨7, _⟩ => ⟨S1x1024x1024, .f32⟩
  | .hbm, ⟨8, _⟩ => ⟨S1x1024x1024, .f32⟩
  | .hbm, ⟨9, _⟩ => ⟨S1x1024x384, .f32⟩
  | .hbm, ⟨10, _⟩ => ⟨S1x1024x1024, .f32⟩
  | .hbm, ⟨11, _⟩ => ⟨S1x1024x1024, .f32⟩
  | .hbm, ⟨12, _⟩ => ⟨S_, .f32⟩
  | .hbm, ⟨13, _⟩ => ⟨S1x1024x384, .f32⟩
  | .hbm, ⟨14, _⟩ => ⟨S1x1024x384, .f32⟩
  | .hbm, ⟨15, _⟩ => ⟨S_, .f32⟩
  | .hbm, ⟨16, _⟩ => ⟨S1x1024x384, .f32⟩
  | .hbm, ⟨17, _⟩ => ⟨S1x1024x384, .f32⟩
  | .hbm, ⟨18, _⟩ => ⟨S1x1024x384, .f32⟩
  | .hbm, ⟨19, _⟩ => ⟨S_, .f32⟩
  | .hbm, ⟨20, _⟩ => ⟨S1x1024x384, .f32⟩
  | .hbm, ⟨21, _⟩ => ⟨S1x1024x384, .f32⟩
  | .hbm, ⟨22, _⟩ => ⟨S1x1024x384, .f32⟩
  | .hbm, ⟨23, _⟩ => ⟨S_, .f32⟩
  | .hbm, ⟨24, _⟩ => ⟨S1x1024x384, .f32⟩
  | .hbm, ⟨25, _⟩ => ⟨S1x1024x384, .f32⟩
  | .hbm, ⟨26, _⟩ => ⟨S1x1024x384, .f32⟩
  | .hbm, ⟨27, _⟩ => ⟨S_, .f32⟩
  | .hbm, ⟨28, _⟩ => ⟨S1x1024x384, .f32⟩
  | .hbm, ⟨29, _⟩ => ⟨S1x1024x384, .f32⟩
  | .hbm, ⟨30, _⟩ => ⟨S_, .f32⟩
  | .hbm, ⟨31, _⟩ => ⟨S1x1024x384, .f32⟩
  | .hbm, ⟨32, _⟩ => ⟨S1x1024x384, .f32⟩
  | .hbm, ⟨33, _⟩ => ⟨S1x1024x384, .f32⟩
  | .hbm, ⟨34, _⟩ => ⟨S_, .f32⟩
  | .hbm, ⟨35, _⟩ => ⟨S1x1024x384, .f32⟩
  | .hbm, ⟨36, _⟩ => ⟨S1x1024x384, .f32⟩
  | .hbm, ⟨37, _⟩ => ⟨S1x1024x384, .f32⟩
  | .hbm, ⟨38, _⟩ => ⟨S_, .f32⟩
  | .hbm, ⟨39, _⟩ => ⟨S1x1024x384, .f32⟩
  | .hbm, ⟨40, _⟩ => ⟨S1x1024x384, .f32⟩
  | .hbm, ⟨41, _⟩ => ⟨S1x1024x384, .f32⟩
  | .hbm, ⟨42, _⟩ => ⟨S_, .f32⟩
  | .hbm, ⟨43, _⟩ => ⟨S1x1024x384, .f32⟩
  | .hbm, ⟨44, _⟩ => ⟨S1x1024x384, .f32⟩
  | .hbm, ⟨45, _⟩ => ⟨S_, .f32⟩
  | .hbm, ⟨46, _⟩ => ⟨S1x1024x1024, .f32⟩
  | .hbm, ⟨47, _⟩ => ⟨S1x1024x1024, .f32⟩
  | .hbm, ⟨48, _⟩ => ⟨S_, .f32⟩
  | .hbm, ⟨49, _⟩ => ⟨S1x1024x1024, .f32⟩
  | .hbm, ⟨50, _⟩ => ⟨S1x1024x1024, .f32⟩
  | .hbm, ⟨51, _⟩ => ⟨S1x1024x1024, .f32⟩
  | .hbm, ⟨52, _⟩ => ⟨S_, .f32⟩
  | .hbm, ⟨53, _⟩ => ⟨S1x1024x1024, .f32⟩
  | .hbm, ⟨54, _⟩ => ⟨S1x1024x1024, .f32⟩
  | .hbm, ⟨55, _⟩ => ⟨S1x1024x1024, .f32⟩
  | .hbm, ⟨56, _⟩ => ⟨S_, .f32⟩
  | .hbm, ⟨57, _⟩ => ⟨S1x1024x1024, .f32⟩
  | .hbm, ⟨58, _⟩ => ⟨S1x1024x1024, .f32⟩
  | .hbm, ⟨59, _⟩ => ⟨S1x1024x1024, .f32⟩
  | .hbm, ⟨60, _⟩ => ⟨S_, .f32⟩
  | .hbm, ⟨61, _⟩ => ⟨S1x1024x1024, .f32⟩
  | .hbm, ⟨62, _⟩ => ⟨S1x1024x1024, .f32⟩
  | .hbm, ⟨63, _⟩ => ⟨S_, .f32⟩
  | .hbm, ⟨64, _⟩ => ⟨S1x1024x1024, .f32⟩
  | .hbm, ⟨65, _⟩ => ⟨S1x1024x1024, .f32⟩
  | .hbm, ⟨66, _⟩ => ⟨S1x1024x1024, .f32⟩
  | .hbm, ⟨67, _⟩ => ⟨S_, .f32⟩
  | .hbm, ⟨68, _⟩ => ⟨S1x1024x1024, .f32⟩
  | .hbm, ⟨69, _⟩ => ⟨S1x1024x1024, .f32⟩
  | .hbm, ⟨70, _⟩ => ⟨S1x1024x1024, .f32⟩
  | .hbm, ⟨71, _⟩ => ⟨S_, .f32⟩
  | .hbm, ⟨72, _⟩ => ⟨S1x1024x1024, .f32⟩
  | .hbm, ⟨73, _⟩ => ⟨S1x1024x1024, .f32⟩
  | .hbm, ⟨74, _⟩ => ⟨S1x1024x1024, .f32⟩
  | .hbm, ⟨75, _⟩ => ⟨S_, .f32⟩
  | .hbm, ⟨76, _⟩ => ⟨S1x1024x1024, .f32⟩
  | .hbm, ⟨77, _⟩ => ⟨S1x1024x1024, .f32⟩
  | .hbm, ⟨78, _⟩ => ⟨S_, .f32⟩
  | .hbm, ⟨79, _⟩ => ⟨S1x1024x1024, .f32⟩
  | .hbm, ⟨80, _⟩ => ⟨S1x1024x1024, .f32⟩
  | .hbm, ⟨81, _⟩ => ⟨S_, .f32⟩
  | .hbm, ⟨82, _⟩ => ⟨S1x1024x1024, .f32⟩
  | .hbm, ⟨83, _⟩ => ⟨S1x1024x1024, .f32⟩
  | .hbm, ⟨84, _⟩ => ⟨S1x1024x1024, .f32⟩
  | .hbm, ⟨85, _⟩ => ⟨S_, .f32⟩
  | .hbm, ⟨86, _⟩ => ⟨S1x1024x1024, .f32⟩
  | .hbm, ⟨87, _⟩ => ⟨S1x1024x1024, .f32⟩
  | .hbm, ⟨88, _⟩ => ⟨S1x1024x1024, .f32⟩
  | .hbm, ⟨89, _⟩ => ⟨S_, .f32⟩
  | .hbm, ⟨90, _⟩ => ⟨S1x1024x1024, .f32⟩
  | .hbm, ⟨91, _⟩ => ⟨S1x1024x1024, .f32⟩
  | .hbm, ⟨92, _⟩ => ⟨S1x1024x1024, .f32⟩
  | .hbm, ⟨93, _⟩ => ⟨S_, .f32⟩
  | .hbm, ⟨94, _⟩ => ⟨S1x1024x1024, .f32⟩
  | .hbm, ⟨95, _⟩ => ⟨S1x1024x1024, .f32⟩
  | .hbm, ⟨96, _⟩ => ⟨S_, .f32⟩
  | .hbm, ⟨97, _⟩ => ⟨S1x1024x1024, .f32⟩
  | .hbm, ⟨98, _⟩ => ⟨S1x1024x1024, .f32⟩
  | .hbm, ⟨99, _⟩ => ⟨S1x1024x1024, .f32⟩
  | .hbm, ⟨100, _⟩ => ⟨S_, .f32⟩
  | .hbm, ⟨101, _⟩ => ⟨S1x1024x1024, .f32⟩
  | .hbm, ⟨102, _⟩ => ⟨S1x1024x1024, .f32⟩
  | .hbm, ⟨103, _⟩ => ⟨S1x1024x1024, .f32⟩
  | .hbm, ⟨104, _⟩ => ⟨S_, .f32⟩
  | .hbm, ⟨105, _⟩ => ⟨S1x1024x1024, .f32⟩
  | .hbm, ⟨106, _⟩ => ⟨S1x1024x1024, .f32⟩
  | .hbm, ⟨107, _⟩ => ⟨S1x1024x1024, .f32⟩
  | .hbm, ⟨108, _⟩ => ⟨S_, .f32⟩
  | .hbm, ⟨109, _⟩ => ⟨S1x1024x1024, .f32⟩
  | .hbm, ⟨110, _⟩ => ⟨S1x1024x1024, .f32⟩
  | .hbm, ⟨111, _⟩ => ⟨S1024x384, .f32⟩
  | .hbm, ⟨112, _⟩ => ⟨S1024x1024, .f32⟩
  | .hbm, ⟨113, _⟩ => ⟨S1024x1024, .f32⟩
  | .hbm, ⟨114, _⟩ => ⟨S1024x384, .f32⟩
  | .hbm, ⟨115, _⟩ => ⟨S1024x1024, .f32⟩
  | .hbm, ⟨116, _⟩ => ⟨S1024x1024, .f32⟩
  | .hbm, ⟨117, _⟩ => ⟨S1024x384, .f32⟩
  | .hbm, ⟨118, _⟩ => ⟨S1024x1024, .f32⟩
  | .hbm, ⟨119, _⟩ => ⟨S1024x1024, .f32⟩
  | .hbm, ⟨120, _⟩ => ⟨S1024x384, .f32⟩
  | .hbm, ⟨121, _⟩ => ⟨S1024x1024, .f32⟩
  | .hbm, ⟨122, _⟩ => ⟨S1024x1024, .f32⟩
  | _, _ => ⟨S1x1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩

abbrev nD : Nat := 1
abbrev τ : Topo := Topo.v7x

variable {F : FTy → Type} [FloatOps F]
-- ==== Proof.Reals.lean ====
module

public import Idealize.ShloMosaic.PureOps.Ideal.Laws
public import Idealize.ShloMosaic.Lib.Pointwise

@[expose] public section

noncomputable section

/-! Extended reals that are finite: the arithmetic of the ideal float model on them is the arithmetic of the reals. -/

namespace Cert.Reals

open Idealize.ShloMosaic

/-- A value whose absolute value is below infinity is a real number. -/
theorem exists_real {x : EReal} (h : max x (-x) < ⊤) : ∃ r : ℝ, x = (r : EReal) := by
  induction x using EReal.rec with
  | bot => simp at h
  | coe r => exact ⟨r, rfl⟩
  | top => simp at h

/-- The float word of infinity. -/
theorem ofBits_inf : Ideal.ofBits .f32 0x7F800000#32 = ⊤ := by
  simp [Ideal.ofBits, Ideal.ieee]

/-- The comparison that a finiteness precondition makes, read at one element. -/
theorem real_of_cmp {x : EReal} (h : Ideal.cmp .olt (max x (-x)) (Ideal.ofBits .f32 0x7F800000#32) = 1#1) :
    ∃ r : ℝ, x = (r : EReal) := by
  rw [ofBits_inf] at h
  refine exists_real ?_
  by_contra hn
  simp [Ideal.cmp, hn] at h

/-- A finite family is a family of reals. -/
theorem family_real {ι : Type*} {x : ι → EReal} (h : ∀ i, ∃ r : ℝ, x i = (r : EReal)) :
    ∃ X : ι → ℝ, x = fun i => ((X i : ℝ) : EReal) :=
  ⟨fun i => (h i).choose, funext fun i => (h i).choose_spec⟩

/-- A sum of reals, taken among the extended reals. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A quotient of reals by a number that is not zero. -/
theorem div_coe (x : ℝ) {y : ℝ} (h : y ≠ 0) : Ideal.div (x : EReal) (y : EReal) = ((x / y : ℝ) : EReal) := by
  rw [Ideal.div_coe h, ← EReal.coe_mul, mul_one_div]

/-- The reciprocal square root of a positive real. -/
theorem rsqrt_coe {x : ℝ} (h : 0 < x) : Ideal.rsqrt (x : EReal) = (((√x)⁻¹ : ℝ) : EReal) := by
  change (if x < 0 then (⊥ : EReal) else if x = 0 then ⊤ else (((√x)⁻¹ : ℝ) : EReal)) = _
  rw [if_neg (not_lt.2 h.le), if_neg h.ne']

/-- The larger of two reals. -/
theorem max_coe (x y : ℝ) : max (x : EReal) (y : EReal) = ((max x y : ℝ) : EReal) :=
  (EReal.coe_strictMono.monotone.map_max).symm

theorem exp_coe (x : ℝ) : Ideal.exp (x : EReal) = ((Real.exp x : ℝ) : EReal) := rfl

theorem ofBits_1024 : Ideal.ofBits .f32 0x44800000#32 = ((1024 : ℝ) : EReal) := by
  simp [Ideal.ofBits, Ideal.ieee]; rw [← EReal.coe_mul]; norm_num

theorem ofBits_two : Ideal.ofBits .f32 0x40000000#32 = ((2 : ℝ) : EReal) := by
  simp [Ideal.ofBits, Ideal.ieee]; rw [← EReal.coe_mul]; norm_num

theorem ofBits_neg_half : Ideal.ofBits .f32 0xBF000000#32 = ((-(1 / 2) : ℝ) : EReal) := by
  simp [Ideal.ofBits, Ideal.ieee]; rw [← EReal.coe_mul]; norm_num

theorem ofBits_half : Ideal.ofBits .f32 0x3F000000#32 = ((1 / 2 : ℝ) : EReal) := by
  simp [Ideal.ofBits, Ideal.ieee]; rw [← EReal.coe_mul]; norm_num

theorem ofBits_recip_1024 : Ideal.ofBits .f32 0x3A800000#32 = ((1 / 1024 : ℝ) : EReal) := by
  simp [Ideal.ofBits, Ideal.ieee]; rw [← EReal.coe_mul]; norm_num

/-- The small number added under the norm's square root is a positive real. -/
theorem ofBits_eps : ∃ e : ℝ, 0 < e ∧ Ideal.ofBits .f32 0x358637BD#32 = (e : EReal) := by
  refine ⟨_, ?_, by simp [Ideal.ofBits, Ideal.ieee]; rfl⟩
  norm_num

/-- A value that is a real number. -/
def IsReal (x : EReal) : Prop := ∃ r : ℝ, x = (r : EReal)

namespace IsReal

variable {x y : EReal}

theorem add (hx : IsReal x) (hy : IsReal y) : IsReal (x + y) := by
  obtain ⟨r, rfl⟩ := hx; obtain ⟨s, rfl⟩ := hy; exact ⟨r + s, (EReal.coe_add r s).symm⟩

theorem sub (hx : IsReal x) (hy : IsReal y) : IsReal (x - y) := by
  obtain ⟨r, rfl⟩ := hx; obtain ⟨s, rfl⟩ := hy; exact ⟨r - s, (EReal.coe_sub r s).symm⟩

theorem mul (hx : IsReal x) (hy : IsReal y) : IsReal (x * y) := by
  obtain ⟨r, rfl⟩ := hx; obtain ⟨s, rfl⟩ := hy; exact ⟨r * s, (EReal.coe_mul r s).symm⟩

theorem max (hx : IsReal x) (hy : IsReal y) : IsReal (Max.max x y) := by
  obtain ⟨r, rfl⟩ := hx; obtain ⟨s, rfl⟩ := hy; exact ⟨_, max_coe r s⟩

theorem zero : IsReal 0 := ⟨0, rfl⟩

theorem sum {ι : Type*} {s : Finset ι} {f : ι → EReal} (h : ∀ i, IsReal (f i)) : IsReal (∑ i ∈ s, f i) := by
  obtain ⟨g, rfl⟩ := family_real h
  exact ⟨_, coe_sum s g⟩

/-- A real factor moves into a sum of reals. -/
theorem mul_sum {ι : Type*} {s : Finset ι} {c : EReal} {f : ι → EReal} (hc : IsReal c) (h : ∀ i, IsReal (f i)) :
    c * ∑ i ∈ s, f i = ∑ i ∈ s, c * f i := by
  obtain ⟨r, rfl⟩ := hc
  obtain ⟨g, rfl⟩ := family_real h
  simp only [← EReal.coe_mul, coe_sum, Finset.mul_sum]

end IsReal

/-- An array that passes a finiteness precondition's comparison at every index holds real numbers. -/
theorem real_of_pre {s : Shape} {x : FVec Ideal s .f32} {p : s.Idx → BitVec 1} (h : p = fun _ => 1#1)
    (hp : ∀ i, p i = Ideal.cmp .olt (Max.max (x i) (-(x i))) (Ideal.ofBits .f32 0x7F800000#32)) (i : s.Idx) : IsReal (x i) :=
  real_of_cmp ((hp i).symm.trans (congrFun h i))

end Cert.Reals

end
-- ==== Proof.Rms.lean ====
module

public import proofs.«01_k».proof.Proof.Reals

@[expose] public section

noncomputable section

/-! The gradient of the root-mean-square norm, for one row of 1024 numbers. -/

namespace Cert.Rms

open Idealize.ShloMosaic Cert.Reals

/-- The mean of the squares of a row, plus the small number: what stands under the square root. -/
def under (x : Fin 1024 → EReal) : EReal :=
  Ideal.div (∑ k, x k * x k) (Ideal.ofBits .f32 0x44800000#32) + Ideal.ofBits .f32 0x358637BD#32

/-- The reciprocal of the root of the mean square. -/
def rstd (x : Fin 1024 → EReal) : EReal := Ideal.rsqrt (under x)

/-- The normalised row, before the gain. -/
def unit (x : Fin 1024 → EReal) (k : Fin 1024) : EReal := x k * rstd x

/-- The gradient of the row as a program writes it out by hand, from the cotangent `d` of the normalised row. -/
def grad (x d : Fin 1024 → EReal) (k : Fin 1024) : EReal :=
  rstd x * (d k - unit x k * Ideal.div (∑ l, d l * unit x l) (Ideal.ofBits .f32 0x44800000#32))

/-- The factor that differentiation of the mean square gives. -/
def slope (x d : Fin 1024 → EReal) : EReal :=
  Ideal.div ((∑ l, x l * d l) * (Ideal.ofBits .f32 0xBF000000#32 * Ideal.div (rstd x) (under x)))
    (Ideal.ofBits .f32 0x44800000#32)

/-- The gradient of the row as differentiation of the norm's formula gives it. -/
def diff (x d : Fin 1024 → EReal) (k : Fin 1024) : EReal :=
  d k * rstd x + x k * slope x d + slope x d * x k

/-- What stands under the root of a real row is a positive real. -/
theorem under_real (X : Fin 1024 → ℝ) : ∃ v : ℝ, 0 < v ∧ under (fun k => (X k : EReal)) = (v : EReal) := by
  obtain ⟨e, he, h⟩ := ofBits_eps
  refine ⟨(∑ k, X k * X k) / 1024 + e, ?_, ?_⟩
  · have : 0 ≤ ∑ k, X k * X k := Finset.sum_nonneg fun k _ => mul_self_nonneg _
    positivity
  · unfold under
    simp only [h, ofBits_1024, ← EReal.coe_mul, coe_sum]
    rw [div_coe _ (by norm_num), ← EReal.coe_add]

/-- The two gradients agree on real numbers. -/
theorem grad_eq_diff (X D : Fin 1024 → ℝ) (k : Fin 1024) :
    grad (fun l => (X l : EReal)) (fun l => (D l : EReal)) k = diff (fun l => (X l : EReal)) (fun l => (D l : EReal)) k := by
  obtain ⟨v, hv, h⟩ := under_real X
  have hr : rstd (fun l => (X l : EReal)) = (((√v)⁻¹ : ℝ) : EReal) := by unfold rstd; rw [h, rsqrt_coe hv]
  unfold grad diff slope unit
  simp only [hr, h, ofBits_1024, ofBits_neg_half, ← EReal.coe_mul, coe_sum]
  rw [div_coe _ (by norm_num), div_coe _ hv.ne', ← EReal.coe_mul, ← EReal.coe_sub, ← EReal.coe_mul, ← EReal.coe_mul, ← EReal.coe_mul,
    div_coe _ (by norm_num), ← EReal.coe_mul, ← EReal.coe_mul, ← EReal.coe_add, ← EReal.coe_add]
  congr 1
  have hs : (∑ l, D l * (X l * (√v)⁻¹)) = (√v)⁻¹ * ∑ l, X l * D l := by
    rw [Finset.mul_sum]; exact Finset.sum_congr rfl fun l _ => by ring
  have h2 : (√v)⁻¹ / v = (√v)⁻¹ * ((√v)⁻¹ * (√v)⁻¹) := by
    rw [← mul_inv, Real.mul_self_sqrt hv.le]; rfl
  rw [hs, h2]
  ring

/-- A real row normalised is real, and so is its gradient. -/
theorem rstd_real (X : Fin 1024 → ℝ) : ∃ r : ℝ, rstd (fun k => (X k : EReal)) = (r : EReal) := by
  obtain ⟨v, hv, h⟩ := under_real X
  exact ⟨_, by unfold rstd; rw [h, rsqrt_coe hv]⟩

/-- The two gradients agree wherever row and cotangent are real. -/
theorem grad_eq {x d : Fin 1024 → EReal} (hx : ∀ l, IsReal (x l)) (hd : ∀ l, IsReal (d l)) (k : Fin 1024) :
    grad x d k = diff x d k := by
  obtain ⟨X, rfl⟩ := family_real hx
  obtain ⟨D, rfl⟩ := family_real hd
  exact grad_eq_diff X D k

theorem unit_real {x : Fin 1024 → EReal} (hx : ∀ l, IsReal (x l)) (k : Fin 1024) : IsReal (unit x k) := by
  obtain ⟨X, rfl⟩ := family_real hx
  exact IsReal.mul (hx k) (rstd_real X)

theorem grad_real {x d : Fin 1024 → EReal} (hx : ∀ l, IsReal (x l)) (hd : ∀ l, IsReal (d l)) (k : Fin 1024) :
    IsReal (grad x d k) := by
  have hr : IsReal (rstd x) := by
    obtain ⟨X, rfl⟩ := family_real hx
    exact rstd_real X
  obtain ⟨v, hv⟩ := IsReal.sum (s := Finset.univ) fun l => (hd l).mul (unit_real hx l)
  refine hr.mul ((hd k).sub ((unit_real hx k).mul ?_))
  rw [hv, ofBits_1024, div_coe _ (by norm_num)]
  exact ⟨_, rfl⟩

end Cert.Rms

end
-- ==== Proof.MlpModel.lean ====
module

public import proofs.«01_k».proof.Proof.Rms

@[expose] public section

noncomputable section

/-! What the squared-ReLU channel mixer's backward pass computes, as functions of its five argument arrays: the block's
input `h`, the norm's gain `g`, the two weights `wu` and `wd`, and the cotangent `d` of the block's output. -/

namespace Cert.MlpModel

open Idealize.ShloMosaic

variable (h : FVec Ideal ⟨2, ![8192, 1024]⟩ .f32) (g : FVec Ideal ⟨2, ![1, 1024]⟩ .f32)
  (wu : FVec Ideal ⟨3, ![1, 1024, 4096]⟩ .f32) (wd : FVec Ideal ⟨3, ![1, 4096, 1024]⟩ .f32)
  (d : FVec Ideal ⟨2, ![8192, 1024]⟩ .f32)

/-- One row of the input. -/
def row (n : Fin 8192) (k : Fin 1024) : EReal := h (ix2 n k)

/-- The up projection before its ReLU: the normalised row times the weight. -/
def up (n : Fin 8192) (f : Fin 4096) : EReal :=
  ∑ k : Fin 1024, Rms.unit (row h n) k * g (ix2 0 k) * wu (ix3 0 k f)

/-- The cotangent of the up projection. -/
def dup (n : Fin 8192) (f : Fin 4096) : EReal :=
  (∑ k : Fin 1024, d (ix2 n k) * wd (ix3 0 f k)) * (Ideal.ofBits .f32 0x40000000#32 * max (up h g wu n f) 0)

/-- The cotangent of the normalised input. -/
def dz (n : Fin 8192) (k : Fin 1024) : EReal :=
  ∑ f : Fin 4096, dup h g wu wd d n f * wu (ix3 0 k f)

/-- The cotangent of the block's input, the residual branch and the norm's gradient by hand. -/
def dh (n : Fin 8192) (k : Fin 1024) : EReal :=
  d (ix2 n k) + Rms.grad (row h n) (fun l => dz h g wu wd d n l * g (ix2 0 l)) k

/-- The same by differentiation of the norm's formula. -/
def dhDiff (n : Fin 8192) (k : Fin 1024) : EReal :=
  d (ix2 n k) + Rms.diff (row h n) (fun l => dz h g wu wd d n l * g (ix2 0 l)) k

/-- The gradient of the norm's gain. -/
def dg (k : Fin 1024) : EReal :=
  ∑ n : Fin 8192, dz h g wu wd d n k * Rms.unit (row h n) k

variable {h g wu wd d}

/-- On real arrays the two gradients of the input agree. -/
theorem dh_eq (hh : ∀ i, Reals.IsReal (h i)) (hg : ∀ i, Reals.IsReal (g i)) (hu : ∀ i, Reals.IsReal (wu i))
    (hw : ∀ i, Reals.IsReal (wd i)) (hd : ∀ i, Reals.IsReal (d i)) (n : Fin 8192) (k : Fin 1024) :
    dh h g wu wd d n k = dhDiff h g wu wd d n k := by
  have hup : ∀ f, Reals.IsReal (up h g wu n f) := fun f =>
    .sum fun k => ((Rms.unit_real (fun l => hh _) k).mul (hg _)).mul (hu _)
  have hdup : ∀ f, Reals.IsReal (dup h g wu wd d n f) := fun f =>
    (Reals.IsReal.sum fun k => (hd _).mul (hw _)).mul (.mul ⟨2, Reals.ofBits_two⟩ ((hup f).max .zero))
  have hdz : ∀ l, Reals.IsReal (dz h g wu wd d n l) := fun l => .sum fun f => (hdup f).mul (hu _)
  unfold dh dhDiff
  exact congrArg (d (ix2 n k) + ·) (Rms.grad_eq (x := row h n) (fun l => hh _) (fun l => (hdz l).mul (hg _)) k)

end Cert.MlpModel

end
-- ==== Proof.MlpKernel.lean ====
module

public import proofs.«01_k».proof.Proof.Gen.MlpXIdeal.Value
public import proofs.«01_k».proof.Proof.MlpModel
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.MlpKernel

open Idealize.ShloMosaic Idealize.ShloMosaic.TcCoe Idealize.SL.Sem
open Cert.MlpXIdeal Cert.MlpXIdeal.Gen

variable (m : (ℓ : Loc nD τ sig) → Buf (Elt Ideal) ℓ) (c : Dev nD)

/-- The argument arrays on one device. -/
abbrev aH : FVec Ideal S8192x1024 .f32 := m ((c : Thread nD τ).loc main_arg0)
abbrev aG : FVec Ideal S1x1024 .f32 := m ((c : Thread nD τ).loc main_arg1)
abbrev aU : FVec Ideal S1x1024x4096 .f32 := m ((c : Thread nD τ).loc main_arg2)
abbrev aW : FVec Ideal S1x4096x1024 .f32 := m ((c : Thread nD τ).loc main_arg3)
abbrev aD : FVec Ideal S8192x1024 .f32 := m ((c : Thread nD τ).loc main_arg4)

/-- Row `r` of the block at grid point `t`, in the whole array. -/
def rowAt (t : Fin cfg0.N) (r : Fin 512) : Fin 8192 :=
  ⟨t.val * 512 + r.val, by have := lt_of_lt_of_eq t.isLt N_0; have := r.isLt; omega⟩

/-- Column `f` of stack `j`, in the whole array. -/
def colAt (j : Fin 4) (f : Fin 1024) : Fin 4096 := ⟨j.val * 1024 + f.val, by have := j.isLt; have := f.isLt; omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![0, 0, 0]
    ∧ win0_6.index t = ![t.val, 0] ∧ win0_7.index t = ![t.val, 0] ∧ win0_8.index t = ![0, 0] :=
  (by decide +kernel : ∀ t : Fin grid0.N, _)

theorem blk_d (t : Fin cfg0.N) (r : Fin 512) (k : Fin 1024) : iblk m c 0 t (ix2 r k) = aD m c (ix2 (rowAt t r) k) := by
  blk_ext [iblk, V, idx t, rowAt]

theorem blk_h (t : Fin cfg0.N) (r : Fin 512) (k : Fin 1024) : iblk m c 2 t (ix2 r k) = aH m c (ix2 (rowAt t r) k) := by
  blk_ext [iblk, V, idx t, rowAt]

theorem blk_g (t : Fin cfg0.N) (r : Fin 1) (k : Fin 1024) : iblk m c 3 t (ix2 r k) = aG m c (ix2 r k) := by
  blk_ext [iblk, V, idx t, rowAt]

/-- The stacks of the up weight, as the host code lays them out. -/
theorem wu_at (j : Fin 4) (k f : Fin 1024) :
    (V m c main_v3 : FVec Ideal S4x1024x1024 .bf16) (ix3 j k f) = aU m c (ix3 0 k (colAt j f)) := by
  unfold V
  simp only [List.flatten_cons, List.flatten_nil, hostOps0, hostOps0_1, hostOps0_2, List.cons_append, List.nil_append]
  after_reads_at
  rfl

/-- The stacks of the down weight. -/
theorem wd_at (j : Fin 4) (f k : Fin 1024) :
    (V m c main_v6 : FVec Ideal S4x1024x1024 .bf16) (ix3 j f k) = aW m c (ix3 0 (colAt j f) k) := by
  unfold V
  simp only [List.flatten_cons, List.flatten_nil, hostOps0, hostOps0_1, hostOps0_2, List.cons_append, List.nil_append]
  after_reads_at
  rfl

/-- The saved ReLU of the up projection. -/
theorem ru_at (n : Fin 8192) (f : Fin 4096) :
    (V m c main_v24 : FVec Ideal S8192x4096 .bf16) (ix2 n f) = max (MlpModel.up (aH m c) (aG m c) (aU m c) n f) 0 := by
  unfold V
  simp only [List.flatten_cons, List.flatten_nil, hostOps0, hostOps0_1, hostOps0_2, List.cons_append, List.nil_append]
  after_reads_at
  rfl

theorem blk_wu (t : Fin cfg0.N) (j : Fin 4) (k f : Fin 1024) : iblk m c 4 t (ix3 j k f) = aU m c (ix3 0 k (colAt j f)) := by
  rw [← wu_at]
  blk_ext [iblk, idx t]

theorem blk_wd (t : Fin cfg0.N) (j : Fin 4) (f k : Fin 1024) : iblk m c 5 t (ix3 j f k) = aW m c (ix3 0 (colAt j f) k) := by
  rw [← wd_at]
  blk_ext [iblk, idx t]

theorem blk_ru (t : Fin cfg0.N) (r : Fin 512) (f : Fin 4096) :
    iblk m c 1 t (ix2 r f) = max (MlpModel.up (aH m c) (aG m c) (aU m c) (rowAt t r) f) 0 := by
  rw [← ru_at]
  blk_ext [iblk, idx t, rowAt]

end Cert.MlpKernel

end
-- ==== Proof.MlpBlock.lean ====
module

public import proofs.«01_k».proof.Proof.MlpKernel

@[expose] public section

set_option maxRecDepth 16384

noncomputable section

/-! What each stored value of the channel mixer's backward kernel holds, as a function of the blocks it reads. -/

namespace Cert.MlpBlock

open Idealize.ShloMosaic Idealize.ShloMosaic.TcCoe Idealize.SL.Sem
open Cert.MlpXIdeal Cert.MlpXIdeal.Gen

variable (x y : Vec Ideal S512x1024 .f32) (w v : Vec Ideal S1x1024x1024 .bf16) (u : Vec Ideal S512x1024 .bf16)
  (a : FVec Ideal S512x1024 .f32) (b : FVec Ideal S512x1024 .bf16) (g : Vec Ideal S1x1024 .f32)
  (r : Fin 512) (k f : Fin 1024) (o : Fin 1)

/-- The cotangent of one stack of the up projection. -/
def stack (x : Vec Ideal S512x1024 .f32) (w : Vec Ideal S1x1024x1024 .bf16) (u : Vec Ideal S512x1024 .bf16)
    (r : Fin 512) (f : Fin 1024) : EReal :=
  (∑ k, x (ix2 r k) * w (ix3 0 f k)) * (Ideal.ofBits .f32 0x40000000#32 * u (ix2 r f))

theorem pay3 : k0_pay3 (F := Ideal) x (ix2 r k) = x (ix2 r k) := by pointwise [k0_pay3]

theorem pay4 : k0_pay4 (F := Ideal) x w u (ix2 r f) = stack x w u r f := by pointwise [k0_pay4, k0_pay3]; rfl

theorem pay6 : k0_pay6 (F := Ideal) x w u (ix2 r f) = stack x w u r f := by pointwise [k0_pay6, k0_pay3]; rfl

theorem pay7 : k0_pay7 (F := Ideal) (k0_pay3 x) w u (ix2 r f) = stack x w u r f := by
  pointwise [k0_pay7, k0_pay3]; rfl

theorem pay9 : k0_pay9 (F := Ideal) (k0_pay3 x) w u (ix2 r f) = stack x w u r f := by
  pointwise [k0_pay9, k0_pay3]; rfl

theorem pay5 : k0_pay5 (F := Ideal) x w u v (ix2 r k) = ∑ f, stack x w u r f * v (ix3 0 k f) := by
  pointwise [k0_pay5, pay4]

theorem pay8 (w' v' : Vec Ideal S1x1024x1024 .bf16) (u' : Vec Ideal S512x1024 .bf16) :
    k0_pay8 (F := Ideal) (k0_pay3 x) a b v w' u' v' (ix2 r k)
      = a (ix2 r k) + (∑ f, b (ix2 r f) * v (ix3 0 k f)) + ∑ f, stack x w' u' r f * v' (ix3 0 k f) := by
  pointwise [k0_pay8, pay7]

theorem pay10 : k0_pay10 (F := Ideal) a b v (ix2 r k) = a (ix2 r k) + ∑ f, b (ix2 r f) * v (ix3 0 k f) := by
  pointwise [k0_pay10]

theorem pay11 : k0_pay11 (F := Ideal) x (ix2 r k) = Rms.unit (fun l => x (ix2 r l)) k := by
  pointwise [k0_pay11]; rfl

theorem pay12 : k0_pay12 (F := Ideal) a b v x (ix2 o k)
    = ∑ r, k0_pay10 (F := Ideal) a b v (ix2 r k) * Rms.unit (fun l => x (ix2 r l)) k := by
  pointwise [k0_pay12, pay11]

theorem pay13 : k0_pay13 (F := Ideal) y a b v x g (ix2 r k)
    = y (ix2 r k) + Rms.grad (fun l => x (ix2 r l)) (fun l => k0_pay10 (F := Ideal) a b v (ix2 r l) * g (ix2 0 l)) k := by
  pointwise [k0_pay13, pay11]; rfl

theorem pay1 (g' : FVec Ideal S1x1024 .f32) : k0_pay1 (F := Ideal) g' g (ix2 o k) = g (ix2 o k) + g' (ix2 o k) := by
  pointwise [k0_pay1]

theorem pay2 (r : Fin 8) : k0_pay2 (F := Ideal) (ix2 r k) = 0 := by pointwise [k0_pay2]

end Cert.MlpBlock

end
-- ==== Proof.Rows.lean ====
module

public import Idealize.ShloMosaic.Lib.WritesUnit
public import Idealize.ShloMosaic.Lib.Pipeline.ReadBack
public import Idealize.ShloMosaic.Lib.Pipeline.ValueKit

@[expose] public section

/-! A buffer of rank 2 whose newest store is a band of `a` whole rows from row `o`, read at an index: the store's value on
the band, what was there before elsewhere. -/

namespace Cert.Rows

open Idealize.ShloMosaic

variable {Val : EltTy → Type} [∀ e, Nonempty (Val e)] {e : EltTy} {o a b p : ℕ}
  (inb : ∀ i : Fin 2, (![o, 0] : Fin 2 → ℕ) i + (![a, b] : Fin 2 → ℕ) i ≤ (![p, b] : Fin 2 → ℕ) i)
  (w : (⟨2, ![a, b]⟩ : Shape).Idx → Val e) (L : List (View.Piece Val (⟨2, ![p, b]⟩ : Shape) e)) (r : Fin p) (l : Fin b)

/-- On the band, the stored value. -/
theorem canon_on (i : Fin a) (h : r.val = o + i.val) :
    View.canon ((⟨Rect.unit (s := ⟨2, ![p, b]⟩) ![o, 0] ![a, b] inb, w⟩ : View.Piece Val (⟨2, ![p, b]⟩ : Shape) e) :: L)
      (ix2 r l) = w (ix2 i l) := by
  have hy : (Rect.unit (s := ⟨2, ![p, b]⟩) ![o, 0] ![a, b] inb).emb (ix2 i l) = ix2 r l := funext (Fin.forall_fin_two.mpr
    ⟨Fin.ext (by change o + 1 * i.val = r.val; omega), Fin.ext (by change 0 + 1 * l.val = l.val; omega)⟩)
  rw [← hy]
  exact View.canon_cons_emb (Rect.unit (s := ⟨2, ![p, b]⟩) ![o, 0] ![a, b] inb) w L (ix2 i l)

/-- Off the band, the earlier stores. -/
theorem canon_off (h : r.val < o ∨ o + a ≤ r.val) :
    View.canon ((⟨Rect.unit (s := ⟨2, ![p, b]⟩) ![o, 0] ![a, b] inb, w⟩ : View.Piece Val (⟨2, ![p, b]⟩ : Shape) e) :: L)
      (ix2 r l) = View.canon L (ix2 r l) := by
  refine View.canon_cons_of_not_mem _ L fun hy => ?_
  have := (Rect.mem_set_unit (inb := inb).mp hy) (0 : Fin 2)
  change o ≤ r.val ∧ r.val < o + a at this
  omega

variable {sig : RefSig} {κ : Kind} {sp : Space} (v : View sig κ sp (⟨2, ![p, b]⟩ : Shape) e) (f : v.ty.Contents Val)

/-- On the band, the stored value, whatever was there. -/
theorem read_on (i : Fin a) (h : r.val = o + i.val) :
    v.read Val (v.writes Val f ((⟨Rect.unit (s := ⟨2, ![p, b]⟩) ![o, 0] ![a, b] inb, w⟩ :
      View.Piece Val (⟨2, ![p, b]⟩ : Shape) e) :: L)) (ix2 r l) = w (ix2 i l) :=
  View.read_writes_cons_rows_of_mem v f inb w L (ix2 r l) (ix2 i l) rfl h rfl

/-- Off the band, what was there. -/
theorem read_off (h : r.val < o ∨ o + a ≤ r.val) :
    v.read Val (v.writes Val f [(⟨Rect.unit (s := ⟨2, ![p, b]⟩) ![o, 0] ![a, b] inb, w⟩ :
      View.Piece Val (⟨2, ![p, b]⟩ : Shape) e)]) (ix2 r l) = v.read Val f (ix2 r l) :=
  View.read_writes_cons_rows_of_not_mem (W := a) v f inb w [] (ix2 r l) rfl rfl h

/-- Off the band, the earlier stores over what was there. -/
theorem read_past (h : r.val < o ∨ o + a ≤ r.val) :
    v.read Val (v.writes Val f ((⟨Rect.unit (s := ⟨2, ![p, b]⟩) ![o, 0] ![a, b] inb, w⟩ :
      View.Piece Val (⟨2, ![p, b]⟩ : Shape) e) :: L)) (ix2 r l) = v.read Val (v.writes Val f L) (ix2 r l) :=
  View.read_writes_cons_rows_of_not_mem (W := a) v f inb w L (ix2 r l) rfl rfl h

theorem idx_at (i : Fin a) (h : r.val = o + i.val) :
    (Rect.unit (s := ⟨2, ![p, b]⟩) ![o, 0] ![a, b] inb).idx (ix2 i l) = ix2 r l := funext (Fin.forall_fin_two.mpr
    ⟨Fin.ext (by change o + 1 * i.val = r.val; omega), Fin.ext (by change 0 + 1 * l.val = l.val; omega)⟩)

/-- A load of a band, read at an index. -/
theorem load_at (X : (⟨2, ![p, b]⟩ : Shape).Idx → Val e) (i : Fin a) (h : r.val = o + i.val) :
    View.ld X (Rect.unit (s := ⟨2, ![p, b]⟩) ![o, 0] ![a, b] inb) (ix2 i l) = X (ix2 r l) :=
  congrArg X (idx_at inb r l i h)

/-- A load of a band after the stores `L`. -/
theorem cov_at (i : Fin a) (h : r.val = o + i.val) :
    v.readCov L (Rect.unit (s := ⟨2, ![p, b]⟩) ![o, 0] ![a, b] inb).toLoadRect (ix2 i l) = View.canon L (ix2 r l) := by
  rw [View.readCov_eq_canon']
  exact congrArg (View.canon L) (idx_at inb r l i h)

/-- A load of a band of columns from column `q` on, after the stores `L`. -/
theorem cov_cols {q d : ℕ} (inb : ∀ i : Fin 2, (![0, q] : Fin 2 → ℕ) i + (![p, d] : Fin 2 → ℕ) i ≤ (![p, b] : Fin 2 → ℕ) i)
    (i : Fin d) (h : l.val = q + i.val) :
    v.readCov L (Rect.unit (s := ⟨2, ![p, b]⟩) ![0, q] ![p, d] inb).toLoadRect (ix2 r i) = View.canon L (ix2 r l) := by
  rw [View.readCov_eq_canon']
  exact congrArg (View.canon L) (funext (Fin.forall_fin_two.mpr
    ⟨Fin.ext (by change 0 + 1 * r.val = r.val; omega), Fin.ext (by change q + 1 * i.val = l.val; omega)⟩))

end Cert.Rows
-- ==== Proof.MlpValue.lean ====
module

public import proofs.«01_k».proof.Proof.MlpBlock
public import proofs.«01_k».proof.Proof.Rows

@[expose] public section

set_option maxRecDepth 16384

noncomputable section

/-! What each block of the channel mixer's backward kernel leaves in its outputs and in the accumulator. -/

namespace Cert.MlpValue

open Idealize.ShloMosaic Idealize.ShloMosaic.TcCoe Idealize.SL.Sem
open Cert.MlpXIdeal Cert.MlpXIdeal.Gen Cert.MlpKernel Cert.MlpBlock

variable (m : (ℓ : Loc nD τ sig) → Buf (Elt Ideal) ℓ) (c : Dev nD)

/-- One stack's part of the cotangent of the normalised input. -/
def part (n : Fin 8192) (k : Fin 1024) (j : Fin 4) : EReal :=
  ∑ f : Fin 1024, MlpModel.dup (aH m c) (aG m c) (aU m c) (aW m c) (aD m c) n (colAt j f) * aU m c (ix3 0 k (colAt j f))

theorem dz_parts (n : Fin 8192) (k : Fin 1024) : MlpModel.dz (aH m c) (aG m c) (aU m c) (aW m c) (aD m c) n k
    = part m c n k 0 + part m c n k 1 + part m c n k 2 + part m c n k 3 :=
  (Fin.sum_univ_tiles 4 1024 rfl _).trans (Fin.sum_univ_four (fun j => part m c n k j))

/-- The columns of the four stacks. -/
theorem col0 (f : Fin 1024) (h : f.val < 4096) : (⟨f.val, h⟩ : Fin 4096) = colAt 0 f := Fin.ext (by simp [colAt])
theorem col1 (f : Fin 1024) (h : 1024 + f.val < 4096) : (⟨1024 + f.val, h⟩ : Fin 4096) = colAt 1 f := Fin.ext (by simp [colAt])
theorem col2 (f : Fin 1024) (h : 2048 + f.val < 4096) : (⟨2048 + f.val, h⟩ : Fin 4096) = colAt 2 f := Fin.ext (by simp [colAt])
theorem col3 (f : Fin 1024) (h : 3072 + f.val < 4096) : (⟨3072 + f.val, h⟩ : Fin 4096) = colAt 3 f := Fin.ext (by simp [colAt])

/-- A grid point is the first, the last, or one between. -/
theorem point (t : Fin cfg0.N) : (t.val % 16 = 0 ∧ ¬ t.val % 16 = 15) ∨ (¬ t.val % 16 = 0 ∧ ¬ t.val % 16 = 15)
    ∨ (¬ t.val % 16 = 0 ∧ t.val % 16 = 15) := by omega

/-- The first output's block. -/
theorem out6_at (t : Fin cfg0.N) (r : Fin 512) (f : Fin 4096) : (outsAt0 m c t.val t.isLt).1 (ix2 r f)
    = MlpModel.dup (aH m c) (aG m c) (aU m c) (aW m c) (aD m c) (rowAt t r) f := by
  rcases point t with h | h | h
  on_goal 1 => rw [outsAt0_A m c t h.1 h.2]
  on_goal 2 => rw [outsAt0_B m c t h.1 h.2]
  on_goal 3 => rw [outsAt0_C m c t h.1 h.2]
  all_goals
    frame_out
    canon_tiles x h
    all_goals
      obtain ⟨a, b, rfl⟩ : ∃ (a : Fin 512) (b : Fin 1024), x = ix2 a b := ⟨x 0, x 1, by funext i; fin_cases i <;> rfl⟩
      obtain rfl : r = a := Fin.ext h0
      pointwise [pay9, pay7, pay6, pay4, stack]
      simp only [blk_d, blk_wd, blk_ru, col0, col1, col2, col3]
  all_goals first
    | (obtain rfl : f = colAt 0 b := Fin.ext (h1.trans (by simp [colAt])); rfl)
    | (obtain rfl : f = colAt 1 b := Fin.ext (h1.trans (by simp [colAt])); rfl)
    | (obtain rfl : f = colAt 2 b := Fin.ext (h1.trans (by simp [colAt])); rfl)
    | (obtain rfl : f = colAt 3 b := Fin.ext (h1.trans (by simp [colAt])); rfl)

/-- The second output's block. -/
theorem out7_at (t : Fin cfg0.N) (r : Fin 512) (k : Fin 1024) : (outsAt0 m c t.val t.isLt).2.1 (ix2 r k)
    = MlpModel.dh (aH m c) (aG m c) (aU m c) (aW m c) (aD m c) (rowAt t r) k := by
  unfold MlpModel.dh
  simp only [dz_parts]
  rcases point t with h | h | h
  on_goal 1 => rw [outsAt0_A m c t h.1 h.2]
  on_goal 2 => rw [outsAt0_B m c t h.1 h.2]
  on_goal 3 => rw [outsAt0_C m c t h.1 h.2]
  all_goals
    frame_out
    pointwise [pay13, pay10, pay8, pay9, pay6, pay5, stack]
    simp only [blk_d, blk_h, blk_g, blk_wu, blk_wd, blk_ru, col0, col1, col2, col3]
    rfl

/-- What one block adds to the gain's gradient. -/
def gain (t : Fin cfg0.N) (k : Fin 1024) : EReal :=
  ∑ r : Fin 512, MlpModel.dz (aH m c) (aG m c) (aU m c) (aW m c) (aD m c) (rowAt t r) k
    * Rms.unit (MlpModel.row (aH m c) (rowAt t r)) k

/-- The accumulator's first row after the first block, … -/
theorem acc_first (t : Fin cfg0.N) (h0 : t.val % 16 = 0) (h1 : ¬ t.val % 16 = 15) (l : Fin 1024) :
    (outsAt0 m c t.val t.isLt).2.2.2 (ix2 0 l) = 0 + gain m c t l := by
  rw [outsAt0_A m c t h0 h1]
  frame_out
  rw [Rows.canon_on _ _ _ _ _ 0 rfl, pay1, pay12]
  refine congrArg₂ (· + ·) ?_ ?_
  · rw [View.readCov_fill _ _ _ _ _ (by decide)]
    pointwise [pay2]
  unfold gain
  simp only [dz_parts]
  pointwise [pay10, pay8, pay9, pay6, pay5, stack]
  simp only [blk_d, blk_h, blk_g, blk_wu, blk_wd, blk_ru, col0, col1, col2, col3]
  rfl

/-- … its other rows, … -/
theorem acc_first_zero (t : Fin cfg0.N) (h0 : t.val % 16 = 0) (h1 : ¬ t.val % 16 = 15) (r : Fin 8) (hr : r.val ≠ 0)
    (l : Fin 1024) : (outsAt0 m c t.val t.isLt).2.2.2 (ix2 r l) = 0 := by
  rw [outsAt0_A m c t h0 h1]
  frame_out
  rw [Rows.canon_off _ _ _ _ _ (by omega), Rows.canon_on _ _ _ _ _ r (Nat.zero_add _).symm, pay2]

/-- … what a later block adds to the first row, … -/
theorem acc_next (t : Fin cfg0.N) (h0 : ¬ t.val % 16 = 0) (l : Fin 1024) : (outsAt0 m c t.val t.isLt).2.2.2 (ix2 0 l)
    = (outsAt0 m c (t.val - 1) (Nat.lt_of_le_of_lt (Nat.sub_le _ _) t.isLt)).2.2.2 (ix2 0 l) + gain m c t l := by
  unfold gain
  simp only [dz_parts]
  by_cases h1 : t.val % 16 = 15
  on_goal 1 => rw [outsAt0_C m c t h0 h1]
  on_goal 2 => rw [outsAt0_B m c t h0 h1]
  all_goals
    frame_out
    rw [Rows.read_on _ _ _ _ _ _ _ 0 rfl, pay1, pay12]
    refine congrArg₂ (· + ·) ?_ ?_
    · pointwise
      exact congrFun (Memref.IsWhole.read_unread _ _) _
    pointwise [pay10, pay8, pay9, pay6, pay5, stack]
    simp only [blk_d, blk_h, blk_g, blk_wu, blk_wd, blk_ru, col0, col1, col2, col3]
    rfl

/-- … and that it leaves the others alone. -/
theorem acc_next_zero (t : Fin cfg0.N) (h0 : ¬ t.val % 16 = 0) (r : Fin 8) (hr : r.val ≠ 0) (l : Fin 1024) :
    (outsAt0 m c t.val t.isLt).2.2.2 (ix2 r l)
    = (outsAt0 m c (t.val - 1) (Nat.lt_of_le_of_lt (Nat.sub_le _ _) t.isLt)).2.2.2 (ix2 r l) := by
  by_cases h1 : t.val % 16 = 15
  on_goal 1 => rw [outsAt0_C m c t h0 h1]
  on_goal 2 => rw [outsAt0_B m c t h0 h1]
  all_goals
    frame_out
    rw [Rows.read_off _ _ _ _ _ _ (by omega)]
    exact congrFun (Memref.IsWhole.read_unread _ _) _

/-- The accumulator at the last point: the gain's gradient in the first row, zeros below. -/
theorem acc_last (t : Fin cfg0.N) (ht : t.val + 1 = cfg0.N) (r : Fin 8) (l : Fin 1024) :
    (outsAt0 m c t.val t.isLt).2.2.2 (ix2 r l)
    = if r.val = 0 then MlpModel.dg (aH m c) (aG m c) (aU m c) (aW m c) (aD m c) l else 0 := by
  have key := Pipeline.eq_sum_fin_of_reset_step_apply_last
    (fun n h (i : Fin 8 × Fin 1024) => (outsAt0 m c n h).2.2.2 (ix2 i.1 i.2)) 16 (fun _ => (0 : EReal))
    (fun t i => if i.1.val = 0 then gain m c t i.2 else 0)
    (fun t h i => by
      obtain ⟨r, l⟩ := i
      by_cases hr : r.val = 0
      · obtain rfl : r = 0 := Fin.ext hr
        exact acc_first m c t h (by omega) l
      · simp only [if_neg hr, add_zero]
        exact acc_first_zero m c t h (by omega) r hr l)
    (fun t h i => by
      obtain ⟨r, l⟩ := i
      by_cases hr : r.val = 0
      · obtain rfl : r = 0 := Fin.ext hr
        exact acc_next m c t h l
      · simp only [if_neg hr, add_zero]
        exact acc_next_zero m c t h r hr l)
    (le_of_eq N_0) t ht (r, l)
  refine key.trans ?_
  by_cases hr : r.val = 0
  · simp only [if_pos hr, zero_add]
    exact (Fin.sum_univ_tiles (M := EReal) cfg0.N 512 (congrArg (· * 512) N_0 : cfg0.N * 512 = 8192)
      (fun n => MlpModel.dz (aH m c) (aG m c) (aU m c) (aW m c) (aD m c) n l * Rms.unit (MlpModel.row (aH m c) n) l)).symm
  · simp only [if_neg hr, Finset.sum_const_zero, add_zero]

/-- The third output, written at the last point, is the accumulator. -/
theorem out8_at (t : Fin cfg0.N) (h1 : t.val % 16 = 15) (r : Fin 8) (l : Fin 1024) :
    (outsAt0 m c t.val t.isLt).2.2.1 (ix2 r l) = (outsAt0 m c t.val t.isLt).2.2.2 (ix2 r l) := by
  rw [outsAt0_C m c t (by omega) h1]
  frame_out

end Cert.MlpValue

end
-- ==== Proof.MlpRef.lean ====
module

public import proofs.«01_k».proof.Proof.Gen.MlpXRefIdeal.Read
public import proofs.«01_k».proof.Proof.MlpModel

@[expose] public section

set_option maxRecDepth 16384

noncomputable section

/-! What the reference of the channel mixer's backward pass computes. -/

namespace Cert.MlpRef

open Idealize.ShloMosaic Idealize.ShloMosaic.TcCoe Idealize.SL.Sem
open Cert.MlpXRefIdeal Cert.MlpXRefIdeal.Gen Cert.MlpXRefIdeal.Read

variable (h : FVec Ideal S8192x1024 .f32) (g : FVec Ideal S1x1024 .f32)
  (wu : FVec Ideal S1x1024x4096 .f32) (wd : FVec Ideal S1x4096x1024 .f32)
  (d : FVec Ideal S8192x1024 .f32)

/-- What stands under the norm's root. -/
theorem under_eq (n : Fin 8192) (u : Fin 1) : val_main_v7 (F := Ideal) h (ix2 n u) = Rms.under (MlpModel.row h n) := by
  pointwise [val_main_v7, val_main_v5, val_main_v3, val_main_v2, val_main_v1, val_main_v4, val_main_v6, val_main_cst,
    val_main_cst_0, val_main_cst_1]
  rfl

/-- The up projection. -/
theorem up_eq (n : Fin 8192) (f : Fin 4096) : val_main_v18 (F := Ideal) h g wu (ix2 n f) = MlpModel.up h g wu n f := by
  pointwise [val_main_v18, val_main_v17, val_main_v16, val_main_v15, val_main_v14, val_main_v13, val_main_v12,
    val_main_v8, val_main_v0, under_eq]
  rfl

/-- Where the ReLU is off its value is zero, and so is the cotangent. -/
theorem dup_eq (n : Fin 8192) (f : Fin 4096) :
    val_main_v31 (F := Ideal) h g wu wd d (ix2 n f) = MlpModel.dup h g wu wd d n f := by
  pointwise [val_main_v31, val_main_v21, val_main_v20, val_main_v19, val_main_v22, val_main_v25, val_main_v24,
    val_main_v28, val_main_v29, val_main_v30, val_main_v26, val_main_cst_3, val_main_cst_5, val_main_cst_6,
    val_main_call0_v0, val_main_call0_cst, up_eq]
  unfold MlpModel.dup
  split
  · rfl
  · rename_i hn
    rw [max_eq_right (not_lt.1 hn), mul_zero, mul_zero]

/-- The cotangent of the normalised input. -/
theorem dz_eq (n : Fin 8192) (k : Fin 1024) :
    val_main_v32 (F := Ideal) h g wu wd d (ix2 n k) = MlpModel.dz h g wu wd d n k := by
  pointwise [val_main_v32, val_main_v17, dup_eq]
  rfl

/-- The slope that the mean square's derivative brings. -/
theorem slope_eq (n : Fin 8192) : val_main_v47 (F := Ideal) h g wu wd d (ix1 n)
    = Rms.slope (MlpModel.row h n) (fun l => MlpModel.dz h g wu wd d n l * g (ix2 0 l)) := by
  pointwise [val_main_v47, val_main_v46, val_main_v45, val_main_v44, val_main_v41, val_main_v40, val_main_v39,
    val_main_v37, val_main_v36, val_main_v14, val_main_v0, val_main_v11, val_main_v10, val_main_v9, val_main_v8,
    val_main_cst_2, val_main_cst_9, val_main_cst_10, val_main_cst_11, under_eq, dz_eq]
  rw [Fin.sum_univ_one]
  rfl

/-- The first result. -/
theorem res0 (n : Fin 8192) (f : Fin 4096) :
    val_main_v54 (F := Ideal) h g wu wd d (ix2 n f) = MlpModel.dup h g wu wd d n f := by
  pointwise [val_main_v54, dup_eq]

/-- The second result. -/
theorem res1 (n : Fin 8192) (k : Fin 1024) :
    val_main_v55 (F := Ideal) h g wu wd d (ix2 n k) = MlpModel.dhDiff h g wu wd d n k := by
  pointwise [val_main_v55, val_main_v52, val_main_v51, val_main_v50, val_main_v49, val_main_v48, val_main_v43,
    val_main_v42, val_main_v37, val_main_v36, val_main_v14, val_main_v0, val_main_v8, under_eq, dz_eq, slope_eq]
  rfl

/-- The third result: the gain's gradient in its first row, zeros below. -/
theorem res2 (r : Fin 8) (k : Fin 1024) :
    val_main_v56 (F := Ideal) h g wu wd d (ix2 r k) = if r.val = 0 then MlpModel.dg h g wu wd d k else 0 := by
  pointwise [val_main_v56, val_main_v53, val_main_v38, val_main_v35, val_main_v34, val_main_v33, val_main_v13,
    val_main_v12, val_main_v8, val_main_cst_7, val_main_cst_8, under_eq, dz_eq, val_main_call1_v0, val_main_c]
  unfold MlpModel.dg
  by_cases hr : r.val = 0
  · rw [dif_pos (by omega), if_pos hr, Fin.sum_univ_one]
    exact Finset.sum_congr rfl fun n _ => mul_comm _ _
  · rw [dif_neg (by omega), if_neg hr]
    change (((0#32 : BitVec 32).toInt : ℝ) : EReal) = 0
    simp

end Cert.MlpRef

end
-- ==== Proof.MlpClaim.lean ====
module

public import proofs.«01_k».proof.Defs
public import proofs.«01_k».proof.Proof.MlpValue
public import proofs.«01_k».proof.Proof.MlpRef
public import proofs.«01_k».proof.Proof.Gen.Pre_mlp_finite

@[expose] public section

set_option maxRecDepth 16384

noncomputable section

/-! The channel mixer's backward kernel and its reference compute the same arrays. -/

namespace Cert.MlpClaim

open Idealize.ShloMosaic Idealize.ShloMosaic.TcCoe Idealize.SL.Sem
open Cert.MlpXIdeal Cert.MlpXIdeal.Gen Cert.MlpKernel Cert.MlpValue

variable (m : (ℓ : Loc nD τ sig) → Buf (Elt Ideal) ℓ) (c : Dev nD)

/-- The first result's array. -/
def D : FVec Ideal S8192x4096 .bf16 := fun i => MlpModel.dup (aH m c) (aG m c) (aU m c) (aW m c) (aD m c) (i 0) (i 1)

/-- The second result's array. -/
def H : FVec Ideal S8192x1024 .f32 := fun i => MlpModel.dh (aH m c) (aG m c) (aU m c) (aW m c) (aD m c) (i 0) (i 1)

/-- The third result's array. -/
def G : FVec Ideal S8x1024 .f32 := fun i =>
  if (i 0).val = 0 then MlpModel.dg (aH m c) (aG m c) (aU m c) (aW m c) (aD m c) (i 1) else 0

theorem arr6 : (dats m 0 c).arrAt 6 cfg0.N = D m c := by
  refine (dats m 0 c).arrAt_eq_of_covers 6 _ (by decide +kernel) fun t hf y => ?_
  blk_simp [D, idx t]
  rw [after0_6]
  obtain ⟨a, b, rfl⟩ : ∃ (a : Fin 512) (b : Fin 4096), y = ix2 a b := ⟨y 0, y 1, by funext i; fin_cases i <;> rfl⟩
  refine (out6_at m c t a b).trans ?_
  refine congrArg₂ (MlpModel.dup (aH m c) (aG m c) (aU m c) (aW m c) (aD m c)) (Fin.ext ?_) (Fin.ext ?_)
  all_goals
    blk_simp [idx t, rowAt]

theorem arr7 : (dats m 0 c).arrAt 7 cfg0.N = H m c := by
  refine (dats m 0 c).arrAt_eq_of_covers 7 _ (by decide +kernel) fun t hf y => ?_
  blk_simp [H, idx t]
  rw [after0_7]
  obtain ⟨a, b, rfl⟩ : ∃ (a : Fin 512) (b : Fin 1024), y = ix2 a b := ⟨y 0, y 1, by funext i; fin_cases i <;> rfl⟩
  refine (out7_at m c t a b).trans ?_
  refine congrArg₂ (MlpModel.dh (aH m c) (aG m c) (aU m c) (aW m c) (aD m c)) (Fin.ext ?_) (Fin.ext ?_)
  all_goals
    blk_simp [idx t, rowAt]

theorem arr8 : (dats m 0 c).arrAt 8 cfg0.N = G m c := by
  refine (dats m 0 c).arrAt_eq_of_covers 8 _ (by decide +kernel) fun t hf y => ?_
  have h1 : t.val % 16 = 15 := (flush0_8 t).1 hf
  blk_simp [G, idx t]
  rw [after0_8]
  obtain ⟨a, b, rfl⟩ : ∃ (a : Fin 8) (b : Fin 1024), y = ix2 a b := ⟨y 0, y 1, by funext i; fin_cases i <;> rfl⟩
  refine (out8_at m c t h1 a b).trans ((acc_last m c t (by have h : t.val < cfg0.N := t.isLt; have e : cfg0.N = 16 := N_0; omega) a b).trans ?_)
  refine congrArg (fun b => if a.val = 0 then MlpModel.dg (aH m c) (aG m c) (aU m c) (aW m c) (aD m c) b else 0)
    (Fin.ext ?_)
  blk_simp [idx t]

/-- The arguments are real numbers. -/
theorem reals (h : Pre_MlpXIdeal_mlp_finite m) : (∀ i, Reals.IsReal (aH m c i)) ∧ (∀ i, Reals.IsReal (aG m c i))
    ∧ (∀ i, Reals.IsReal (aU m c i)) ∧ (∀ i, Reals.IsReal (aW m c i)) ∧ (∀ i, Reals.IsReal (aD m c i)) := by
  obtain ⟨h0, h1, h2, h3, h4⟩ := h c
  exact ⟨Reals.real_of_pre h0 fun _ => rfl, Reals.real_of_pre h1 fun _ => rfl, Reals.real_of_pre h2 fun _ => rfl,
    Reals.real_of_pre h3 fun _ => rfl, Reals.real_of_pre h4 fun _ => rfl⟩

/-- The reference terminates, keeps its arguments and declares no semaphore. -/
theorem frame_ref (m : (ℓ : Loc MlpXRefIdeal.nD MlpXRefIdeal.τ MlpXRefIdeal.sig) → Buf (Elt Ideal) ℓ)
    (ρ : Dev MlpXRefIdeal.nD → PrngReg) :
    θ_run MlpXRefIdeal.defs (onTc (τ := MlpXRefIdeal.τ) (MlpXRefIdeal.main (F := Ideal))) ⟨m, fun _ => 0, ρ⟩
      fun r => (∀ c : Dev MlpXRefIdeal.nD,
        r.2.mem (c.tc.loc MlpXRefIdeal.main_arg0) = m (c.tc.loc MlpXRefIdeal.main_arg0)
        ∧ r.2.mem (c.tc.loc MlpXRefIdeal.main_arg1) = m (c.tc.loc MlpXRefIdeal.main_arg1)
        ∧ r.2.mem (c.tc.loc MlpXRefIdeal.main_arg2) = m (c.tc.loc MlpXRefIdeal.main_arg2)
        ∧ r.2.mem (c.tc.loc MlpXRefIdeal.main_arg3) = m (c.tc.loc MlpXRefIdeal.main_arg3)
        ∧ r.2.mem (c.tc.loc MlpXRefIdeal.main_arg4) = m (c.tc.loc MlpXRefIdeal.main_arg4))
        ∧ r.2.sem = fun _ => 0 :=
  (θ_run _ _ _).mono (fun r h => ⟨fun c => (h c).2.2.2, sem_eq_zero_of_no_sems (by decide) r.2⟩)
    (Cert.MlpXRefIdeal.Value.run m ρ)

/-- The claim. -/
theorem algebraic : Cert.algebraic_MlpXIdeal_MlpXRefIdeal_pre_mlp_finite := by
  pair_intro
  · run_from Cert.MlpXIdeal.Value.run_blocks m g
  · run_from Cert.MlpXRefIdeal.Value.run m' g'
    · rw [arr6]
      funext i
      obtain ⟨a, b, rfl⟩ : ∃ (a : Fin 8192) (b : Fin 4096), i = ix2 a b := ⟨i 0, i 1, by funext i; fin_cases i <;> rfl⟩
      exact MlpRef.res0 (aH m c) (aG m c) (aU m c) (aW m c) (aD m c) a b
    · rw [arr7]
      obtain ⟨e0, e1, e2, e3, e4⟩ := hagree c
      simp only [MlpXRefIdeal.Value.res_main_v55, e0, e1, e2, e3, e4]
      funext i
      obtain ⟨a, b, rfl⟩ : ∃ (a : Fin 8192) (b : Fin 1024), i = ix2 a b := ⟨i 0, i 1, by funext i; fin_cases i <;> rfl⟩
      obtain ⟨h0, h1, h2, h3, h4⟩ := reals m c hpre
      exact (MlpRef.res1 (aH m c) (aG m c) (aU m c) (aW m c) (aD m c) a b).trans
        (MlpModel.dh_eq h0 h1 h2 h3 h4 a b).symm
    · rw [arr8]
      funext i
      obtain ⟨a, b, rfl⟩ : ∃ (a : Fin 8) (b : Fin 1024), i = ix2 a b := ⟨i 0, i 1, by funext i; fin_cases i <;> rfl⟩
      exact MlpRef.res2 (aH m c) (aG m c) (aU m c) (aW m c) (aD m c) a b

end Cert.MlpClaim

end
-- ==== Proof.InModel.lean ====
module

public import proofs.«01_k».proof.Proof.Rms

@[expose] public section

noncomputable section

/-! What the input projection's backward pass computes, as functions of its five argument arrays: the input `x`, the
norm's gain `g`, the weight `w`, the cotangent `p` of the projection and the cotangent `d` that the residual branch
brings. -/

namespace Cert.InModel

open Idealize.ShloMosaic

variable (x : FVec Ideal ⟨2, ![8192, 1024]⟩ .f32) (g : FVec Ideal ⟨2, ![1, 1024]⟩ .f32)
  (w : FVec Ideal ⟨3, ![1, 1024, 1536]⟩ .f32) (p : FVec Ideal ⟨2, ![8192, 1536]⟩ .f32)
  (d : FVec Ideal ⟨2, ![8192, 1024]⟩ .f32)

/-- Column `f` of stack `j`, in the whole weight. -/
def colAt (j : Fin 4) (f : Fin 384) : Fin 1536 := ⟨j.val * 384 + f.val, by have := j.isLt; have := f.isLt; omega⟩

/-- One row of the input. -/
def row (n : Fin 8192) (k : Fin 1024) : EReal := x (ix2 n k)

/-- The cotangent of the normalised input. -/
def dz (n : Fin 8192) (k : Fin 1024) : EReal := ∑ f : Fin 1536, p (ix2 n f) * w (ix3 0 k f)

/-- The cotangent of the input, the norm's gradient by hand. -/
def dx (n : Fin 8192) (k : Fin 1024) : EReal :=
  d (ix2 n k) + Rms.grad (row x n) (fun l => dz w p n l * g (ix2 0 l)) k

/-- The same by differentiation of the norm's formula. -/
def dxDiff (n : Fin 8192) (k : Fin 1024) : EReal :=
  d (ix2 n k) + Rms.diff (row x n) (fun l => dz w p n l * g (ix2 0 l)) k

/-- The gradient of the weight, in stacks of columns. -/
def dw (j : Fin 4) (k : Fin 1024) (f : Fin 384) : EReal :=
  ∑ n : Fin 8192, Rms.unit (row x n) k * g (ix2 0 k) * p (ix2 n (colAt j f))

/-- The gradient of the norm's gain. -/
def dg (k : Fin 1024) : EReal := ∑ n : Fin 8192, dz w p n k * Rms.unit (row x n) k

variable {x g w p d}

/-- On real arrays the two gradients of the input agree. -/
theorem dx_eq (hx : ∀ i, Reals.IsReal (x i)) (hg : ∀ i, Reals.IsReal (g i)) (hw : ∀ i, Reals.IsReal (w i))
    (hp : ∀ i, Reals.IsReal (p i)) (n : Fin 8192) (k : Fin 1024) : dx x g w p d n k = dxDiff x g w p d n k := by
  unfold dx dxDiff
  exact congrArg (d (ix2 n k) + ·) (Rms.grad_eq (x := row x n) (fun l => hx _)
    (fun l => (Reals.IsReal.sum fun f => (hp _).mul (hw _)).mul (hg _)) k)

end Cert.InModel

end
-- ==== Proof.InKernel.lean ====
module

public import proofs.«01_k».proof.Proof.Gen.InIdeal.Value
public import proofs.«01_k».proof.Proof.InModel
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

/-! The blocks that the input projection's backward kernel reads, as rows and stacks of the argument arrays. -/

namespace Cert.InKernel

open Idealize.ShloMosaic Idealize.ShloMosaic.TcCoe Idealize.SL.Sem
open Cert.InIdeal Cert.InIdeal.Gen InModel

variable (m : (ℓ : Loc nD τ sig) → Buf (Elt Ideal) ℓ) (c : Dev nD)

/-- The argument arrays on one device. -/
abbrev aX : FVec Ideal S8192x1024 .f32 := m ((c : Thread nD τ).loc main_arg0)
abbrev aG : FVec Ideal S1x1024 .f32 := m ((c : Thread nD τ).loc main_arg1)
abbrev aW : FVec Ideal S1x1024x1536 .f32 := m ((c : Thread nD τ).loc main_arg2)
abbrev aP : FVec Ideal S8192x1536 .f32 := m ((c : Thread nD τ).loc main_arg3)
abbrev aD : FVec Ideal S8192x1024 .f32 := m ((c : Thread nD τ).loc main_arg4)

/-- Row `r` of the block at grid point `t`, in the whole array. -/
def rowAt (t : Fin cfg0.N) (r : Fin 512) : Fin 8192 :=
  ⟨t.val * 512 + r.val, by have := lt_of_lt_of_eq t.isLt N_0; have := r.isLt; omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0, 0] ∧ win0_5.index t = ![t.val, 0]
    ∧ win0_6.index t = ![0, 0, 0] ∧ win0_7.index t = ![0, 0] :=
  (by decide +kernel : ∀ t : Fin grid0.N, _)

/-- The cotangent of the projection as the host code hands it over. -/
theorem p_at (n : Fin 8192) (f : Fin 1536) : (V m c main_v4 : FVec Ideal S8192x1536 .bf16) (ix2 n f) = aP m c (ix2 n f) := by
  entry_read
  rfl

/-- The stacks of the weight. -/
theorem w_at (j : Fin 4) (k : Fin 1024) (f : Fin 384) :
    (V m c main_v3 : FVec Ideal S4x1024x384 .bf16) (ix3 j k f) = aW m c (ix3 0 k (colAt j f)) := by
  unfold V
  simp only [List.flatten_cons, List.flatten_nil, hostOps0, List.cons_append, List.nil_append]
  after_reads_at
  rfl

theorem blk_p (t : Fin cfg0.N) (r : Fin 512) (f : Fin 1536) : iblk m c 0 t (ix2 r f) = aP m c (ix2 (rowAt t r) f) := by
  rw [← p_at]
  blk_ext [iblk, idx t, rowAt]

theorem blk_x (t : Fin cfg0.N) (r : Fin 512) (k : Fin 1024) : iblk m c 1 t (ix2 r k) = aX m c (ix2 (rowAt t r) k) := by
  blk_ext [iblk, V, idx t, rowAt]

theorem blk_d (t : Fin cfg0.N) (r : Fin 512) (k : Fin 1024) : iblk m c 2 t (ix2 r k) = aD m c (ix2 (rowAt t r) k) := by
  blk_ext [iblk, V, idx t, rowAt]

theorem blk_g (t : Fin cfg0.N) (r : Fin 1) (k : Fin 1024) : iblk m c 3 t (ix2 r k) = aG m c (ix2 r k) := by
  blk_ext [iblk, V, idx t, rowAt]

theorem blk_w (t : Fin cfg0.N) (j : Fin 4) (k : Fin 1024) (f : Fin 384) :
    iblk m c 4 t (ix3 j k f) = aW m c (ix3 0 k (colAt j f)) := by
  rw [← w_at]
  blk_ext [iblk, idx t]

end Cert.InKernel

end
-- ==== Proof.InBlock.lean ====
module

public import proofs.«01_k».proof.Proof.InKernel

@[expose] public section

set_option maxRecDepth 16384

noncomputable section

/-! What each stored value of the input projection's backward kernel holds, as a function of the blocks it reads. -/

namespace Cert.InBlock

open Idealize.ShloMosaic Idealize.ShloMosaic.TcCoe Idealize.SL.Sem
open Cert.InIdeal Cert.InIdeal.Gen InModel

variable (p : Vec Ideal S512x1536 .bf16) (q : FVec Ideal S512x1536 .bf16) (x y : Vec Ideal S512x1024 .f32)
  (z : FVec Ideal S512x1024 .bf16) (a : FVec Ideal S512x1024 .f32) (b : FVec Ideal S512x384 .bf16)
  (w : Vec Ideal S1x1024x384 .bf16) (s : Vec Ideal S1x1024x384 .f32) (g : Vec Ideal S1x1024 .f32)
  (r : Fin 512) (k : Fin 1024) (f : Fin 384) (o : Fin 1)

theorem col0 (f : Fin 384) (h : f.val < 1536) : (⟨f.val, h⟩ : Fin 1536) = colAt 0 f := Fin.ext (by simp [colAt])
theorem col1 (f : Fin 384) (h : 384 + f.val < 1536) : (⟨384 + f.val, h⟩ : Fin 1536) = colAt 1 f := Fin.ext (by simp [colAt])
theorem col2 (f : Fin 384) (h : 768 + f.val < 1536) : (⟨768 + f.val, h⟩ : Fin 1536) = colAt 2 f := Fin.ext (by simp [colAt])
theorem col3 (f : Fin 384) (h : 1152 + f.val < 1536) : (⟨1152 + f.val, h⟩ : Fin 1536) = colAt 3 f := Fin.ext (by simp [colAt])

theorem pay6 : k0_pay6 (F := Ideal) x g (ix2 r k) = Rms.unit (fun l => x (ix2 r l)) k * g (ix2 0 k) := by
  pointwise [k0_pay6]; rfl

theorem pay7 : k0_pay7 (F := Ideal) p (ix2 r f) = p (ix2 r (colAt 0 f)) := by
  pointwise [k0_pay7, k0_pay5]; simp only [col0]

theorem pay10 : k0_pay10 (F := Ideal) p (ix2 r f) = p (ix2 r (colAt 1 f)) := by
  pointwise [k0_pay10, k0_pay5]; simp only [col1]

theorem pay12 : k0_pay12 (F := Ideal) (k0_pay5 p) (ix2 r f) = p (ix2 r (colAt 2 f)) := by
  pointwise [k0_pay12, k0_pay5]; simp only [col2]

theorem pay14 : k0_pay14 (F := Ideal) (k0_pay5 p) (ix2 r f) = p (ix2 r (colAt 3 f)) := by
  pointwise [k0_pay14, k0_pay5]; simp only [col3]

/-- One stack's part of the normalised input's cotangent. -/
def part (p : Vec Ideal S512x1536 .bf16) (w : Vec Ideal S1x1024x384 .bf16) (j : Fin 4) (r : Fin 512) (k : Fin 1024) : EReal :=
  ∑ f, p (ix2 r (colAt j f)) * w (ix3 0 k f)

theorem pay8 : k0_pay8 (F := Ideal) p w (ix2 r k) = part p w 0 r k := by
  pointwise [k0_pay8, pay7]; rfl

theorem pay15 (w1 w2 w3 : Vec Ideal S1x1024x384 .bf16) :
    k0_pay15 (F := Ideal) (k0_pay5 p) (k0_pay8 p w) (k0_pay10 p) w1 w2 w3 (ix2 r k)
      = part p w 0 r k + part p w1 1 r k + part p w2 2 r k + part p w3 3 r k := by
  pointwise [k0_pay15, pay8, pay10, pay12, pay14]; rfl

/-- One stack's part of the weight's gradient. -/
def grad (p : Vec Ideal S512x1536 .bf16) (x : Vec Ideal S512x1024 .f32) (g : Vec Ideal S1x1024 .f32) (j : Fin 4)
    (k : Fin 1024) (f : Fin 384) : EReal :=
  ∑ r, Rms.unit (fun l => x (ix2 r l)) k * g (ix2 0 k) * p (ix2 r (colAt j f))

theorem pay9 : k0_pay9 (F := Ideal) p x g s (ix3 o k f) = s (ix3 o k f) + grad p x g 0 k f := by
  obtain rfl : o = 0 := Subsingleton.elim _ _
  pointwise [k0_pay9, pay6, pay7]; rfl

theorem pay11 : k0_pay11 (F := Ideal) (k0_pay6 x g) (k0_pay10 p) s (ix3 o k f) = s (ix3 o k f) + grad p x g 1 k f := by
  obtain rfl : o = 0 := Subsingleton.elim _ _
  pointwise [k0_pay11, pay6, pay10]; rfl

theorem pay13 : k0_pay13 (F := Ideal) (k0_pay5 p) (k0_pay6 x g) s (ix3 o k f) = s (ix3 o k f) + grad p x g 2 k f := by
  obtain rfl : o = 0 := Subsingleton.elim _ _
  pointwise [k0_pay13, pay6, pay12]; rfl

theorem pay16 : k0_pay16 (F := Ideal) (k0_pay6 x g) (k0_pay14 (k0_pay5 p)) s (ix3 o k f) = s (ix3 o k f) + grad p x g 3 k f := by
  obtain rfl : o = 0 := Subsingleton.elim _ _
  pointwise [k0_pay16, pay6, pay14]; rfl

theorem pay17 : k0_pay17 (F := Ideal) x (ix2 r k) = Rms.unit (fun l => x (ix2 r l)) k := by
  pointwise [k0_pay17]; rfl

theorem pay18 : k0_pay18 (F := Ideal) x a (ix2 o k) = ∑ r, a (ix2 r k) * Rms.unit (fun l => x (ix2 r l)) k := by
  pointwise [k0_pay18, pay17]

theorem pay19 : k0_pay19 (F := Ideal) x a g y (ix2 r k)
    = y (ix2 r k) + Rms.grad (fun l => x (ix2 r l)) (fun l => a (ix2 r l) * g (ix2 0 l)) k := by
  pointwise [k0_pay19, pay17]; rfl

theorem pay1 (g' : FVec Ideal S1x1024 .f32) : k0_pay1 (F := Ideal) g' g (ix2 o k) = g (ix2 o k) + g' (ix2 o k) := by
  pointwise [k0_pay1]

theorem pay2 (v : Vec Ideal S4x1024x384 .f32) (j : Fin 4) : k0_pay2 (F := Ideal) v (ix3 j k f) = v (ix3 j k f) := by
  pointwise [k0_pay2]

theorem pay3 (j : Fin 4) : k0_pay3 (F := Ideal) (ix3 j k f) = 0 := by pointwise [k0_pay3]

theorem pay4 (r : Fin 8) : k0_pay4 (F := Ideal) (ix2 r k) = 0 := by pointwise [k0_pay4]

end Cert.InBlock

end
-- ==== Proof.Stacks.lean ====
module

public import Idealize.ShloMosaic.Lib.WritesUnit
public import Idealize.ShloMosaic.Lib.Pipeline.ReadBack
public import Idealize.ShloMosaic.Lib.Pipeline.ValueKit

@[expose] public section

/-! A buffer of rank 3 whose newest store is one whole matrix `o` of it, read at an index. -/

namespace Cert.Stacks

open Idealize.ShloMosaic

variable {Val : EltTy → Type} [∀ e, Nonempty (Val e)] {e : EltTy} {o a b p : ℕ}
  (inb : ∀ i : Fin 3, (![o, 0, 0] : Fin 3 → ℕ) i + (![1, a, b] : Fin 3 → ℕ) i ≤ (![p, a, b] : Fin 3 → ℕ) i)
  (w : (⟨3, ![1, a, b]⟩ : Shape).Idx → Val e) (L : List (View.Piece Val (⟨3, ![p, a, b]⟩ : Shape) e))
  (j : Fin p) (k : Fin a) (l : Fin b)

/-- In the matrix, the stored value. -/
theorem canon_on (h : j.val = o) :
    View.canon ((⟨Rect.unit (s := ⟨3, ![p, a, b]⟩) ![o, 0, 0] ![1, a, b] inb, w⟩ :
      View.Piece Val (⟨3, ![p, a, b]⟩ : Shape) e) :: L) (ix3 j k l) = w (ix3 0 k l) := by
  have hy : (Rect.unit (s := ⟨3, ![p, a, b]⟩) ![o, 0, 0] ![1, a, b] inb).emb (ix3 0 k l) = ix3 j k l := by
    funext i
    refine Fin.ext ?_
    match i with
    | ⟨0, _⟩ => change o + 1 * 0 = j.val; omega
    | ⟨1, _⟩ => change 0 + 1 * k.val = k.val; omega
    | ⟨2, _⟩ => change 0 + 1 * l.val = l.val; omega
  rw [← hy]
  exact View.canon_cons_emb (Rect.unit (s := ⟨3, ![p, a, b]⟩) ![o, 0, 0] ![1, a, b] inb) w L (ix3 0 k l)

/-- Off the matrix, the earlier stores. -/
theorem canon_off (h : j.val ≠ o) :
    View.canon ((⟨Rect.unit (s := ⟨3, ![p, a, b]⟩) ![o, 0, 0] ![1, a, b] inb, w⟩ :
      View.Piece Val (⟨3, ![p, a, b]⟩ : Shape) e) :: L) (ix3 j k l) = View.canon L (ix3 j k l) := by
  refine View.canon_cons_of_not_mem _ L fun hy => ?_
  have := (Rect.mem_set_unit (inb := inb).mp hy) (0 : Fin 3)
  change o ≤ j.val ∧ j.val < o + 1 at this
  omega

/-- A store of everything leaves its value. -/
theorem canon_all (inb : ∀ i : Fin 3, (![0, 0, 0] : Fin 3 → ℕ) i + (![p, a, b] : Fin 3 → ℕ) i ≤ (![p, a, b] : Fin 3 → ℕ) i)
    (w : (⟨3, ![p, a, b]⟩ : Shape).Idx → Val e) :
    View.canon ((⟨Rect.unit (s := ⟨3, ![p, a, b]⟩) ![0, 0, 0] ![p, a, b] inb, w⟩ :
      View.Piece Val (⟨3, ![p, a, b]⟩ : Shape) e) :: L) = w :=
  View.canon_cons_unit_lit (S := ⟨3, ![p, a, b]⟩) inb w L fun i => by
    match i with
    | ⟨0, _⟩ => rfl
    | ⟨1, _⟩ => rfl
    | ⟨2, _⟩ => rfl

theorem idx_at (h : j.val = o) : (Rect.unit (s := ⟨3, ![p, a, b]⟩) ![o, 0, 0] ![1, a, b] inb).idx (ix3 0 k l) = ix3 j k l := by
  funext i
  refine Fin.ext ?_
  match i with
  | ⟨0, _⟩ => change o + 1 * 0 = j.val; omega
  | ⟨1, _⟩ => change 0 + 1 * k.val = k.val; omega
  | ⟨2, _⟩ => change 0 + 1 * l.val = l.val; omega

/-- A load of one matrix, read at an index. -/
theorem load_at (X : (⟨3, ![p, a, b]⟩ : Shape).Idx → Val e) (h : j.val = o) :
    View.ld X (Rect.unit (s := ⟨3, ![p, a, b]⟩) ![o, 0, 0] ![1, a, b] inb) (ix3 0 k l) = X (ix3 j k l) :=
  congrArg X (idx_at inb j k l h)

variable {sig : RefSig} {κ : Kind} {sp : Space} (v : View sig κ sp (⟨3, ![p, a, b]⟩ : Shape) e) (f : v.ty.Contents Val)

/-- In the matrix, the stored value, whatever was there. -/
theorem read_on (h : j.val = o) :
    v.read Val (v.writes Val f ((⟨Rect.unit (s := ⟨3, ![p, a, b]⟩) ![o, 0, 0] ![1, a, b] inb, w⟩ :
      View.Piece Val (⟨3, ![p, a, b]⟩ : Shape) e) :: L)) (ix3 j k l) = w (ix3 0 k l) :=
  View.read_writes_cons_unit_of_mem v f inb w L (ix3 j k l) (ix3 0 k l) rfl fun i => by
    match i with
    | ⟨0, _⟩ => change j.val = o + 0; omega
    | ⟨1, _⟩ => change k.val = 0 + k.val; omega
    | ⟨2, _⟩ => change l.val = 0 + l.val; omega

/-- Off the matrix, the earlier stores over what was there. -/
theorem read_off (h : j.val ≠ o) :
    v.read Val (v.writes Val f ((⟨Rect.unit (s := ⟨3, ![p, a, b]⟩) ![o, 0, 0] ![1, a, b] inb, w⟩ :
      View.Piece Val (⟨3, ![p, a, b]⟩ : Shape) e) :: L)) (ix3 j k l) = v.read Val (v.writes Val f L) (ix3 j k l) :=
  View.read_writes_cons_unit_of_not_mem v f inb w L (ix3 j k l) rfl (0 : Fin 3) (by change j.val < o ∨ o + 1 ≤ j.val; omega)

/-- A load of one matrix after the stores `L`. -/
theorem cov_at (h : j.val = o) : v.readCov L (Rect.unit (s := ⟨3, ![p, a, b]⟩) ![o, 0, 0] ![1, a, b] inb).toLoadRect (ix3 0 k l)
    = View.canon L (ix3 j k l) := by
  rw [View.readCov_eq_canon']
  exact congrArg (View.canon L) (idx_at inb j k l h)

/-- A load of everything after the stores `L`. -/
theorem cov_all (inb : ∀ i : Fin 3, (![0, 0, 0] : Fin 3 → ℕ) i + (![p, a, b] : Fin 3 → ℕ) i ≤ (![p, a, b] : Fin 3 → ℕ) i) :
    v.readCov L (Rect.unit (s := ⟨3, ![p, a, b]⟩) ![0, 0, 0] ![p, a, b] inb).toLoadRect (ix3 j k l)
      = View.canon L (ix3 j k l) := by
  rw [View.readCov_eq_canon']
  refine congrArg (View.canon L) (funext fun i => Fin.ext ?_)
  match i with
  | ⟨0, _⟩ => change 0 + 1 * j.val = j.val; omega
  | ⟨1, _⟩ => change 0 + 1 * k.val = k.val; omega
  | ⟨2, _⟩ => change 0 + 1 * l.val = l.val; omega

end Cert.Stacks
-- ==== Proof.InValue.lean ====
module

public import proofs.«01_k».proof.Proof.InBlock
public import proofs.«01_k».proof.Proof.Rows
public import proofs.«01_k».proof.Proof.Stacks

@[expose] public section

set_option maxRecDepth 16384

noncomputable section

/-! What each block of the input projection's backward kernel leaves in its outputs and in the accumulators. -/

namespace Cert.InValue

open Idealize.ShloMosaic Idealize.ShloMosaic.TcCoe Idealize.SL.Sem
open Cert.InIdeal Cert.InIdeal.Gen Cert.InKernel Cert.InBlock InModel

variable (m : (ℓ : Loc nD τ sig) → Buf (Elt Ideal) ℓ) (c : Dev nD)

theorem dz_parts (t : Fin cfg0.N) (r : Fin 512) (k : Fin 1024) : dz (aW m c) (aP m c) (rowAt t r) k
    = (∑ f : Fin 384, aP m c (ix2 (rowAt t r) (colAt 0 f)) * aW m c (ix3 0 k (colAt 0 f)))
    + (∑ f : Fin 384, aP m c (ix2 (rowAt t r) (colAt 1 f)) * aW m c (ix3 0 k (colAt 1 f)))
    + (∑ f : Fin 384, aP m c (ix2 (rowAt t r) (colAt 2 f)) * aW m c (ix3 0 k (colAt 2 f)))
    + (∑ f : Fin 384, aP m c (ix2 (rowAt t r) (colAt 3 f)) * aW m c (ix3 0 k (colAt 3 f))) :=
  (Fin.sum_univ_tiles 4 384 rfl _).trans (Fin.sum_univ_four
    (fun j => ∑ f : Fin 384, aP m c (ix2 (rowAt t r) (colAt j f)) * aW m c (ix3 0 k (colAt j f))))

/-- A grid point is the first, the last, or one between. -/
theorem point (t : Fin cfg0.N) : (t.val % 16 = 0 ∧ ¬ t.val % 16 = 15) ∨ (¬ t.val % 16 = 0 ∧ ¬ t.val % 16 = 15)
    ∨ (¬ t.val % 16 = 0 ∧ t.val % 16 = 15) := by omega

/-- The first output's block. -/
theorem out5_at (t : Fin cfg0.N) (r : Fin 512) (k : Fin 1024) : (outsAt0 m c t.val t.isLt).1 (ix2 r k)
    = dx (aX m c) (aG m c) (aW m c) (aP m c) (aD m c) (rowAt t r) k := by
  unfold dx
  simp only [dz_parts]
  rcases point t with h | h | h
  on_goal 1 => rw [outsAt0_A m c t h.1 h.2]
  on_goal 2 => rw [outsAt0_B m c t h.1 h.2]
  on_goal 3 => rw [outsAt0_C m c t h.1 h.2]
  all_goals
    frame_out
    pointwise [pay19, pay15, part]
    simp only [blk_p, blk_x, blk_d, blk_g, blk_w]
    rfl

/-- What one block adds to the weight's gradient. -/
def addW (t : Fin cfg0.N) (j : Fin 4) (k : Fin 1024) (f : Fin 384) : EReal :=
  grad (iblk m c 0 t) (iblk m c 1 t) (iblk m c 3 t) j k f

theorem addW_eq (t : Fin cfg0.N) (j : Fin 4) (k : Fin 1024) (f : Fin 384) : addW m c t j k f
    = ∑ r : Fin 512, Rms.unit (row (aX m c) (rowAt t r)) k * aG m c (ix2 0 k) * aP m c (ix2 (rowAt t r) (colAt j f)) := by
  unfold addW grad row
  simp only [blk_p, blk_x, blk_g]

/-- The weight's accumulator after the first block, … -/
theorem accW_first (t : Fin cfg0.N) (h0 : t.val % 16 = 0) (h1 : ¬ t.val % 16 = 15) (j : Fin 4) (k : Fin 1024) (f : Fin 384) :
    (outsAt0 m c t.val t.isLt).2.2.2.1 (ix3 j k f) = 0 + addW m c t j k f := by
  rw [outsAt0_A m c t h0 h1]
  frame_out
  obtain rfl | rfl | rfl | rfl : j = 0 ∨ j = 1 ∨ j = 2 ∨ j = 3 := by omega
  · rw [Stacks.canon_off _ _ _ _ _ _ (by decide), Stacks.canon_off _ _ _ _ _ _ (by decide),
      Stacks.canon_off _ _ _ _ _ _ (by decide), Stacks.canon_on _ _ _ _ _ _ (by rfl), pay9, Stacks.cov_at _ _ 0 _ _ _ (by rfl),
      Stacks.canon_all, pay3]
    rfl
  · rw [Stacks.canon_off _ _ _ _ _ _ (by decide), Stacks.canon_off _ _ _ _ _ _ (by decide),
      Stacks.canon_on _ _ _ _ _ _ (by rfl), pay11, Stacks.cov_at _ _ 1 _ _ _ (by rfl), Stacks.canon_off _ _ _ _ _ _ (by decide),
      Stacks.canon_all, pay3]
    rfl
  · rw [Stacks.canon_off _ _ _ _ _ _ (by decide), Stacks.canon_on _ _ _ _ _ _ (by rfl), pay13, Stacks.cov_at _ _ 2 _ _ _ (by rfl),
      Stacks.canon_off _ _ _ _ _ _ (by decide), Stacks.canon_off _ _ _ _ _ _ (by decide), Stacks.canon_all, pay3]
    rfl
  · rw [Stacks.canon_on _ _ _ _ _ _ (by rfl), pay16, Stacks.cov_at _ _ 3 _ _ _ (by rfl), Stacks.canon_off _ _ _ _ _ _ (by decide),
      Stacks.canon_off _ _ _ _ _ _ (by decide), Stacks.canon_off _ _ _ _ _ _ (by decide), Stacks.canon_all, pay3]
    rfl

/-- … and what a later block adds to it. -/
theorem accW_next (t : Fin cfg0.N) (h0 : ¬ t.val % 16 = 0) (j : Fin 4) (k : Fin 1024) (f : Fin 384) :
    (outsAt0 m c t.val t.isLt).2.2.2.1 (ix3 j k f)
    = (outsAt0 m c (t.val - 1) (Nat.lt_of_le_of_lt (Nat.sub_le _ _) t.isLt)).2.2.2.1 (ix3 j k f) + addW m c t j k f := by
  by_cases h1 : t.val % 16 = 15
  on_goal 1 => rw [outsAt0_C m c t h0 h1]
  on_goal 2 => rw [outsAt0_B m c t h0 h1]
  all_goals
    frame_out
    obtain rfl | rfl | rfl | rfl : j = 0 ∨ j = 1 ∨ j = 2 ∨ j = 3 := by omega
    · rw [Stacks.canon_off _ _ _ _ _ _ (by decide), Stacks.canon_off _ _ _ _ _ _ (by decide),
        Stacks.canon_off _ _ _ _ _ _ (by decide), Stacks.canon_on _ _ _ _ _ _ (by rfl), pay9, Stacks.load_at _ 0 _ _ _ (by rfl)]
      exact congrArg₂ (· + ·) (congrFun (Memref.IsWhole.read_unread _ _) _) rfl
    · rw [Stacks.canon_off _ _ _ _ _ _ (by decide), Stacks.canon_off _ _ _ _ _ _ (by decide),
        Stacks.canon_on _ _ _ _ _ _ (by rfl), pay11, Stacks.load_at _ 1 _ _ _ (by rfl)]
      exact congrArg₂ (· + ·) (congrFun (Memref.IsWhole.read_unread _ _) _) rfl
    · rw [Stacks.canon_off _ _ _ _ _ _ (by decide), Stacks.canon_on _ _ _ _ _ _ (by rfl), pay13, Stacks.load_at _ 2 _ _ _ (by rfl)]
      exact congrArg₂ (· + ·) (congrFun (Memref.IsWhole.read_unread _ _) _) rfl
    · rw [Stacks.canon_on _ _ _ _ _ _ (by rfl), pay16, Stacks.load_at _ 3 _ _ _ (by rfl)]
      exact congrArg₂ (· + ·) (congrFun (Memref.IsWhole.read_unread _ _) _) rfl

/-- The weight's accumulator at the last point is the gradient. -/
theorem accW_last (t : Fin cfg0.N) (ht : t.val + 1 = cfg0.N) (j : Fin 4) (k : Fin 1024) (f : Fin 384) :
    (outsAt0 m c t.val t.isLt).2.2.2.1 (ix3 j k f) = dw (aX m c) (aG m c) (aP m c) j k f := by
  refine (Pipeline.eq_sum_fin_of_reset_step_apply_last
    (fun n h (i : Fin 4 × Fin 1024 × Fin 384) => (outsAt0 m c n h).2.2.2.1 (ix3 i.1 i.2.1 i.2.2)) 16 (fun _ => (0 : EReal))
    (fun t i => addW m c t i.1 i.2.1 i.2.2) (fun t h i => accW_first m c t h (by omega) i.1 i.2.1 i.2.2)
    (fun t h i => accW_next m c t h i.1 i.2.1 i.2.2) (le_of_eq N_0) t ht (j, k, f)).trans ?_
  simp only [zero_add, addW_eq]
  exact (Fin.sum_univ_tiles (M := EReal) cfg0.N 512 (congrArg (· * 512) N_0 : cfg0.N * 512 = 8192)
    (fun n => Rms.unit (row (aX m c) n) k * aG m c (ix2 0 k) * aP m c (ix2 n (colAt j f)))).symm

/-- What one block adds to the gain's gradient. -/
def gain (t : Fin cfg0.N) (k : Fin 1024) : EReal :=
  ∑ r : Fin 512, dz (aW m c) (aP m c) (rowAt t r) k * Rms.unit (row (aX m c) (rowAt t r)) k

/-- The gain's accumulator: its first row after the first block, … -/
theorem acc_first (t : Fin cfg0.N) (h0 : t.val % 16 = 0) (h1 : ¬ t.val % 16 = 15) (l : Fin 1024) :
    (outsAt0 m c t.val t.isLt).2.2.2.2 (ix2 0 l) = 0 + gain m c t l := by
  rw [outsAt0_A m c t h0 h1]
  frame_out
  rw [Rows.canon_on _ _ _ _ _ 0 rfl, pay1, pay18]
  refine congrArg₂ (· + ·) ?_ ?_
  · rw [View.readCov_fill _ _ _ _ _ (by decide)]
    pointwise [pay4]
  unfold gain
  simp only [dz_parts]
  pointwise [pay15, part]
  simp only [blk_p, blk_x, blk_w]
  rfl

/-- … its other rows, … -/
theorem acc_first_zero (t : Fin cfg0.N) (h0 : t.val % 16 = 0) (h1 : ¬ t.val % 16 = 15) (r : Fin 8) (hr : r.val ≠ 0)
    (l : Fin 1024) : (outsAt0 m c t.val t.isLt).2.2.2.2 (ix2 r l) = 0 := by
  rw [outsAt0_A m c t h0 h1]
  frame_out
  rw [Rows.canon_off _ _ _ _ _ (by omega), Rows.canon_on _ _ _ _ _ r (Nat.zero_add _).symm, pay4]

/-- … what a later block adds to the first row, … -/
theorem acc_next (t : Fin cfg0.N) (h0 : ¬ t.val % 16 = 0) (l : Fin 1024) : (outsAt0 m c t.val t.isLt).2.2.2.2 (ix2 0 l)
    = (outsAt0 m c (t.val - 1) (Nat.lt_of_le_of_lt (Nat.sub_le _ _) t.isLt)).2.2.2.2 (ix2 0 l) + gain m c t l := by
  unfold gain
  simp only [dz_parts]
  by_cases h1 : t.val % 16 = 15
  on_goal 1 => rw [outsAt0_C m c t h0 h1]
  on_goal 2 => rw [outsAt0_B m c t h0 h1]
  all_goals
    frame_out
    rw [Rows.read_on _ _ _ _ _ _ _ 0 rfl, pay1, pay18]
    refine congrArg₂ (· + ·) ?_ ?_
    · pointwise
      exact congrFun (Memref.IsWhole.read_unread _ _) _
    pointwise [pay15, part]
    simp only [blk_p, blk_x, blk_w]
    rfl

/-- … and that it leaves the others alone. -/
theorem acc_next_zero (t : Fin cfg0.N) (h0 : ¬ t.val % 16 = 0) (r : Fin 8) (hr : r.val ≠ 0) (l : Fin 1024) :
    (outsAt0 m c t.val t.isLt).2.2.2.2 (ix2 r l)
    = (outsAt0 m c (t.val - 1) (Nat.lt_of_le_of_lt (Nat.sub_le _ _) t.isLt)).2.2.2.2 (ix2 r l) := by
  by_cases h1 : t.val % 16 = 15
  on_goal 1 => rw [outsAt0_C m c t h0 h1]
  on_goal 2 => rw [outsAt0_B m c t h0 h1]
  all_goals
    frame_out
    rw [Rows.read_off _ _ _ _ _ _ (by omega)]
    exact congrFun (Memref.IsWhole.read_unread _ _) _

/-- At the last point: the gain's gradient in the first row, zeros below. -/
theorem acc_last (t : Fin cfg0.N) (ht : t.val + 1 = cfg0.N) (r : Fin 8) (l : Fin 1024) :
    (outsAt0 m c t.val t.isLt).2.2.2.2 (ix2 r l) = if r.val = 0 then dg (aX m c) (aW m c) (aP m c) l else 0 := by
  refine (Pipeline.eq_sum_fin_of_reset_step_apply_last
    (fun n h (i : Fin 8 × Fin 1024) => (outsAt0 m c n h).2.2.2.2 (ix2 i.1 i.2)) 16 (fun _ => (0 : EReal))
    (fun t i => if i.1.val = 0 then gain m c t i.2 else 0)
    (fun t h i => ?_) (fun t h i => ?_) (le_of_eq N_0) t ht (r, l)).trans ?_
  · obtain ⟨r, l⟩ := i
    by_cases hr : r.val = 0
    · obtain rfl : r = 0 := Fin.ext hr
      exact acc_first m c t h (by omega) l
    · simp only [if_neg hr, add_zero]
      exact acc_first_zero m c t h (by omega) r hr l
  · obtain ⟨r, l⟩ := i
    by_cases hr : r.val = 0
    · obtain rfl : r = 0 := Fin.ext hr
      exact acc_next m c t h l
    · simp only [if_neg hr, add_zero]
      exact acc_next_zero m c t h r hr l
  by_cases hr : r.val = 0
  · simp only [if_pos hr, zero_add]
    exact (Fin.sum_univ_tiles (M := EReal) cfg0.N 512 (congrArg (· * 512) N_0 : cfg0.N * 512 = 8192)
      (fun n => dz (aW m c) (aP m c) n l * Rms.unit (row (aX m c) n) l)).symm
  · simp only [if_neg hr, Finset.sum_const_zero, add_zero]

/-- The last two outputs, written at the last point, are the accumulators. -/
theorem out6_at (t : Fin cfg0.N) (h1 : t.val % 16 = 15) (j : Fin 4) (k : Fin 1024) (f : Fin 384) :
    (outsAt0 m c t.val t.isLt).2.1 (ix3 j k f) = (outsAt0 m c t.val t.isLt).2.2.2.1 (ix3 j k f) := by
  rw [outsAt0_C m c t (by omega) h1]
  frame_out
  rw [pay2, Stacks.cov_all]

theorem out7_at (t : Fin cfg0.N) (h1 : t.val % 16 = 15) (r : Fin 8) (l : Fin 1024) :
    (outsAt0 m c t.val t.isLt).2.2.1 (ix2 r l) = (outsAt0 m c t.val t.isLt).2.2.2.2 (ix2 r l) := by
  rw [outsAt0_C m c t (by omega) h1]
  frame_out

end Cert.InValue

end
-- ==== Proof.InRef.lean ====
module

public import proofs.«01_k».proof.Proof.Gen.InRefIdeal.Read
public import proofs.«01_k».proof.Proof.InModel

@[expose] public section

set_option maxRecDepth 16384

noncomputable section

/-! What the reference of the input projection's backward pass computes. -/

namespace Cert.InRef

open Idealize.ShloMosaic Idealize.ShloMosaic.TcCoe Idealize.SL.Sem
open Cert.InRefIdeal Cert.InRefIdeal.Gen Cert.InRefIdeal.Read

variable (x : FVec Ideal S8192x1024 .f32) (g : FVec Ideal S1x1024 .f32) (w : FVec Ideal S1x1024x1536 .f32)
  (p : FVec Ideal S8192x1536 .f32) (d : FVec Ideal S8192x1024 .f32)

/-- What stands under the norm's root. -/
theorem under_eq (n : Fin 8192) (u : Fin 1) : val_main_v7 (F := Ideal) x (ix2 n u) = Rms.under (InModel.row x n) := by
  pointwise [val_main_v7, val_main_v5, val_main_v3, val_main_v2, val_main_v1, val_main_v4, val_main_v6, val_main_cst,
    val_main_cst_0, val_main_cst_1]
  rfl

/-- The cotangent of the normalised input. -/
theorem dz_eq (n : Fin 8192) (k : Fin 1024) : val_main_v21 (F := Ideal) w p (ix2 n k) = InModel.dz w p n k := by
  pointwise [val_main_v21, val_main_v17]
  rfl

/-- The slope that the mean square's derivative brings. -/
theorem slope_eq (n : Fin 8192) : val_main_v37 (F := Ideal) x g w p (ix1 n)
    = Rms.slope (InModel.row x n) (fun l => InModel.dz w p n l * g (ix2 0 l)) := by
  pointwise [val_main_v37, val_main_v36, val_main_v35, val_main_v34, val_main_v31, val_main_v30, val_main_v29,
    val_main_v27, val_main_v26, val_main_v14, val_main_v0, val_main_v11, val_main_v10, val_main_v9, val_main_v8,
    val_main_cst_2, val_main_cst_5, val_main_cst_6, val_main_cst_7, under_eq, dz_eq]
  rw [Fin.sum_univ_one]
  rfl

/-- The first result. -/
theorem res0 (n : Fin 8192) (k : Fin 1024) :
    val_main_v47 (F := Ideal) x g w p d (ix2 n k) = InModel.dxDiff x g w p d n k := by
  pointwise [val_main_v47, val_main_v42, val_main_v41, val_main_v40, val_main_v39, val_main_v38, val_main_v33,
    val_main_v32, val_main_v27, val_main_v26, val_main_v14, val_main_v0, val_main_v8, under_eq, dz_eq, slope_eq]
  rfl

/-- The second result. -/
theorem res1 (j : Fin 4) (k : Fin 1024) (f : Fin 384) :
    val_main_v48 (F := Ideal) x g p (ix3 j k f) = InModel.dw x g p j k f := by
  pointwise [val_main_v48, val_main_v46, val_main_v45, val_main_v44, val_main_v22, val_main_v20, val_main_v19,
    val_main_v16, val_main_v15, val_main_v14, val_main_v13, val_main_v12, val_main_v8, val_main_v0, under_eq]
  exact Finset.sum_congr rfl fun n _ => mul_comm _ _

/-- The third result: the gain's gradient in its first row, zeros below. -/
theorem res2 (r : Fin 8) (k : Fin 1024) :
    val_main_v49 (F := Ideal) x w p (ix2 r k) = if r.val = 0 then InModel.dg x w p k else 0 := by
  pointwise [val_main_v49, val_main_v43, val_main_v28, val_main_v25, val_main_v24, val_main_v23, val_main_v13,
    val_main_v12, val_main_v8, val_main_cst_3, val_main_cst_4, under_eq, dz_eq, val_main_call0_v0, val_main_c]
  unfold InModel.dg
  by_cases hr : r.val = 0
  · rw [dif_pos (by omega), if_pos hr, Fin.sum_univ_one]
    exact Finset.sum_congr rfl fun n _ => mul_comm _ _
  · rw [dif_neg (by omega), if_neg hr]
    change (((0#32 : BitVec 32).toInt : ℝ) : EReal) = 0
    simp

end Cert.InRef

end
-- ==== Proof.InClaim.lean ====
module

public import proofs.«01_k».proof.Defs
public import proofs.«01_k».proof.Proof.InValue
public import proofs.«01_k».proof.Proof.InRef
public import proofs.«01_k».proof.Proof.Gen.Pre_in_finite

@[expose] public section

set_option maxRecDepth 16384

noncomputable section

/-! The input projection's backward kernel and its reference compute the same arrays. -/

namespace Cert.InClaim

open Idealize.ShloMosaic Idealize.ShloMosaic.TcCoe Idealize.SL.Sem
open Cert.InIdeal Cert.InIdeal.Gen Cert.InKernel Cert.InValue

variable (m : (ℓ : Loc nD τ sig) → Buf (Elt Ideal) ℓ) (c : Dev nD)

/-- The three results' arrays. -/
def X : FVec Ideal S8192x1024 .f32 := fun i => InModel.dx (aX m c) (aG m c) (aW m c) (aP m c) (aD m c) (i 0) (i 1)
def W : FVec Ideal S4x1024x384 .bf16 := fun i => InModel.dw (aX m c) (aG m c) (aP m c) (i 0) (i 1) (i 2)
def G : FVec Ideal S8x1024 .f32 := fun i => if (i 0).val = 0 then InModel.dg (aX m c) (aW m c) (aP m c) (i 1) else 0

/-- The last grid point. -/
theorem last (t : Fin cfg0.N) (h1 : t.val % 16 = 15) : t.val + 1 = cfg0.N := by
  have h : t.val < cfg0.N := t.isLt
  have e : cfg0.N = 16 := N_0
  omega

theorem arr5 : (dats m 0 c).arrAt 5 cfg0.N = X m c := by
  refine (dats m 0 c).arrAt_eq_of_covers 5 _ (by decide +kernel) fun t hf y => ?_
  blk_simp [X, idx t]
  rw [after0_5]
  obtain ⟨a, b, rfl⟩ : ∃ (a : Fin 512) (b : Fin 1024), y = ix2 a b := ⟨y 0, y 1, by funext i; fin_cases i <;> rfl⟩
  refine (out5_at m c t a b).trans ?_
  refine congrArg₂ (InModel.dx (aX m c) (aG m c) (aW m c) (aP m c) (aD m c)) (Fin.ext ?_) (Fin.ext ?_)
  all_goals
    blk_simp [idx t, rowAt]

theorem arr6 : (dats m 0 c).arrAt 6 cfg0.N = W m c := by
  refine (dats m 0 c).arrAt_eq_of_covers 6 _ (by decide +kernel) fun t hf y => ?_
  have h1 : t.val % 16 = 15 := (flush0_6 t).1 hf
  blk_simp [W, idx t]
  rw [after0_6]
  obtain ⟨j, a, b, rfl⟩ : ∃ (j : Fin 4) (a : Fin 1024) (b : Fin 384), y = ix3 j a b :=
    ⟨y 0, y 1, y 2, by funext i; fin_cases i <;> rfl⟩
  refine (out6_at m c t h1 j a b).trans ((accW_last m c t (last t h1) j a b).trans ?_)
  refine congr (congrArg₂ (InModel.dw (aX m c) (aG m c) (aP m c)) (Fin.ext ?_) (Fin.ext ?_)) (Fin.ext ?_)
  all_goals
    blk_simp [idx t]

theorem arr7 : (dats m 0 c).arrAt 7 cfg0.N = G m c := by
  refine (dats m 0 c).arrAt_eq_of_covers 7 _ (by decide +kernel) fun t hf y => ?_
  have h1 : t.val % 16 = 15 := (flush0_7 t).1 hf
  blk_simp [G, idx t]
  rw [after0_7]
  obtain ⟨a, b, rfl⟩ : ∃ (a : Fin 8) (b : Fin 1024), y = ix2 a b := ⟨y 0, y 1, by funext i; fin_cases i <;> rfl⟩
  refine (out7_at m c t h1 a b).trans ((acc_last m c t (last t h1) a b).trans ?_)
  refine congrArg (fun b => if a.val = 0 then InModel.dg (aX m c) (aW m c) (aP m c) b else 0) (Fin.ext ?_)
  blk_simp [idx t]

/-- The arguments are real numbers. -/
theorem reals (h : Pre_InIdeal_in_finite m) : (∀ i, Reals.IsReal (aX m c i)) ∧ (∀ i, Reals.IsReal (aG m c i))
    ∧ (∀ i, Reals.IsReal (aW m c i)) ∧ (∀ i, Reals.IsReal (aP m c i)) ∧ (∀ i, Reals.IsReal (aD m c i)) := by
  obtain ⟨h0, h1, h2, h3, h4⟩ := h c
  exact ⟨Reals.real_of_pre h0 fun _ => rfl, Reals.real_of_pre h1 fun _ => rfl, Reals.real_of_pre h2 fun _ => rfl,
    Reals.real_of_pre h3 fun _ => rfl, Reals.real_of_pre h4 fun _ => rfl⟩

/-- The reference terminates, keeps its arguments and declares no semaphore. -/
theorem frame_ref (m : (ℓ : Loc InRefIdeal.nD InRefIdeal.τ InRefIdeal.sig) → Buf (Elt Ideal) ℓ)
    (ρ : Dev InRefIdeal.nD → PrngReg) :
    θ_run InRefIdeal.defs (onTc (τ := InRefIdeal.τ) (InRefIdeal.main (F := Ideal))) ⟨m, fun _ => 0, ρ⟩
      fun r => (∀ c : Dev InRefIdeal.nD,
        r.2.mem (c.tc.loc InRefIdeal.main_arg0) = m (c.tc.loc InRefIdeal.main_arg0)
        ∧ r.2.mem (c.tc.loc InRefIdeal.main_arg1) = m (c.tc.loc InRefIdeal.main_arg1)
        ∧ r.2.mem (c.tc.loc InRefIdeal.main_arg2) = m (c.tc.loc InRefIdeal.main_arg2)
        ∧ r.2.mem (c.tc.loc InRefIdeal.main_arg3) = m (c.tc.loc InRefIdeal.main_arg3)
        ∧ r.2.mem (c.tc.loc InRefIdeal.main_arg4) = m (c.tc.loc InRefIdeal.main_arg4))
        ∧ r.2.sem = fun _ => 0 :=
  (θ_run _ _ _).mono (fun r h => ⟨fun c => (h c).2.2.2, sem_eq_zero_of_no_sems (by decide) r.2⟩)
    (Cert.InRefIdeal.Value.run m ρ)

/-- The claim. -/
theorem algebraic : Cert.algebraic_InIdeal_InRefIdeal_pre_in_finite := by
  pair_intro
  · run_from Cert.InIdeal.Value.run_blocks m g
  · run_from Cert.InRefIdeal.Value.run m' g'
    · rw [arr5]
      obtain ⟨e0, e1, e2, e3, e4⟩ := hagree c
      simp only [InRefIdeal.Value.res_main_v47, e0, e1, e2, e3, e4]
      funext i
      obtain ⟨a, b, rfl⟩ : ∃ (a : Fin 8192) (b : Fin 1024), i = ix2 a b := ⟨i 0, i 1, by funext i; fin_cases i <;> rfl⟩
      obtain ⟨h0, h1, h2, h3, h4⟩ := reals m c hpre
      exact (InRef.res0 (aX m c) (aG m c) (aW m c) (aP m c) (aD m c) a b).trans (InModel.dx_eq h0 h1 h2 h3 a b).symm
    · rw [arr6]
      funext i
      obtain ⟨j, a, b, rfl⟩ : ∃ (j : Fin 4) (a : Fin 1024) (b : Fin 384), i = ix3 j a b :=
        ⟨i 0, i 1, i 2, by funext i; fin_cases i <;> rfl⟩
      exact InRef.res1 (aX m c) (aG m c) (aP m c) j a b
    · rw [arr7]
      funext i
      obtain ⟨a, b, rfl⟩ : ∃ (a : Fin 8) (b : Fin 1024), i = ix2 a b := ⟨i 0, i 1, by funext i; fin_cases i <;> rfl⟩
      exact InRef.res2 (aX m c) (aW m c) (aP m c) a b

end Cert.InClaim

end
-- ==== Proof.HeadModel.lean ====
module

public import proofs.«01_k».proof.Proof.Rms

@[expose] public section

noncomputable section

/-! What the head computes in one pass: the gated embedding, the loss and their gradients, row by row. A row is one
token's state, embedding and target; the weights are shared by all rows. -/

namespace Cert.HeadModel

open Idealize.ShloMosaic

/-- The shared weights: the two norms' gains, the gate's weight and bias, the embedding's projection. -/
structure Weights where
  g3 : Fin 1024 → EReal
  wg : Fin 1024 → Fin 1024 → EReal
  b : Fin 1024 → EReal
  wp : Fin 256 → Fin 1024 → EReal
  g4 : Fin 1024 → EReal

/-- One token's row. -/
structure Row where
  x : Fin 1024 → EReal
  p : Fin 256 → EReal
  t : Fin 1024 → EReal

/-- The number one half. -/
abbrev half : EReal := Ideal.ofBits .f32 0x3F000000#32

/-- The number of columns. -/
abbrev cols : EReal := Ideal.ofBits .f32 0x44800000#32

variable (W : Weights) (R : Row)

/-- The normalised row, with the gain. -/
def z (k : Fin 1024) : EReal := Rms.unit R.x k * W.g3 k

def gate (k : Fin 1024) : EReal := Ideal.div 1 (1 + Ideal.exp (-((∑ l, z W R l * W.wg l k) + W.b k)))

def proj (k : Fin 1024) : EReal := ∑ f, R.p f * W.wp f k

/-- The row after the gated embedding is added. -/
def h3 (k : Fin 1024) : EReal := R.x k + gate W R k * proj W R k

/-- The final norm's output less the target. -/
def err (k : Fin 1024) : EReal := Rms.unit (h3 W R) k * W.g4 k - R.t k

/-- The cotangent of the final norm's output. -/
def dy (k : Fin 1024) : EReal := err W R k * Ideal.ofBits .f32 0x3A800000#32

/-- The cotangent of the final norm's input, by hand … -/
def dh (k : Fin 1024) : EReal := Rms.grad (h3 W R) (fun l => dy W R l * W.g4 l) k

/-- … and by differentiation. -/
def dhDiff (k : Fin 1024) : EReal := Rms.diff (h3 W R) (fun l => dy W R l * W.g4 l) k

variable (d : Fin 1024 → EReal)

/-- From the cotangent `d` of that row: the cotangent of the gate's argument, … -/
def dpre (k : Fin 1024) : EReal := d k * proj W R k * gate W R k * (1 - gate W R k)

/-- … and of the first norm's output. -/
def dz (k : Fin 1024) : EReal := ∑ l, dpre W R d l * W.wg k l

/-- The cotangent of the row, by hand … -/
def dx (k : Fin 1024) : EReal := d k + Rms.grad R.x (fun l => dz W R d l * W.g3 l) k

/-- … and by differentiation. -/
def dxDiff (k : Fin 1024) : EReal := d k + Rms.diff R.x (fun l => dz W R d l * W.g3 l) k

/-- One row's part of the loss. -/
def mean : EReal := Ideal.div (∑ k, err W R k * err W R k) cols

/-- Weights and rows of real numbers. -/
structure Weights.Reals (W : Weights) : Prop where
  g3 : ∀ k, Reals.IsReal (W.g3 k)
  wg : ∀ k l, Reals.IsReal (W.wg k l)
  b : ∀ k, Reals.IsReal (W.b k)
  wp : ∀ k l, Reals.IsReal (W.wp k l)
  g4 : ∀ k, Reals.IsReal (W.g4 k)

structure Row.Reals (R : Row) : Prop where
  x : ∀ k, Reals.IsReal (R.x k)
  p : ∀ k, Reals.IsReal (R.p k)
  t : ∀ k, Reals.IsReal (R.t k)

variable {W R} (hW : W.Reals) (hR : R.Reals)

include hW hR

theorem z_real (k : Fin 1024) : Reals.IsReal (z W R k) := (Rms.unit_real hR.x k).mul (hW.g3 k)

theorem gate_real (k : Fin 1024) : Reals.IsReal (gate W R k) := by
  obtain ⟨v, hv⟩ := (Reals.IsReal.sum (s := Finset.univ) fun l => (z_real hW hR l).mul (hW.wg l k)).add (hW.b k)
  unfold gate
  rw [hv, ← EReal.coe_one, ← EReal.coe_neg, Reals.exp_coe, ← EReal.coe_add,
    Reals.div_coe _ (by have := Real.exp_pos (-v); positivity)]
  exact ⟨_, rfl⟩

theorem proj_real (k : Fin 1024) : Reals.IsReal (proj W R k) := Reals.IsReal.sum fun f => (hR.p f).mul (hW.wp f k)

theorem h3_real (k : Fin 1024) : Reals.IsReal (h3 W R k) :=
  (hR.x k).add ((gate_real hW hR k).mul (proj_real hW hR k))

theorem err_real (k : Fin 1024) : Reals.IsReal (err W R k) :=
  ((Rms.unit_real (h3_real hW hR) k).mul (hW.g4 k)).sub (hR.t k)

theorem dy_real (k : Fin 1024) : Reals.IsReal (dy W R k) := (err_real hW hR k).mul ⟨_, Reals.ofBits_recip_1024⟩

theorem mean_real : Reals.IsReal (mean W R) := by
  obtain ⟨v, hv⟩ := Reals.IsReal.sum (s := Finset.univ) fun k => (err_real hW hR k).mul (err_real hW hR k)
  unfold mean cols
  rw [hv, Reals.ofBits_1024, Reals.div_coe _ (by norm_num)]
  exact ⟨_, rfl⟩

/-- On real numbers the two cotangents of the final norm's input agree. -/
theorem dh_eq : dh W R = dhDiff W R :=
  funext fun k => Rms.grad_eq (h3_real hW hR) (fun l => (dy_real hW hR l).mul (hW.g4 l)) k

theorem dh_real (k : Fin 1024) : Reals.IsReal (dh W R k) :=
  Rms.grad_real (h3_real hW hR) (fun l => (dy_real hW hR l).mul (hW.g4 l)) k

theorem dz_real (k : Fin 1024) : Reals.IsReal (dz W R (dh W R) k) :=
  Reals.IsReal.sum fun l => ((((dh_real hW hR l).mul (proj_real hW hR l)).mul (gate_real hW hR l)).mul
    (Reals.IsReal.sub ⟨1, rfl⟩ (gate_real hW hR l))).mul (hW.wg k l)

/-- On real numbers the two cotangents of the row agree. -/
theorem dx_eq (k : Fin 1024) : dx W R (dh W R) k = dxDiff W R (dhDiff W R) k := by
  rw [← dh_eq hW hR]
  exact congrArg (dh W R k + ·) (Rms.grad_eq hR.x (fun l => (dz_real hW hR l).mul (hW.g3 l)) k)

/-! The same over the argument arrays. -/

/-- Column `l` of stack `j`, among all columns. -/
def colAt (j : Fin 4) (l : Fin 256) : Fin 1024 := ⟨j.val * 256 + l.val, by have := j.isLt; have := l.isLt; omega⟩

/-- The weights that the argument arrays hold. -/
def weights (g3 : FVec Ideal ⟨2, ![1, 1024]⟩ .f32) (wg : FVec Ideal ⟨3, ![1, 1024, 1024]⟩ .f32)
    (b : FVec Ideal ⟨2, ![1, 1024]⟩ .f32) (wp : FVec Ideal ⟨3, ![1, 256, 1024]⟩ .f32) (g4 : FVec Ideal ⟨1, ![1024]⟩ .f32) : Weights where
  g3 k := g3 (ix2 0 k)
  wg k l := wg (ix3 0 k l)
  b k := b (ix2 0 k)
  wp f k := wp (ix3 0 f k)
  g4 k := g4 (ix1 k)

/-- Row `n` of the argument arrays. -/
def rows (x : FVec Ideal ⟨2, ![8192, 1024]⟩ .f32) (p : FVec Ideal ⟨4, ![1, 1, 8192, 256]⟩ .f32)
    (t : FVec Ideal ⟨3, ![1, 8192, 1024]⟩ .f32) (n : Fin 8192) : Row where
  x k := x (ix2 n k)
  p f := p (ix4 0 0 n f)
  t k := t (ix3 0 n k)

end Cert.HeadModel

end
-- ==== Proof.HeadKernel.lean ====
module

public import proofs.«01_k».proof.Proof.Gen.HeadIdeal.Value
public import proofs.«01_k».proof.Proof.HeadModel
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

/-! The blocks that the head's kernel reads, as rows of the argument arrays and the weights. -/

namespace Cert.HeadKernel

open Idealize.ShloMosaic Idealize.ShloMosaic.TcCoe Idealize.SL.Sem
open Cert.HeadIdeal Cert.HeadIdeal.Gen HeadModel

variable (m : (ℓ : Loc nD τ sig) → Buf (Elt Ideal) ℓ) (c : Dev nD)

/-- The argument arrays on one device. -/
abbrev aX : FVec Ideal S8192x1024 .f32 := m ((c : Thread nD τ).loc main_arg0)
abbrev aP : FVec Ideal S1x1x8192x256 .f32 := m ((c : Thread nD τ).loc main_arg1)
abbrev aT : FVec Ideal S1x8192x1024 .f32 := m ((c : Thread nD τ).loc main_arg2)
abbrev aG3 : FVec Ideal S1x1024 .f32 := m ((c : Thread nD τ).loc main_arg3)
abbrev aWg : FVec Ideal S1x1024x1024 .f32 := m ((c : Thread nD τ).loc main_arg4)
abbrev aB : FVec Ideal S1x1024 .f32 := m ((c : Thread nD τ).loc main_arg5)
abbrev aWp : FVec Ideal S1x256x1024 .f32 := m ((c : Thread nD τ).loc main_arg6)
abbrev aG4 : FVec Ideal S1024 .f32 := m ((c : Thread nD τ).loc main_arg7)

/-- The weights and the rows that they hold. -/
def wts : Weights := weights (aG3 m c) (aWg m c) (aB m c) (aWp m c) (aG4 m c)
def rws : Fin 8192 → Row := rows (aX m c) (aP m c) (aT m c)

/-- Row `r` of the block at grid point `t`, in the whole array. -/
def rowAt (t : Fin cfg0.N) (r : Fin 512) : Fin 8192 :=
  ⟨t.val * 512 + r.val, by have := lt_of_lt_of_eq t.isLt N_0; have := r.isLt; omega⟩

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![t.val, 0]
    ∧ win0_10.index t = ![0, 0] ∧ win0_11.index t = ![0, 0, 0] ∧ win0_12.index t = ![0, 0] :=
  (by decide +kernel : ∀ t : Fin grid0.N, _)

theorem g4_at (k : Fin 1024) : (V m c main_v0 : FVec Ideal S1x1024 .f32) (ix2 0 k) = aG4 m c (ix1 k) := by
  unfold V
  simp only [List.flatten_cons, List.flatten_nil, hostOps0, List.cons_append, List.nil_append]
  after_reads_at

theorem p_at (n : Fin 8192) (f : Fin 256) : (V m c main_v1 : FVec Ideal S8192x256 .f32) (ix2 n f) = aP m c (ix4 0 0 n f) := by
  unfold V
  simp only [List.flatten_cons, List.flatten_nil, hostOps0, List.cons_append, List.nil_append]
  after_reads_at

theorem t_at (n : Fin 8192) (k : Fin 1024) : (V m c main_v2 : FVec Ideal S8192x1024 .f32) (ix2 n k) = aT m c (ix3 0 n k) := by
  unfold V
  simp only [List.flatten_cons, List.flatten_nil, hostOps0, List.cons_append, List.nil_append]
  after_reads_at

/-- The gate's weight and the projection, as the host code hands them over. -/
theorem wg_at (k l : Fin 1024) : (V m c main_v10 : FVec Ideal S1024x1024 .bf16) (ix2 k l) = aWg m c (ix3 0 k l) := by
  unfold V
  simp only [List.flatten_cons, List.flatten_nil, hostOps0, List.cons_append, List.nil_append]
  after_reads_at
  exact congrArg (fun a => aWg m c (ix3 0 a l)) (Fin.ext (Nat.div_add_mod' k.val 256))

theorem wp_at (f : Fin 256) (l : Fin 1024) : (V m c main_v12 : FVec Ideal S256x1024 .bf16) (ix2 f l) = aWp m c (ix3 0 f l) := by
  unfold V
  simp only [List.flatten_cons, List.flatten_nil, hostOps0, List.cons_append, List.nil_append]
  after_reads_at
  exact congrArg (fun a => aWp m c (ix3 0 f a)) (Fin.ext (Nat.div_add_mod' l.val 256))

theorem blk_x (t : Fin cfg0.N) (r : Fin 512) (k : Fin 1024) : iblk m c 0 t (ix2 r k) = (rws m c (rowAt t r)).x k := by
  change _ = aX m c (ix2 (rowAt t r) k)
  blk_ext [iblk, V, idx t, rowAt]

theorem blk_p (t : Fin cfg0.N) (r : Fin 512) (f : Fin 256) : iblk m c 1 t (ix2 r f) = (rws m c (rowAt t r)).p f := by
  refine Eq.trans ?_ (p_at m c (rowAt t r) f)
  blk_ext [iblk, idx t, rowAt]

theorem blk_t (t : Fin cfg0.N) (r : Fin 512) (k : Fin 1024) : iblk m c 2 t (ix2 r k) = (rws m c (rowAt t r)).t k := by
  refine Eq.trans ?_ (t_at m c (rowAt t r) k)
  blk_ext [iblk, idx t, rowAt]

theorem blk_g3 (t : Fin cfg0.N) (k : Fin 1024) : iblk m c 3 t (ix2 0 k) = (wts m c).g3 k := by
  change _ = aG3 m c (ix2 0 k)
  blk_ext [iblk, V, idx t, rowAt]

theorem blk_wg (t : Fin cfg0.N) (k l : Fin 1024) : iblk m c 4 t (ix2 k l) = (wts m c).wg k l := by
  refine Eq.trans ?_ (wg_at m c k l)
  blk_ext [iblk, idx t]

theorem blk_b (t : Fin cfg0.N) (k : Fin 1024) : iblk m c 5 t (ix2 0 k) = (wts m c).b k := by
  change _ = aB m c (ix2 0 k)
  blk_ext [iblk, V, idx t, rowAt]

theorem blk_wp (t : Fin cfg0.N) (f : Fin 256) (l : Fin 1024) : iblk m c 6 t (ix2 f l) = (wts m c).wp f l := by
  refine Eq.trans ?_ (wp_at m c f l)
  blk_ext [iblk, idx t]

theorem blk_g4 (t : Fin cfg0.N) (k : Fin 1024) : iblk m c 7 t (ix2 0 k) = (wts m c).g4 k := by
  refine Eq.trans ?_ (g4_at m c k)
  blk_ext [iblk, idx t]

end Cert.HeadKernel

end
-- ==== Proof.HeadBlock.lean ====
module

public import proofs.«01_k».proof.Proof.HeadKernel

@[expose] public section

set_option maxRecDepth 16384

noncomputable section

/-! What each stored value of the head's kernel holds, as a function of the blocks it reads. -/

namespace Cert.HeadBlock

open Idealize.ShloMosaic Idealize.ShloMosaic.TcCoe Idealize.SL.Sem
open Cert.HeadIdeal Cert.HeadIdeal.Gen HeadModel

variable (x : Vec Ideal S512x1024 .f32) (p : Vec Ideal S512x256 .f32) (t : Vec Ideal S512x1024 .f32)
  (g3 : Vec Ideal S1x1024 .f32) (wg : Vec Ideal S1024x1024 .bf16) (b : Vec Ideal S1x1024 .f32)
  (wp : Vec Ideal S256x1024 .bf16) (g4 : Vec Ideal S1x1024 .f32)
  (r : Fin 512) (k l : Fin 1024) (f : Fin 256) (u v : Fin 1)

/-- The weights that one block's operands hold, … -/
def bw : Weights where
  g3 k := g3 (ix2 0 k)
  wg k l := wg (ix2 k l)
  b k := b (ix2 0 k)
  wp f k := wp (ix2 f k)
  g4 k := g4 (ix2 0 k)

/-- … and its rows. -/
def br (r : Fin 512) : Row where
  x k := x (ix2 r k)
  p f := p (ix2 r f)
  t k := t (ix2 r k)

/-- The values that the kernel computes on the way: the gate, the final norm's gain, the embedding, its projection, … -/
abbrev eGate := k0_pay15 (F := Ideal) x g3 wg b
abbrev eGain := k0_pay13 (F := Ideal) g4
abbrev eEmb := k0_pay16 (F := Ideal) p
abbrev eProj := k0_pay17 (F := Ideal) (eEmb p) wp

/-- … the cotangent of the final norm's output, its normalised row and the row's squares, … -/
abbrev eDy := k0_pay21 (F := Ideal) x (eGain g4) (eGate x g3 wg b) (eEmb p) wp t
abbrev eUnit := k0_pay22 (F := Ideal) x (eGate x g3 wg b) (eEmb p) wp
abbrev eSq := k0_pay23 (F := Ideal) x (eGate x g3 wg b) (eEmb p) wp

/-- … and the cotangent of its input and of the first norm's output. -/
abbrev eDh := k0_pay24 (F := Ideal) (eGain g4) (eDy x p t g3 wg b wp g4) (eUnit x p g3 wg b wp) (eSq x p g3 wg b wp)
abbrev eDz := k0_pay29 (F := Ideal) (eGain g4) (eGate x g3 wg b) (eProj p wp) (eDy x p t g3 wg b wp g4)
  (eUnit x p g3 wg b wp) (eSq x p g3 wg b wp) wg

theorem gain_at : k0_pay13 (F := Ideal) g4 (ix2 u k) = g4 (ix2 u k) := by pointwise [k0_pay13]

theorem z_at : k0_pay14 (F := Ideal) x g3 (ix2 r k) = z (bw g3 wg b wp g4) (br x p t r) k := by
  pointwise [k0_pay14]; rfl

theorem gate_at : eGate x g3 wg b (ix2 r k) = gate (bw g3 wg b wp g4) (br x p t r) k := by
  pointwise [k0_pay15, z_at x p t g3 wg b wp g4]
  rw [zero_sub]
  rfl

theorem emb_at : eEmb p (ix2 r f) = (br x p t r).p f := by pointwise [k0_pay16]; rfl

theorem proj_at : eProj p wp (ix2 r k) = proj (bw g3 wg b wp g4) (br x p t r) k := by
  pointwise [k0_pay17, emb_at x p t]; rfl

theorem h3_at : k0_pay18 (F := Ideal) x (eGate x g3 wg b) (eEmb p) wp (ix2 r k) = h3 (bw g3 wg b wp g4) (br x p t r) k := by
  pointwise [k0_pay18, gate_at x p t g3 wg b wp g4, proj_at x p t g3 wg b wp g4]; rfl

theorem err_at : k0_pay19 (F := Ideal) x (eGain g4) (eGate x g3 wg b) (eEmb p) wp t (ix2 r k)
    = err (bw g3 wg b wp g4) (br x p t r) k := by
  pointwise [k0_pay19, h3_at x p t g3 wg b wp g4, gain_at]; rfl

theorem loss_at : k0_pay20 (F := Ideal) x (eGain g4) (eGate x g3 wg b) (eEmb p) wp t (ix2 u v)
    = half * ∑ r, mean (bw g3 wg b wp g4) (br x p t r) := by
  pointwise [k0_pay20, err_at]; rfl

theorem dy_at : eDy x p t g3 wg b wp g4 (ix2 r k) = dy (bw g3 wg b wp g4) (br x p t r) k := by
  pointwise [k0_pay21, err_at]; rfl

theorem unit_at : eUnit x p g3 wg b wp (ix2 r k) = Rms.unit (h3 (bw g3 wg b wp g4) (br x p t r)) k := by
  pointwise [k0_pay22, h3_at x p t g3 wg b wp g4]; rfl

theorem sq_at : eSq x p g3 wg b wp (ix2 r u)
    = ∑ k, h3 (bw g3 wg b wp g4) (br x p t r) k * h3 (bw g3 wg b wp g4) (br x p t r) k := by
  pointwise [k0_pay23, h3_at x p t g3 wg b wp g4]

theorem dh_at : eDh x p t g3 wg b wp g4 (ix2 r k) = dh (bw g3 wg b wp g4) (br x p t r) k := by
  pointwise [k0_pay24, dy_at, unit_at x p t g3 wg b wp g4, sq_at x p t g3 wg b wp g4, gain_at]; rfl

theorem dpre_at : k0_pay27 (F := Ideal) (eGain g4) (eGate x g3 wg b) (eProj p wp) (eDy x p t g3 wg b wp g4)
    (eUnit x p g3 wg b wp) (eSq x p g3 wg b wp) (ix2 r k)
    = dpre (bw g3 wg b wp g4) (br x p t r) (dh (bw g3 wg b wp g4) (br x p t r)) k := by
  pointwise [k0_pay27, dh_at, gate_at x p t g3 wg b wp g4, proj_at x p t g3 wg b wp g4]; rfl

theorem dpreb_at : k0_pay28 (F := Ideal) (eGain g4) (eGate x g3 wg b) (eProj p wp) (eDy x p t g3 wg b wp g4)
    (eUnit x p g3 wg b wp) (eSq x p g3 wg b wp) (ix2 r k)
    = dpre (bw g3 wg b wp g4) (br x p t r) (dh (bw g3 wg b wp g4) (br x p t r)) k := by
  pointwise [k0_pay28, dpre_at]

theorem dz_at : eDz x p t g3 wg b wp g4 (ix2 r k)
    = dz (bw g3 wg b wp g4) (br x p t r) (dh (bw g3 wg b wp g4) (br x p t r)) k := by
  pointwise [k0_pay29, dpreb_at]; rfl

theorem unit3_at : k0_pay30 (F := Ideal) x (ix2 r k) = Rms.unit (br x p t r).x k := by
  pointwise [k0_pay30]; rfl

theorem dx_at : k0_pay32 (F := Ideal) g3 (eDh x p t g3 wg b wp g4) (eDz x p t g3 wg b wp g4) (k0_pay30 x) (k0_pay31 x) (ix2 r k)
    = dx (bw g3 wg b wp g4) (br x p t r) (dh (bw g3 wg b wp g4) (br x p t r)) k := by
  pointwise [k0_pay32, k0_pay31, unit3_at x p t, dh_at, dz_at]; rfl

theorem dxb_at : k0_pay33 (F := Ideal) g3 (eDh x p t g3 wg b wp g4) (eDz x p t g3 wg b wp g4) (k0_pay30 x) (k0_pay31 x) (ix2 r k)
    = dx (bw g3 wg b wp g4) (br x p t r) (dh (bw g3 wg b wp g4) (br x p t r)) k := by
  pointwise [k0_pay33, dx_at]

/-! What the block adds to the accumulators. -/

/-- To the gradient of the gate's weight, … -/
def addG (W : Weights) (R : Fin 512 → Row) (k l : Fin 1024) : EReal := ∑ r, z W (R r) k * dpre W (R r) (dh W (R r)) l

theorem accG_at (a : Vec Ideal S1024x1024 .f32) : k0_pay34 (F := Ideal) (k0_pay14 x g3)
    (k0_pay28 (eGain g4) (eGate x g3 wg b) (eProj p wp) (eDy x p t g3 wg b wp g4) (eUnit x p g3 wg b wp) (eSq x p g3 wg b wp)) a
    (ix2 k l) = a (ix2 k l) + addG (bw g3 wg b wp g4) (br x p t) k l := by
  pointwise [k0_pay34, dpreb_at, z_at x p t g3 wg b wp g4]; rfl

/-- … of the projection, … -/
def addP (W : Weights) (R : Fin 512 → Row) (f : Fin 256) (l : Fin 1024) : EReal := ∑ r, (R r).p f * (dh W (R r) l * gate W (R r) l)

theorem accP_at (a : Vec Ideal S256x1024 .f32) : k0_pay35 (F := Ideal) (eEmb p)
    (k0_pay26 (eGain g4) (eGate x g3 wg b) (eDy x p t g3 wg b wp g4) (eUnit x p g3 wg b wp) (eSq x p g3 wg b wp)) a
    (ix2 f l) = a (ix2 f l) + addP (bw g3 wg b wp g4) (br x p t) f l := by
  pointwise [k0_pay35, k0_pay26, dh_at, gate_at x p t g3 wg b wp g4, emb_at x p t]; rfl

/-- … and to the four rows. -/
def addV (W : Weights) (R : Fin 512 → Row) (i : ℕ) (k : Fin 1024) : EReal :=
  if i = 0 then ∑ r, dz W (R r) (dh W (R r)) k * Rms.unit (R r).x k
  else if i = 1 then ∑ r, dy W (R r) k * Rms.unit (h3 W (R r)) k
  else if i = 2 then ∑ r, dpre W (R r) (dh W (R r)) k
  else if i = 3 then half * ∑ r, mean W (R r) else 0

theorem acc0_at (a : Vec Ideal S1x1024 .f32) : k0_pay1 (F := Ideal) (k0_pay36 (eDz x p t g3 wg b wp g4) (k0_pay30 x) a) (ix2 u k)
    = a (ix2 u k) + addV (bw g3 wg b wp g4) (br x p t) 0 k := by
  pointwise [k0_pay1, k0_pay36, dz_at, unit3_at x p t]; rfl

theorem acc1_at (a : Vec Ideal S1x1024 .f32) : k0_pay2 (F := Ideal)
    (k0_pay25 (eDy x p t g3 wg b wp g4) (eUnit x p g3 wg b wp)) a (ix2 u k)
    = a (ix2 u k) + addV (bw g3 wg b wp g4) (br x p t) 1 k := by
  pointwise [k0_pay2, k0_pay25, dy_at, unit_at x p t g3 wg b wp g4]; rfl

theorem acc2_at (a : Vec Ideal S1x1024 .f32) : k0_pay3 (F := Ideal)
    (k0_pay27 (eGain g4) (eGate x g3 wg b) (eProj p wp) (eDy x p t g3 wg b wp g4) (eUnit x p g3 wg b wp) (eSq x p g3 wg b wp)) a
    (ix2 u k) = a (ix2 u k) + addV (bw g3 wg b wp g4) (br x p t) 2 k := by
  pointwise [k0_pay3, dpre_at]; rfl

theorem acc3_at (a : Vec Ideal S1x1024 .f32) : k0_pay4 (F := Ideal)
    (k0_pay20 x (eGain g4) (eGate x g3 wg b) (eEmb p) wp t) a (ix2 u k)
    = a (ix2 u k) + addV (bw g3 wg b wp g4) (br x p t) 3 k := by
  pointwise [k0_pay4, loss_at]; rfl

theorem zeroG_at : k0_pay10 (F := Ideal) (ix2 k l) = 0 := by pointwise [k0_pay10]

theorem zeroP_at : k0_pay11 (F := Ideal) (ix2 f l) = 0 := by pointwise [k0_pay11]

theorem zeroV_at (i : Fin 8) : k0_pay12 (F := Ideal) (ix2 i l) = 0 := by pointwise [k0_pay12]

end Cert.HeadBlock

end
-- ==== Proof.HeadValue.lean ====
module

public import proofs.«01_k».proof.Proof.HeadBlock
public import proofs.«01_k».proof.Proof.Rows
public import proofs.«01_k».proof.Proof.Stacks

@[expose] public section

set_option maxRecDepth 16384

noncomputable section

/-! What each block of the head's kernel leaves in its outputs and in the accumulators. -/

namespace Cert.HeadValue

open Idealize.ShloMosaic Idealize.ShloMosaic.TcCoe Idealize.SL.Sem
open Cert.HeadIdeal Cert.HeadIdeal.Gen Cert.HeadKernel Cert.HeadBlock HeadModel

variable (m : (ℓ : Loc nD τ sig) → Buf (Elt Ideal) ℓ) (c : Dev nD)

/-- A grid point is the first, the last, or one between. -/
theorem point (t : Fin cfg0.N) : (t.val % 16 = 0 ∧ ¬ t.val % 16 = 15) ∨ (¬ t.val % 16 = 0 ∧ ¬ t.val % 16 = 15)
    ∨ (¬ t.val % 16 = 0 ∧ t.val % 16 = 15) := by omega

/-- The weights and the rows that a point's blocks hold. -/
theorem bw_eq (t : Fin cfg0.N) : bw (iblk m c 3 t) (iblk m c 4 t) (iblk m c 5 t) (iblk m c 6 t) (iblk m c 7 t) = wts m c := by
  unfold bw
  simp only [blk_g3, blk_wg, blk_b, blk_wp, blk_g4]

theorem br_eq (t : Fin cfg0.N) (r : Fin 512) : br (iblk m c 0 t) (iblk m c 1 t) (iblk m c 2 t) r = rws m c (rowAt t r) := by
  unfold br
  simp only [blk_x, blk_p, blk_t]

/-- The first two outputs' blocks. -/
theorem out8_at (t : Fin cfg0.N) (r : Fin 512) (k : Fin 1024) : (outsAt0 m c t.val t.isLt).1 (ix2 r k)
    = dx (wts m c) (rws m c (rowAt t r)) (dh (wts m c) (rws m c (rowAt t r))) k := by
  rw [← bw_eq m c t, ← br_eq]
  rcases point t with h | h | h
  on_goal 1 => rw [outsAt0_A m c t h.1 h.2]
  on_goal 2 => rw [outsAt0_B m c t h.1 h.2]
  on_goal 3 => rw [outsAt0_C m c t h.1 h.2]
  all_goals
    frame_out
    exact dx_at _ _ _ _ _ _ _ _ r k

theorem out9_at (t : Fin cfg0.N) (r : Fin 512) (k : Fin 1024) : (outsAt0 m c t.val t.isLt).2.1 (ix2 r k)
    = dx (wts m c) (rws m c (rowAt t r)) (dh (wts m c) (rws m c (rowAt t r))) k := by
  rw [← bw_eq m c t, ← br_eq]
  rcases point t with h | h | h
  on_goal 1 => rw [outsAt0_A m c t h.1 h.2]
  on_goal 2 => rw [outsAt0_B m c t h.1 h.2]
  on_goal 3 => rw [outsAt0_C m c t h.1 h.2]
  all_goals
    frame_out
    exact dxb_at _ _ _ _ _ _ _ _ r k

/-- The accumulator of the gate's weight after the first block, … -/
theorem accG_first (t : Fin cfg0.N) (h0 : t.val % 16 = 0) (h1 : ¬ t.val % 16 = 15) (k l : Fin 1024) :
    (outsAt0 m c t.val t.isLt).2.2.2.2.2.1 (ix2 k l) = 0 + addG (wts m c) (fun r => rws m c (rowAt t r)) k l := by
  simp only [← bw_eq m c t, ← br_eq]
  rw [outsAt0_A m c t h0 h1]
  frame_out
  exact (accG_at _ _ _ _ _ _ _ _ k l _).trans (congrArg (· + _) (zeroG_at k l))

/-- … and what a later block adds to it. -/
theorem accG_next (t : Fin cfg0.N) (h0 : ¬ t.val % 16 = 0) (k l : Fin 1024) : (outsAt0 m c t.val t.isLt).2.2.2.2.2.1 (ix2 k l)
    = (outsAt0 m c (t.val - 1) (Nat.lt_of_le_of_lt (Nat.sub_le _ _) t.isLt)).2.2.2.2.2.1 (ix2 k l)
      + addG (wts m c) (fun r => rws m c (rowAt t r)) k l := by
  simp only [← bw_eq m c t, ← br_eq]
  by_cases h1 : t.val % 16 = 15
  on_goal 1 => rw [outsAt0_C m c t h0 h1]
  on_goal 2 => rw [outsAt0_B m c t h0 h1]
  all_goals
    frame_out
    exact (accG_at _ _ _ _ _ _ _ _ k l _).trans (congrArg (· + _) (congrFun (Memref.IsWhole.read_unread _ _) _))

/-- The accumulator of the projection after the first block, … -/
theorem accP_first (t : Fin cfg0.N) (h0 : t.val % 16 = 0) (h1 : ¬ t.val % 16 = 15) (f : Fin 256) (l : Fin 1024) :
    (outsAt0 m c t.val t.isLt).2.2.2.2.2.2.1 (ix2 f l) = 0 + addP (wts m c) (fun r => rws m c (rowAt t r)) f l := by
  simp only [← bw_eq m c t, ← br_eq]
  rw [outsAt0_A m c t h0 h1]
  frame_out
  exact (accP_at _ _ _ _ _ _ _ _ l f _).trans (congrArg (· + _) (zeroP_at l f))

/-- … and what a later block adds to it. -/
theorem accP_next (t : Fin cfg0.N) (h0 : ¬ t.val % 16 = 0) (f : Fin 256) (l : Fin 1024) :
    (outsAt0 m c t.val t.isLt).2.2.2.2.2.2.1 (ix2 f l)
    = (outsAt0 m c (t.val - 1) (Nat.lt_of_le_of_lt (Nat.sub_le _ _) t.isLt)).2.2.2.2.2.2.1 (ix2 f l)
      + addP (wts m c) (fun r => rws m c (rowAt t r)) f l := by
  simp only [← bw_eq m c t, ← br_eq]
  by_cases h1 : t.val % 16 = 15
  on_goal 1 => rw [outsAt0_C m c t h0 h1]
  on_goal 2 => rw [outsAt0_B m c t h0 h1]
  all_goals
    frame_out
    exact (accP_at _ _ _ _ _ _ _ _ l f _).trans (congrArg (· + _) (congrFun (Memref.IsWhole.read_unread _ _) _))

/-- A row of the small accumulator is one of the four that are used, or beyond them. -/
theorem four (i : Fin 8) : i = 0 ∨ i = 1 ∨ i = 2 ∨ i = 3 ∨ 4 ≤ i.val := by omega

/-- The rows after the first block, … -/
theorem accV_first (t : Fin cfg0.N) (h0 : t.val % 16 = 0) (h1 : ¬ t.val % 16 = 15) (i : Fin 8) (l : Fin 1024) :
    (outsAt0 m c t.val t.isLt).2.2.2.2.2.2.2 (ix2 i l) = 0 + addV (wts m c) (fun r => rws m c (rowAt t r)) i.val l := by
  simp only [← bw_eq m c t, ← br_eq]
  rw [outsAt0_A m c t h0 h1]
  frame_out
  obtain rfl | rfl | rfl | rfl | h := four i
  · rw [Rows.canon_off _ _ _ _ _ (by decide), Rows.canon_off _ _ _ _ _ (by decide), Rows.canon_off _ _ _ _ _ (by decide),
      Rows.canon_on _ _ _ _ _ 0 (by rfl)]
    refine (acc0_at _ _ _ _ _ _ _ _ l 0 _).trans (congrArg₂ (· + ·) ?_ rfl)
    rw [Rows.cov_at _ _ 0 _ _ 0 (by rfl), Rows.canon_on _ _ _ _ _ 0 (by rfl), zeroV_at]
  · rw [Rows.canon_off _ _ _ _ _ (by decide), Rows.canon_off _ _ _ _ _ (by decide), Rows.canon_on _ _ _ _ _ 0 (by rfl)]
    refine (acc1_at _ _ _ _ _ _ _ _ l 0 _).trans (congrArg₂ (· + ·) ?_ rfl)
    rw [Rows.cov_at _ _ 1 _ _ 0 (by rfl), Rows.canon_off _ _ _ _ _ (by decide), Rows.canon_on _ _ _ _ _ 1 (by rfl), zeroV_at]
  · rw [Rows.canon_off _ _ _ _ _ (by decide), Rows.canon_on _ _ _ _ _ 0 (by rfl)]
    refine (acc2_at _ _ _ _ _ _ _ _ l 0 _).trans (congrArg₂ (· + ·) ?_ rfl)
    rw [Rows.cov_at _ _ 2 _ _ 0 (by rfl), Rows.canon_off _ _ _ _ _ (by decide), Rows.canon_off _ _ _ _ _ (by decide),
      Rows.canon_on _ _ _ _ _ 2 (by rfl), zeroV_at]
  · rw [Rows.canon_on _ _ _ _ _ 0 (by rfl)]
    refine (acc3_at _ _ _ _ _ _ _ _ l 0 _).trans (congrArg₂ (· + ·) ?_ rfl)
    rw [Rows.cov_at _ _ 3 _ _ 0 (by rfl), Rows.canon_off _ _ _ _ _ (by decide), Rows.canon_off _ _ _ _ _ (by decide),
      Rows.canon_off _ _ _ _ _ (by decide), Rows.canon_on _ _ _ _ _ 3 (by rfl), zeroV_at]
  · rw [Rows.canon_off _ _ _ _ _ (by omega), Rows.canon_off _ _ _ _ _ (by omega), Rows.canon_off _ _ _ _ _ (by omega),
      Rows.canon_off _ _ _ _ _ (by omega), Rows.canon_on _ _ _ _ _ i (Nat.zero_add _).symm, zeroV_at]
    unfold addV
    rw [if_neg (by omega), if_neg (by omega), if_neg (by omega), if_neg (by omega), add_zero]

/-- … and what a later block adds to them. -/
theorem accV_next (t : Fin cfg0.N) (h0 : ¬ t.val % 16 = 0) (i : Fin 8) (l : Fin 1024) :
    (outsAt0 m c t.val t.isLt).2.2.2.2.2.2.2 (ix2 i l)
    = (outsAt0 m c (t.val - 1) (Nat.lt_of_le_of_lt (Nat.sub_le _ _) t.isLt)).2.2.2.2.2.2.2 (ix2 i l)
      + addV (wts m c) (fun r => rws m c (rowAt t r)) i.val l := by
  simp only [← bw_eq m c t, ← br_eq]
  by_cases h1 : t.val % 16 = 15
  on_goal 1 => rw [outsAt0_C m c t h0 h1]
  on_goal 2 => rw [outsAt0_B m c t h0 h1]
  all_goals
    frame_out
    obtain rfl | rfl | rfl | rfl | h := four i
    · rw [Rows.read_past _ _ _ _ _ _ _ (by decide), Rows.read_past _ _ _ _ _ _ _ (by decide),
        Rows.read_past _ _ _ _ _ _ _ (by decide), Rows.read_on _ _ _ _ _ _ _ 0 (by rfl)]
      refine (acc0_at _ _ _ _ _ _ _ _ l 0 _).trans (congrArg₂ (· + ·) ?_ rfl)
      rw [Rows.load_at _ 0 _ _ 0 (by rfl)]
      exact congrFun (Memref.IsWhole.read_unread _ _) _
    · rw [Rows.read_past _ _ _ _ _ _ _ (by decide), Rows.read_past _ _ _ _ _ _ _ (by decide),
        Rows.read_on _ _ _ _ _ _ _ 0 (by rfl)]
      refine (acc1_at _ _ _ _ _ _ _ _ l 0 _).trans (congrArg₂ (· + ·) ?_ rfl)
      rw [Rows.load_at _ 1 _ _ 0 (by rfl)]
      exact congrFun (Memref.IsWhole.read_unread _ _) _
    · rw [Rows.read_past _ _ _ _ _ _ _ (by decide), Rows.read_on _ _ _ _ _ _ _ 0 (by rfl)]
      refine (acc2_at _ _ _ _ _ _ _ _ l 0 _).trans (congrArg₂ (· + ·) ?_ rfl)
      rw [Rows.load_at _ 2 _ _ 0 (by rfl)]
      exact congrFun (Memref.IsWhole.read_unread _ _) _
    · rw [Rows.read_on _ _ _ _ _ _ _ 0 (by rfl)]
      refine (acc3_at _ _ _ _ _ _ _ _ l 0 _).trans (congrArg₂ (· + ·) ?_ rfl)
      rw [Rows.load_at _ 3 _ _ 0 (by rfl)]
      exact congrFun (Memref.IsWhole.read_unread _ _) _
    · rw [Rows.read_past _ _ _ _ _ _ _ (by omega), Rows.read_past _ _ _ _ _ _ _ (by omega),
        Rows.read_past _ _ _ _ _ _ _ (by omega), Rows.read_past _ _ _ _ _ _ _ (by omega)]
      unfold addV
      rw [if_neg (by omega), if_neg (by omega), if_neg (by omega), if_neg (by omega), add_zero]
      exact congrFun (Memref.IsWhole.read_unread _ _) _

/-- The sum of the blocks' sums is the sum over all rows. -/
theorem tiles (f : Fin 8192 → EReal) : ∑ t : Fin cfg0.N, ∑ r : Fin 512, f (rowAt t r) = ∑ n, f n :=
  (Fin.sum_univ_tiles (M := EReal) cfg0.N 512 (congrArg (· * 512) N_0 : cfg0.N * 512 = 8192) f).symm

/-- At the last point the accumulators hold the sums over the blocks. -/
theorem accG_last (t : Fin cfg0.N) (ht : t.val + 1 = cfg0.N) (k l : Fin 1024) :
    (outsAt0 m c t.val t.isLt).2.2.2.2.2.1 (ix2 k l)
    = ∑ n, z (wts m c) (rws m c n) k * dpre (wts m c) (rws m c n) (dh (wts m c) (rws m c n)) l := by
  refine (Pipeline.eq_sum_fin_of_reset_step_apply_last
    (fun n h (i : Fin 1024 × Fin 1024) => (outsAt0 m c n h).2.2.2.2.2.1 (ix2 i.1 i.2)) 16 (fun _ => (0 : EReal))
    (fun t i => addG (wts m c) (fun r => rws m c (rowAt t r)) i.1 i.2) (fun t h i => accG_first m c t h (by omega) i.1 i.2)
    (fun t h i => accG_next m c t h i.1 i.2) (le_of_eq N_0) t ht (k, l)).trans ?_
  exact (zero_add _).trans (tiles fun n => z (wts m c) (rws m c n) k * dpre (wts m c) (rws m c n) (dh (wts m c) (rws m c n)) l)

theorem accP_last (t : Fin cfg0.N) (ht : t.val + 1 = cfg0.N) (f : Fin 256) (l : Fin 1024) :
    (outsAt0 m c t.val t.isLt).2.2.2.2.2.2.1 (ix2 f l)
    = ∑ n, (rws m c n).p f * (dh (wts m c) (rws m c n) l * gate (wts m c) (rws m c n) l) := by
  refine (Pipeline.eq_sum_fin_of_reset_step_apply_last
    (fun n h (i : Fin 256 × Fin 1024) => (outsAt0 m c n h).2.2.2.2.2.2.1 (ix2 i.1 i.2)) 16 (fun _ => (0 : EReal))
    (fun t i => addP (wts m c) (fun r => rws m c (rowAt t r)) i.1 i.2) (fun t h i => accP_first m c t h (by omega) i.1 i.2)
    (fun t h i => accP_next m c t h i.1 i.2) (le_of_eq N_0) t ht (f, l)).trans ?_
  exact (zero_add _).trans (tiles fun n => (rws m c n).p f * (dh (wts m c) (rws m c n) l * gate (wts m c) (rws m c n) l))

theorem accV_last (t : Fin cfg0.N) (ht : t.val + 1 = cfg0.N) (i : Fin 8) (l : Fin 1024) :
    (outsAt0 m c t.val t.isLt).2.2.2.2.2.2.2 (ix2 i l)
    = ∑ t : Fin cfg0.N, addV (wts m c) (fun r => rws m c (rowAt t r)) i.val l := by
  refine (Pipeline.eq_sum_fin_of_reset_step_apply_last
    (fun n h (i : Fin 8 × Fin 1024) => (outsAt0 m c n h).2.2.2.2.2.2.2 (ix2 i.1 i.2)) 16 (fun _ => (0 : EReal))
    (fun t i => addV (wts m c) (fun r => rws m c (rowAt t r)) i.1.val i.2) (fun t h i => accV_first m c t h (by omega) i.1 i.2)
    (fun t h i => accV_next m c t h i.1 i.2) (le_of_eq N_0) t ht (i, l)).trans ?_
  exact zero_add _

/-- The outputs written at the last point are the accumulators. -/
theorem out10_at (t : Fin cfg0.N) (h1 : t.val % 16 = 15) (k l : Fin 1024) :
    (outsAt0 m c t.val t.isLt).2.2.1 (ix2 k l) = (outsAt0 m c t.val t.isLt).2.2.2.2.2.1 (ix2 k l) := by
  rw [outsAt0_C m c t (by omega) h1]
  frame_out
  pointwise [k0_pay5]

theorem out11_at (t : Fin cfg0.N) (h1 : t.val % 16 = 15) (j : Fin 4) (f l : Fin 256) :
    (outsAt0 m c t.val t.isLt).2.2.2.1 (ix3 j f l) = (outsAt0 m c t.val t.isLt).2.2.2.2.2.2.1 (ix2 f (colAt j l)) := by
  rw [outsAt0_C m c t (by omega) h1]
  frame_out
  obtain rfl | rfl | rfl | rfl : j = 0 ∨ j = 1 ∨ j = 2 ∨ j = 3 := by omega
  · rw [Stacks.canon_off _ _ _ _ _ _ (by decide), Stacks.canon_off _ _ _ _ _ _ (by decide),
      Stacks.canon_off _ _ _ _ _ _ (by decide), Stacks.canon_on _ _ _ _ _ _ (by rfl)]
    pointwise [k0_pay6]
    rw [Rows.cov_cols _ _ (colAt 0 l) _ _ _ (by rfl), Rows.canon_on _ _ _ _ _ f (Nat.zero_add _).symm]
  · rw [Stacks.canon_off _ _ _ _ _ _ (by decide), Stacks.canon_off _ _ _ _ _ _ (by decide),
      Stacks.canon_on _ _ _ _ _ _ (by rfl)]
    pointwise [k0_pay7]
    rw [Rows.cov_cols _ _ (colAt 1 l) _ _ _ (by rfl), Rows.canon_on _ _ _ _ _ f (Nat.zero_add _).symm]
  · rw [Stacks.canon_off _ _ _ _ _ _ (by decide), Stacks.canon_on _ _ _ _ _ _ (by rfl)]
    pointwise [k0_pay8]
    rw [Rows.cov_cols _ _ (colAt 2 l) _ _ _ (by rfl), Rows.canon_on _ _ _ _ _ f (Nat.zero_add _).symm]
  · rw [Stacks.canon_on _ _ _ _ _ _ (by rfl)]
    pointwise [k0_pay9]
    rw [Rows.cov_cols _ _ (colAt 3 l) _ _ _ (by rfl), Rows.canon_on _ _ _ _ _ f (Nat.zero_add _).symm]

theorem out12_at (t : Fin cfg0.N) (h1 : t.val % 16 = 15) (i : Fin 8) (l : Fin 1024) :
    (outsAt0 m c t.val t.isLt).2.2.2.2.1 (ix2 i l) = (outsAt0 m c t.val t.isLt).2.2.2.2.2.2.2 (ix2 i l) := by
  rw [outsAt0_C m c t (by omega) h1]
  frame_out

end Cert.HeadValue

end
-- ==== Proof.HeadRef.lean ====
module

public import proofs.«01_k».proof.Proof.Gen.HeadRefIdeal.Read
public import proofs.«01_k».proof.Proof.HeadModel

@[expose] public section

set_option maxRecDepth 16384

noncomputable section

/-! What the reference of the head computes. -/

namespace Cert.HeadRef

open Idealize.ShloMosaic Idealize.ShloMosaic.TcCoe Idealize.SL.Sem
open Cert.HeadRefIdeal Cert.HeadRefIdeal.Gen Cert.HeadRefIdeal.Read HeadModel

variable (x : FVec Ideal S8192x1024 .f32) (p : FVec Ideal S1x1x8192x256 .f32) (t : FVec Ideal S1x8192x1024 .f32)
  (g3 : FVec Ideal S1x1024 .f32) (wg : FVec Ideal S1x1024x1024 .f32) (b : FVec Ideal S1x1024 .f32)
  (wp : FVec Ideal S1x256x1024 .f32) (g4 : FVec Ideal S1024 .f32) (n : Fin 8192) (k : Fin 1024) (u : Fin 1)

/-- What stands under the first norm's root. -/
theorem under3 : val_main_v7 (F := Ideal) x (ix2 n u) = Rms.under (rows x p t n).x := by
  pointwise [val_main_v7, val_main_v5, val_main_v3, val_main_v2, val_main_v1, val_main_v4, val_main_v6, val_main_cst,
    val_main_cst_0, val_main_cst_1]
  rfl

theorem unit3 : val_main_v13 (F := Ideal) x (ix2 n k) = Rms.unit (rows x p t n).x k := by
  pointwise [val_main_v13, val_main_v12, val_main_v8, under3 x p t]
  rfl

theorem z_eq : val_main_v16 (F := Ideal) x g3 (ix2 n k) = z (weights g3 wg b wp g4) (rows x p t n) k := by
  pointwise [val_main_v16, val_main_v15, val_main_v14, val_main_v0, unit3 x p t]
  rfl

theorem gate_eq : val_main_v28 (F := Ideal) x g3 wg b (ix2 n k) = gate (weights g3 wg b wp g4) (rows x p t n) k := by
  pointwise [val_main_v28, val_main_v27, val_main_v26, val_main_v25, val_main_v24, val_main_v23, val_main_v22,
    val_main_v21, val_main_v20, val_main_v19, val_main_v18, val_main_v17, val_main_cst_3, val_main_cst_4, z_eq x p t g3 wg b wp g4]
  rfl

theorem proj_eq : val_main_v34 (F := Ideal) p wp (ix2 n k) = proj (weights g3 wg b wp g4) (rows x p t n) k := by
  pointwise [val_main_v34, val_main_v33, val_main_v32]
  rfl

theorem h3_eq : val_main_v36 (F := Ideal) x p g3 wg b wp (ix2 n k) = h3 (weights g3 wg b wp g4) (rows x p t n) k := by
  pointwise [val_main_v36, val_main_v35, gate_eq x p t g3 wg b wp g4, proj_eq x p t g3 wg b wp g4]
  rfl

/-- What stands under the final norm's root. -/
theorem under4 : val_main_v43 (F := Ideal) x p g3 wg b wp (ix2 n u) = Rms.under (h3 (weights g3 wg b wp g4) (rows x p t n)) := by
  pointwise [val_main_v43, val_main_v41, val_main_v39, val_main_v38, val_main_v37, val_main_v40, val_main_v42,
    val_main_cst_6, val_main_cst_7, val_main_cst_8, h3_eq x p t g3 wg b wp g4]
  rfl

theorem unit4 : val_main_v49 (F := Ideal) x p g3 wg b wp (ix2 n k) = Rms.unit (h3 (weights g3 wg b wp g4) (rows x p t n)) k := by
  pointwise [val_main_v49, val_main_v48, val_main_v44, under4 x p t g3 wg b wp g4, h3_eq x p t g3 wg b wp g4]
  rfl

theorem err_eq : val_main_v54 (F := Ideal) x p t g3 wg b wp g4 (ix2 n k) = err (weights g3 wg b wp g4) (rows x p t n) k := by
  pointwise [val_main_v54, val_main_v53, val_main_v52, val_main_v51, val_main_v50, unit4 x p t g3 wg b wp g4]
  rfl

/-- The factors one half, 1/1024 and two that differentiation of the loss leaves are the factor 1/1024. -/
theorem factor (e : EReal) : Ideal.div half cols * (Ideal.ofBits .f32 0x40000000#32 * e)
    = e * Ideal.ofBits .f32 0x3A800000#32 := by
  unfold half cols
  rw [Reals.ofBits_half, Reals.ofBits_1024, Reals.ofBits_two, Reals.ofBits_recip_1024, Reals.div_coe _ (by norm_num),
    ← mul_assoc, ← EReal.coe_mul, mul_comm]
  norm_num

theorem dy_eq : val_main_v68 (F := Ideal) x p t g3 wg b wp g4 (ix2 n k) = dy (weights g3 wg b wp g4) (rows x p t n) k := by
  pointwise [val_main_v68, val_main_v67, val_main_v66, val_main_v65, val_main_v64, val_main_v63, val_main_v57, val_main_v56,
    val_main_cst_10, val_main_cst_15, val_main_cst_16, val_main_cst_17, err_eq]
  exact factor _

/-- The slope that the final mean square's derivative brings. -/
theorem slope4 : val_main_v83 (F := Ideal) x p t g3 wg b wp g4 (ix1 n) = Rms.slope (h3 (weights g3 wg b wp g4) (rows x p t n))
    (fun l => dy (weights g3 wg b wp g4) (rows x p t n) l * g4 (ix1 l)) := by
  pointwise [val_main_v83, val_main_v82, val_main_v81, val_main_v80, val_main_v77, val_main_v76, val_main_v75, val_main_v73,
    val_main_v72, val_main_v50, val_main_v47, val_main_v46, val_main_v45, val_main_v44, val_main_cst_9, val_main_cst_20,
    val_main_cst_21, val_main_cst_22, under4 x p t g3 wg b wp g4, h3_eq x p t g3 wg b wp g4, dy_eq]
  rw [Fin.sum_univ_one]
  rfl

theorem dh_eq : val_main_v88 (F := Ideal) x p t g3 wg b wp g4 (ix2 n k) = dhDiff (weights g3 wg b wp g4) (rows x p t n) k := by
  pointwise [val_main_v88, val_main_v87, val_main_v86, val_main_v85, val_main_v84, val_main_v79, val_main_v78, val_main_v73,
    val_main_v72, val_main_v50, val_main_v44, under4 x p t g3 wg b wp g4, h3_eq x p t g3 wg b wp g4, dy_eq, slope4]
  rfl

theorem dpre_eq : val_main_v94 (F := Ideal) x p t g3 wg b wp g4 (ix2 n k) = dpre (weights g3 wg b wp g4) (rows x p t n)
    (dhDiff (weights g3 wg b wp g4) (rows x p t n)) k := by
  pointwise [val_main_v94, val_main_v90, val_main_v31, val_main_v30, val_main_v29, val_main_cst_5, dh_eq,
    gate_eq x p t g3 wg b wp g4, proj_eq x p t g3 wg b wp g4]
  exact (mul_assoc (G := EReal) _ _ _).symm

theorem dz_eq : val_main_v101 (F := Ideal) x p t g3 wg b wp g4 (ix2 n k) = dz (weights g3 wg b wp g4) (rows x p t n)
    (dhDiff (weights g3 wg b wp g4) (rows x p t n)) k := by
  pointwise [val_main_v101, val_main_v17, dpre_eq]
  rfl

/-- The slope that the first mean square's derivative brings. -/
theorem slope3 : val_main_v118 (F := Ideal) x p t g3 wg b wp g4 (ix1 n) = Rms.slope (rows x p t n).x
    (fun l => dz (weights g3 wg b wp g4) (rows x p t n) (dhDiff (weights g3 wg b wp g4) (rows x p t n)) l * g3 (ix2 0 l)) := by
  pointwise [val_main_v118, val_main_v117, val_main_v116, val_main_v115, val_main_v111, val_main_v110, val_main_v109,
    val_main_v107, val_main_v106, val_main_v14, val_main_v0, val_main_v11, val_main_v10, val_main_v9, val_main_v8,
    val_main_cst_2, val_main_cst_27, val_main_cst_28, val_main_cst_29, under3 x p t, dz_eq]
  rw [Fin.sum_univ_one]
  rfl

/-- The first result, … -/
theorem res0 : val_main_v123 (F := Ideal) x p t g3 wg b wp g4 (ix2 n k) = dxDiff (weights g3 wg b wp g4) (rows x p t n)
    (dhDiff (weights g3 wg b wp g4) (rows x p t n)) k := by
  pointwise [val_main_v123, val_main_v122, val_main_v121, val_main_v120, val_main_v119, val_main_v114, val_main_v113,
    val_main_v112, val_main_v107, val_main_v106, val_main_v14, val_main_v0, val_main_v8, under3 x p t, dz_eq, dh_eq, slope3]
  unfold dxDiff Rms.diff
  rw [← add_assoc, ← add_assoc]
  rfl

/-- … which is rounded for the second. -/
theorem res1 : val_main_v132 (F := Ideal) x p t g3 wg b wp g4 (ix2 n k) = dxDiff (weights g3 wg b wp g4) (rows x p t n)
    (dhDiff (weights g3 wg b wp g4) (rows x p t n)) k := by
  pointwise [val_main_v132, res0]

/-- The gradient of the gate's weight. -/
theorem res2 (l : Fin 1024) : val_main_v134 (F := Ideal) x p t g3 wg b wp g4 (ix2 k l) = ∑ n : Fin 8192,
    z (weights g3 wg b wp g4) (rows x p t n) k * dpre (weights g3 wg b wp g4) (rows x p t n)
      (dhDiff (weights g3 wg b wp g4) (rows x p t n)) l := by
  pointwise [val_main_v134, val_main_v133, val_main_v102, val_main_v100, val_main_v99, dpre_eq, z_eq x p t g3 wg b wp g4]
  exact Finset.sum_congr rfl fun n _ => mul_comm _ _

/-- The gradient of the embedding's projection, in stacks of columns. -/
theorem res3 (j : Fin 4) (f l : Fin 256) : val_main_v135 (F := Ideal) x p t g3 wg b wp g4 (ix3 j f l) = ∑ n : Fin 8192,
    (rows x p t n).p f * (dhDiff (weights g3 wg b wp g4) (rows x p t n) (colAt j l)
      * gate (weights g3 wg b wp g4) (rows x p t n) (colAt j l)) := by
  pointwise [val_main_v135, val_main_v127, val_main_v126, val_main_v125, val_main_v93, val_main_v92, val_main_v91, val_main_v89,
    val_main_v32, dh_eq, gate_eq x p t g3 wg b wp g4]
  exact Finset.sum_congr rfl fun n _ => (mul_comm _ _).trans (congrArg (_ * ·) (mul_comm _ _))

/-- The rows of the last result: the first gain's gradient, … -/
theorem row0 : val_main_v124 (F := Ideal) x p t g3 wg b wp g4 (ix2 u k) = ∑ n : Fin 8192,
    dz (weights g3 wg b wp g4) (rows x p t n) (dhDiff (weights g3 wg b wp g4) (rows x p t n)) k * Rms.unit (rows x p t n).x k := by
  pointwise [val_main_v124, val_main_v108, val_main_v105, val_main_v104, val_main_v103, val_main_cst_25, val_main_cst_26,
    unit3 x p t, dz_eq]
  rw [Fin.sum_univ_one]
  exact Finset.sum_congr rfl fun n _ => mul_comm _ _

/-- … the final gain's, … -/
theorem row1 : val_main_v128 (F := Ideal) x p t g3 wg b wp g4 (ix2 u k) = ∑ n : Fin 8192,
    dy (weights g3 wg b wp g4) (rows x p t n) k * Rms.unit (h3 (weights g3 wg b wp g4) (rows x p t n)) k := by
  pointwise [val_main_v128, val_main_v74, val_main_v71, val_main_v70, val_main_v69, val_main_cst_18, val_main_cst_19,
    unit4 x p t g3 wg b wp g4, dy_eq]
  rw [Fin.sum_univ_one]
  exact Finset.sum_congr rfl fun n _ => mul_comm _ _

/-- … the bias's … -/
theorem row2 : val_main_v98 (F := Ideal) x p t g3 wg b wp g4 (ix2 u k) = ∑ n : Fin 8192,
    dpre (weights g3 wg b wp g4) (rows x p t n) (dhDiff (weights g3 wg b wp g4) (rows x p t n)) k := by
  pointwise [val_main_v98, val_main_v97, val_main_v96, val_main_v95, val_main_cst_23, val_main_cst_24, dpre_eq]
  rw [Fin.sum_univ_one]

/-- … and the loss. -/
theorem row3 : val_main_v129 (F := Ideal) x p t g3 wg b wp g4 (ix2 u k) = half * ∑ n : Fin 8192,
    mean (weights g3 wg b wp g4) (rows x p t n) := by
  pointwise [val_main_v129, val_main_v62, val_main_v61, val_main_v60, val_main_v59, val_main_v58, val_main_v55, val_main_cst_11,
    val_main_cst_12, val_main_cst_13, val_main_cst_14, err_eq]
  rfl

theorem res4 (r : Fin 8) : val_main_v131 (F := Ideal) x p t g3 wg b wp g4 (ix2 r k)
    = if r.val = 0 then val_main_v124 (F := Ideal) x p t g3 wg b wp g4 (ix2 0 k)
      else if r.val = 1 then val_main_v128 (F := Ideal) x p t g3 wg b wp g4 (ix2 0 k)
      else if r.val = 2 then val_main_v98 (F := Ideal) x p t g3 wg b wp g4 (ix2 0 k)
      else if r.val = 3 then val_main_v129 (F := Ideal) x p t g3 wg b wp g4 (ix2 0 k) else 0 := by
  pointwise [val_main_v131]
  by_cases h0 : r.val = 0
  · rw [dif_pos (by omega), if_pos h0]
    exact congrArg (fun u => val_main_v124 (F := Ideal) x p t g3 wg b wp g4 (ix2 u k)) (Subsingleton.elim (α := Fin 1) _ _)
  rw [dif_neg (by omega), if_neg h0]
  by_cases h1 : r.val = 1
  · rw [dif_pos (by omega), if_pos h1]
    exact congrArg (fun u => val_main_v128 (F := Ideal) x p t g3 wg b wp g4 (ix2 u k)) (Subsingleton.elim (α := Fin 1) _ _)
  rw [dif_neg (by omega), if_neg h1]
  by_cases h2 : r.val = 2
  · rw [dif_pos (by omega), if_pos h2]
    exact congrArg (fun u => val_main_v98 (F := Ideal) x p t g3 wg b wp g4 (ix2 u k)) (Subsingleton.elim (α := Fin 1) _ _)
  rw [dif_neg (by omega), if_neg h2]
  by_cases h3 : r.val = 3
  · rw [dif_pos (by omega), if_pos h3]
    exact congrArg (fun u => val_main_v129 (F := Ideal) x p t g3 wg b wp g4 (ix2 u k)) (Subsingleton.elim (α := Fin 1) _ _)
  rw [dif_neg (by omega), if_neg h3]
  pointwise [val_main_v130, val_main_cst_30]

end Cert.HeadRef

end
-- ==== Proof.HeadClaim.lean ====
module

public import proofs.«01_k».proof.Defs
public import proofs.«01_k».proof.Proof.HeadValue
public import proofs.«01_k».proof.Proof.HeadRef
public import proofs.«01_k».proof.Proof.Gen.Pre_head_finite

@[expose] public section

set_option maxRecDepth 16384

noncomputable section

/-! The head's kernel and its reference compute the same arrays. -/

namespace Cert.HeadClaim

open Idealize.ShloMosaic Idealize.ShloMosaic.TcCoe Idealize.SL.Sem
open Cert.HeadIdeal Cert.HeadIdeal.Gen Cert.HeadKernel Cert.HeadBlock Cert.HeadValue HeadModel

variable (m : (ℓ : Loc nD τ sig) → Buf (Elt Ideal) ℓ) (c : Dev nD)

/-- The cotangent of the final norm's input, as the kernel computes it. -/
abbrev hd (n : Fin 8192) : Fin 1024 → EReal := dh (wts m c) (rws m c n)

/-- The gradient of the projection, in stacks of columns. -/
def dproj (j : Fin 4) (f l : Fin 256) : EReal :=
  ∑ n, (rws m c n).p f * (hd m c n (colAt j l) * gate (wts m c) (rws m c n) (colAt j l))

/-- The results' arrays. -/
def X : FVec Ideal S8192x1024 .f32 := fun i => dx (wts m c) (rws m c (i 0)) (hd m c (i 0)) (i 1)
def Y : FVec Ideal S8192x1024 .bf16 := fun i => dx (wts m c) (rws m c (i 0)) (hd m c (i 0)) (i 1)
def G : FVec Ideal S1024x1024 .bf16 := fun i => ∑ n, z (wts m c) (rws m c n) (i 0) * dpre (wts m c) (rws m c n) (hd m c n) (i 1)
def P : FVec Ideal S4x256x256 .bf16 := fun i => dproj m c (i 0) (i 1) (i 2)
def L : FVec Ideal S8x1024 .f32 := fun i => ∑ t : Fin cfg0.N, addV (wts m c) (fun r => rws m c (rowAt t r)) (i 0).val (i 1)

/-- The last grid point. -/
theorem last (t : Fin cfg0.N) (h1 : t.val % 16 = 15) : t.val + 1 = cfg0.N := by
  have h : t.val < cfg0.N := t.isLt
  have e : cfg0.N = 16 := N_0
  omega

theorem arr8 : (dats m 0 c).arrAt 8 cfg0.N = X m c := by
  refine (dats m 0 c).arrAt_eq_of_covers 8 _ (by decide +kernel) fun t hf y => ?_
  blk_simp [X, idx t]
  rw [after0_8]
  obtain ⟨a, b, rfl⟩ : ∃ (a : Fin 512) (b : Fin 1024), y = ix2 a b := ⟨y 0, y 1, by funext i; fin_cases i <;> rfl⟩
  refine (out8_at m c t a b).trans ?_
  refine congrArg₂ (fun n => dx (wts m c) (rws m c n) (hd m c n)) (Fin.ext ?_) (Fin.ext ?_)
  all_goals
    blk_simp [idx t, rowAt]

theorem arr9 : (dats m 0 c).arrAt 9 cfg0.N = Y m c := by
  refine (dats m 0 c).arrAt_eq_of_covers 9 _ (by decide +kernel) fun t hf y => ?_
  blk_simp [Y, idx t]
  rw [after0_9]
  obtain ⟨a, b, rfl⟩ : ∃ (a : Fin 512) (b : Fin 1024), y = ix2 a b := ⟨y 0, y 1, by funext i; fin_cases i <;> rfl⟩
  refine (out9_at m c t a b).trans ?_
  refine congrArg₂ (fun n => dx (wts m c) (rws m c n) (hd m c n)) (Fin.ext ?_) (Fin.ext ?_)
  all_goals
    blk_simp [idx t, rowAt]

theorem arr10 : (dats m 0 c).arrAt 10 cfg0.N = G m c := by
  refine (dats m 0 c).arrAt_eq_of_covers 10 _ (by decide +kernel) fun t hf y => ?_
  have h1 : t.val % 16 = 15 := (flush0_10 t).1 hf
  blk_simp [G, idx t]
  rw [after0_10]
  obtain ⟨a, b, rfl⟩ : ∃ (a : Fin 1024) (b : Fin 1024), y = ix2 a b := ⟨y 0, y 1, by funext i; fin_cases i <;> rfl⟩
  refine (out10_at m c t h1 a b).trans ((accG_last m c t (last t h1) a b).trans ?_)
  refine congrArg₂ (fun k l => ∑ n, z (wts m c) (rws m c n) k * dpre (wts m c) (rws m c n) (hd m c n) l) (Fin.ext ?_) (Fin.ext ?_)
  all_goals
    blk_simp [idx t]

theorem arr11 : (dats m 0 c).arrAt 11 cfg0.N = P m c := by
  refine (dats m 0 c).arrAt_eq_of_covers 11 _ (by decide +kernel) fun t hf y => ?_
  have h1 : t.val % 16 = 15 := (flush0_11 t).1 hf
  blk_simp [P, idx t]
  rw [after0_11]
  obtain ⟨j, a, b, rfl⟩ : ∃ (j : Fin 4) (a : Fin 256) (b : Fin 256), y = ix3 j a b :=
    ⟨y 0, y 1, y 2, by funext i; fin_cases i <;> rfl⟩
  refine (out11_at m c t h1 j a b).trans ((accP_last m c t (last t h1) a (colAt j b)).trans ?_)
  change dproj m c j a b = _
  refine congr (congrArg₂ (dproj m c) (Fin.ext ?_) (Fin.ext ?_)) (Fin.ext ?_)
  all_goals
    blk_simp [idx t]

theorem arr12 : (dats m 0 c).arrAt 12 cfg0.N = L m c := by
  refine (dats m 0 c).arrAt_eq_of_covers 12 _ (by decide +kernel) fun t hf y => ?_
  have h1 : t.val % 16 = 15 := (flush0_12 t).1 hf
  blk_simp [L, idx t]
  rw [after0_12]
  obtain ⟨a, b, rfl⟩ : ∃ (a : Fin 8) (b : Fin 1024), y = ix2 a b := ⟨y 0, y 1, by funext i; fin_cases i <;> rfl⟩
  refine (out12_at m c t h1 a b).trans ((accV_last m c t (last t h1) a b).trans ?_)
  refine congrArg (fun b => ∑ t : Fin cfg0.N, addV (wts m c) (fun r => rws m c (rowAt t r)) a.val b) (Fin.ext ?_)
  blk_simp [idx t]

/-- The arguments are real numbers. -/
theorem reals (h : Pre_HeadIdeal_head_finite m) : (wts m c).Reals ∧ ∀ n, (rws m c n).Reals := by
  obtain ⟨h0, h1, h2, h3, h4, h5, h6, h7⟩ := h c
  exact ⟨⟨fun k => Reals.real_of_pre h3 (fun _ => rfl) _, fun k l => Reals.real_of_pre h4 (fun _ => rfl) _,
    fun k => Reals.real_of_pre h5 (fun _ => rfl) _, fun k l => Reals.real_of_pre h6 (fun _ => rfl) _,
    fun k => Reals.real_of_pre h7 (fun _ => rfl) _⟩,
    fun n => ⟨fun k => Reals.real_of_pre h0 (fun _ => rfl) _, fun k => Reals.real_of_pre h1 (fun _ => rfl) _,
      fun k => Reals.real_of_pre h2 (fun _ => rfl) _⟩⟩

/-- The reference terminates, keeps its arguments and declares no semaphore. -/
theorem frame_ref (m : (ℓ : Loc HeadRefIdeal.nD HeadRefIdeal.τ HeadRefIdeal.sig) → Buf (Elt Ideal) ℓ)
    (ρ : Dev HeadRefIdeal.nD → PrngReg) :
    θ_run HeadRefIdeal.defs (onTc (τ := HeadRefIdeal.τ) (HeadRefIdeal.main (F := Ideal))) ⟨m, fun _ => 0, ρ⟩
      fun r => (∀ c : Dev HeadRefIdeal.nD,
        r.2.mem (c.tc.loc HeadRefIdeal.main_arg0) = m (c.tc.loc HeadRefIdeal.main_arg0)
        ∧ r.2.mem (c.tc.loc HeadRefIdeal.main_arg1) = m (c.tc.loc HeadRefIdeal.main_arg1)
        ∧ r.2.mem (c.tc.loc HeadRefIdeal.main_arg2) = m (c.tc.loc HeadRefIdeal.main_arg2)
        ∧ r.2.mem (c.tc.loc HeadRefIdeal.main_arg3) = m (c.tc.loc HeadRefIdeal.main_arg3)
        ∧ r.2.mem (c.tc.loc HeadRefIdeal.main_arg4) = m (c.tc.loc HeadRefIdeal.main_arg4)
        ∧ r.2.mem (c.tc.loc HeadRefIdeal.main_arg5) = m (c.tc.loc HeadRefIdeal.main_arg5)
        ∧ r.2.mem (c.tc.loc HeadRefIdeal.main_arg6) = m (c.tc.loc HeadRefIdeal.main_arg6)
        ∧ r.2.mem (c.tc.loc HeadRefIdeal.main_arg7) = m (c.tc.loc HeadRefIdeal.main_arg7))
        ∧ r.2.sem = fun _ => 0 :=
  (θ_run _ _ _).mono (fun r h => ⟨fun c => (h c).2.2.2.2.2, sem_eq_zero_of_no_sems (by decide) r.2⟩)
    (Cert.HeadRefIdeal.Value.run m ρ)

/-- The rows of the last result are the sums over all rows of the arguments. -/
theorem rowsum (h : (wts m c).Reals) (hr : ∀ n, (rws m c n).Reals) (i : Fin 8) (k : Fin 1024) :
    ∑ t : Fin cfg0.N, addV (wts m c) (fun r => rws m c (rowAt t r)) i.val k
    = if i.val = 0 then ∑ n, dz (wts m c) (rws m c n) (hd m c n) k * Rms.unit (rws m c n).x k
      else if i.val = 1 then ∑ n, dy (wts m c) (rws m c n) k * Rms.unit (h3 (wts m c) (rws m c n)) k
      else if i.val = 2 then ∑ n, dpre (wts m c) (rws m c n) (hd m c n) k
      else if i.val = 3 then half * ∑ n, mean (wts m c) (rws m c n) else 0 := by
  unfold addV
  split_ifs
  · exact tiles fun n => dz (wts m c) (rws m c n) (hd m c n) k * Rms.unit (rws m c n).x k
  · exact tiles fun n => dy (wts m c) (rws m c n) k * Rms.unit (h3 (wts m c) (rws m c n)) k
  · exact tiles fun n => dpre (wts m c) (rws m c n) (hd m c n) k
  · rw [← Reals.IsReal.mul_sum ⟨_, Reals.ofBits_half⟩ fun t => Reals.IsReal.sum fun r => mean_real h (hr _)]
    exact congrArg (half * ·) (tiles fun n => mean (wts m c) (rws m c n))
  · exact Finset.sum_const_zero

/-- The reference's other results at an index, in the kernel's terms. -/
theorem ref_g (hW : (wts m c).Reals) (hR : ∀ n, (rws m c n).Reals) (a b : Fin 1024) :
    HeadRefIdeal.Read.val_main_v134 (F := Ideal) (aX m c) (aP m c) (aT m c) (aG3 m c) (aWg m c) (aB m c) (aWp m c) (aG4 m c) (ix2 a b) = G m c (ix2 a b) :=
  (HeadRef.res2 (aX m c) (aP m c) (aT m c) (aG3 m c) (aWg m c) (aB m c) (aWp m c) (aG4 m c) a b).trans (Finset.sum_congr rfl fun n _ =>
    congrArg (fun d => z (wts m c) (rws m c n) a * dpre (wts m c) (rws m c n) d b) (dh_eq hW (hR n)).symm)

theorem ref_p (hW : (wts m c).Reals) (hR : ∀ n, (rws m c n).Reals) (j : Fin 4) (a b : Fin 256) :
    HeadRefIdeal.Read.val_main_v135 (F := Ideal) (aX m c) (aP m c) (aT m c) (aG3 m c) (aWg m c) (aB m c) (aWp m c) (aG4 m c) (ix3 j a b) = P m c (ix3 j a b) :=
  (HeadRef.res3 (aX m c) (aP m c) (aT m c) (aG3 m c) (aWg m c) (aB m c) (aWp m c) (aG4 m c) j a b).trans (Finset.sum_congr rfl fun n _ =>
    congrArg (fun d => (rws m c n).p a * (d (colAt j b) * gate (wts m c) (rws m c n) (colAt j b))) (dh_eq hW (hR n)).symm)

theorem ref_l (hW : (wts m c).Reals) (hR : ∀ n, (rws m c n).Reals) (a : Fin 8) (b : Fin 1024) :
    HeadRefIdeal.Read.val_main_v131 (F := Ideal) (aX m c) (aP m c) (aT m c) (aG3 m c) (aWg m c) (aB m c) (aWp m c) (aG4 m c) (ix2 a b) = L m c (ix2 a b) := by
  refine (HeadRef.res4 (aX m c) (aP m c) (aT m c) (aG3 m c) (aWg m c) (aB m c) (aWp m c) (aG4 m c) b a).trans (Eq.trans ?_ (rowsum m c hW hR a b).symm)
  rw [HeadRef.row0, HeadRef.row1, HeadRef.row2, HeadRef.row3]
  have e : ∀ n, dhDiff (wts m c) (rws m c n) = hd m c n := fun n => (dh_eq hW (hR n)).symm
  change (if _ then ∑ n, dz (wts m c) (rws m c n) (dhDiff (wts m c) (rws m c n)) b * _ else if _ then _ else
    if _ then ∑ n, dpre (wts m c) (rws m c n) (dhDiff (wts m c) (rws m c n)) b else _) = _
  simp only [e]
  rfl

/-- The claim. -/
theorem algebraic : Cert.algebraic_HeadIdeal_HeadRefIdeal_pre_head_finite := by
  pair_intro
  · run_from Cert.HeadIdeal.Value.run_blocks m g
  · run_from Cert.HeadRefIdeal.Value.run m' g'
    all_goals
      obtain ⟨e0, e1, e2, e3, e4, e5, e6, e7⟩ := hagree c
      obtain ⟨hW, hR⟩ := reals m c hpre
    · rw [arr8]
      funext i
      obtain ⟨a, b, rfl⟩ : ∃ (a : Fin 8192) (b : Fin 1024), i = ix2 a b := ⟨i 0, i 1, by funext i; fin_cases i <;> rfl⟩
      refine Eq.trans ?_ ((HeadRef.res0 (aX m c) (aP m c) (aT m c) (aG3 m c) (aWg m c) (aB m c) (aWp m c) (aG4 m c) a b).trans (dx_eq hW (hR a) b).symm)
      simp only [aX, aP, aT, aG3, aWg, aB, aWp, aG4, ← e0, ← e1, ← e2, ← e3, ← e4, ← e5, ← e6, ← e7]
      rfl
    · rw [arr9]
      funext i
      obtain ⟨a, b, rfl⟩ : ∃ (a : Fin 8192) (b : Fin 1024), i = ix2 a b := ⟨i 0, i 1, by funext i; fin_cases i <;> rfl⟩
      refine Eq.trans ?_ ((HeadRef.res1 (aX m c) (aP m c) (aT m c) (aG3 m c) (aWg m c) (aB m c) (aWp m c) (aG4 m c) a b).trans (dx_eq hW (hR a) b).symm)
      simp only [aX, aP, aT, aG3, aWg, aB, aWp, aG4, ← e0, ← e1, ← e2, ← e3, ← e4, ← e5, ← e6, ← e7]
      rfl
    · rw [arr10]
      funext i
      obtain ⟨a, b, rfl⟩ : ∃ (a : Fin 1024) (b : Fin 1024), i = ix2 a b := ⟨i 0, i 1, by funext i; fin_cases i <;> rfl⟩
      refine Eq.trans ?_ (ref_g m c hW hR a b)
      simp only [aX, aP, aT, aG3, aWg, aB, aWp, aG4, ← e0, ← e1, ← e2, ← e3, ← e4, ← e5, ← e6, ← e7]
      rfl
    · rw [arr11]
      funext i
      obtain ⟨j, a, b, rfl⟩ : ∃ (j : Fin 4) (a b : Fin 256), i = ix3 j a b := ⟨i 0, i 1, i 2, by funext i; fin_cases i <;> rfl⟩
      refine Eq.trans ?_ (ref_p m c hW hR j a b)
      simp only [aX, aP, aT, aG3, aWg, aB, aWp, aG4, ← e0, ← e1, ← e2, ← e3, ← e4, ← e5, ← e6, ← e7]
      rfl
    · rw [arr12]
      funext i
      obtain ⟨a, b, rfl⟩ : ∃ (a : Fin 8) (b : Fin 1024), i = ix2 a b := ⟨i 0, i 1, by funext i; fin_cases i <;> rfl⟩
      refine Eq.trans ?_ (ref_l m c hW hR a b)
      simp only [aX, aP, aT, aG3, aWg, aB, aWp, aG4, ← e0, ← e1, ← e2, ← e3, ← e4, ← e5, ← e6, ← e7]
      rfl

end Cert.HeadClaim

end
-- ==== Proof.FwdMixKernel.lean ====
module

public import proofs.«01_k».proof.Proof.Gen.FwdMixIdeal.Frame
public import proofs.«01_k».proof.Proof.Rms
public import proofs.«01_k».proof.Proof.Rows
public import proofs.«01_k».proof.Proof.Stacks
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

namespace Cert.FwdMixKernel

open Idealize.ShloMosaic Idealize.ShloMosaic.TcCoe Idealize.SL.Sem
open Cert.FwdMixIdeal Cert.FwdMixIdeal.Gen

section block

variable (x : Vec Ideal S256x1024 .f32) (g : Vec Ideal S1x1024 .f32) (w0 w1 w2 w3 : Vec Ideal S1x1024x384 .bf16)
  (W : Fin 1024 → Fin 1536 → EReal) (r : Fin 256) (q : Fin 1536)

/-- The projection of half a block: the normalised row times the weight, whose columns come in four stacks. -/
def proj (x : Vec Ideal S256x1024 .f32) (g : Vec Ideal S1x1024 .f32) (W : Fin 1024 → Fin 1536 → EReal) (r : Fin 256)
    (q : Fin 1536) : EReal := ∑ k, Rms.unit (fun l => x (ix2 r l)) k * g (ix2 0 k) * W k q

variable (h0 : ∀ k (f : Fin 384) (q : Fin 1536), q.val = 0 * 384 + f.val → w0 (ix3 0 k f) = W k q)
  (h1 : ∀ k (f : Fin 384) (q : Fin 1536), q.val = 1 * 384 + f.val → w1 (ix3 0 k f) = W k q)
  (h2 : ∀ k (f : Fin 384) (q : Fin 1536), q.val = 2 * 384 + f.val → w2 (ix3 0 k f) = W k q)
  (h3 : ∀ k (f : Fin 384) (q : Fin 1536), q.val = 3 * 384 + f.val → w3 (ix3 0 k f) = W k q)

include h0 h1 h2 h3

theorem proj0_at : k0_pay7 (F := Ideal) x (k0_pay6 x) g w0 w1 w2 w3 (ix2 r q) = proj x g W r q := by
  pointwise [k0_pay7, k0_pay6]
  unfold proj
  split_ifs
  all_goals
    refine Finset.sum_congr rfl fun k _ => ?_
    refine congrArg₂ _ rfl ?_
    first | refine h0 k _ q ?_ | refine h1 k _ q ?_ | refine h2 k _ q ?_ | refine h3 k _ q ?_
    simp only <;> omega

theorem proj1_at : k0_pay11 (F := Ideal) x (k0_pay9 x) k0_pay10 g w0 w1 w2 w3 (ix2 r q) = proj x g W r q := by
  pointwise [k0_pay11, k0_pay10, k0_pay9]
  unfold proj
  split_ifs
  all_goals
    refine Finset.sum_congr rfl fun k _ => ?_
    refine congrArg₂ _ rfl ?_
    first | refine h0 k _ q ?_ | refine h1 k _ q ?_ | refine h2 k _ q ?_ | refine h3 k _ q ?_
    simp only <;> omega

end block

variable (m : (ℓ : Loc nD τ sig) → Buf (Elt Ideal) ℓ) (c : Dev nD)

/-- The argument arrays on one device. -/
abbrev aX : FVec Ideal S8192x1024 .f32 := m ((c : Thread nD τ).loc main_arg0)
abbrev aG : FVec Ideal S1x1024 .f32 := m ((c : Thread nD τ).loc main_arg1)
abbrev aW : FVec Ideal S1x1024x1536 .f32 := m ((c : Thread nD τ).loc main_arg2)

/-- Row `r` of the block at grid point `t`, in the whole array. -/
def rowAt (t : Fin cfg0.N) (r : Fin 512) : Fin 8192 :=
  ⟨t.val * 512 + r.val, by have := lt_of_lt_of_eq t.isLt N_0; have := r.isLt; omega⟩

/-- Column `f` of stack `j`, in the whole array. -/
def colAt (j : Fin 4) (f : Fin 384) : Fin 1536 := ⟨j.val * 384 + f.val, by have := j.isLt; have := f.isLt; omega⟩

theorem idx : ∀ t : Fin cfg0.N, win0_0.index t = ![t.val, 0] ∧ win0_1.index t = ![0, 0] ∧ win0_2.index t = ![0, 0, 0]
    ∧ win0_14.index t = ![t.val, 0] :=
  (by decide +kernel : ∀ t : Fin grid0.N, _)

theorem blk_x (t : Fin cfg0.N) (r : Fin 512) (k : Fin 1024) : iblk m c 0 t (ix2 r k) = aX m c (ix2 (rowAt t r) k) := by
  blk_ext [iblk, V, idx t, rowAt]

theorem blk_g (t : Fin cfg0.N) (r : Fin 1) (k : Fin 1024) : iblk m c 1 t (ix2 r k) = aG m c (ix2 r k) := by
  blk_ext [iblk, V, idx t, rowAt]

/-- The stacks of the projection's weight, as the host code lays them out. -/
theorem w_at (j : Fin 4) (k : Fin 1024) (f : Fin 384) :
    (V m c main_v3 : FVec Ideal S4x1024x384 .bf16) (ix3 j k f) = aW m c (ix3 0 k (colAt j f)) := by
  unfold V
  simp only [List.flatten_cons, List.flatten_nil, hostOps0, List.cons_append, List.nil_append]
  after_reads_at
  rfl

theorem blk_w (t : Fin cfg0.N) (j : Fin 4) (k : Fin 1024) (f : Fin 384) :
    iblk m c 2 t (ix3 j k f) = aW m c (ix3 0 k (colAt j f)) := by
  rw [← w_at]
  blk_ext [iblk, idx t]

/-- One entry of the projection's weight. -/
def wAt (k : Fin 1024) (q : Fin 1536) : EReal := aW m c (ix3 0 k q)

/-- The projection of one row of the whole array. -/
def up (n : Fin 8192) (q : Fin 1536) : EReal :=
  ∑ k, Rms.unit (fun l => aX m c (ix2 n l)) k * aG m c (ix2 0 k) * aW m c (ix3 0 k q)

/-- A load of one stack. -/
theorem ld_w (t : Fin cfg0.N) (j : Fin 4)
    (inb : ∀ i : Fin 3, (![j.val, 0, 0] : Fin 3 → ℕ) i + (![1, 1024, 384] : Fin 3 → ℕ) i ≤ (![4, 1024, 384] : Fin 3 → ℕ) i)
    (k : Fin 1024) (f : Fin 384) (q : Fin 1536) (hq : q.val = j.val * 384 + f.val) :
    View.ld (iblk m c 2 t) (Rect.unit (s := ⟨3, ![4, 1024, 384]⟩) ![j.val, 0, 0] ![1, 1024, 384] inb) (ix3 0 k f)
      = wAt m c k q :=
  (Stacks.load_at inb j k f _ rfl).trans ((blk_w m c t j k f).trans (congrArg (wAt m c k) (Fin.ext hq.symm)))

/-- The projection of half a block, from row `o` on. -/
theorem proj_ld (t : Fin cfg0.N) {o : ℕ}
    (inb : ∀ i : Fin 2, (![o, 0] : Fin 2 → ℕ) i + (![256, 1024] : Fin 2 → ℕ) i ≤ (![512, 1024] : Fin 2 → ℕ) i)
    (r : Fin 512) (i : Fin 256) (h : r.val = o + i.val) (q : Fin 1536) :
    proj (View.ld (iblk m c 0 t) (Rect.unit (s := ⟨2, ![512, 1024]⟩) ![o, 0] ![256, 1024] inb)) (iblk m c 1 t) (wAt m c) i q
      = up m c (rowAt t r) q := by
  have e : ∀ l, View.ld (iblk m c 0 t) (Rect.unit (s := ⟨2, ![512, 1024]⟩) ![o, 0] ![256, 1024] inb) (ix2 i l)
      = aX m c (ix2 (rowAt t r) l) := fun l => (Rows.load_at inb r l (iblk m c 0 t) i h).trans (blk_x m c t r l)
  unfold proj up
  simp only [e, blk_g]
  rfl

/-- The first output's block. -/
theorem out14_at (t : Fin cfg0.N) (r n : Fin 512) :
    (outsAt0 m c t.val t.isLt).1 (ix2 r n) = up m c (rowAt t r) ⟨512 + n.val, by omega⟩ := by
  by_cases h : t.val % 16 = 0
  all_goals
    first | rw [outsAt0_A m c t h] | rw [outsAt0_B m c t h]
    frame_out
    by_cases hr : r.val < 256
    · rw [Rows.canon_off _ _ _ _ _ (Or.inl hr), Rows.canon_on _ _ _ _ _ (⟨r.val, hr⟩ : Fin 256) (by simp)]
      pointwise [k0_pay8]
      rw [proj0_at _ _ _ _ _ _ (wAt m c)]
      · exact proj_ld m c t _ r _ (by simp) _
      · exact fun k f q h => ld_w m c t 0 _ k f q h
      · exact fun k f q h => ld_w m c t 1 _ k f q h
      · exact fun k f q h => ld_w m c t 2 _ k f q h
      · exact fun k f q h => ld_w m c t 3 _ k f q h
    · have hs : r.val = 256 + (r.val - 256) := by omega
      rw [Rows.canon_on _ _ _ _ _ (⟨r.val - 256, by omega⟩ : Fin 256) hs]
      pointwise [k0_pay12]
      rw [proj1_at _ _ _ _ _ _ (wAt m c)]
      · exact proj_ld m c t _ r _ hs _
      · exact fun k f q h => ld_w m c t 0 _ k f q h
      · exact fun k f q h => ld_w m c t 1 _ k f q h
      · exact fun k f q h => ld_w m c t 2 _ k f q h
      · exact fun k f q h => ld_w m c t 3 _ k f q h

end Cert.FwdMixKernel

end
-- ==== Proof.FwdMixModel.lean ====
module

public import proofs.«01_k».proof.Proof.Rms

@[expose] public section

noncomputable section

/-! What two results of the mixer's forward pass are: the recurrence's branch of the input projection, and the two gates of
the recurrence, which read a causal convolution of that branch. -/

namespace Cert.FwdMixModel

open Idealize.ShloMosaic

variable (x : FVec Ideal ⟨2, ![8192, 1024]⟩ .f32) (g : FVec Ideal ⟨2, ![1, 1024]⟩ .f32)
  (w : FVec Ideal ⟨3, ![1, 1024, 1536]⟩ .f32) (cw : FVec Ideal ⟨3, ![1, 4, 512]⟩ .f32) (cb : FVec Ideal ⟨2, ![1, 512]⟩ .f32)
  (ga gx : FVec Ideal ⟨4, ![1, 8, 64, 64]⟩ .f32) (ba bx : FVec Ideal ⟨3, ![1, 8, 64]⟩ .f32)

/-- The projection of the normalised input. -/
def up (n : Fin 8192) (q : Fin 1536) : EReal :=
  ∑ k, Rms.unit (fun l => x (ix2 n l)) k * g (ix2 0 k) * w (ix3 0 k q)

/-- The recurrence's branch: the middle third of its columns. -/
def lru (n : Fin 8192) (l : Fin 512) : EReal := up x g w n ⟨512 + l.val, by omega⟩

/-- The same, zero outside the array. -/
def rows (n : ℕ) (l : Fin 512) : EReal := if h : n < 8192 then lru x g w ⟨n, h⟩ l else 0

/-- A sequence `d` steps earlier, zero before its start. -/
def tap (U : ℕ → Fin 512 → EReal) (d n : ℕ) (l : Fin 512) : EReal := if d ≤ n then U (n - d) l else 0

/-- The causal convolution of four taps. -/
def conv (U : ℕ → Fin 512 → EReal) (b w0 w1 w2 w3 : Fin 512 → EReal) (n : ℕ) (l : Fin 512) : EReal :=
  b l + tap U 3 n l * w0 l + tap U 2 n l * w1 l + tap U 1 n l * w2 l + U n l * w3 l

/-- The convolution of the recurrence's branch. -/
def xb (n : ℕ) (l : Fin 512) : EReal :=
  conv (rows x g w) (fun l => cb (ix2 0 l)) (fun l => cw (ix3 0 0 l)) (fun l => cw (ix3 0 1 l)) (fun l => cw (ix3 0 2 l))
    (fun l => cw (ix3 0 3 l)) n l

/-- A gate before its logistic function: a product head by head. -/
def pre (y : Fin 512 → EReal) (ga : FVec Ideal ⟨4, ![1, 8, 64, 64]⟩ .f32) (ba : FVec Ideal ⟨3, ![1, 8, 64]⟩ .f32) (l : Fin 512) :
    EReal :=
  (∑ i : Fin 64, y ⟨l.val / 64 * 64 + i.val, by omega⟩
    * ga (ix4 0 ⟨l.val / 64, by omega⟩ i ⟨l.val % 64, by omega⟩))
  + ba (ix3 0 ⟨l.val / 64, by omega⟩ ⟨l.val % 64, by omega⟩)

/-- The logistic function. -/
def sgm (x : EReal) : EReal := Ideal.div 1 (1 + Ideal.exp (0 - x))

/-- The two gates side by side. -/
def gates (n : Fin 8192) (q : Fin 1024) : EReal :=
  if h : q.val < 512 then sgm (pre (xb x g w cw cb n.val) ga ba ⟨q.val, h⟩)
  else sgm (pre (xb x g w cw cb n.val) gx bx ⟨q.val - 512, by omega⟩)

/-- A product with a block of two heads, zero off the diagonal, is the product with one head. -/
theorem pair_sum (F : Fin 128 → EReal) (G : Fin 64 → EReal) (j : Fin 2) :
    (∑ x : Fin 128, F x * if x.val / 64 = j.val then G ⟨x.val % 64, by omega⟩ else 0)
      = ∑ i : Fin 64, F ⟨j.val * 64 + i.val, by omega⟩ * G i := by
  refine ((Fin.sum_univ_tiles 2 64 rfl
    (fun x : Fin 128 => F x * if x.val / 64 = j.val then G ⟨x.val % 64, by omega⟩ else 0)).trans
    (Finset.sum_eq_single j (fun a _ ha => Finset.sum_eq_zero fun i _ => ?_) (fun h => absurd (Finset.mem_univ j) h))).trans
    (Finset.sum_congr rfl fun i _ => ?_)
  · have : ¬(a.val * 64 + i.val) / 64 = j.val := fun h => ha (Fin.ext (by omega))
    simp only [if_neg this, mul_zero]
  · have h : (j.val * 64 + i.val) / 64 = j.val := by omega
    have h' : (j.val * 64 + i.val) % 64 = i.val := by omega
    simp only [if_pos h, h', Fin.eta]

end Cert.FwdMixModel

end
-- ==== Proof.FwdMixGates.lean ====
module

public import proofs.«01_k».proof.Proof.FwdMixKernel
public import proofs.«01_k».proof.Proof.FwdMixModel
public import Idealize.ShloMosaic.Lib.StableHlo.RunRead

@[expose] public section

set_option maxRecDepth 16384

noncomputable section

/-! The gates of half a block: the convolution, the product head by head and the chunks of eight rows. -/

namespace Cert.FwdMixKernel

open Idealize.ShloMosaic Idealize.ShloMosaic.TcCoe Idealize.SL.Sem
open Cert.FwdMixIdeal Cert.FwdMixIdeal.Gen

section conv

variable (p : Vec Ideal S8x512 .f32) (u : Vec Ideal S256x512 .f32) (b w0 w1 w2 w3 : Vec Ideal S1x512 .f32)
  (U : ℕ → Fin 512 → EReal) (N : ℕ)

/-- The convolution as the kernel takes it, by rotations of eight earlier rows and the block. -/
def taps (r : Fin 256) (d : ℕ) (l : Fin 512) : EReal :=
  if h : (8 + r.val + 264 - d) % 264 < 8 then p (ix2 ⟨(8 + r.val + 264 - d) % 264, h⟩ l)
  else u (ix2 ⟨(8 + r.val + 264 - d) % 264 - 8, by omega⟩ l)

variable (hp : ∀ (i : Fin 8) l, p (ix2 i l) = if 8 ≤ N + i.val then U (N + i.val - 8) l else 0)
  (hu : ∀ (r : Fin 256) l, u (ix2 r l) = U (N + r.val) l)

include hp hu in
theorem taps_eq (r : Fin 256) (d : ℕ) (hd : d ≤ 8) (l : Fin 512) : taps p u r d l = FwdMixModel.tap U d (N + r.val) l := by
  unfold taps FwdMixModel.tap
  by_cases h : r.val < d
  · have e : (8 + r.val + 264 - d) % 264 = 8 + r.val - d := by omega
    rw [dif_pos (by omega), hp]
    simp only [e]
    split_ifs
    · exact congrArg (fun k => U k l) (by omega)
    · omega
    · omega
    · rfl
  · have e : (8 + r.val + 264 - d) % 264 = 8 + r.val - d := by omega
    rw [dif_neg (by omega), hu, if_pos (by omega)]
    simp only [e]
    exact congrArg (fun k => U k l) (by omega)

/-- The convolution of half a block. -/
abbrev cv (n : ℕ) (l : Fin 512) : EReal :=
  FwdMixModel.conv U (fun l => b (ix2 0 l)) (fun l => w0 (ix2 0 l)) (fun l => w1 (ix2 0 l)) (fun l => w2 (ix2 0 l))
    (fun l => w3 (ix2 0 l)) n l

include hp hu in
theorem conv0_at (r : Fin 256) (l : Fin 512) :
    k0_pay32 (F := Ideal) u (k0_pay30 p u b w0 w1 w2) (k0_pay31 w3) (ix2 r l) = cv b w0 w1 w2 w3 U (N + r.val) l := by
  unfold cv FwdMixModel.conv
  rw [← taps_eq p u U N hp hu r 3 (by omega), ← taps_eq p u U N hp hu r 2 (by omega),
    ← taps_eq p u U N hp hu r 1 (by omega), ← hu]
  pointwise [k0_pay32, k0_pay30, k0_pay31]
  rfl

include hp hu in
theorem conv1_at (r : Fin 256) (l : Fin 512) :
    k0_pay603 (F := Ideal) u (k0_pay599 p u) (k0_pay600 p u) (k0_pay601 p u) b w0 w1 w2 w3 (ix2 r l)
      = cv b w0 w1 w2 w3 U (N + r.val) l := by
  unfold cv FwdMixModel.conv
  rw [← taps_eq p u U N hp hu r 3 (by omega), ← taps_eq p u U N hp hu r 2 (by omega),
    ← taps_eq p u U N hp hu r 1 (by omega), ← hu]
  pointwise [k0_pay598, k0_pay599, k0_pay600, k0_pay601, k0_pay603]
  rfl

end conv

/-- Two heads as one block, zero off the diagonal. -/
def pair (a : FVec Ideal S1x8x64x64 .f32) (q : Fin 4) (k l : Fin 128) : EReal :=
  if k.val / 64 = l.val / 64 then a (ix4 0 ⟨q.val * 2 + l.val / 64, by omega⟩ ⟨k.val % 64, by omega⟩ ⟨l.val % 64, by omega⟩)
  else 0

theorem pair_eq (a : FVec Ideal S1x8x64x64 .f32) (q : Fin 4) (k l : Fin 128) (i : Fin 8) (k' l' : Fin 64)
    (h : k.val / 64 = l.val / 64) (hi : i.val = q.val * 2 + l.val / 64) (hk : k'.val = k.val % 64) (hl : l'.val = l.val % 64) :
    a (ix4 0 i k' l') = pair a q k l := by
  unfold pair
  rw [if_pos h, Fin.ext (a := i) (b := ⟨q.val * 2 + l.val / 64, by omega⟩) hi,
    Fin.ext (a := k') (b := ⟨k.val % 64, by omega⟩) hk, Fin.ext (a := l') (b := ⟨l.val % 64, by omega⟩) hl]

section gate

variable (a : FVec Ideal S1x8x64x64 .f32) (ba : FVec Ideal S1x8x64 .f32)

theorem head (q : Fin 4) (l : Fin 512) (f : Fin 128) (hl : l.val = 128 * q.val + f.val) (Y : Fin 512 → EReal) :
    ∑ x : Fin 128, Y ⟨128 * q.val + x.val, by omega⟩ * pair a q x f
      = ∑ i : Fin 64, Y ⟨l.val / 64 * 64 + i.val, by omega⟩
          * a (ix4 0 ⟨l.val / 64, by omega⟩ i ⟨l.val % 64, by omega⟩) := by
  refine (FwdMixModel.pair_sum (fun x => Y ⟨128 * q.val + x.val, by omega⟩)
    (fun i => a (ix4 0 ⟨q.val * 2 + f.val / 64, by omega⟩ i ⟨f.val % 64, by omega⟩)) ⟨f.val / 64, by omega⟩).trans ?_
  have e : l.val / 64 = q.val * 2 + f.val / 64 := by omega
  have e' : l.val % 64 = f.val % 64 := by omega
  refine Finset.sum_congr rfl fun i _ => ?_
  simp only [e, e']
  exact congrArg₂ _ (congrArg Y (Fin.ext (by simp only; omega))) rfl

/-- A bias, head by head. -/
def bias (ba : FVec Ideal S1x8x64 .f32) (l : Fin 512) : EReal :=
  ba (ix3 0 ⟨l.val / 64, by omega⟩ ⟨l.val % 64, by omega⟩)

/-- The four products side by side. -/
theorem cols (Y : Fin 512 → EReal) (l : Fin 512) :
    (if h : l.val < 128 then ∑ x : Fin 128, Y ⟨x.val, by omega⟩ * pair a 0 x ⟨l.val, h⟩
      else if h : l.val - 128 < 128 then ∑ x : Fin 128, Y ⟨128 + x.val, by omega⟩ * pair a 1 x ⟨l.val - 128, h⟩
      else if h : l.val - 128 - 128 < 128 then ∑ x : Fin 128, Y ⟨256 + x.val, by omega⟩ * pair a 2 x ⟨l.val - 128 - 128, h⟩
      else ∑ x : Fin 128, Y ⟨384 + x.val, by omega⟩ * pair a 3 x ⟨l.val - 128 - 128 - 128, by omega⟩)
      + bias ba l = FwdMixModel.pre Y a ba l := by
  unfold FwdMixModel.pre
  refine congrArg₂ _ ?_ rfl
  split_ifs with h0 h1 h2
  · refine Eq.trans ?_ (head a 0 l ⟨l.val, h0⟩ (by simp) Y)
    exact Finset.sum_congr rfl fun x _ => congrArg₂ _ (congrArg Y (Fin.ext (by simp))) rfl
  · refine Eq.trans ?_ (head a 1 l ⟨l.val - 128, h1⟩ (by simp; omega) Y)
    exact Finset.sum_congr rfl fun x _ => congrArg₂ _ (congrArg Y (Fin.ext (by simp))) rfl
  · refine Eq.trans ?_ (head a 2 l ⟨l.val - 128 - 128, h2⟩ (by simp; omega) Y)
    exact Finset.sum_congr rfl fun x _ => congrArg₂ _ (congrArg Y (Fin.ext (by simp))) rfl
  · refine Eq.trans ?_ (head a 3 l ⟨l.val - 128 - 128 - 128, by omega⟩ (by simp; omega) Y)
    exact Finset.sum_congr rfl fun x _ => congrArg₂ _ (congrArg Y (Fin.ext (by simp))) rfl

variable (g0 g1 g2 g3 : Vec Ideal S1x128x128 .bf16) (b : Vec Ideal S1x512 .f32)
  (h0 : ∀ k f, g0 (ix3 0 k f) = pair a 0 k f) (h1 : ∀ k f, g1 (ix3 0 k f) = pair a 1 k f)
  (h2 : ∀ k f, g2 (ix3 0 k f) = pair a 2 k f) (h3 : ∀ k f, g3 (ix3 0 k f) = pair a 3 k f)
  (hb : ∀ l : Fin 512, b (ix2 0 l) = bias ba l)
  (u v w : FVec Ideal S256x512 .f32) (r : Fin 256) (l : Fin 512)

include h0 h1 h2 h3 hb

theorem gate0r : k0_pay34 (F := Ideal) u v w g0 g1 g2 g3 b (ix2 r l)
    = FwdMixModel.pre (fun l => k0_pay32 (F := Ideal) u v w (ix2 r l)) a ba l := by
  pointwise [k0_pay34, k0_pay33]
  simp only [h0, h1, h2, h3, hb]
  exact cols a ba (fun l => k0_pay32 (F := Ideal) u v w (ix2 r l)) l

theorem gate0i : k0_pay37 (F := Ideal) (k0_pay33 u v w) (k0_pay35 u v w g0) (k0_pay36 u v w) g1 g2 g3 b (ix2 r l)
    = FwdMixModel.pre (fun l => k0_pay32 (F := Ideal) u v w (ix2 r l)) a ba l := by
  pointwise [k0_pay37, k0_pay36, k0_pay35, k0_pay33]
  simp only [h0, h1, h2, h3, hb]
  exact cols a ba (fun l => k0_pay32 (F := Ideal) u v w (ix2 r l)) l

variable (z : FVec Ideal S264x512 .f32) (y y0 y1 y2 y3 : Vec Ideal S1x512 .f32)

theorem gate1r : k0_pay609 (F := Ideal) (k0_pay605 u v w z y y0 y1 y2 y3 g0) (k0_pay606 u v w z y y0 y1 y2 y3 g1)
    (k0_pay607 u v w z y y0 y1 y2 y3 g2) (k0_pay608 u v w z y y0 y1 y2 y3) g3 b (ix2 r l)
    = FwdMixModel.pre (fun l => k0_pay603 (F := Ideal) u v w z y y0 y1 y2 y3 (ix2 r l)) a ba l := by
  pointwise [k0_pay609, k0_pay608, k0_pay607, k0_pay606, k0_pay605, k0_pay604]
  simp only [h0, h1, h2, h3, hb]
  exact cols a ba (fun l => k0_pay603 (F := Ideal) u v w z y y0 y1 y2 y3 (ix2 r l)) l

theorem gate1i : k0_pay611 (k0_pay610 (F := Ideal) (k0_pay604 u v w z y y0 y1 y2 y3) g0 g1 g2 g3 b) (ix2 r l)
    = FwdMixModel.pre (fun l => k0_pay603 (F := Ideal) u v w z y y0 y1 y2 y3 (ix2 r l)) a ba l := by
  pointwise [k0_pay611, k0_pay610, k0_pay604]
  simp only [h0, h1, h2, h3, hb]
  exact cols a ba (fun l => k0_pay603 (F := Ideal) u v w z y y0 y1 y2 y3 (ix2 r l)) l

end gate

section host

variable (m : (ℓ : Loc nD τ sig) → Buf (Elt Ideal) ℓ) (c : Dev nD)

/-- The argument arrays the gates read. -/
abbrev aCw : FVec Ideal S1x4x512 .f32 := m ((c : Thread nD τ).loc main_arg6)
abbrev aCb : FVec Ideal S1x512 .f32 := m ((c : Thread nD τ).loc main_arg7)
abbrev aGa : FVec Ideal S1x8x64x64 .f32 := m ((c : Thread nD τ).loc main_arg8)
abbrev aBa : FVec Ideal S1x8x64 .f32 := m ((c : Thread nD τ).loc main_arg9)
abbrev aGx : FVec Ideal S1x8x64x64 .f32 := m ((c : Thread nD τ).loc main_arg10)
abbrev aBx : FVec Ideal S1x8x64 .f32 := m ((c : Thread nD τ).loc main_arg11)

theorem cw_at (k : Fin 4) (l : Fin 512) : (V m c main_v7 : FVec Ideal S4x512 .f32) (ix2 k l) = aCw m c (ix3 0 k l) := by
  unfold V
  simp only [List.flatten_cons, List.flatten_nil, hostOps0, List.cons_append, List.nil_append]
  after_reads_at

theorem b_at (k : Fin 1) (l : Fin 512) : (V m c main_v19 : FVec Ideal S1x512 .f32) (ix2 k l) = bias (aBa m c) l
    ∧ (V m c main_v31 : FVec Ideal S1x512 .f32) (ix2 k l) = bias (aBx m c) l := by
  unfold V bias
  simp only [List.flatten_cons, List.flatten_nil, hostOps0, List.cons_append, List.nil_append]
  constructor
  all_goals
    after_reads_at

/-- The gates' weights, as the host code lays them out. -/
theorem g_at (q : Fin 4) (k l : Fin 128) :
    (V m c main_v18 : FVec Ideal S4x128x128 .bf16) (ix3 q k l) = pair (aGa m c) q k l
      ∧ (V m c main_v30 : FVec Ideal S4x128x128 .bf16) (ix3 q k l) = pair (aGx m c) q k l := by
  unfold V
  simp only [List.flatten_cons, List.flatten_nil, hostOps0, List.cons_append, List.nil_append]
  constructor
  all_goals
    after_reads_at
    by_cases h : k.val < 64
    · refine (dif_pos h).trans ?_
      after_reads_at
      by_cases h' : l.val < 64
      · refine (dif_pos h').trans (pair_eq _ q k l _ _ _ (by omega) ?_ ?_ ?_)
        all_goals
          try simp only
          omega
      · exact (dif_neg h').trans (if_neg (by omega)).symm
    · refine (dif_neg h).trans ?_
      after_reads_at
      by_cases h' : l.val < 64
      · exact (dif_pos h').trans (if_neg (by omega)).symm
      · refine (dif_neg h').trans (pair_eq _ q k l _ _ _ (by omega) ?_ ?_ ?_)
        all_goals
          try simp only
          omega

theorem idx' : ∀ t : Fin cfg0.N, win0_6.index t = ![0, 0] ∧ win0_7.index t = ![0, 0] ∧ win0_8.index t = ![0, 0, 0]
    ∧ win0_9.index t = ![0, 0] ∧ win0_10.index t = ![0, 0, 0] ∧ win0_11.index t = ![0, 0] ∧ win0_17.index t = ![t.val, 0] :=
  (by decide +kernel : ∀ t : Fin grid0.N, _)

theorem blk_cw (t : Fin cfg0.N) (k : Fin 4) (l : Fin 512) : iblk m c 6 t (ix2 k l) = aCw m c (ix3 0 k l) := by
  rw [← cw_at]
  blk_ext [iblk, idx' t]

theorem blk_cb (t : Fin cfg0.N) (k : Fin 1) (l : Fin 512) : iblk m c 7 t (ix2 k l) = aCb m c (ix2 k l) := by
  blk_ext [iblk, V, idx' t]

theorem blk_ga (t : Fin cfg0.N) (q : Fin 4) (k l : Fin 128) : iblk m c 8 t (ix3 q k l) = pair (aGa m c) q k l := by
  rw [← (g_at m c q k l).1]
  blk_ext [iblk, idx' t]

theorem blk_ba (t : Fin cfg0.N) (l : Fin 512) : iblk m c 9 t (ix2 0 l) = bias (aBa m c) l := by
  rw [← (b_at m c 0 l).1]
  blk_ext [iblk, idx' t]

theorem blk_gx (t : Fin cfg0.N) (q : Fin 4) (k l : Fin 128) : iblk m c 10 t (ix3 q k l) = pair (aGx m c) q k l := by
  rw [← (g_at m c q k l).2]
  blk_ext [iblk, idx' t]

theorem blk_bx (t : Fin cfg0.N) (l : Fin 512) : iblk m c 11 t (ix2 0 l) = bias (aBx m c) l := by
  rw [← (b_at m c 0 l).2]
  blk_ext [iblk, idx' t]

/-- Loads of one pair of heads. -/
theorem ld_ga (t : Fin cfg0.N) (q : Fin 4)
    (inb : ∀ i : Fin 3, (![q.val, 0, 0] : Fin 3 → ℕ) i + (![1, 128, 128] : Fin 3 → ℕ) i ≤ (![4, 128, 128] : Fin 3 → ℕ) i)
    (k f : Fin 128) :
    View.ld (iblk m c 8 t) (Rect.unit (s := ⟨3, ![4, 128, 128]⟩) ![q.val, 0, 0] ![1, 128, 128] inb) (ix3 0 k f)
      = pair (aGa m c) q k f :=
  (Stacks.load_at inb q k f _ rfl).trans (blk_ga m c t q k f)

theorem ld_gx (t : Fin cfg0.N) (q : Fin 4)
    (inb : ∀ i : Fin 3, (![q.val, 0, 0] : Fin 3 → ℕ) i + (![1, 128, 128] : Fin 3 → ℕ) i ≤ (![4, 128, 128] : Fin 3 → ℕ) i)
    (k f : Fin 128) :
    View.ld (iblk m c 10 t) (Rect.unit (s := ⟨3, ![4, 128, 128]⟩) ![q.val, 0, 0] ![1, 128, 128] inb) (ix3 0 k f)
      = pair (aGx m c) q k f :=
  (Stacks.load_at inb q k f _ rfl).trans (blk_gx m c t q k f)

/-- A load of one tap's weights. -/
theorem ld_cw (t : Fin cfg0.N) (k : Fin 4)
    (inb : ∀ i : Fin 2, (![k.val, 0] : Fin 2 → ℕ) i + (![1, 512] : Fin 2 → ℕ) i ≤ (![4, 512] : Fin 2 → ℕ) i) (l : Fin 512) :
    View.ld (iblk m c 6 t) (Rect.unit (s := ⟨2, ![4, 512]⟩) ![k.val, 0] ![1, 512] inb) (ix2 0 l) = aCw m c (ix3 0 k l) :=
  (Rows.load_at inb k l _ 0 (by simp)).trans (blk_cw m c t k l)

end host

end Cert.FwdMixKernel

end
-- ==== Proof.FwdMixOut.lean ====
module

public import proofs.«01_k».proof.Proof.FwdMixGates

@[expose] public section

set_option maxRecDepth 16384

noncomputable section

namespace Cert.FwdMixKernel

open Idealize.ShloMosaic Idealize.ShloMosaic.TcCoe Idealize.SL.Sem
open Cert.FwdMixIdeal Cert.FwdMixIdeal.Gen

/-- The logistic function of eight rows, as the kernel writes it. -/
def sgm8 (x : Vec Ideal S8x512 .f32) : FVec Ideal S8x512 .f32 :=
  shapeCast S8x512 (divf (broadcast S8x512 (Scalar.ofBits .f32 0x3F800000#32)) (addf (broadcast S8x512 (Scalar.ofBits .f32 0x3F800000#32))
    (exp (subf (broadcast S8x512 (Scalar.ofBits .f32 0x00000000#32)) x)))) shapeCasts_S8x512_S8x512

theorem sgm8_at (x : Vec Ideal S8x512 .f32) (i : Fin 8) (l : Fin 512) : sgm8 x (ix2 i l) = FwdMixModel.sgm (x (ix2 i l)) := by
  pointwise [sgm8]
  rfl

/-- The first `k` chunks of eight rows have been replaced by their logistic function. -/
def Done (L : List (View.Piece (Elt Ideal) S256x512 .f32)) (B : Fin 256 → Fin 512 → EReal) (k : ℕ) : Prop :=
  ∀ r l, View.canon L (ix2 r l) = if r.val < 8 * k then FwdMixModel.sgm (B r l) else B r l

theorem Done.step {L : List (View.Piece (Elt Ideal) S256x512 .f32)} {B : Fin 256 → Fin 512 → EReal} {k o : ℕ}
    {s : RefSig} {κ : Kind} {sp : Space} {v : View s κ sp S256x512 .f32}
    {inb inb' : ∀ i : Fin 2, (![o, 0] : Fin 2 → ℕ) i + (![8, 512] : Fin 2 → ℕ) i ≤ (![256, 512] : Fin 2 → ℕ) i}
    {w : Vec Ideal S8x512 .f32} (ho : o = 8 * k)
    (hw : w = sgm8 (v.readCov L (Rect.unit (s := ⟨2, ![256, 512]⟩) ![o, 0] ![8, 512] inb').toLoadRect)) (h : Done L B k) :
    Done (⟨Rect.unit (s := ⟨2, ![256, 512]⟩) ![o, 0] ![8, 512] inb, w⟩ :: L) B (k + 1) := by
  intro r l
  by_cases hr : r.val < o ∨ o + 8 ≤ r.val
  · rw [Rows.canon_off _ _ _ _ _ hr, h r l]
    split_ifs <;> first | rfl | omega
  · have hi : r.val = o + (r.val - o) := by omega
    rw [Rows.canon_on inb w L r l (⟨r.val - o, by omega⟩ : Fin 8) hi, hw, sgm8_at, Rows.cov_at _ _ _ _ _ _ hi, h r l,
      if_neg (by omega), if_pos (by omega)]

theorem Done.base {L : List (View.Piece (Elt Ideal) S256x512 .f32)} {B : Fin 256 → Fin 512 → EReal}
    {inb : ∀ i : Fin 2, (![0, 0] : Fin 2 → ℕ) i + (![256, 512] : Fin 2 → ℕ) i ≤ (![256, 512] : Fin 2 → ℕ) i}
    {w : Vec Ideal S256x512 .f32} (h : ∀ r l, w (ix2 r l) = B r l) :
    Done (⟨Rect.unit (s := ⟨2, ![256, 512]⟩) ![0, 0] ![256, 512] inb, w⟩ :: L) B 0 := by
  intro r l
  rw [Rows.canon_on inb w L r l r (by simp), h, if_neg (by omega)]

/-- All 32 chunks read back. -/
theorem Done.read {L : List (View.Piece (Elt Ideal) S256x512 .f32)} {B : Fin 256 → Fin 512 → EReal}
    {s : RefSig} {κ : Kind} {sp : Space} {v : View s κ sp S256x512 .f32}
    {inb : ∀ i : Fin 2, (![0, 0] : Fin 2 → ℕ) i + (![256, 512] : Fin 2 → ℕ) i ≤ (![256, 512] : Fin 2 → ℕ) i}
    (h : Done L B 32) (r : Fin 256) (l : Fin 512) :
    v.readCov L (Rect.unit (s := ⟨2, ![256, 512]⟩) ![0, 0] ![256, 512] inb).toLoadRect (ix2 r l) = FwdMixModel.sgm (B r l) := by
  rw [Rows.cov_at inb L r l v r (by simp), h r l, if_pos (by omega)]

/-- The two gates side by side. -/
theorem cat0 {a b : Vec Ideal S256x512 .f32} {A B : Fin 256 → Fin 512 → EReal} (ha : ∀ r l, a (ix2 r l) = A r l)
    (hb : ∀ r l, b (ix2 r l) = B r l) (r : Fin 256) (n : Fin 1024) : k0_pay581 (F := Ideal) a b (ix2 r n)
      = if h : n.val < 512 then A r ⟨n.val, h⟩ else B r ⟨n.val - 512, by omega⟩ := by
  pointwise [k0_pay581]
  split_ifs <;> simp only [ha, hb]

theorem cat1 {a b : Vec Ideal S256x512 .f32} {A B : Fin 256 → Fin 512 → EReal} (ha : ∀ r l, a (ix2 r l) = A r l)
    (hb : ∀ r l, b (ix2 r l) = B r l) (r : Fin 256) (n : Fin 1024) : k0_pay1176 (F := Ideal) a b (ix2 r n)
      = if h : n.val < 512 then A r ⟨n.val, h⟩ else B r ⟨n.val - 512, by omega⟩ := by
  pointwise [k0_pay1176]
  split_ifs <;> simp only [ha, hb]

variable (m : (ℓ : Loc nD τ sig) → Buf (Elt Ideal) ℓ) (c : Dev nD)

/-- The recurrence's branch, row by row. -/
abbrev U : ℕ → Fin 512 → EReal := FwdMixModel.rows (aX m c) (aG m c) (aW m c)

theorem rows_at (t : Fin cfg0.N) (r : Fin 512) (l : Fin 512) (n : ℕ) (h : n = t.val * 512 + r.val) :
    up m c (rowAt t r) ⟨512 + l.val, by omega⟩ = U m c n l := by
  subst h
  have h : t.val * 512 + r.val < 8192 := (rowAt t r).isLt
  refine Eq.trans ?_ (dif_pos (c := t.val * 512 + r.val < 8192)
    (t := fun h => FwdMixModel.lru (aX m c) (aG m c) (aW m c) ⟨t.val * 512 + r.val, h⟩ l) (e := fun _ => 0) h).symm
  rfl

theorem u0_at (t : Fin cfg0.N) (e i0 i1 i2 i3) (r : Fin 256) (l : Fin 512) :
    k0_pay14 (F := Ideal) (k0_pay7 (View.ld (iblk m c 0 t) (Rect.unit (s := ⟨2, ![512, 1024]⟩) ![0, 0] ![256, 1024] e))
      (k0_pay6 (View.ld (iblk m c 0 t) (Rect.unit (s := ⟨2, ![512, 1024]⟩) ![0, 0] ![256, 1024] e))) (iblk m c 1 t)
      (View.ld (iblk m c 2 t) (Rect.unit (s := ⟨3, ![4, 1024, 384]⟩) ![0, 0, 0] ![1, 1024, 384] i0))
      (View.ld (iblk m c 2 t) (Rect.unit (s := ⟨3, ![4, 1024, 384]⟩) ![1, 0, 0] ![1, 1024, 384] i1))
      (View.ld (iblk m c 2 t) (Rect.unit (s := ⟨3, ![4, 1024, 384]⟩) ![2, 0, 0] ![1, 1024, 384] i2))
      (View.ld (iblk m c 2 t) (Rect.unit (s := ⟨3, ![4, 1024, 384]⟩) ![3, 0, 0] ![1, 1024, 384] i3))) (ix2 r l)
      = U m c (t.val * 512 + r.val) l := by
  pointwise [k0_pay14]
  rw [proj0_at _ _ _ _ _ _ (wAt m c)]
  · exact (proj_ld m c t _ ⟨r.val, by omega⟩ _ (by simp) _).trans (rows_at m c t _ l _ rfl)
  · exact fun k f q h => ld_w m c t 0 _ k f q h
  · exact fun k f q h => ld_w m c t 1 _ k f q h
  · exact fun k f q h => ld_w m c t 2 _ k f q h
  · exact fun k f q h => ld_w m c t 3 _ k f q h

theorem u1_at (t : Fin cfg0.N) (e i0 i1 i2 i3) (r : Fin 256) (l : Fin 512) :
    k0_pay585 (F := Ideal) (k0_pay11 (View.ld (iblk m c 0 t) (Rect.unit (s := ⟨2, ![512, 1024]⟩) ![256, 0] ![256, 1024] e))
      (k0_pay9 (View.ld (iblk m c 0 t) (Rect.unit (s := ⟨2, ![512, 1024]⟩) ![256, 0] ![256, 1024] e))) k0_pay10 (iblk m c 1 t)
      (View.ld (iblk m c 2 t) (Rect.unit (s := ⟨3, ![4, 1024, 384]⟩) ![0, 0, 0] ![1, 1024, 384] i0))
      (View.ld (iblk m c 2 t) (Rect.unit (s := ⟨3, ![4, 1024, 384]⟩) ![1, 0, 0] ![1, 1024, 384] i1))
      (View.ld (iblk m c 2 t) (Rect.unit (s := ⟨3, ![4, 1024, 384]⟩) ![2, 0, 0] ![1, 1024, 384] i2))
      (View.ld (iblk m c 2 t) (Rect.unit (s := ⟨3, ![4, 1024, 384]⟩) ![3, 0, 0] ![1, 1024, 384] i3))) (ix2 r l)
      = U m c (t.val * 512 + 256 + r.val) l := by
  pointwise [k0_pay585]
  rw [proj1_at _ _ _ _ _ _ (wAt m c)]
  · exact (proj_ld m c t _ ⟨256 + r.val, by omega⟩ _ rfl _).trans (rows_at m c t _ l _ (by simp only; omega))
  · exact fun k f q h => ld_w m c t 0 _ k f q h
  · exact fun k f q h => ld_w m c t 1 _ k f q h
  · exact fun k f q h => ld_w m c t 2 _ k f q h
  · exact fun k f q h => ld_w m c t 3 _ k f q h

/-- The rows carried to the next block: the last eight. -/
theorem carry_at (t : Fin cfg0.N) (i : Fin 8) (l : Fin 512) :
    (outsAt0 m c t.val t.isLt).2.2.2.2.2.2.2.1 (ix2 i l) = U m c (t.val * 512 + 504 + i.val) l := by
  by_cases h : t.val % 16 = 0
  all_goals
    first | rw [outsAt0_A m c t h] | rw [outsAt0_B m c t h]
    frame_out
    pointwise [k0_pay1180, k0_pay602]
    refine (u1_at m c t _ _ _ _ _ _ _).trans (congrArg (fun k => U m c k l) ?_)
    simp only
    omega

/-- Half a gate of the row `r` of a block. -/
abbrev gr (t : Fin cfg0.N) (o : ℕ) (r : Fin 256) (l : Fin 512) : EReal :=
  FwdMixModel.pre (FwdMixModel.xb (aX m c) (aG m c) (aW m c) (aCw m c) (aCb m c) (t.val * 512 + o + r.val)) (aGa m c) (aBa m c) l
abbrev gi (t : Fin cfg0.N) (o : ℕ) (r : Fin 256) (l : Fin 512) : EReal :=
  FwdMixModel.pre (FwdMixModel.xb (aX m c) (aG m c) (aW m c) (aCw m c) (aCb m c) (t.val * 512 + o + r.val)) (aGx m c) (aBx m c) l

/-- The convolution of one half, at the loads of its weights. -/
theorem cv_at (t : Fin cfg0.N) (e0 e1 e2 e3) (n : ℕ) (l : Fin 512) :
    cv (iblk m c 7 t) (View.ld (iblk m c 6 t) (Rect.unit (s := ⟨2, ![4, 512]⟩) ![0, 0] ![1, 512] e0))
      (View.ld (iblk m c 6 t) (Rect.unit (s := ⟨2, ![4, 512]⟩) ![1, 0] ![1, 512] e1))
      (View.ld (iblk m c 6 t) (Rect.unit (s := ⟨2, ![4, 512]⟩) ![2, 0] ![1, 512] e2))
      (View.ld (iblk m c 6 t) (Rect.unit (s := ⟨2, ![4, 512]⟩) ![3, 0] ![1, 512] e3)) (U m c) n l
      = FwdMixModel.xb (aX m c) (aG m c) (aW m c) (aCw m c) (aCb m c) n l := by
  unfold cv FwdMixModel.xb FwdMixModel.conv
  refine congrArg₂ _ (congrArg₂ _ (congrArg₂ _ (congrArg₂ _ (blk_cb m c t 0 l) ?_) ?_) ?_) ?_
  · exact congrArg (fun z => FwdMixModel.tap (U m c) 3 n l * z) (ld_cw m c t 0 e0 l)
  · exact congrArg (fun z => FwdMixModel.tap (U m c) 2 n l * z) (ld_cw m c t 1 e1 l)
  · exact congrArg (fun z => FwdMixModel.tap (U m c) 1 n l * z) (ld_cw m c t 2 e2 l)
  · exact congrArg (fun z => U m c n l * z) (ld_cw m c t 3 e3 l)

/-- The eight rows before a block: none before the first. -/
theorem prev_A (t : Fin cfg0.N) (h : t.val % 16 = 0) (i : Fin 8) (l : Fin 512) :
    k0_pay3 (F := Ideal) (ix2 i l) = if 8 ≤ t.val * 512 + i.val then U m c (t.val * 512 + i.val - 8) l else 0 := by
  have := lt_of_lt_of_eq t.isLt N_0
  rw [if_neg (by omega)]
  pointwise [k0_pay3]

theorem prev_B (t : Fin cfg0.N) (h : ¬t.val % 16 = 0) (h' : t.val - 1 < cfg0.N) (i : Fin 8) (l : Fin 512) :
    (outsAt0 m c (t.val - 1) h').2.2.2.2.2.2.2.1 (ix2 i l)
      = if 8 ≤ t.val * 512 + i.val then U m c (t.val * 512 + i.val - 8) l else 0 := by
  rw [if_pos (by omega)]
  exact (carry_at m c ⟨t.val - 1, h'⟩ i l).trans (congrArg (fun k => U m c k l) (by simp only; omega))

theorem prev_1 (t : Fin cfg0.N) {u : FVec Ideal S256x512 .f32}
    (hu : ∀ (r : Fin 256) (l : Fin 512), u (ix2 r l) = U m c (t.val * 512 + r.val) l) (i : Fin 8) (l : Fin 512) :
    k0_pay29 (F := Ideal) u (ix2 i l)
      = if 8 ≤ t.val * 512 + 256 + i.val then U m c (t.val * 512 + 256 + i.val - 8) l else 0 := by
  rw [if_pos (by omega)]
  pointwise [k0_pay29]
  exact (hu _ l).trans (congrArg (fun k => U m c k l) (by simp only; omega))

/-- Both halves of the block side by side are the gates. -/
theorem gates_of (t : Fin cfg0.N) (o : ℕ) (r : Fin 512) (i : Fin 256) (hi : r.val = o + i.val) (n : Fin 1024) :
    (if h : n.val < 512 then FwdMixModel.sgm (gr m c t o i ⟨n.val, h⟩) else FwdMixModel.sgm (gi m c t o i ⟨n.val - 512, by omega⟩))
      = FwdMixModel.gates (aX m c) (aG m c) (aW m c) (aCw m c) (aCb m c) (aGa m c) (aGx m c) (aBa m c) (aBx m c) (rowAt t r) n := by
  have e : (rowAt t r).val = t.val * 512 + o + i.val := by simp only [rowAt]; omega
  unfold FwdMixModel.gates gr gi
  rw [e]

section half

variable (t : Fin cfg0.N) {p : Vec Ideal S8x512 .f32} {u : Vec Ideal S256x512 .f32}

/-- The recurrence gate of the upper half, before its logistic function. -/
theorem half0r (e0 e1 e2 e3 i0 i1 i2 i3)
    (hp : ∀ (i : Fin 8) l, p (ix2 i l) = if 8 ≤ t.val * 512 + i.val then U m c (t.val * 512 + i.val - 8) l else 0)
    (hu : ∀ (r : Fin 256) l, u (ix2 r l) = U m c (t.val * 512 + r.val) l) (r : Fin 256) (l : Fin 512) :
    k0_pay34 (F := Ideal) u (k0_pay30 p u (iblk m c 7 t) (View.ld (iblk m c 6 t) (Rect.unit (s := ⟨2, ![4, 512]⟩) ![0, 0] ![1, 512] e0))
      (View.ld (iblk m c 6 t) (Rect.unit (s := ⟨2, ![4, 512]⟩) ![1, 0] ![1, 512] e1))
      (View.ld (iblk m c 6 t) (Rect.unit (s := ⟨2, ![4, 512]⟩) ![2, 0] ![1, 512] e2)))
      (k0_pay31 (View.ld (iblk m c 6 t) (Rect.unit (s := ⟨2, ![4, 512]⟩) ![3, 0] ![1, 512] e3)))
      (View.ld (iblk m c 8 t) (Rect.unit (s := ⟨3, ![4, 128, 128]⟩) ![0, 0, 0] ![1, 128, 128] i0))
      (View.ld (iblk m c 8 t) (Rect.unit (s := ⟨3, ![4, 128, 128]⟩) ![1, 0, 0] ![1, 128, 128] i1))
      (View.ld (iblk m c 8 t) (Rect.unit (s := ⟨3, ![4, 128, 128]⟩) ![2, 0, 0] ![1, 128, 128] i2))
      (View.ld (iblk m c 8 t) (Rect.unit (s := ⟨3, ![4, 128, 128]⟩) ![3, 0, 0] ![1, 128, 128] i3))
      (iblk m c 9 t) (ix2 r l) = gr m c t 0 r l := by
  refine (gate0r _ _ _ _ _ _ _ (fun k f => ld_ga m c t 0 _ k f) (fun k f => ld_ga m c t 1 _ k f)
    (fun k f => ld_ga m c t 2 _ k f) (fun k f => ld_ga m c t 3 _ k f) (blk_ba m c t) _ _ _ _ _).trans
    (congrArg (fun y => FwdMixModel.pre y _ _ l) (funext fun l => ?_))
  exact (conv0_at _ _ _ _ _ _ _ (U m c) (t.val * 512) hp hu _ _).trans (cv_at m c t _ _ _ _ _ _)

/-- The input gate of the upper half. -/
theorem half0i (e0 e1 e2 e3 i0 i1 i2 i3)
    (hp : ∀ (i : Fin 8) l, p (ix2 i l) = if 8 ≤ t.val * 512 + i.val then U m c (t.val * 512 + i.val - 8) l else 0)
    (hu : ∀ (r : Fin 256) l, u (ix2 r l) = U m c (t.val * 512 + r.val) l) (r : Fin 256) (l : Fin 512) :
    k0_pay37 (F := Ideal)
      (k0_pay33 u (k0_pay30 p u (iblk m c 7 t) (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2)))
        (k0_pay31 (View.ld (iblk m c 6 t) (Rect.unit (s := ⟨2, ![4, 512]⟩) ![3, 0] ![1, 512] e3))))
      (k0_pay35 u (k0_pay30 p u (iblk m c 7 t) (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2)))
        (k0_pay31 (View.ld (iblk m c 6 t) (Rect.unit (s := ⟨2, ![4, 512]⟩) ![3, 0] ![1, 512] e3)))
        (View.ld (iblk m c 10 t) (Rect.unit (s := ⟨3, ![4, 128, 128]⟩) ![0, 0, 0] ![1, 128, 128] i0)))
      (k0_pay36 u (k0_pay30 p u (iblk m c 7 t) (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2)))
        (k0_pay31 (View.ld (iblk m c 6 t) (Rect.unit (s := ⟨2, ![4, 512]⟩) ![3, 0] ![1, 512] e3))))
      (View.ld (iblk m c 10 t) (Rect.unit (s := ⟨3, ![4, 128, 128]⟩) ![1, 0, 0] ![1, 128, 128] i1))
      (View.ld (iblk m c 10 t) (Rect.unit (s := ⟨3, ![4, 128, 128]⟩) ![2, 0, 0] ![1, 128, 128] i2))
      (View.ld (iblk m c 10 t) (Rect.unit (s := ⟨3, ![4, 128, 128]⟩) ![3, 0, 0] ![1, 128, 128] i3))
      (iblk m c 11 t) (ix2 r l) = gi m c t 0 r l := by
  refine (gate0i _ _ _ _ _ _ _ (fun k f => ld_gx m c t 0 _ k f) (fun k f => ld_gx m c t 1 _ k f)
    (fun k f => ld_gx m c t 2 _ k f) (fun k f => ld_gx m c t 3 _ k f) (blk_bx m c t) _ _ _ _ _).trans
    (congrArg (fun y => FwdMixModel.pre y _ _ l) (funext fun l => ?_))
  exact (conv0_at _ _ _ _ _ _ _ (U m c) (t.val * 512) hp hu _ _).trans (cv_at m c t _ _ _ _ _ _)

/-- The recurrence gate of the lower half. -/
theorem half1r (e0 e1 e2 e3 i0 i1 i2 i3)
    (hp : ∀ (i : Fin 8) l, p (ix2 i l) = if 8 ≤ t.val * 512 + 256 + i.val then U m c (t.val * 512 + 256 + i.val - 8) l else 0)
    (hu : ∀ (r : Fin 256) l, u (ix2 r l) = U m c (t.val * 512 + 256 + r.val) l) (r : Fin 256) (l : Fin 512) :
    k0_pay609 (F := Ideal)
      (k0_pay605 u (k0_pay599 p u) (k0_pay600 p u) (k0_pay601 p u) (iblk m c 7 t)
        (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2))
        (View.ld (iblk m c 6 t) (Rect.unit (s := ⟨2, ![4, 512]⟩) ![3, 0] ![1, 512] e3))
        (View.ld (iblk m c 8 t) (Rect.unit (s := ⟨3, ![4, 128, 128]⟩) ![0, 0, 0] ![1, 128, 128] i0)))
      (k0_pay606 u (k0_pay599 p u) (k0_pay600 p u) (k0_pay601 p u) (iblk m c 7 t)
        (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2))
        (View.ld (iblk m c 6 t) (Rect.unit (s := ⟨2, ![4, 512]⟩) ![3, 0] ![1, 512] e3))
        (View.ld (iblk m c 8 t) (Rect.unit (s := ⟨3, ![4, 128, 128]⟩) ![1, 0, 0] ![1, 128, 128] i1)))
      (k0_pay607 u (k0_pay599 p u) (k0_pay600 p u) (k0_pay601 p u) (iblk m c 7 t)
        (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2))
        (View.ld (iblk m c 6 t) (Rect.unit (s := ⟨2, ![4, 512]⟩) ![3, 0] ![1, 512] e3))
        (View.ld (iblk m c 8 t) (Rect.unit (s := ⟨3, ![4, 128, 128]⟩) ![2, 0, 0] ![1, 128, 128] i2)))
      (k0_pay608 u (k0_pay599 p u) (k0_pay600 p u) (k0_pay601 p u) (iblk m c 7 t)
        (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2))
        (View.ld (iblk m c 6 t) (Rect.unit (s := ⟨2, ![4, 512]⟩) ![3, 0] ![1, 512] e3)))
      (View.ld (iblk m c 8 t) (Rect.unit (s := ⟨3, ![4, 128, 128]⟩) ![3, 0, 0] ![1, 128, 128] i3))
      (iblk m c 9 t) (ix2 r l) = gr m c t 256 r l := by
  refine (gate1r _ _ _ _ _ _ _ (fun k f => ld_ga m c t 0 _ k f) (fun k f => ld_ga m c t 1 _ k f)
    (fun k f => ld_ga m c t 2 _ k f) (fun k f => ld_ga m c t 3 _ k f) (blk_ba m c t) _ _ _ _ _ _ _ _ _ _ _).trans
    (congrArg (fun y => FwdMixModel.pre y _ _ l) (funext fun l => ?_))
  exact (conv1_at _ _ _ _ _ _ _ (U m c) (t.val * 512 + 256) hp hu _ _).trans (cv_at m c t _ _ _ _ _ _)

/-- The input gate of the lower half. -/
theorem half1i (e0 e1 e2 e3 i0 i1 i2 i3)
    (hp : ∀ (i : Fin 8) l, p (ix2 i l) = if 8 ≤ t.val * 512 + 256 + i.val then U m c (t.val * 512 + 256 + i.val - 8) l else 0)
    (hu : ∀ (r : Fin 256) l, u (ix2 r l) = U m c (t.val * 512 + 256 + r.val) l) (r : Fin 256) (l : Fin 512) :
    k0_pay611 (k0_pay610 (F := Ideal)
      (k0_pay604 u (k0_pay599 p u) (k0_pay600 p u) (k0_pay601 p u) (iblk m c 7 t)
        (View.ld (iblk m c 6 t) (Rect.unit (s := ⟨2, ![4, 512]⟩) ![0, 0] ![1, 512] e0))
        (View.ld (iblk m c 6 t) (Rect.unit (s := ⟨2, ![4, 512]⟩) ![1, 0] ![1, 512] e1))
        (View.ld (iblk m c 6 t) (Rect.unit (s := ⟨2, ![4, 512]⟩) ![2, 0] ![1, 512] e2))
        (View.ld (iblk m c 6 t) (Rect.unit (s := ⟨2, ![4, 512]⟩) ![3, 0] ![1, 512] e3)))
      (View.ld (iblk m c 10 t) (Rect.unit (s := ⟨3, ![4, 128, 128]⟩) ![0, 0, 0] ![1, 128, 128] i0))
      (View.ld (iblk m c 10 t) (Rect.unit (s := ⟨3, ![4, 128, 128]⟩) ![1, 0, 0] ![1, 128, 128] i1))
      (View.ld (iblk m c 10 t) (Rect.unit (s := ⟨3, ![4, 128, 128]⟩) ![2, 0, 0] ![1, 128, 128] i2))
      (View.ld (iblk m c 10 t) (Rect.unit (s := ⟨3, ![4, 128, 128]⟩) ![3, 0, 0] ![1, 128, 128] i3))
      (iblk m c 11 t)) (ix2 r l) = gi m c t 256 r l := by
  refine (gate1i _ _ _ _ _ _ _ (fun k f => ld_gx m c t 0 _ k f) (fun k f => ld_gx m c t 1 _ k f)
    (fun k f => ld_gx m c t 2 _ k f) (fun k f => ld_gx m c t 3 _ k f) (blk_bx m c t) _ _ _ _ _ _ _ _ _ _ _).trans
    (congrArg (fun y => FwdMixModel.pre y _ _ l) (funext fun l => ?_))
  exact (conv1_at _ _ _ _ _ _ _ (U m c) (t.val * 512 + 256) hp hu _ _).trans (cv_at m c t _ _ _ _ _ _)

end half

set_option maxHeartbeats 2000000 in
/-- The gates' block. -/
theorem out17_at (t : Fin cfg0.N) (r : Fin 512) (n : Fin 1024) :
    (outsAt0 m c t.val t.isLt).2.2.2.1 (ix2 r n)
      = FwdMixModel.gates (aX m c) (aG m c) (aW m c) (aCw m c) (aCb m c) (aGa m c) (aGx m c) (aBa m c) (aBx m c) (rowAt t r) n := by
  by_cases h : t.val % 16 = 0
  all_goals
    first | rw [outsAt0_A m c t h] | rw [outsAt0_B m c t h]
    frame_out
    by_cases hr : r.val < 256
    · refine (Rows.canon_off _ _ _ _ _ (Or.inl hr)).trans ?_
      refine (Rows.canon_on _ _ _ _ _ (⟨r.val, hr⟩ : Fin 256) (by simp)).trans ?_
      refine (cat0 (A := fun r l => FwdMixModel.sgm (gr m c t 0 r l)) (B := fun r l => FwdMixModel.sgm (gi m c t 0 r l))
        (Done.read ?_) (Done.read ?_) _ _).trans (gates_of m c t 0 r _ (by simp) n)
      · repeat refine Done.step rfl rfl ?_
        refine Done.base (half0r m c t _ _ _ _ _ _ _ _ ?_ (u0_at m c t _ _ _ _ _))
        first
        | exact prev_A m c t h
        | exact fun i l => (congrFun (Memref.IsWhole.read_unread _ _) _).trans (prev_B m c t h _ i l)
      · repeat refine Done.step rfl rfl ?_
        refine Done.base (half0i m c t _ _ _ _ _ _ _ _ ?_ (u0_at m c t _ _ _ _ _))
        first
        | exact prev_A m c t h
        | exact fun i l => (congrFun (Memref.IsWhole.read_unread _ _) _).trans (prev_B m c t h _ i l)
    · have hs : r.val = 256 + (r.val - 256) := by omega
      refine (Rows.canon_on _ _ _ _ _ (⟨r.val - 256, by omega⟩ : Fin 256) hs).trans ?_
      refine (cat1 (A := fun r l => FwdMixModel.sgm (gr m c t 256 r l)) (B := fun r l => FwdMixModel.sgm (gi m c t 256 r l))
        (Done.read ?_) (Done.read ?_) _ _).trans (gates_of m c t 256 r _ hs n)
      · repeat refine Done.step rfl rfl ?_
        exact Done.base (half1r m c t _ _ _ _ _ _ _ _ (prev_1 m c t (u0_at m c t _ _ _ _ _)) (u1_at m c t _ _ _ _ _))
      · repeat refine Done.step rfl rfl ?_
        exact Done.base (half1i m c t _ _ _ _ _ _ _ _ (prev_1 m c t (u0_at m c t _ _ _ _ _)) (u1_at m c t _ _ _ _ _))

end Cert.FwdMixKernel

end
-- ==== Proof.FwdMixRef.lean ====
module

public import proofs.«01_k».proof.Proof.Gen.FwdMixRefIdeal.Read
public import proofs.«01_k».proof.Proof.FwdMixModel

@[expose] public section

set_option maxRecDepth 16384

noncomputable section

/-! The reference computes the recurrence's branch and its gates. -/

namespace Cert.FwdMixRef

open Idealize.ShloMosaic Idealize.ShloMosaic.TcCoe Idealize.SL.Sem
open Cert.FwdMixRefIdeal Cert.FwdMixRefIdeal.Gen Cert.FwdMixRefIdeal.Read

variable (x : FVec Ideal S8192x1024 .f32) (g : FVec Ideal S1x1024 .f32) (w : FVec Ideal S1x1024x1536 .f32)
  (cw : FVec Ideal S1x4x512 .f32) (cb : FVec Ideal S1x512 .f32) (ga gx : FVec Ideal S1x8x64x64 .f32)
  (ba bx : FVec Ideal S1x8x64 .f32) (n : Fin 8192)

theorem lru_eq (l : Fin 512) : val_main_v16 (F := Ideal) x g w (ix2 n l) = FwdMixModel.lru x g w n l := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1]
  rfl

theorem pad_eq (k : Fin 8195) (l : Fin 512) :
    val_main_v19 (F := Ideal) x g w (ix2 k l) = if 3 ≤ k.val then FwdMixModel.rows x g w (k.val - 3) l else 0 := by
  pointwise [val_main_v19, val_main_call0_v0, val_main_c, lru_eq]
  have z : FloatOps.sitofp (F := Ideal) FTy.f32 (0#32 : BitVec 32) = 0 := by simp [FloatOps.sitofp]
  by_cases h : 3 ≤ k.val
  · have h' : k.val - 3 < 8192 := by omega
    refine (dif_pos (c := 3 ≤ k.val ∧ k.val - 3 < 8192) ⟨h, h'⟩).trans (Eq.trans ?_ (if_pos h).symm)
    exact (dif_pos (c := k.val - 3 < 8192) (t := fun h => FwdMixModel.lru x g w ⟨k.val - 3, h⟩ l) (e := fun _ => 0) h').symm
  · exact (dif_neg (c := 3 ≤ k.val ∧ k.val - 3 < 8192) fun e => h e.1).trans (z.trans (if_neg h).symm)

/-- Row `n + j` of the padded branch is the branch `3 - j` steps before. -/
theorem tap_eq (k : Fin 8195) (d : ℕ) (hd : d ≤ 3) (h : k.val = n.val + 3 - d) (l : Fin 512) :
    val_main_v19 (F := Ideal) x g w (ix2 k l) = FwdMixModel.tap (FwdMixModel.rows x g w) d n.val l := by
  rw [pad_eq]
  unfold FwdMixModel.tap
  split_ifs
  · exact congrArg (fun k => FwdMixModel.rows x g w k l) (by omega)
  · omega
  · omega
  · rfl

theorem conv_eq (l : Fin 512) : val_main_v49 (F := Ideal) x g w cw cb (ix2 n l) = FwdMixModel.xb x g w cw cb n.val l := by
  pointwise [val_main_v49, val_main_v48, val_main_v47, val_main_v46, val_main_v45, val_main_v44, val_main_v43, val_main_v42,
    val_main_v41, val_main_v40, val_main_v39, val_main_v38, val_main_v37, val_main_v36, val_main_v35, val_main_v34,
    val_main_v33, val_main_v32, val_main_v31, val_main_v30, val_main_v29, val_main_v28, val_main_v27, val_main_v26,
    val_main_v25, val_main_v24, val_main_v23, val_main_v22, val_main_v21, val_main_v20, val_main_v18, val_main_v17]
  rw [tap_eq x g w n _ 3 (by omega) (by simp only; omega), tap_eq x g w n _ 2 (by omega) (by simp only; omega),
    tap_eq x g w n _ 1 (by omega) (by simp only; omega), tap_eq x g w n _ 0 (by omega) (by simp only; omega)]
  rfl

theorem r_eq (h : Fin 8) (k : Fin 64) (l : Fin 512) (hl : l.val = h.val * 64 + k.val) :
    val_main_v65 (F := Ideal) x g w cw cb ga ba (ix3 n h k)
      = FwdMixModel.sgm (FwdMixModel.pre (FwdMixModel.xb x g w cw cb n.val) ga ba l) := by
  have e : (⟨l.val / 64, by omega⟩ : Fin 8) = h := Fin.ext (by simp only; omega)
  have e' : (⟨l.val % 64, by omega⟩ : Fin 64) = k := Fin.ext (by simp only; omega)
  pointwise [val_main_v65, val_main_v64, val_main_v63, val_main_v62, val_main_v61, val_main_v60, val_main_v59, val_main_v58, val_main_v57, val_main_v56, val_main_v55, val_main_v54, val_main_v51, val_main_v50, val_main_cst_2, val_main_cst_3, conv_eq]
  unfold FwdMixModel.sgm FwdMixModel.pre
  rw [zero_sub, e, e']
  refine congrArg (fun z => Ideal.div 1 (1 + Ideal.exp (-(z + ba (ix3 0 h k))))) (Finset.sum_congr rfl fun i _ => ?_)
  refine (mul_comm _ _).trans (congrArg (fun z => FwdMixModel.xb x g w cw cb n.val z * ga (ix4 0 h i k)) (Fin.ext ?_))
  simp only
  omega

theorem i_eq (h : Fin 8) (k : Fin 64) (l : Fin 512) (hl : l.val = h.val * 64 + k.val) :
    val_main_v77 (F := Ideal) x g w cw cb gx bx (ix3 n h k)
      = FwdMixModel.sgm (FwdMixModel.pre (FwdMixModel.xb x g w cw cb n.val) gx bx l) := by
  have e : (⟨l.val / 64, by omega⟩ : Fin 8) = h := Fin.ext (by simp only; omega)
  have e' : (⟨l.val % 64, by omega⟩ : Fin 64) = k := Fin.ext (by simp only; omega)
  pointwise [val_main_v77, val_main_v76, val_main_v75, val_main_v74, val_main_v73, val_main_v72, val_main_v71, val_main_v70, val_main_v69, val_main_v68, val_main_v67, val_main_v54, val_main_v53, val_main_v52, val_main_cst_4, val_main_cst_5, conv_eq]
  unfold FwdMixModel.sgm FwdMixModel.pre
  rw [zero_sub, e, e']
  refine congrArg (fun z => Ideal.div 1 (1 + Ideal.exp (-(z + bx (ix3 0 h k))))) (Finset.sum_congr rfl fun i _ => ?_)
  refine (mul_comm _ _).trans (congrArg (fun z => FwdMixModel.xb x g w cw cb n.val z * gx (ix4 0 h i k)) (Fin.ext ?_))
  simp only
  omega

theorem res0 (l : Fin 512) : val_main_v79 (F := Ideal) x g w (ix2 n l) = FwdMixModel.lru x g w n l := by
  pointwise [val_main_v79, lru_eq]

theorem res1 (q : Fin 1024) : val_main_v81 (F := Ideal) x g w cw cb ga ba gx bx (ix2 n q)
    = FwdMixModel.gates x g w cw cb ga gx ba bx n q := by
  pointwise [val_main_v81, val_main_v80, val_main_v66, val_main_v78]
  unfold FwdMixModel.gates
  split_ifs with h h'
  · exact r_eq x g w cw cb ga ba n _ _ ⟨q.val, h⟩ (by simp only; omega)
  · exact i_eq x g w cw cb gx bx n _ _ ⟨q.val - 512, by omega⟩ (by simp only; omega)
  · exact absurd rfl h'

end Cert.FwdMixRef

end
-- ==== Proof.FwdMixClaim.lean ====
module

public import proofs.«01_k».proof.Defs
public import proofs.«01_k».proof.Proof.FwdMixOut
public import proofs.«01_k».proof.Proof.FwdMixRef
public import proofs.«01_k».proof.Proof.Gen.FwdMixIdeal.Value
public import proofs.«01_k».proof.Proof.Gen.FwdMixRefIdeal.Run

@[expose] public section

set_option maxRecDepth 16384

noncomputable section

/-! The mixer's forward kernel and its reference compute the same branch and the same gates. -/

namespace Cert.FwdMixClaim

open Idealize.ShloMosaic Idealize.ShloMosaic.TcCoe Idealize.SL.Sem
open Cert.FwdMixIdeal Cert.FwdMixIdeal.Gen Cert.FwdMixKernel

variable (m : (ℓ : Loc nD τ sig) → Buf (Elt Ideal) ℓ) (c : Dev nD)

/-- The two results' arrays. -/
def B : FVec Ideal S8192x512 .bf16 := fun i => FwdMixModel.lru (aX m c) (aG m c) (aW m c) (i 0) (i 1)
def G : FVec Ideal S8192x1024 .bf16 := fun i =>
  FwdMixModel.gates (aX m c) (aG m c) (aW m c) (aCw m c) (aCb m c) (aGa m c) (aGx m c) (aBa m c) (aBx m c) (i 0) (i 1)

theorem arr14 : (dats m 0 c).arrAt 14 cfg0.N = B m c := by
  refine (dats m 0 c).arrAt_eq_of_covers 14 _ (by decide +kernel) fun t hf y => ?_
  blk_simp [B, idx t]
  rw [after0_14]
  obtain ⟨a, b, rfl⟩ : ∃ (a : Fin 512) (b : Fin 512), y = ix2 a b := ⟨y 0, y 1, by funext i; fin_cases i <;> rfl⟩
  refine (out14_at m c t a b).trans ?_
  refine congrArg₂ (FwdMixModel.lru (aX m c) (aG m c) (aW m c)) (Fin.ext ?_) (Fin.ext ?_)
  all_goals
    blk_simp [idx t, rowAt]

theorem arr17 : (dats m 0 c).arrAt 17 cfg0.N = G m c := by
  refine (dats m 0 c).arrAt_eq_of_covers 17 _ (by decide +kernel) fun t hf y => ?_
  blk_simp [G, idx' t]
  rw [after0_17]
  obtain ⟨a, b, rfl⟩ : ∃ (a : Fin 512) (b : Fin 1024), y = ix2 a b := ⟨y 0, y 1, by funext i; fin_cases i <;> rfl⟩
  refine (out17_at m c t a b).trans ?_
  refine congrArg₂ (FwdMixModel.gates (aX m c) (aG m c) (aW m c) (aCw m c) (aCb m c) (aGa m c) (aGx m c) (aBa m c) (aBx m c))
    (Fin.ext ?_) (Fin.ext ?_)
  all_goals
    blk_simp [idx' t, rowAt]

/-- The reference terminates, keeps its arguments and declares no semaphore. -/
theorem frame_ref (m : (ℓ : Loc FwdMixRefIdeal.nD FwdMixRefIdeal.τ FwdMixRefIdeal.sig) → Buf (Elt Ideal) ℓ)
    (ρ : Dev FwdMixRefIdeal.nD → PrngReg) :
    θ_run FwdMixRefIdeal.defs (onTc (τ := FwdMixRefIdeal.τ) (FwdMixRefIdeal.main (F := Ideal))) ⟨m, fun _ => 0, ρ⟩
      fun r => (∀ c : Dev FwdMixRefIdeal.nD,
        r.2.mem (c.tc.loc FwdMixRefIdeal.main_arg0) = m (c.tc.loc FwdMixRefIdeal.main_arg0)
        ∧ r.2.mem (c.tc.loc FwdMixRefIdeal.main_arg1) = m (c.tc.loc FwdMixRefIdeal.main_arg1)
        ∧ r.2.mem (c.tc.loc FwdMixRefIdeal.main_arg2) = m (c.tc.loc FwdMixRefIdeal.main_arg2)
        ∧ r.2.mem (c.tc.loc FwdMixRefIdeal.main_arg3) = m (c.tc.loc FwdMixRefIdeal.main_arg3)
        ∧ r.2.mem (c.tc.loc FwdMixRefIdeal.main_arg4) = m (c.tc.loc FwdMixRefIdeal.main_arg4)
        ∧ r.2.mem (c.tc.loc FwdMixRefIdeal.main_arg5) = m (c.tc.loc FwdMixRefIdeal.main_arg5)
        ∧ r.2.mem (c.tc.loc FwdMixRefIdeal.main_arg6) = m (c.tc.loc FwdMixRefIdeal.main_arg6)
        ∧ r.2.mem (c.tc.loc FwdMixRefIdeal.main_arg7) = m (c.tc.loc FwdMixRefIdeal.main_arg7)
        ∧ r.2.mem (c.tc.loc FwdMixRefIdeal.main_arg8) = m (c.tc.loc FwdMixRefIdeal.main_arg8)
        ∧ r.2.mem (c.tc.loc FwdMixRefIdeal.main_arg9) = m (c.tc.loc FwdMixRefIdeal.main_arg9)
        ∧ r.2.mem (c.tc.loc FwdMixRefIdeal.main_arg10) = m (c.tc.loc FwdMixRefIdeal.main_arg10)
        ∧ r.2.mem (c.tc.loc FwdMixRefIdeal.main_arg11) = m (c.tc.loc FwdMixRefIdeal.main_arg11)
        ∧ r.2.mem (c.tc.loc FwdMixRefIdeal.main_arg12) = m (c.tc.loc FwdMixRefIdeal.main_arg12)
        ∧ r.2.mem (c.tc.loc FwdMixRefIdeal.main_arg13) = m (c.tc.loc FwdMixRefIdeal.main_arg13))
        ∧ r.2.sem = fun _ => 0 :=
  (θ_run _ _ _).mono (fun r h => ⟨fun c => (h c).2.2, sem_eq_zero_of_no_sems (by decide) r.2⟩)
    (Cert.FwdMixRefIdeal.Value.run m ρ)

/-- The claim. -/
theorem algebraic : Cert.algebraic_FwdMixIdeal_FwdMixRefIdeal := by
  pair_intro
  · run_from Cert.FwdMixIdeal.Value.run_blocks m g
  · run_from Cert.FwdMixRefIdeal.Value.run m' g'
    · rw [arr14]
      funext i
      obtain ⟨a, b, rfl⟩ : ∃ (a : Fin 8192) (b : Fin 512), i = ix2 a b := ⟨i 0, i 1, by funext i; fin_cases i <;> rfl⟩
      exact FwdMixRef.res0 (aX m c) (aG m c) (aW m c) a b
    · rw [arr17]
      funext i
      obtain ⟨a, b, rfl⟩ : ∃ (a : Fin 8192) (b : Fin 1024), i = ix2 a b := ⟨i 0, i 1, by funext i; fin_cases i <;> rfl⟩
      refine Eq.trans ?_
        (FwdMixRef.res1 (aX m c) (aG m c) (aW m c) (aCw m c) (aCb m c) (aGa m c) (aGx m c) (aBa m c) (aBx m c) a b)
      obtain ⟨e0, e1, e2, e3, e4, e5, e6, e7, e8, e9, e10, e11, e12, e13⟩ := hagree c
      simp only [aX, aG, aW, aCw, aCb, aGa, aGx, aBa, aBx, ← e0, ← e1, ← e2, ← e6, ← e7, ← e8, ← e9, ← e10, ← e11]
      exact congrFun (Cert.FwdMixRefIdeal.Read.val_main_v81_eq m' c) (ix2 a b)

end Cert.FwdMixClaim

end
-- ==== Proof.FwdMlpRef.lean ====
module

public import proofs.«01_k».proof.Proof.Gen.FwdMlpRefIdeal.Read
public import proofs.«01_k».proof.Proof.MlpModel

@[expose] public section

set_option maxRecDepth 16384

noncomputable section

/-! What the channel mixer's forward pass computes, and that its reference computes it. -/

namespace Cert.FwdMlpModel

open Idealize.ShloMosaic

variable (h : FVec Ideal ⟨2, ![8192, 1024]⟩ .f32) (g : FVec Ideal ⟨2, ![1, 1024]⟩ .f32)
  (wu : FVec Ideal ⟨3, ![1, 1024, 4096]⟩ .f32) (wd : FVec Ideal ⟨3, ![1, 4096, 1024]⟩ .f32)

/-- The normalised input. -/
def z (n : Fin 8192) (k : Fin 1024) : EReal := Rms.unit (MlpModel.row h n) k * g (ix2 0 k)

/-- The ReLU of the up projection. -/
def ru (n : Fin 8192) (f : Fin 4096) : EReal := max (MlpModel.up h g wu n f) 0

/-- The block's output. -/
def out (n : Fin 8192) (k : Fin 1024) : EReal :=
  h (ix2 n k) + ∑ f : Fin 4096, ru h g wu n f * ru h g wu n f * wd (ix3 0 f k)

end Cert.FwdMlpModel

namespace Cert.FwdMlpRef

open Idealize.ShloMosaic Idealize.ShloMosaic.TcCoe Idealize.SL.Sem
open Cert.FwdMlpRefIdeal Cert.FwdMlpRefIdeal.Gen Cert.FwdMlpRefIdeal.Read

variable (h : FVec Ideal S8192x1024 .f32) (g : FVec Ideal S1x1024 .f32)
  (wu : FVec Ideal S1x1024x4096 .f32) (wd : FVec Ideal S1x4096x1024 .f32) (n : Fin 8192)

/-- The normalised input. -/
theorem z_eq (k : Fin 1024) : val_main_v13 (F := Ideal) h g (ix2 n k) = FwdMlpModel.z h g n k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

/-- The ReLU of the up projection. -/
theorem ru_eq (f : Fin 4096) : val_main_v16 (F := Ideal) h g wu (ix2 n f) = FwdMlpModel.ru h g wu n f := by
  pointwise [val_main_v16, val_main_v15, val_main_v14, val_main_call0_v0, val_main_call0_cst, z_eq]
  rfl

theorem res0 (k : Fin 1024) : val_main_v17 (F := Ideal) h g (ix2 n k) = FwdMlpModel.z h g n k := by
  pointwise [val_main_v17, z_eq]

theorem res1 (f : Fin 4096) : val_main_v18 (F := Ideal) h g wu (ix2 n f) = FwdMlpModel.ru h g wu n f := by
  pointwise [val_main_v18, ru_eq]

theorem res2 (k : Fin 1024) : val_main_v22 (F := Ideal) h g wu wd (ix2 n k) = FwdMlpModel.out h g wu wd n k := by
  pointwise [val_main_v22, val_main_v21, val_main_v20, val_main_v19, ru_eq]
  rfl

end Cert.FwdMlpRef

end
-- ==== Proof.FwdMlpKernel.lean ====
module

public import proofs.«01_k».proof.Proof.Gen.FwdMlpIdeal.Value
public import proofs.«01_k».proof.Proof.FwdMlpRef
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

/-! What each block of the channel mixer's forward kernel reads and leaves in its outputs. -/

namespace Cert.FwdMlpKernel

open Idealize.ShloMosaic Idealize.ShloMosaic.TcCoe Idealize.SL.Sem
open Cert.FwdMlpIdeal Cert.FwdMlpIdeal.Gen

section block

variable (x : Vec Ideal S512x1024 .f32) (g : Vec Ideal S1x1024 .f32) (w v : Vec Ideal S1x1024x1024 .bf16)
  (z : FVec Ideal S512x1024 .bf16) (a u : FVec Ideal S512x1024 .f32) (b : FVec Ideal S512x1024 .bf16)
  (r : Fin 512) (k f : Fin 1024)

/-- One stack of the up projection, after its ReLU. -/
def act (z : FVec Ideal S512x1024 .bf16) (w : Vec Ideal S1x1024x1024 .bf16) (r : Fin 512) (f : Fin 1024) : EReal :=
  max (∑ k, z (ix2 r k) * w (ix3 0 k f)) 0

theorem norm_at : k0_pay2 (F := Ideal) x g (ix2 r k) = Rms.unit (fun l => x (ix2 r l)) k * g (ix2 0 k) := by
  pointwise [k0_pay2]; rfl

theorem act0 : k0_pay3 (F := Ideal) x g w (ix2 r f) = act (k0_pay2 x g) w r f := by pointwise [k0_pay3]; rfl

theorem act1 : k0_pay7 (F := Ideal) (k0_pay6 x g w) (0 : EReal) (ix2 r f)
    = act (k0_pay2 x g) w r f := by pointwise [k0_pay7, k0_pay6]; rfl

theorem act2 : k0_pay9 (F := Ideal) z w (ix2 r f) = act z w r f := by pointwise [k0_pay9]; rfl

theorem act3 : k0_pay12 (F := Ideal) z w (ix2 r f) = act z w r f := by pointwise [k0_pay12]; rfl

/-- One stack's part of the down projection. -/
def down (z : FVec Ideal S512x1024 .bf16) (w v : Vec Ideal S1x1024x1024 .bf16) (r : Fin 512) (k : Fin 1024) : EReal :=
  ∑ f, act z w r f * act z w r f * v (ix3 0 f k)

theorem sum0 : k0_pay5 (F := Ideal) x g w v (ix2 r k) = x (ix2 r k) + down (k0_pay2 x g) w v r k := by
  pointwise [k0_pay5, act0]; rfl

theorem sum2 (w' v' : Vec Ideal S1x1024x1024 .bf16) :
    k0_pay11 (F := Ideal) (k0_pay2 x g) a (k0_pay6 x g w) (0 : EReal) v w' v' (ix2 r k)
      = a (ix2 r k) + down (k0_pay2 x g) w v r k + down (k0_pay2 x g) w' v' r k := by
  pointwise [k0_pay11, act1, act2]; rfl

theorem sum3 : k0_pay1 (F := Ideal) a (k0_pay14 z w) v (ix2 r k) = a (ix2 r k) + down z w v r k := by
  pointwise [k0_pay1, k0_pay14, act3]; rfl

end block

variable (m : (ℓ : Loc nD τ sig) → Buf (Elt Ideal) ℓ) (c : Dev nD)

/-- The argument arrays on one device. -/
abbrev aH : FVec Ideal S8192x1024 .f32 := m ((c : Thread nD τ).loc main_arg0)
abbrev aG : FVec Ideal S1x1024 .f32 := m ((c : Thread nD τ).loc main_arg1)
abbrev aU : FVec Ideal S1x1024x4096 .f32 := m ((c : Thread nD τ).loc main_arg2)
abbrev aW : FVec Ideal S1x4096x1024 .f32 := m ((c : Thread nD τ).loc main_arg3)

/-- Row `r` of the block at grid point `t`, in the whole array. -/
def rowAt (t : Fin cfg0.N) (r : Fin 512) : Fin 8192 :=
  ⟨t.val * 512 + r.val, by have := lt_of_lt_of_eq t.isLt N_0; have := r.isLt; omega⟩

/-- Column `f` of stack `j`, in the whole array. -/
def colAt (j : Fin 4) (f : Fin 1024) : Fin 4096 := ⟨j.val * 1024 + f.val, by have := j.isLt; have := f.isLt; omega⟩

theorem idx : ∀ t : Fin cfg0.N, win0_0.index t = ![t.val, 0] ∧ win0_1.index t = ![0, 0] ∧ win0_2.index t = ![0, 0, 0]
    ∧ win0_3.index t = ![0, 0, 0] ∧ win0_4.index t = ![t.val, 0] ∧ win0_5.index t = ![t.val, 0]
    ∧ win0_6.index t = ![t.val, 0] :=
  (by decide +kernel : ∀ t : Fin grid0.N, _)

theorem blk_h (t : Fin cfg0.N) (r : Fin 512) (k : Fin 1024) : iblk m c 0 t (ix2 r k) = aH m c (ix2 (rowAt t r) k) := by
  blk_ext [iblk, V, idx t, rowAt]

theorem blk_g (t : Fin cfg0.N) (r : Fin 1) (k : Fin 1024) : iblk m c 1 t (ix2 r k) = aG m c (ix2 r k) := by
  blk_ext [iblk, V, idx t, rowAt]

/-- The stacks of the two weights, as the host code lays them out. -/
theorem wu_at (j : Fin 4) (k f : Fin 1024) :
    (V m c main_v3 : FVec Ideal S4x1024x1024 .bf16) (ix3 j k f) = aU m c (ix3 0 k (colAt j f)) := by
  unfold V
  simp only [List.flatten_cons, List.flatten_nil, hostOps0, List.cons_append, List.nil_append]
  after_reads_at
  rfl

theorem wd_at (j : Fin 4) (f k : Fin 1024) :
    (V m c main_v6 : FVec Ideal S4x1024x1024 .bf16) (ix3 j f k) = aW m c (ix3 0 (colAt j f) k) := by
  unfold V
  simp only [List.flatten_cons, List.flatten_nil, hostOps0, List.cons_append, List.nil_append]
  after_reads_at
  rfl

theorem blk_wu (t : Fin cfg0.N) (j : Fin 4) (k f : Fin 1024) : iblk m c 2 t (ix3 j k f) = aU m c (ix3 0 k (colAt j f)) := by
  rw [← wu_at]
  blk_ext [iblk, idx t]

theorem blk_wd (t : Fin cfg0.N) (j : Fin 4) (f k : Fin 1024) : iblk m c 3 t (ix3 j f k) = aW m c (ix3 0 (colAt j f) k) := by
  rw [← wd_at]
  blk_ext [iblk, idx t]

/-- The first output's block. -/
theorem out4_at (t : Fin cfg0.N) (r : Fin 512) (k : Fin 1024) :
    out0_4 (iblk m c 0 t) (iblk m c 1 t) (iblk m c 2 t) (iblk m c 3 t) (ix2 r k)
      = FwdMlpModel.z (aH m c) (aG m c) (rowAt t r) k := by
  frame_out
  pointwise [norm_at]
  simp only [blk_h, blk_g]
  rfl

end Cert.FwdMlpKernel

end
-- ==== Proof.FwdMlpBlock.lean ====
module

public import proofs.«01_k».proof.Proof.FwdMlpKernel

@[expose] public section

set_option maxRecDepth 16384

noncomputable section

/-! The second and third outputs of the channel mixer's forward kernel, block by block. -/

namespace Cert.FwdMlpKernel

open Idealize.ShloMosaic Idealize.ShloMosaic.TcCoe Idealize.SL.Sem
open Cert.FwdMlpIdeal Cert.FwdMlpIdeal.Gen

variable (m : (ℓ : Loc nD τ sig) → Buf (Elt Ideal) ℓ) (c : Dev nD)

/-- The columns of the four stacks. -/
theorem col0 (f : Fin 1024) (h : f.val < 4096) : (⟨f.val, h⟩ : Fin 4096) = colAt 0 f := Fin.ext (by simp [colAt])
theorem col1 (f : Fin 1024) (h : 1024 + f.val < 4096) : (⟨1024 + f.val, h⟩ : Fin 4096) = colAt 1 f := Fin.ext (by simp [colAt])
theorem col2 (f : Fin 1024) (h : 2048 + f.val < 4096) : (⟨2048 + f.val, h⟩ : Fin 4096) = colAt 2 f := Fin.ext (by simp [colAt])
theorem col3 (f : Fin 1024) (h : 3072 + f.val < 4096) : (⟨3072 + f.val, h⟩ : Fin 4096) = colAt 3 f := Fin.ext (by simp [colAt])

/-- The second output's block. -/
theorem out5_at (t : Fin cfg0.N) (r : Fin 512) (f : Fin 4096) :
    out0_5 (iblk m c 0 t) (iblk m c 1 t) (iblk m c 2 t) (iblk m c 3 t) (ix2 r f)
      = FwdMlpModel.ru (aH m c) (aG m c) (aU m c) (rowAt t r) f := by
  frame_out
  canon_tiles x h
  all_goals
    obtain ⟨a, b, rfl⟩ : ∃ (a : Fin 512) (b : Fin 1024), x = ix2 a b := ⟨x 0, x 1, by funext i; fin_cases i <;> rfl⟩
    obtain rfl : r = a := Fin.ext h0
    replace h1 : f.val = _ := h1
    pointwise [k0_pay13, k0_pay10, k0_pay8, k0_pay4, k0_pay15, k0_pay16, act0, act1, act2, act3, act, norm_at]
    try simp only [blk_h, blk_g, blk_wu, col0, col1, col2, col3]
  all_goals first
    | (obtain rfl : f = colAt 0 b := Fin.ext (h1.trans (show b.val = 0 * 1024 + b.val by omega)); rfl)
    | (obtain rfl : f = colAt 1 b := Fin.ext (h1.trans (show 1024 + b.val = 1 * 1024 + b.val by omega)); rfl)
    | (obtain rfl : f = colAt 2 b := Fin.ext (h1.trans (show 2048 + b.val = 2 * 1024 + b.val by omega)); rfl)
    | (obtain rfl : f = colAt 3 b := Fin.ext (h1.trans (show 3072 + b.val = 3 * 1024 + b.val by omega)); rfl)

/-- One stack's part of the sum that the block adds to its input. -/
def part (n : Fin 8192) (k : Fin 1024) (j : Fin 4) : EReal :=
  ∑ f : Fin 1024, FwdMlpModel.ru (aH m c) (aG m c) (aU m c) n (colAt j f)
    * FwdMlpModel.ru (aH m c) (aG m c) (aU m c) n (colAt j f) * aW m c (ix3 0 (colAt j f) k)

theorem out_parts (n : Fin 8192) (k : Fin 1024) : FwdMlpModel.out (aH m c) (aG m c) (aU m c) (aW m c) n k
    = aH m c (ix2 n k) + part m c n k 0 + part m c n k 1 + part m c n k 2 + part m c n k 3 := by
  have e := (Fin.sum_univ_tiles 4 1024 rfl (fun f : Fin 4096 => FwdMlpModel.ru (aH m c) (aG m c) (aU m c) n f
    * FwdMlpModel.ru (aH m c) (aG m c) (aU m c) n f * aW m c (ix3 0 f k))).trans
    (Fin.sum_univ_four (fun j => part m c n k j))
  unfold FwdMlpModel.out
  rw [e]
  simp only [add_assoc]

/-- The third output's block. -/
theorem out6_at (t : Fin cfg0.N) (r : Fin 512) (k : Fin 1024) :
    out0_6 (iblk m c 0 t) (iblk m c 1 t) (iblk m c 2 t) (iblk m c 3 t) (ix2 r k)
      = FwdMlpModel.out (aH m c) (aG m c) (aU m c) (aW m c) (rowAt t r) k := by
  rw [out_parts]
  frame_out
  pointwise [k0_pay15, k0_pay16, sum3, sum2, sum0, down, act, norm_at]
  simp only [blk_h, blk_g, blk_wu, blk_wd, col0, col1, col2, col3]
  rfl

end Cert.FwdMlpKernel

end
-- ==== Proof.FwdMlpClaim.lean ====
module

public import proofs.«01_k».proof.Defs
public import proofs.«01_k».proof.Proof.FwdMlpBlock
public import proofs.«01_k».proof.Proof.Gen.FwdMlpRefIdeal.Run

@[expose] public section

set_option maxRecDepth 16384

noncomputable section

/-! The channel mixer's forward kernel and its reference compute the same arrays. -/

namespace Cert.FwdMlpClaim

open Idealize.ShloMosaic Idealize.ShloMosaic.TcCoe Idealize.SL.Sem
open Cert.FwdMlpIdeal Cert.FwdMlpIdeal.Gen Cert.FwdMlpKernel

variable (m : (ℓ : Loc nD τ sig) → Buf (Elt Ideal) ℓ) (c : Dev nD)

/-- The three results' arrays. -/
def Z : FVec Ideal S8192x1024 .bf16 := fun i => FwdMlpModel.z (aH m c) (aG m c) (i 0) (i 1)
def R : FVec Ideal S8192x4096 .bf16 := fun i => FwdMlpModel.ru (aH m c) (aG m c) (aU m c) (i 0) (i 1)
def H : FVec Ideal S8192x1024 .f32 := fun i => FwdMlpModel.out (aH m c) (aG m c) (aU m c) (aW m c) (i 0) (i 1)

theorem arr4 : (dats m 0 c).arrAt 4 cfg0.N = Z m c := by
  refine (dats m 0 c).arrAt_eq_of_covers 4 _ (by decide +kernel) fun t hf y => ?_
  blk_simp [Z, idx t]
  rw [after0_4]
  obtain ⟨a, b, rfl⟩ : ∃ (a : Fin 512) (b : Fin 1024), y = ix2 a b := ⟨y 0, y 1, by funext i; fin_cases i <;> rfl⟩
  refine (out4_at m c t a b).trans ?_
  refine congrArg₂ (FwdMlpModel.z (aH m c) (aG m c)) (Fin.ext ?_) (Fin.ext ?_)
  all_goals
    blk_simp [idx t, rowAt]

theorem arr5 : (dats m 0 c).arrAt 5 cfg0.N = R m c := by
  refine (dats m 0 c).arrAt_eq_of_covers 5 _ (by decide +kernel) fun t hf y => ?_
  blk_simp [R, idx t]
  rw [after0_5]
  obtain ⟨a, b, rfl⟩ : ∃ (a : Fin 512) (b : Fin 4096), y = ix2 a b := ⟨y 0, y 1, by funext i; fin_cases i <;> rfl⟩
  refine (out5_at m c t a b).trans ?_
  refine congrArg₂ (FwdMlpModel.ru (aH m c) (aG m c) (aU m c)) (Fin.ext ?_) (Fin.ext ?_)
  all_goals
    blk_simp [idx t, rowAt]

theorem arr6 : (dats m 0 c).arrAt 6 cfg0.N = H m c := by
  refine (dats m 0 c).arrAt_eq_of_covers 6 _ (by decide +kernel) fun t hf y => ?_
  blk_simp [H, idx t]
  rw [after0_6]
  obtain ⟨a, b, rfl⟩ : ∃ (a : Fin 512) (b : Fin 1024), y = ix2 a b := ⟨y 0, y 1, by funext i; fin_cases i <;> rfl⟩
  refine (out6_at m c t a b).trans ?_
  refine congrArg₂ (FwdMlpModel.out (aH m c) (aG m c) (aU m c) (aW m c)) (Fin.ext ?_) (Fin.ext ?_)
  all_goals
    blk_simp [idx t, rowAt]

/-- The reference terminates, keeps its arguments and declares no semaphore. -/
theorem frame_ref (m : (ℓ : Loc FwdMlpRefIdeal.nD FwdMlpRefIdeal.τ FwdMlpRefIdeal.sig) → Buf (Elt Ideal) ℓ)
    (ρ : Dev FwdMlpRefIdeal.nD → PrngReg) :
    θ_run FwdMlpRefIdeal.defs (onTc (τ := FwdMlpRefIdeal.τ) (FwdMlpRefIdeal.main (F := Ideal))) ⟨m, fun _ => 0, ρ⟩
      fun r => (∀ c : Dev FwdMlpRefIdeal.nD,
        r.2.mem (c.tc.loc FwdMlpRefIdeal.main_arg0) = m (c.tc.loc FwdMlpRefIdeal.main_arg0)
        ∧ r.2.mem (c.tc.loc FwdMlpRefIdeal.main_arg1) = m (c.tc.loc FwdMlpRefIdeal.main_arg1)
        ∧ r.2.mem (c.tc.loc FwdMlpRefIdeal.main_arg2) = m (c.tc.loc FwdMlpRefIdeal.main_arg2)
        ∧ r.2.mem (c.tc.loc FwdMlpRefIdeal.main_arg3) = m (c.tc.loc FwdMlpRefIdeal.main_arg3))
        ∧ r.2.sem = fun _ => 0 :=
  (θ_run _ _ _).mono (fun r h => ⟨fun c => (h c).2.2.2, sem_eq_zero_of_no_sems (by decide) r.2⟩)
    (Cert.FwdMlpRefIdeal.Value.run m ρ)

/-- The claim. -/
theorem algebraic : Cert.algebraic_FwdMlpIdeal_FwdMlpRefIdeal := by
  pair_intro
  · run_from Cert.FwdMlpIdeal.Value.run_blocks m g
  · run_from Cert.FwdMlpRefIdeal.Value.run m' g'
    · rw [arr4]
      funext i
      obtain ⟨a, b, rfl⟩ : ∃ (a : Fin 8192) (b : Fin 1024), i = ix2 a b := ⟨i 0, i 1, by funext i; fin_cases i <;> rfl⟩
      exact FwdMlpRef.res0 (aH m c) (aG m c) a b
    · rw [arr5]
      funext i
      obtain ⟨a, b, rfl⟩ : ∃ (a : Fin 8192) (b : Fin 4096), i = ix2 a b := ⟨i 0, i 1, by funext i; fin_cases i <;> rfl⟩
      exact FwdMlpRef.res1 (aH m c) (aG m c) (aU m c) a b
    · rw [arr6]
      funext i
      obtain ⟨a, b, rfl⟩ : ∃ (a : Fin 8192) (b : Fin 1024), i = ix2 a b := ⟨i 0, i 1, by funext i; fin_cases i <;> rfl⟩
      exact FwdMlpRef.res2 (aH m c) (aG m c) (aU m c) (aW m c) a b

end Cert.FwdMlpClaim

end
-- ==== Proof.MlpWKernel.lean ====
module

public import proofs.«01_k».proof.Proof.Gen.MlpWIdeal.Value
public import proofs.«01_k».proof.Proof.MlpModel
public import proofs.«01_k».proof.Proof.Stacks
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

/-! The gradients of the channel mixer's two weights as functions of the argument arrays. -/

namespace Cert.MlpWModel

open Idealize.ShloMosaic

variable (h : FVec Ideal ⟨2, ![8192, 1024]⟩ .f32) (g : FVec Ideal ⟨2, ![1, 1024]⟩ .f32)
  (wu : FVec Ideal ⟨3, ![1, 1024, 4096]⟩ .f32) (du : FVec Ideal ⟨2, ![8192, 4096]⟩ .f32)
  (d : FVec Ideal ⟨2, ![8192, 1024]⟩ .f32)

/-- Column `f` of stack `j`, in the whole array. -/
def colAt (j : Fin 4) (f : Fin 1024) : Fin 4096 := ⟨j.val * 1024 + f.val, by have := j.isLt; have := f.isLt; omega⟩

/-- The normalised input. -/
def z (n : Fin 8192) (k : Fin 1024) : EReal := Rms.unit (MlpModel.row h n) k * g (ix2 0 k)

/-- The ReLU of the up projection. -/
def ru (n : Fin 8192) (f : Fin 4096) : EReal := max (MlpModel.up h g wu n f) 0

/-- The gradient of the up projection's weight, in stacks of columns. -/
def dwu (j : Fin 4) (k f : Fin 1024) : EReal := ∑ n : Fin 8192, z h g n k * du (ix2 n (colAt j f))

/-- The gradient of the down projection's weight, in stacks of rows. -/
def dwd (j : Fin 4) (f k : Fin 1024) : EReal :=
  ∑ n : Fin 8192, ru h g wu n (colAt j f) * ru h g wu n (colAt j f) * d (ix2 n k)

end Cert.MlpWModel

/-! The blocks that the kernel reads, as rows and columns of the argument arrays, and what one block adds. -/

namespace Cert.MlpWKernel

open Idealize.ShloMosaic Idealize.ShloMosaic.TcCoe Idealize.SL.Sem
open Cert.MlpWIdeal Cert.MlpWIdeal.Gen MlpWModel

section block

variable (s : Vec Ideal S1x1024x1024 .f32) (a b : Vec Ideal S512x1024 .bf16) (k l : Fin 1024) (o : Fin 1)

theorem pay1 : k0_pay1 (F := Ideal) s a b (ix3 o k l) = s (ix3 o k l) + ∑ r, a (ix2 r k) * b (ix2 r l) := by
  obtain rfl : o = 0 := Subsingleton.elim _ _
  pointwise [k0_pay1]

theorem pay7 : k0_pay7 (F := Ideal) s a b (ix3 o k l) = s (ix3 o k l) + ∑ r, a (ix2 r k) * b (ix2 r l) := by
  obtain rfl : o = 0 := Subsingleton.elim _ _
  pointwise [k0_pay7]

theorem pay2 : k0_pay2 (F := Ideal) (k0_pay9 a) s b (ix3 o k l)
    = s (ix3 o k l) + ∑ r, a (ix2 r k) * a (ix2 r k) * b (ix2 r l) := by
  obtain rfl : o = 0 := Subsingleton.elim _ _
  pointwise [k0_pay2, k0_pay9]

theorem pay8 : k0_pay8 (F := Ideal) a s b (ix3 o k l)
    = s (ix3 o k l) + ∑ r, a (ix2 r k) * a (ix2 r k) * b (ix2 r l) := by
  obtain rfl : o = 0 := Subsingleton.elim _ _
  pointwise [k0_pay8]

variable (v : Vec Ideal S2x1024x1024 .f32) (j : Fin 2)

theorem pay3 : k0_pay3 (F := Ideal) v (ix3 j k l) = v (ix3 j k l) := by pointwise [k0_pay3]
theorem pay4 : k0_pay4 (F := Ideal) v (ix3 j k l) = v (ix3 j k l) := by pointwise [k0_pay4]
theorem pay5 : k0_pay5 (F := Ideal) (ix3 j k l) = 0 := by pointwise [k0_pay5]
theorem pay6 : k0_pay6 (F := Ideal) (ix3 j k l) = 0 := by pointwise [k0_pay6]

end block

variable (m : (ℓ : Loc nD τ sig) → Buf (Elt Ideal) ℓ) (c : Dev nD)

/-- The argument arrays on one device. -/
abbrev aH : FVec Ideal S8192x1024 .f32 := m ((c : Thread nD τ).loc main_arg0)
abbrev aG : FVec Ideal S1x1024 .f32 := m ((c : Thread nD τ).loc main_arg1)
abbrev aU : FVec Ideal S1x1024x4096 .f32 := m ((c : Thread nD τ).loc main_arg2)
abbrev aP : FVec Ideal S8192x4096 .f32 := m ((c : Thread nD τ).loc main_arg3)
abbrev aD : FVec Ideal S8192x1024 .f32 := m ((c : Thread nD τ).loc main_arg4)

/-- Row `r` of the block at grid point `t`, in the whole array. -/
def rowAt (t : Fin cfg0.N) (r : Fin 512) : Fin 8192 := ⟨t.val % 16 * 512 + r.val, by have := r.isLt; omega⟩

/-- Column `f` of the half `b` of a block of two stacks. -/
def half (b : Fin 2) (f : Fin 1024) : Fin 2048 := ⟨b.val * 1024 + f.val, by have := b.isLt; have := f.isLt; omega⟩

/-- The stack that the half `b` holds at grid point `t`. -/
def stack (t : Fin cfg0.N) (b : Fin 2) : Fin 4 :=
  ⟨t.val / 16 * 2 + b.val, by have := lt_of_lt_of_eq t.isLt N_0; have := b.isLt; omega⟩

theorem idx : ∀ t : Fin cfg0.N, win0_0.index t = ![t.val % 16, 0] ∧ win0_1.index t = ![t.val % 16, t.val / 16]
    ∧ win0_2.index t = ![t.val % 16, t.val / 16] ∧ win0_3.index t = ![t.val % 16, 0]
    ∧ win0_4.index t = ![t.val / 16, 0, 0] ∧ win0_5.index t = ![t.val / 16, 0, 0] :=
  (by decide +kernel : ∀ t : Fin grid0.N, _)

/-- The normalised input as the host code computes it. -/
theorem z_at (n : Fin 8192) (k : Fin 1024) :
    (V m c main_v18 : FVec Ideal S8192x1024 .bf16) (ix2 n k) = z (aH m c) (aG m c) n k := by
  unfold V
  simp only [List.flatten_cons, List.flatten_nil, hostOps0, hostOps0_1, hostOps0_2, List.cons_append, List.nil_append]
  after_reads_at
  rfl

/-- The ReLU of the up projection as the host code computes it. -/
theorem ru_at (n : Fin 8192) (f : Fin 4096) :
    (V m c main_v17 : FVec Ideal S8192x4096 .bf16) (ix2 n f) = ru (aH m c) (aG m c) (aU m c) n f := by
  unfold V
  simp only [List.flatten_cons, List.flatten_nil, hostOps0, hostOps0_1, hostOps0_2, List.cons_append, List.nil_append]
  after_reads_at
  rfl

theorem p_at (n : Fin 8192) (f : Fin 4096) :
    (V m c main_v19 : FVec Ideal S8192x4096 .bf16) (ix2 n f) = aP m c (ix2 n f) := by
  unfold V
  simp only [List.flatten_cons, List.flatten_nil, hostOps0, hostOps0_1, hostOps0_2, List.cons_append, List.nil_append]
  after_reads_at

theorem d_at (n : Fin 8192) (k : Fin 1024) :
    (V m c main_v20 : FVec Ideal S8192x1024 .bf16) (ix2 n k) = aD m c (ix2 n k) := by
  unfold V
  simp only [List.flatten_cons, List.flatten_nil, hostOps0, hostOps0_1, hostOps0_2, List.cons_append, List.nil_append]
  after_reads_at

theorem blk_z (t : Fin cfg0.N) (r : Fin 512) (k : Fin 1024) :
    iblk m c 0 t (ix2 r k) = z (aH m c) (aG m c) (rowAt t r) k := by
  rw [← z_at]
  blk_ext [iblk, idx t, rowAt]

theorem blk_p (t : Fin cfg0.N) (r : Fin 512) (b : Fin 2) (f : Fin 1024) :
    iblk m c 1 t (ix2 r (half b f)) = aP m c (ix2 (rowAt t r) (colAt (stack t b) f)) := by
  rw [← p_at]
  blk_ext [iblk, idx t, rowAt, half, stack, colAt]

theorem blk_ru (t : Fin cfg0.N) (r : Fin 512) (b : Fin 2) (f : Fin 1024) :
    iblk m c 2 t (ix2 r (half b f)) = ru (aH m c) (aG m c) (aU m c) (rowAt t r) (colAt (stack t b) f) := by
  rw [← ru_at]
  blk_ext [iblk, idx t, rowAt, half, stack, colAt]

theorem blk_d (t : Fin cfg0.N) (r : Fin 512) (k : Fin 1024) : iblk m c 3 t (ix2 r k) = aD m c (ix2 (rowAt t r) k) := by
  rw [← d_at]
  blk_ext [iblk, idx t, rowAt]

/-- A load of the half `b` of a block's columns. -/
theorem load_half (X : Vec Ideal S512x2048 .bf16) (b : Fin 2) (q : ℕ)
    (inb : ∀ i : Fin 2, (![0, q] : Fin 2 → ℕ) i + (![512, 1024] : Fin 2 → ℕ) i ≤ (![512, 2048] : Fin 2 → ℕ) i)
    (hq : q = b.val * 1024) (r : Fin 512) (f : Fin 1024) :
    View.ld X (Rect.unit (s := ⟨2, ![512, 2048]⟩) ![0, q] ![512, 1024] inb) (ix2 r f) = X (ix2 r (half b f)) :=
  congrArg X (funext (Fin.forall_fin_two.mpr
    ⟨Fin.ext (by change 0 + 1 * r.val = r.val; omega), Fin.ext (by change q + 1 * f.val = b.val * 1024 + f.val; omega)⟩))

/-- What one block adds to the two gradients. -/
def partU (x : Vec Ideal S512x1024 .bf16) (y : Vec Ideal S512x2048 .bf16) (b : Fin 2) (k f : Fin 1024) : EReal :=
  ∑ r : Fin 512, x (ix2 r k) * y (ix2 r (half b f))
def partD (x : Vec Ideal S512x2048 .bf16) (y : Vec Ideal S512x1024 .bf16) (b : Fin 2) (f k : Fin 1024) : EReal :=
  ∑ r : Fin 512, x (ix2 r (half b f)) * x (ix2 r (half b f)) * y (ix2 r k)

/-- The same sums over one half's columns as the body loads them. -/
theorem loadU (x : Vec Ideal S512x1024 .bf16) (y : Vec Ideal S512x2048 .bf16) (b : Fin 2) (q : ℕ)
    (inb : ∀ i : Fin 2, (![0, q] : Fin 2 → ℕ) i + (![512, 1024] : Fin 2 → ℕ) i ≤ (![512, 2048] : Fin 2 → ℕ) i)
    (hq : q = b.val * 1024) (k f : Fin 1024) :
    (∑ r : Fin 512, x (ix2 r k) * View.ld y (Rect.unit (s := ⟨2, ![512, 2048]⟩) ![0, q] ![512, 1024] inb) (ix2 r f) : EReal)
    = partU x y b k f :=
  Finset.sum_congr rfl fun r _ => congrArg (x (ix2 r k) * ·) (load_half y b q inb hq r f)

theorem loadD (x : Vec Ideal S512x2048 .bf16) (y : Vec Ideal S512x1024 .bf16) (b : Fin 2) (q : ℕ)
    (inb : ∀ i : Fin 2, (![0, q] : Fin 2 → ℕ) i + (![512, 1024] : Fin 2 → ℕ) i ≤ (![512, 2048] : Fin 2 → ℕ) i)
    (hq : q = b.val * 1024) (f k : Fin 1024) :
    (∑ r : Fin 512, View.ld x (Rect.unit (s := ⟨2, ![512, 2048]⟩) ![0, q] ![512, 1024] inb) (ix2 r f)
      * View.ld x (Rect.unit (s := ⟨2, ![512, 2048]⟩) ![0, q] ![512, 1024] inb) (ix2 r f) * y (ix2 r k) : EReal)
    = partD x y b f k :=
  Finset.sum_congr rfl fun r _ => congrArg (fun w : EReal => w * w * y (ix2 r k)) (load_half x b q inb hq r f)

def addU (t : Fin cfg0.N) (b : Fin 2) (k f : Fin 1024) : EReal := partU (iblk m c 0 t) (iblk m c 1 t) b k f
def addD (t : Fin cfg0.N) (b : Fin 2) (f k : Fin 1024) : EReal := partD (iblk m c 2 t) (iblk m c 3 t) b f k

theorem addU_eq (t : Fin cfg0.N) (b : Fin 2) (k f : Fin 1024) : addU m c t b k f
    = ∑ r : Fin 512, z (aH m c) (aG m c) (rowAt t r) k * aP m c (ix2 (rowAt t r) (colAt (stack t b) f)) := by
  unfold addU partU
  simp only [blk_z, blk_p]

theorem addD_eq (t : Fin cfg0.N) (b : Fin 2) (f k : Fin 1024) : addD m c t b f k
    = ∑ r : Fin 512, ru (aH m c) (aG m c) (aU m c) (rowAt t r) (colAt (stack t b) f)
      * ru (aH m c) (aG m c) (aU m c) (rowAt t r) (colAt (stack t b) f) * aD m c (ix2 (rowAt t r) k) := by
  unfold addD partD
  simp only [blk_ru, blk_d]

end Cert.MlpWKernel

end
-- ==== Proof.MlpWValue.lean ====
module

public import proofs.«01_k».proof.Proof.MlpWKernel

@[expose] public section

set_option maxRecDepth 16384

noncomputable section

/-! What each block of the two weights' gradient leaves in its outputs and in the accumulators. -/

namespace Cert.MlpWValue

open Idealize.ShloMosaic Idealize.ShloMosaic.TcCoe Idealize.SL.Sem
open Cert.MlpWIdeal Cert.MlpWIdeal.Gen Cert.MlpWKernel MlpWModel

variable (m : (ℓ : Loc nD τ sig) → Buf (Elt Ideal) ℓ) (c : Dev nD)

/-- The up weight's accumulator after a run's first block, … -/
theorem accU_first (t : Fin cfg0.N) (h0 : t.val % 16 = 0) (b : Fin 2) (k f : Fin 1024) :
    (outsAt0 m c t.val t.isLt).2.2.1 (ix3 b k f) = 0 + addU m c t b k f := by
  rw [outsAt0_A m c t h0 (by omega)]
  frame_out
  obtain rfl | rfl : b = 0 ∨ b = 1 := by omega
  · rw [Stacks.canon_off _ _ _ _ _ _ (by decide), Stacks.canon_on _ _ _ _ _ _ (by rfl), pay7,
      Stacks.cov_at _ _ 0 _ _ _ (by rfl), Stacks.canon_all, pay5]
    exact congrArg (0 + ·) (loadU _ _ 0 0 _ rfl _ _)
  · rw [Stacks.canon_on _ _ _ _ _ _ (by rfl), pay1, Stacks.cov_at _ _ 1 _ _ _ (by rfl),
      Stacks.canon_off _ _ _ _ _ _ (by decide), Stacks.canon_all, pay5]
    exact congrArg (0 + ·) (loadU _ _ 1 1024 _ rfl _ _)

/-- … and what a later block adds to it. -/
theorem accU_next (t : Fin cfg0.N) (h0 : ¬ t.val % 16 = 0) (b : Fin 2) (k f : Fin 1024) :
    (outsAt0 m c t.val t.isLt).2.2.1 (ix3 b k f)
    = (outsAt0 m c (t.val - 1) (Nat.lt_of_le_of_lt (Nat.sub_le _ _) t.isLt)).2.2.1 (ix3 b k f) + addU m c t b k f := by
  by_cases h1 : t.val % 16 = 15
  on_goal 1 => rw [outsAt0_C m c t h0 h1]
  on_goal 2 => rw [outsAt0_B m c t h0 h1]
  all_goals
    frame_out
    obtain rfl | rfl : b = 0 ∨ b = 1 := by omega
    · rw [Stacks.canon_off _ _ _ _ _ _ (by decide), Stacks.canon_on _ _ _ _ _ _ (by rfl), pay7,
        Stacks.load_at _ 0 _ _ _ (by rfl)]
      exact congrArg₂ (· + ·) (congrFun (Memref.IsWhole.read_unread _ _) _) (loadU _ _ 0 0 _ rfl _ _)
    · rw [Stacks.canon_on _ _ _ _ _ _ (by rfl), pay1, Stacks.load_at _ 1 _ _ _ (by rfl)]
      exact congrArg₂ (· + ·) (congrFun (Memref.IsWhole.read_unread _ _) _) (loadU _ _ 1 1024 _ rfl _ _)

/-- The down weight's accumulator after a run's first block, … -/
theorem accD_first (t : Fin cfg0.N) (h0 : t.val % 16 = 0) (b : Fin 2) (f k : Fin 1024) :
    (outsAt0 m c t.val t.isLt).2.2.2 (ix3 b f k) = 0 + addD m c t b f k := by
  rw [outsAt0_A m c t h0 (by omega)]
  frame_out
  obtain rfl | rfl : b = 0 ∨ b = 1 := by omega
  · rw [Stacks.canon_off _ _ _ _ _ _ (by decide), Stacks.canon_on _ _ _ _ _ _ (by rfl), pay8,
      Stacks.cov_at _ _ 0 _ _ _ (by rfl), Stacks.canon_all, pay6]
    exact congrArg (0 + ·) (loadD _ _ 0 0 _ rfl _ _)
  · rw [Stacks.canon_on _ _ _ _ _ _ (by rfl), pay2, Stacks.cov_at _ _ 1 _ _ _ (by rfl),
      Stacks.canon_off _ _ _ _ _ _ (by decide), Stacks.canon_all, pay6]
    exact congrArg (0 + ·) (loadD _ _ 1 1024 _ rfl _ _)

/-- … and what a later block adds to it. -/
theorem accD_next (t : Fin cfg0.N) (h0 : ¬ t.val % 16 = 0) (b : Fin 2) (f k : Fin 1024) :
    (outsAt0 m c t.val t.isLt).2.2.2 (ix3 b f k)
    = (outsAt0 m c (t.val - 1) (Nat.lt_of_le_of_lt (Nat.sub_le _ _) t.isLt)).2.2.2 (ix3 b f k) + addD m c t b f k := by
  by_cases h1 : t.val % 16 = 15
  on_goal 1 => rw [outsAt0_C m c t h0 h1]
  on_goal 2 => rw [outsAt0_B m c t h0 h1]
  all_goals
    frame_out
    obtain rfl | rfl : b = 0 ∨ b = 1 := by omega
    · rw [Stacks.canon_off _ _ _ _ _ _ (by decide), Stacks.canon_on _ _ _ _ _ _ (by rfl), pay8,
        Stacks.load_at _ 0 _ _ _ (by rfl)]
      exact congrArg₂ (· + ·) (congrFun (Memref.IsWhole.read_unread _ _) _) (loadD _ _ 0 0 _ rfl _ _)
    · rw [Stacks.canon_on _ _ _ _ _ _ (by rfl), pay2, Stacks.load_at _ 1 _ _ _ (by rfl)]
      exact congrArg₂ (· + ·) (congrFun (Memref.IsWhole.read_unread _ _) _) (loadD _ _ 1 1024 _ rfl _ _)

/-- Point `s` of the run that ends at `t`: its rows and its stacks. -/
theorem row_run (t : Fin cfg0.N) (s : Fin 16) (h : 16 * (t.val / 16) + s.val < cfg0.N) (r : Fin 512) :
    rowAt ⟨16 * (t.val / 16) + s.val, h⟩ r = ⟨s.val * 512 + r.val, by have := s.isLt; have := r.isLt; omega⟩ :=
  Fin.ext (by have := s.isLt; change (16 * (t.val / 16) + s.val) % 16 * 512 + r.val = s.val * 512 + r.val; omega)

theorem stack_run (t : Fin cfg0.N) (s : Fin 16) (h : 16 * (t.val / 16) + s.val < cfg0.N) (b : Fin 2) :
    stack ⟨16 * (t.val / 16) + s.val, h⟩ b = stack t b :=
  Fin.ext (by have := s.isLt; change (16 * (t.val / 16) + s.val) / 16 * 2 + b.val = t.val / 16 * 2 + b.val; omega)

/-- The accumulators at a run's last point are the gradients. -/
theorem accU_last (t : Fin cfg0.N) (ht : t.val % 16 = 15) (b : Fin 2) (k f : Fin 1024) :
    (outsAt0 m c t.val t.isLt).2.2.1 (ix3 b k f) = dwu (aH m c) (aG m c) (aP m c) (stack t b) k f := by
  refine (Pipeline.eq_sum_fin_of_reset_step_apply_of_flush
    (fun n h (i : Fin 2 × Fin 1024 × Fin 1024) => (outsAt0 m c n h).2.2.1 (ix3 i.1 i.2.1 i.2.2)) 16 (fun _ => (0 : EReal))
    (fun t i => addU m c t i.1 i.2.1 i.2.2) (fun t h i => accU_first m c t h i.1 i.2.1 i.2.2)
    (fun t h i => accU_next m c t h i.1 i.2.1 i.2.2) t ht (b, k, f)).trans ?_
  simp only [zero_add, addU_eq, row_run, stack_run]
  exact (Fin.sum_univ_tiles (M := EReal) 16 512 rfl
    (fun n => z (aH m c) (aG m c) n k * aP m c (ix2 n (colAt (stack t b) f)))).symm

theorem accD_last (t : Fin cfg0.N) (ht : t.val % 16 = 15) (b : Fin 2) (f k : Fin 1024) :
    (outsAt0 m c t.val t.isLt).2.2.2 (ix3 b f k) = dwd (aH m c) (aG m c) (aU m c) (aD m c) (stack t b) f k := by
  refine (Pipeline.eq_sum_fin_of_reset_step_apply_of_flush
    (fun n h (i : Fin 2 × Fin 1024 × Fin 1024) => (outsAt0 m c n h).2.2.2 (ix3 i.1 i.2.1 i.2.2)) 16 (fun _ => (0 : EReal))
    (fun t i => addD m c t i.1 i.2.1 i.2.2) (fun t h i => accD_first m c t h i.1 i.2.1 i.2.2)
    (fun t h i => accD_next m c t h i.1 i.2.1 i.2.2) t ht (b, f, k)).trans ?_
  simp only [zero_add, addD_eq, row_run, stack_run]
  exact (Fin.sum_univ_tiles (M := EReal) 16 512 rfl (fun n => ru (aH m c) (aG m c) (aU m c) n (colAt (stack t b) f)
    * ru (aH m c) (aG m c) (aU m c) n (colAt (stack t b) f) * aD m c (ix2 n k))).symm

/-- The outputs, written at a run's last point, are the accumulators. -/
theorem out4_at (t : Fin cfg0.N) (h1 : t.val % 16 = 15) (b : Fin 2) (k f : Fin 1024) :
    (outsAt0 m c t.val t.isLt).1 (ix3 b k f) = (outsAt0 m c t.val t.isLt).2.2.1 (ix3 b k f) := by
  rw [outsAt0_C m c t (by omega) h1]
  frame_out
  rw [pay3, Stacks.cov_all]

theorem out5_at (t : Fin cfg0.N) (h1 : t.val % 16 = 15) (b : Fin 2) (f k : Fin 1024) :
    (outsAt0 m c t.val t.isLt).2.1 (ix3 b f k) = (outsAt0 m c t.val t.isLt).2.2.2 (ix3 b f k) := by
  rw [outsAt0_C m c t (by omega) h1]
  frame_out
  rw [pay4, Stacks.cov_all]

end Cert.MlpWValue

end
-- ==== Proof.MlpWRef.lean ====
module

public import proofs.«01_k».proof.Proof.Gen.MlpWRefIdeal.Read
public import proofs.«01_k».proof.Proof.MlpWKernel

@[expose] public section

set_option maxRecDepth 16384

noncomputable section

/-! What the reference of the two weights' gradients computes. -/

namespace Cert.MlpWRef

open Idealize.ShloMosaic Idealize.ShloMosaic.TcCoe Idealize.SL.Sem
open Cert.MlpWRefIdeal Cert.MlpWRefIdeal.Gen Cert.MlpWRefIdeal.Read

variable (h : FVec Ideal S8192x1024 .f32) (g : FVec Ideal S1x1024 .f32) (wu : FVec Ideal S1x1024x4096 .f32)
  (du : FVec Ideal S8192x4096 .f32) (d : FVec Ideal S8192x1024 .f32)

theorem z_eq (n : Fin 8192) (k : Fin 1024) : val_main_v13 (F := Ideal) h g (ix2 n k) = MlpWModel.z h g n k := by
  pointwise [val_main_v13, val_main_v12, val_main_v11, val_main_v10, val_main_v9, val_main_v8, val_main_v7, val_main_v6,
    val_main_v5, val_main_v4, val_main_v3, val_main_v2, val_main_v1, val_main_v0, val_main_cst, val_main_cst_0,
    val_main_cst_1]
  rfl

theorem ru_eq (n : Fin 8192) (f : Fin 4096) : val_main_v20 (F := Ideal) h g wu (ix2 n f) = MlpWModel.ru h g wu n f := by
  pointwise [val_main_v20, val_main_v15, val_main_v14, val_main_call0_v0, val_main_call0_cst, z_eq]
  rfl

/-- The first result: the up weight's gradient. -/
theorem res0 (j : Fin 4) (k f : Fin 1024) : val_main_v30 (F := Ideal) h g du (ix3 j k f) = MlpWModel.dwu h g du j k f := by
  pointwise [val_main_v30, val_main_v29, val_main_v28, val_main_v27, val_main_v18, val_main_v17, val_main_v16, z_eq]
  exact Finset.sum_congr rfl fun n _ => mul_comm _ _

/-- The second result: the down weight's gradient. -/
theorem res1 (j : Fin 4) (f k : Fin 1024) :
    val_main_v33 (F := Ideal) h g wu d (ix3 j f k) = MlpWModel.dwd h g wu d j f k := by
  pointwise [val_main_v33, val_main_v32, val_main_v31, val_main_v26, val_main_v25, val_main_v24, val_main_v21, ru_eq]
  exact Finset.sum_congr rfl fun n _ => mul_comm _ _

end Cert.MlpWRef

end
-- ==== Proof.MlpWClaim.lean ====
module

public import proofs.«01_k».proof.Defs
public import proofs.«01_k».proof.Proof.MlpWValue
public import proofs.«01_k».proof.Proof.MlpWRef
public import proofs.«01_k».proof.Proof.Gen.MlpWRefIdeal.Run

@[expose] public section

set_option maxRecDepth 16384

noncomputable section

/-! The kernel of the two weights' gradients and its reference compute the same arrays. -/

namespace Cert.MlpWClaim

open Idealize.ShloMosaic Idealize.ShloMosaic.TcCoe Idealize.SL.Sem
open Cert.MlpWIdeal Cert.MlpWIdeal.Gen Cert.MlpWKernel Cert.MlpWValue

variable (m : (ℓ : Loc nD τ sig) → Buf (Elt Ideal) ℓ) (c : Dev nD)

/-- The two results' arrays. -/
def U : FVec Ideal S4x1024x1024 .bf16 := fun i => MlpWModel.dwu (aH m c) (aG m c) (aP m c) (i 0) (i 1) (i 2)
def W : FVec Ideal S4x1024x1024 .bf16 := fun i => MlpWModel.dwd (aH m c) (aG m c) (aU m c) (aD m c) (i 0) (i 1) (i 2)

theorem arr4 : (dats m 0 c).arrAt 4 cfg0.N = U m c := by
  refine (dats m 0 c).arrAt_eq_of_covers 4 _ (by decide +kernel) fun t hf y => ?_
  have h1 : t.val % 16 = 15 := (flush0_4 t).1 hf
  blk_simp [U, idx t]
  rw [after0_4]
  obtain ⟨j, a, b, rfl⟩ : ∃ (j : Fin 2) (a b : Fin 1024), y = ix3 j a b :=
    ⟨y 0, y 1, y 2, by funext i; fin_cases i <;> rfl⟩
  refine (out4_at m c t h1 j a b).trans ((accU_last m c t h1 j a b).trans ?_)
  refine congr (congrArg₂ (MlpWModel.dwu (aH m c) (aG m c) (aP m c)) (Fin.ext ?_) (Fin.ext ?_)) (Fin.ext ?_)
  all_goals
    blk_simp [idx t, stack]

theorem arr5 : (dats m 0 c).arrAt 5 cfg0.N = W m c := by
  refine (dats m 0 c).arrAt_eq_of_covers 5 _ (by decide +kernel) fun t hf y => ?_
  have h1 : t.val % 16 = 15 := (flush0_5 t).1 hf
  blk_simp [W, idx t]
  rw [after0_5]
  obtain ⟨j, a, b, rfl⟩ : ∃ (j : Fin 2) (a b : Fin 1024), y = ix3 j a b :=
    ⟨y 0, y 1, y 2, by funext i; fin_cases i <;> rfl⟩
  refine (out5_at m c t h1 j a b).trans ((accD_last m c t h1 j a b).trans ?_)
  refine congr (congrArg₂ (MlpWModel.dwd (aH m c) (aG m c) (aU m c) (aD m c)) (Fin.ext ?_) (Fin.ext ?_)) (Fin.ext ?_)
  all_goals
    blk_simp [idx t, stack]

/-- The reference terminates, keeps its arguments and declares no semaphore. -/
theorem frame_ref (m : (ℓ : Loc MlpWRefIdeal.nD MlpWRefIdeal.τ MlpWRefIdeal.sig) → Buf (Elt Ideal) ℓ)
    (ρ : Dev MlpWRefIdeal.nD → PrngReg) :
    θ_run MlpWRefIdeal.defs (onTc (τ := MlpWRefIdeal.τ) (MlpWRefIdeal.main (F := Ideal))) ⟨m, fun _ => 0, ρ⟩
      fun r => (∀ c : Dev MlpWRefIdeal.nD,
        r.2.mem (c.tc.loc MlpWRefIdeal.main_arg0) = m (c.tc.loc MlpWRefIdeal.main_arg0)
        ∧ r.2.mem (c.tc.loc MlpWRefIdeal.main_arg1) = m (c.tc.loc MlpWRefIdeal.main_arg1)
        ∧ r.2.mem (c.tc.loc MlpWRefIdeal.main_arg2) = m (c.tc.loc MlpWRefIdeal.main_arg2)
        ∧ r.2.mem (c.tc.loc MlpWRefIdeal.main_arg3) = m (c.tc.loc MlpWRefIdeal.main_arg3)
        ∧ r.2.mem (c.tc.loc MlpWRefIdeal.main_arg4) = m (c.tc.loc MlpWRefIdeal.main_arg4))
        ∧ r.2.sem = fun _ => 0 :=
  (θ_run _ _ _).mono (fun r h => ⟨fun c => (h c).2.2, sem_eq_zero_of_no_sems (by decide) r.2⟩)
    (Cert.MlpWRefIdeal.Value.run m ρ)

/-- The claim. -/
theorem algebraic : Cert.algebraic_MlpWIdeal_MlpWRefIdeal := by
  pair_intro
  · run_from Cert.MlpWIdeal.Value.run_blocks m g
  · run_from Cert.MlpWRefIdeal.Value.run m' g'
    · rw [arr4]
      funext i
      obtain ⟨j, a, b, rfl⟩ : ∃ (j : Fin 4) (a b : Fin 1024), i = ix3 j a b :=
        ⟨i 0, i 1, i 2, by funext i; fin_cases i <;> rfl⟩
      exact MlpWRef.res0 (aH m c) (aG m c) (aP m c) j a b
    · rw [arr5]
      funext i
      obtain ⟨j, a, b, rfl⟩ : ∃ (j : Fin 4) (a b : Fin 1024), i = ix3 j a b :=
        ⟨i 0, i 1, i 2, by funext i; fin_cases i <;> rfl⟩
      exact MlpWRef.res1 (aH m c) (aG m c) (aU m c) (aD m c) j a b

end Cert.MlpWClaim

end
-- ==== Proof.AddPairsKernel.lean ====
module

public import proofs.«01_k».proof.Proof.Gen.AddPairsIdeal.Value
public import proofs.«01_k».proof.Proof.Gen.AddPairsRefIdeal.Read
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

/-! What each block of the pairs' sum reads, and what it stores. -/

namespace Cert.AddPairsKernel

open Idealize.ShloMosaic Idealize.ShloMosaic.TcCoe Idealize.SL.Sem
open Cert.AddPairsIdeal Cert.AddPairsIdeal.Gen

/-- The sum of the first half of a stack's rows and of the other core's half. -/
def half {s h n k : Nat} (hn : h ≤ n) (a : Fin s → Fin n → Fin k → EReal) (b : Fin s → Fin h → Fin k → EReal)
    (q : Fin s) (r : Fin h) (j : Fin k) : EReal := a q (Fin.castLE hn r) j + b q r j

variable (m : (ℓ : Loc nD τ sig) → Buf (Elt Ideal) ℓ) (c : Dev nD)

/-- The arguments: four gradients, and the other core's half of each. -/
abbrev aU : FVec Ideal S4x1024x1024 .bf16 := m ((c : Thread nD τ).loc main_arg0)
abbrev aD : FVec Ideal S4x1024x1024 .bf16 := m ((c : Thread nD τ).loc main_arg1)
abbrev aG : FVec Ideal S1024x1024 .bf16 := m ((c : Thread nD τ).loc main_arg2)
abbrev aP : FVec Ideal S4x256x256 .bf16 := m ((c : Thread nD τ).loc main_arg3)
abbrev bU : FVec Ideal S4x512x1024 .bf16 := m ((c : Thread nD τ).loc main_arg4)
abbrev bD : FVec Ideal S4x512x1024 .bf16 := m ((c : Thread nD τ).loc main_arg5)
abbrev bG : FVec Ideal S4x128x1024 .bf16 := m ((c : Thread nD τ).loc main_arg6)
abbrev bP : FVec Ideal S4x128x256 .bf16 := m ((c : Thread nD τ).loc main_arg7)

/-- Row `r` of stack `q`. -/
def stackRow (q : Fin 4) (r : Fin 256) : Fin 1024 := ⟨q.val * 256 + r.val, by have := q.isLt; have := r.isLt; omega⟩

/-- The four sums. -/
def sumU : Fin 4 → Fin 512 → Fin 1024 → EReal :=
  half (by decide) (fun q r j => aU m c (ix3 q r j)) (fun q r j => bU m c (ix3 q r j))
def sumD : Fin 4 → Fin 512 → Fin 1024 → EReal :=
  half (by decide) (fun q r j => aD m c (ix3 q r j)) (fun q r j => bD m c (ix3 q r j))
def sumG : Fin 4 → Fin 128 → Fin 1024 → EReal :=
  half (by decide) (fun q (r : Fin 256) j => aG m c (ix2 (stackRow q r) j)) (fun q r j => bG m c (ix3 q r j))
def sumP : Fin 4 → Fin 128 → Fin 256 → EReal :=
  half (by decide) (fun q (r : Fin 256) j => aP m c (ix3 q r j)) (fun q r j => bP m c (ix3 q r j))

/-- Row `r` of the block at grid point `t`, among the rows of a half. -/
def row64 (t : Fin cfg0.N) (r : Fin 64) : Fin 512 :=
  ⟨t.val * 64 + r.val, by have := lt_of_lt_of_eq t.isLt N_0; have := r.isLt; omega⟩
def row16 (t : Fin cfg0.N) (r : Fin 16) : Fin 128 :=
  ⟨t.val * 16 + r.val, by have := lt_of_lt_of_eq t.isLt N_0; have := r.isLt; omega⟩

theorem idx : ∀ t : Fin cfg0.N,
    win0_0.index t = ![0, t.val, 0] ∧ win0_1.index t = ![0, t.val, 0] ∧ win0_2.index t = ![0, t.val, 0]
    ∧ win0_3.index t = ![0, t.val, 0] ∧ win0_4.index t = ![0, t.val, 0] ∧ win0_5.index t = ![0, t.val, 0]
    ∧ win0_6.index t = ![0, t.val, 0] ∧ win0_7.index t = ![0, t.val, 0] ∧ win0_8.index t = ![0, t.val, 0]
    ∧ win0_9.index t = ![0, t.val, 0] ∧ win0_10.index t = ![0, t.val, 0] ∧ win0_11.index t = ![0, t.val, 0] :=
  (by decide +kernel : ∀ t : Fin grid0.N, _)

/-- The gate's gradient in four stacks. -/
theorem host (q : Fin 4) (r : Fin 256) (j : Fin 1024) :
    (V m c main_v0 : FVec Ideal S4x256x1024 .bf16) (ix3 q r j) = aG m c (ix2 (stackRow q r) j) := by
  unfold V
  simp only [List.flatten_cons, List.flatten_nil, hostOps0, List.cons_append, List.nil_append]
  after_reads_at
  all_goals rfl

/-- The blocks of the operands. -/
theorem blkA (t : Fin cfg0.N) (q : Fin 4) (r : Fin 64) (s : Fin 16) (j : Fin 1024) (k : Fin 256) :
    iblk m c 0 t (ix3 q r j) = aU m c (ix3 q (Fin.castLE (by decide) (row64 t r)) j)
    ∧ iblk m c 1 t (ix3 q r j) = aD m c (ix3 q (Fin.castLE (by decide) (row64 t r)) j)
    ∧ iblk m c 2 t (ix3 q s j) = aG m c (ix2 (stackRow q (Fin.castLE (by decide) (row16 t s))) j)
    ∧ iblk m c 3 t (ix3 q s k) = aP m c (ix3 q (Fin.castLE (by decide) (row16 t s)) k) := by
  refine ⟨?_, ?_, (?_ : _ = _).trans (host m c q _ j), ?_⟩
  all_goals
    blk_ext [iblk, V, idx t, row64, row16]
    rfl

theorem blkB (t : Fin cfg0.N) (q : Fin 4) (r : Fin 64) (s : Fin 16) (j : Fin 1024) (k : Fin 256) :
    iblk m c 4 t (ix3 q r j) = bU m c (ix3 q (row64 t r) j) ∧ iblk m c 5 t (ix3 q r j) = bD m c (ix3 q (row64 t r) j)
    ∧ iblk m c 6 t (ix3 q s j) = bG m c (ix3 q (row16 t s) j) ∧ iblk m c 7 t (ix3 q s k) = bP m c (ix3 q (row16 t s) k) := by
  refine ⟨?_, ?_, ?_, ?_⟩
  all_goals
    blk_ext [iblk, V, idx t, row64, row16]

/-- What the body stores is the sum of the two blocks. -/
theorem pays (u u' : Vec Ideal S4x64x1024 .bf16) (g g' : Vec Ideal S4x16x1024 .bf16) (p p' : Vec Ideal S4x16x256 .bf16)
    (q : Fin 4) (r : Fin 64) (s : Fin 16) (j : Fin 1024) (k : Fin 256) :
    k0_pay2 u u' (ix3 q r j) = (u (ix3 q r j) + u' (ix3 q r j) : EReal)
    ∧ k0_pay3 u u' (ix3 q r j) = (u (ix3 q r j) + u' (ix3 q r j) : EReal)
    ∧ k0_pay4 g g' (ix3 q s j) = (g (ix3 q s j) + g' (ix3 q s j) : EReal)
    ∧ k0_pay1 (k0_pay5 p) p' (ix3 q s k) = (p (ix3 q s k) + p' (ix3 q s k) : EReal) := by
  refine ⟨?_, ?_, ?_, ?_⟩ <;> pointwise [k0_pay1, k0_pay2, k0_pay3, k0_pay4, k0_pay5]
  all_goals rfl

/-- The stored blocks. -/
theorem outs (t : Fin cfg0.N) (q : Fin 4) (r : Fin 64) (s : Fin 16) (j : Fin 1024) (k : Fin 256) :
    k0_pay2 (iblk m c 0 t) (iblk m c 4 t) (ix3 q r j) = sumU m c q (row64 t r) j
    ∧ k0_pay3 (iblk m c 1 t) (iblk m c 5 t) (ix3 q r j) = sumD m c q (row64 t r) j
    ∧ k0_pay4 (iblk m c 2 t) (iblk m c 6 t) (ix3 q s j) = sumG m c q (row16 t s) j
    ∧ k0_pay1 (k0_pay5 (iblk m c 3 t)) (iblk m c 7 t) (ix3 q s k) = sumP m c q (row16 t s) k := by
  obtain ⟨a0, a1, a2, a3⟩ := blkA m c t q r s j k
  obtain ⟨b0, b1, b2, b3⟩ := blkB m c t q r s j k
  have h := pays (iblk m c 0 t) (iblk m c 4 t) (iblk m c 2 t) (iblk m c 6 t) (iblk m c 3 t) (iblk m c 7 t) q r s j k
  have h' := (pays (iblk m c 1 t) (iblk m c 5 t) (iblk m c 2 t) (iblk m c 6 t) (iblk m c 3 t) (iblk m c 7 t) q r s j k).2.1
  rw [a0, a2, a3, b0, b2, b3] at h
  rw [a1, b1] at h'
  exact ⟨h.1, h', h.2.2.1, h.2.2.2⟩

section reference

open Cert.AddPairsRefIdeal.Read

/-- The reference's sums. -/
theorem refs (q : Fin 4) (r : Fin 512) (s : Fin 128) (j : Fin 1024) (k : Fin 256) :
    val_main_v5 (F := Ideal) (aU m c) (bU m c) (ix3 q r j) = sumU m c q r j
    ∧ val_main_v10 (F := Ideal) (aD m c) (bD m c) (ix3 q r j) = sumD m c q r j
    ∧ val_main_v15 (F := Ideal) (aG m c) (bG m c) (ix3 q s j) = sumG m c q s j
    ∧ val_main_v20 (F := Ideal) (aP m c) (bP m c) (ix3 q s k) = sumP m c q s k := by
  refine ⟨?_, ?_, ?_, ?_⟩ <;>
    pointwise [val_main_v5, val_main_v4, val_main_v3, val_main_v2, val_main_v1, val_main_v10, val_main_v9, val_main_v8, val_main_v7,
      val_main_v6, val_main_v15, val_main_v14, val_main_v13, val_main_v12, val_main_v11, val_main_v0, val_main_v20, val_main_v19,
      val_main_v18, val_main_v17, val_main_v16]
  all_goals rfl

end reference

end Cert.AddPairsKernel

end
-- ==== Proof.AddPairsClaim.lean ====
module

public import proofs.«01_k».proof.Defs
public import proofs.«01_k».proof.Proof.AddPairsKernel
public import proofs.«01_k».proof.Proof.Gen.AddPairsRefIdeal.Run

@[expose] public section

set_option maxRecDepth 16384

noncomputable section

/-! The pairs' sum and its reference compute the same arrays. -/

namespace Cert.AddPairsClaim

open Idealize.ShloMosaic Idealize.ShloMosaic.TcCoe Idealize.SL.Sem
open Cert.AddPairsIdeal Cert.AddPairsIdeal.Gen Cert.AddPairsKernel

variable (m : (ℓ : Loc nD τ sig) → Buf (Elt Ideal) ℓ) (c : Dev nD)

/-- The results' arrays. -/
def U : FVec Ideal S4x512x1024 .bf16 := fun i => sumU m c (i 0) (i 1) (i 2)
def D : FVec Ideal S4x512x1024 .bf16 := fun i => sumD m c (i 0) (i 1) (i 2)
def G : FVec Ideal S4x128x1024 .bf16 := fun i => sumG m c (i 0) (i 1) (i 2)
def P : FVec Ideal S4x128x256 .bf16 := fun i => sumP m c (i 0) (i 1) (i 2)

set_option maxHeartbeats 1000000 in
/-- What the kernel leaves in the four arrays. -/
theorem arrays : (dats m 0 c).arrAt 8 cfg0.N = U m c ∧ (dats m 0 c).arrAt 9 cfg0.N = D m c
    ∧ (dats m 0 c).arrAt 10 cfg0.N = G m c ∧ (dats m 0 c).arrAt 11 cfg0.N = P m c := by
  refine ⟨(dats m 0 c).arrAt_eq_of_covers 8 _ (by decide +kernel) ?_,
    (dats m 0 c).arrAt_eq_of_covers 9 _ (by decide +kernel) ?_,
    (dats m 0 c).arrAt_eq_of_covers 10 _ (by decide +kernel) ?_,
    (dats m 0 c).arrAt_eq_of_covers 11 _ (by decide +kernel) ?_⟩
  all_goals
    intro t hf y
    blk_simp [U, D, G, P, idx t]
    simp only [after0_8, after0_9, after0_10, after0_11]
    first
      | obtain ⟨q, r, j, rfl⟩ : ∃ (q : Fin 4) (r : Fin 64) (j : Fin 1024), y = ix3 q r j :=
          ⟨y 0, y 1, y 2, by funext i; fin_cases i <;> rfl⟩
        refine Eq.trans ?_ (congr (congrArg₂ _ (Fin.ext ?_ : q = _) (Fin.ext ?_ : row64 t r = _)) (Fin.ext ?_ : j = _))
      | obtain ⟨q, r, j, rfl⟩ : ∃ (q : Fin 4) (r : Fin 16) (j : Fin 1024), y = ix3 q r j :=
          ⟨y 0, y 1, y 2, by funext i; fin_cases i <;> rfl⟩
        refine Eq.trans ?_ (congr (congrArg₂ _ (Fin.ext ?_ : q = _) (Fin.ext ?_ : row16 t r = _)) (Fin.ext ?_ : j = _))
      | obtain ⟨q, r, j, rfl⟩ : ∃ (q : Fin 4) (r : Fin 16) (j : Fin 256), y = ix3 q r j :=
          ⟨y 0, y 1, y 2, by funext i; fin_cases i <;> rfl⟩
        refine Eq.trans ?_ (congr (congrArg₂ _ (Fin.ext ?_ : q = _) (Fin.ext ?_ : row16 t r = _)) (Fin.ext ?_ : j = _))
    rotate_left
    · blk_simp [idx t]
    · blk_simp [idx t, row64, row16]
    · blk_simp [idx t]
    frame_out
  · exact (outs m c t q r 0 j 0).1
  · exact (outs m c t q r 0 j 0).2.1
  · exact (outs m c t q 0 r j 0).2.2.1
  · exact (outs m c t q 0 r 0 j).2.2.2

section reference

open Cert.AddPairsRefIdeal.Read

/-- The reference's arrays. -/
theorem refArrays : val_main_v5 (F := Ideal) (aU m c) (bU m c) = U m c ∧ val_main_v10 (F := Ideal) (aD m c) (bD m c) = D m c
    ∧ val_main_v15 (F := Ideal) (aG m c) (bG m c) = G m c ∧ val_main_v20 (F := Ideal) (aP m c) (bP m c) = P m c := by
  refine ⟨?_, ?_, ?_, ?_⟩ <;> funext i <;>
    (first
      | obtain ⟨q, r, j, rfl⟩ : ∃ (q : Fin 4) (r : Fin 512) (j : Fin 1024), i = ix3 q r j :=
          ⟨i 0, i 1, i 2, by funext i; fin_cases i <;> rfl⟩
      | obtain ⟨q, r, j, rfl⟩ : ∃ (q : Fin 4) (r : Fin 128) (j : Fin 1024), i = ix3 q r j :=
          ⟨i 0, i 1, i 2, by funext i; fin_cases i <;> rfl⟩
      | obtain ⟨q, r, j, rfl⟩ : ∃ (q : Fin 4) (r : Fin 128) (j : Fin 256), i = ix3 q r j :=
          ⟨i 0, i 1, i 2, by funext i; fin_cases i <;> rfl⟩)
  · exact (refs m c q r 0 j 0).1
  · exact (refs m c q r 0 j 0).2.1
  · exact (refs m c q 0 r j 0).2.2.1
  · exact (refs m c q 0 r 0 j).2.2.2

end reference

/-- The reference terminates, keeps its arguments and declares no semaphore. -/
theorem frame_ref (m : (ℓ : Loc AddPairsRefIdeal.nD AddPairsRefIdeal.τ AddPairsRefIdeal.sig) → Buf (Elt Ideal) ℓ)
    (ρ : Dev AddPairsRefIdeal.nD → PrngReg) :
    θ_run AddPairsRefIdeal.defs (onTc (τ := AddPairsRefIdeal.τ) (AddPairsRefIdeal.main (F := Ideal))) ⟨m, fun _ => 0, ρ⟩
      fun r => (∀ c : Dev AddPairsRefIdeal.nD,
        r.2.mem (c.tc.loc AddPairsRefIdeal.main_arg0) = m (c.tc.loc AddPairsRefIdeal.main_arg0)
        ∧ r.2.mem (c.tc.loc AddPairsRefIdeal.main_arg1) = m (c.tc.loc AddPairsRefIdeal.main_arg1)
        ∧ r.2.mem (c.tc.loc AddPairsRefIdeal.main_arg2) = m (c.tc.loc AddPairsRefIdeal.main_arg2)
        ∧ r.2.mem (c.tc.loc AddPairsRefIdeal.main_arg3) = m (c.tc.loc AddPairsRefIdeal.main_arg3)
        ∧ r.2.mem (c.tc.loc AddPairsRefIdeal.main_arg4) = m (c.tc.loc AddPairsRefIdeal.main_arg4)
        ∧ r.2.mem (c.tc.loc AddPairsRefIdeal.main_arg5) = m (c.tc.loc AddPairsRefIdeal.main_arg5)
        ∧ r.2.mem (c.tc.loc AddPairsRefIdeal.main_arg6) = m (c.tc.loc AddPairsRefIdeal.main_arg6)
        ∧ r.2.mem (c.tc.loc AddPairsRefIdeal.main_arg7) = m (c.tc.loc AddPairsRefIdeal.main_arg7))
        ∧ r.2.sem = fun _ => 0 :=
  (θ_run _ _ _).mono (fun r h => ⟨fun c => (h c).2.2.2.2, sem_eq_zero_of_no_sems (by decide) r.2⟩)
    (Cert.AddPairsRefIdeal.Value.run m ρ)

set_option maxHeartbeats 1000000 in
/-- The claim. -/
theorem algebraic : Cert.algebraic_AddPairsIdeal_AddPairsRefIdeal := by
  pair_intro
  · run_from Cert.AddPairsIdeal.Value.run_blocks m g
  · run_from Cert.AddPairsRefIdeal.Value.run m' g'
    all_goals
      obtain ⟨h0, h1, h2, h3⟩ := arrays m c
      obtain ⟨e0, e1, e2, e3⟩ := refArrays m c
    · exact e0.trans h0.symm
    · exact e1.trans h1.symm
    · exact e2.trans h2.symm
    · exact e3.trans h3.symm

end Cert.AddPairsClaim

end
-- ==== Proof.AdamModel.lean ====
module

public import Idealize.ShloMosaic.PureOps.IdealRules
public import Mathlib.Tactic.NormNum

@[expose] public section

noncomputable section

/-! One step of the optimiser, for one number of a weight. -/

namespace Cert.AdamModel

open Idealize.ShloMosaic

/-- The two corrections of the moments' bias. -/
abbrev bias1 : EReal := Ideal.ofBits .f32 0x3F26BD02#32
abbrev bias2 : EReal := Ideal.ofBits .f32 0x3C231ACC#32

theorem bias1_eq : bias1 = ((5463681 / 8388608 : ℝ) : EReal) := by
  simp [bias1, Ideal.ofBits, Ideal.ieee, -EReal.coe_mul]; norm_num

theorem bias2_eq : bias2 = ((2672307 / 268435456 : ℝ) : EReal) := by
  simp [bias2, Ideal.ofBits, Ideal.ieee, -EReal.coe_mul]; norm_num

/-- Division by a correction is the product with its reciprocal. -/
theorem div_bias1 (x : EReal) : Ideal.div x bias1 = x * (((5463681 / 8388608)⁻¹ : ℝ) : EReal) := by
  rw [bias1_eq, Ideal.div_coe (by norm_num), one_div]

theorem div_bias2 (x : EReal) : Ideal.div x bias2 = x * (((2672307 / 268435456)⁻¹ : ℝ) : EReal) := by
  rw [bias2_eq, Ideal.div_coe (by norm_num), one_div]

/-- The first moment, from the gradient and the old one. -/
def first (g m : EReal) : EReal := Ideal.ofBits .f32 0x3F666666#32 * m + Ideal.ofBits .f32 0x3DCCCCCD#32 * g

/-- The second moment. -/
def second (g v : EReal) : EReal := Ideal.ofBits .f32 0x3F7FBE77#32 * v + Ideal.ofBits .f32 0x3A83126F#32 * (g * g)

/-- What the step adds to the weight. -/
def delta (w g m v : EReal) : EReal :=
  Ideal.ofBits .f32 0xBA83126F#32 * (Ideal.div (Ideal.div (first g m) bias1)
    (Ideal.sqrt (Ideal.div (second g v) bias2) + Ideal.ofBits .f32 0x322BCC77#32) + Ideal.ofBits .f32 0x3C23D70A#32 * w)

/-- The same, for a number of a matrix. -/
def firstAt {r n : Nat} (g m : Fin r → Fin n → EReal) (i : Fin r) (j : Fin n) : EReal := first (g i j) (m i j)
def secondAt {r n : Nat} (g v : Fin r → Fin n → EReal) (i : Fin r) (j : Fin n) : EReal := second (g i j) (v i j)
def deltaAt {r n : Nat} (w g m v : Fin r → Fin n → EReal) (i : Fin r) (j : Fin n) : EReal :=
  delta (w i j) (g i j) (m i j) (v i j)
def sameAt {r n : Nat} (g : Fin r → Fin n → EReal) (i : Fin r) (j : Fin n) : EReal := g i j

end Cert.AdamModel

end
-- ==== Proof.AdamKernel.lean ====
module

public import proofs.«01_k».proof.Proof.AdamModel
public import proofs.«01_k».proof.Proof.Gen.AdamIdeal.Value
public import proofs.«01_k».proof.Proof.Gen.AdamRefIdeal.Read
public import Idealize.ShloMosaic.Lib.Pointwise
public import Idealize.ShloMosaic.Lib.Pipeline.ValueKit
public import Idealize.ShloMosaic.Lib.Claim
public import Idealize.ShloMosaic.Lib.StableHlo.ReadAt

@[expose] public section

set_option maxRecDepth 16384

noncomputable section

/-! What each block of the optimiser's kernel reads, and the numbers that it computes. -/

namespace Cert.AdamKernel

open Idealize.ShloMosaic Idealize.ShloMosaic.TcCoe Idealize.SL.Sem
open Cert.AdamIdeal Cert.AdamIdeal.Gen

theorem c1_eq : Named.named (F := Ideal) Cert.AdamIdeal.κ "c1" (φ := .f32) 0x3FC48605#32
    = (((5463681 / 8388608)⁻¹ : ℝ) : EReal) := IdealRules.named_const.ideal_named_scalar _ _ _ _ rfl

theorem c2_eq : Named.named (F := Ideal) Cert.AdamIdeal.κ "c2" (φ := .f32) 0x42C8E6D3#32
    = (((2672307 / 268435456)⁻¹ : ℝ) : EReal) := IdealRules.named_const.ideal_named_scalar _ _ _ _ rfl

section block

variable (w g m v : Vec Ideal S128x384 .f32) (w' g' m' v' : Vec Ideal S128x1024 .f32)

/-- The stored values, for a block of each width. -/
theorem narrow (i : S128x384.Idx) : k0_pay2 g m i = AdamModel.first (g i) (m i)
    ∧ k0_pay3 g v i = AdamModel.second (g i) (v i) ∧ k0_pay4 g w m v i = AdamModel.delta (w i) (g i) (m i) (v i)
    ∧ k0_pay1 g i = g i := by
  refine ⟨?_, ?_, ?_, ?_⟩ <;>
    pointwise [k0_pay4, k0_pay3, k0_pay2, k0_pay1, c1_eq, c2_eq]
  all_goals first
    | (simp only [AdamModel.delta, AdamModel.div_bias1, AdamModel.div_bias2]; rfl)
    | rfl

theorem wide (i : S128x1024.Idx) : k0_pay6 g' m' i = AdamModel.first (g' i) (m' i)
    ∧ k0_pay7 g' v' i = AdamModel.second (g' i) (v' i) ∧ k0_pay8 g' w' m' v' i = AdamModel.delta (w' i) (g' i) (m' i) (v' i)
    ∧ k0_pay5 g' i = g' i := by
  refine ⟨?_, ?_, ?_, ?_⟩ <;>
    pointwise [k0_pay8, k0_pay7, k0_pay6, k0_pay5, c1_eq, c2_eq]
  all_goals first
    | (simp only [AdamModel.delta, AdamModel.div_bias1, AdamModel.div_bias2]; rfl)
    | rfl

end block

section reference

open Cert.AdamRefIdeal.Read

variable (w g m v : FVec Ideal S1x1024x384 .f32) (w' g' m' v' : FVec Ideal S1x1024x1024 .f32)

/-- The reference's results, for an array of each width. -/
theorem narrow_ref (a : Fin 1024) (b : Fin 384) :
    val_main_v72 (F := Ideal) w g m v (ix2 a b)
        = AdamModel.delta (w (ix3 0 a b)) (g (ix3 0 a b)) (m (ix3 0 a b)) (v (ix3 0 a b))
    ∧ val_main_v75 (F := Ideal) g m (ix2 a b) = AdamModel.first (g (ix3 0 a b)) (m (ix3 0 a b))
    ∧ val_main_v78 (F := Ideal) g v (ix2 a b) = AdamModel.second (g (ix3 0 a b)) (v (ix3 0 a b))
    ∧ val_main_v81 (F := Ideal) g (ix2 a b) = g (ix3 0 a b) := by
  refine ⟨?_, ?_, ?_, ?_⟩ <;> pointwise [val_main_v72, val_main_v75, val_main_v78, val_main_v81] <;> rfl

theorem wide_ref (a : Fin 1024) (b : Fin 1024) :
    val_main_v73 (F := Ideal) w' g' m' v' (ix2 a b)
        = AdamModel.delta (w' (ix3 0 a b)) (g' (ix3 0 a b)) (m' (ix3 0 a b)) (v' (ix3 0 a b))
    ∧ val_main_v76 (F := Ideal) g' m' (ix2 a b) = AdamModel.first (g' (ix3 0 a b)) (m' (ix3 0 a b))
    ∧ val_main_v79 (F := Ideal) g' v' (ix2 a b) = AdamModel.second (g' (ix3 0 a b)) (v' (ix3 0 a b))
    ∧ val_main_v82 (F := Ideal) g' (ix2 a b) = g' (ix3 0 a b) := by
  refine ⟨?_, ?_, ?_, ?_⟩ <;> pointwise [val_main_v73, val_main_v76, val_main_v79, val_main_v82] <;> rfl

end reference

variable (m : (ℓ : Loc nD τ sig) → Buf (Elt Ideal) ℓ) (c : Dev nD)

/-- The arguments: three weights, their gradients, their first and their second moments. -/
abbrev a0 : FVec Ideal S1x1024x384 .f32 := m ((c : Thread nD τ).loc main_arg0)
abbrev a1 : FVec Ideal S1x1024x1024 .f32 := m ((c : Thread nD τ).loc main_arg1)
abbrev a2 : FVec Ideal S1x1024x1024 .f32 := m ((c : Thread nD τ).loc main_arg2)
abbrev a3 : FVec Ideal S1x1024x384 .f32 := m ((c : Thread nD τ).loc main_arg3)
abbrev a4 : FVec Ideal S1x1024x1024 .f32 := m ((c : Thread nD τ).loc main_arg4)
abbrev a5 : FVec Ideal S1x1024x1024 .f32 := m ((c : Thread nD τ).loc main_arg5)
abbrev a6 : FVec Ideal S1x1024x384 .f32 := m ((c : Thread nD τ).loc main_arg6)
abbrev a7 : FVec Ideal S1x1024x1024 .f32 := m ((c : Thread nD τ).loc main_arg7)
abbrev a8 : FVec Ideal S1x1024x1024 .f32 := m ((c : Thread nD τ).loc main_arg8)
abbrev a9 : FVec Ideal S1x1024x384 .f32 := m ((c : Thread nD τ).loc main_arg9)
abbrev a10 : FVec Ideal S1x1024x1024 .f32 := m ((c : Thread nD τ).loc main_arg10)
abbrev a11 : FVec Ideal S1x1024x1024 .f32 := m ((c : Thread nD τ).loc main_arg11)

/-- Row `r` of the block at grid point `t`, in the whole array. -/
def rowAt (t : Fin cfg0.N) (r : Fin 128) : Fin 1024 :=
  ⟨t.val * 128 + r.val, by have := lt_of_lt_of_eq t.isLt N_0; have := r.isLt; omega⟩

theorem idx : ∀ t : Fin cfg0.N,
    win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0]
    ∧ win0_12.index t = ![t.val, 0] ∧ win0_13.index t = ![t.val, 0] ∧ win0_14.index t = ![t.val, 0]
    ∧ win0_15.index t = ![t.val, 0] ∧ win0_16.index t = ![t.val, 0] ∧ win0_17.index t = ![t.val, 0]
    ∧ win0_18.index t = ![t.val, 0] ∧ win0_19.index t = ![t.val, 0] ∧ win0_20.index t = ![t.val, 0]
    ∧ win0_21.index t = ![t.val, 0] ∧ win0_22.index t = ![t.val, 0] ∧ win0_23.index t = ![t.val, 0] :=
  (by decide +kernel : ∀ t : Fin grid0.N, _)

/-- The operands, as the host code lays them out: the arguments without their first axis. -/
theorem host (r : Fin 1024) (n : Fin 384) (k : Fin 1024) :
    (V m c main_v0 : FVec Ideal S1024x384 .f32) (ix2 r n) = a0 m c (ix3 0 r n)
    ∧ (V m c main_v1 : FVec Ideal S1024x1024 .f32) (ix2 r k) = a1 m c (ix3 0 r k)
    ∧ (V m c main_v2 : FVec Ideal S1024x1024 .f32) (ix2 r k) = a2 m c (ix3 0 r k)
    ∧ (V m c main_v3 : FVec Ideal S1024x384 .f32) (ix2 r n) = a3 m c (ix3 0 r n)
    ∧ (V m c main_v4 : FVec Ideal S1024x1024 .f32) (ix2 r k) = a4 m c (ix3 0 r k)
    ∧ (V m c main_v5 : FVec Ideal S1024x1024 .f32) (ix2 r k) = a5 m c (ix3 0 r k)
    ∧ (V m c main_v6 : FVec Ideal S1024x384 .f32) (ix2 r n) = a6 m c (ix3 0 r n)
    ∧ (V m c main_v7 : FVec Ideal S1024x1024 .f32) (ix2 r k) = a7 m c (ix3 0 r k)
    ∧ (V m c main_v8 : FVec Ideal S1024x1024 .f32) (ix2 r k) = a8 m c (ix3 0 r k)
    ∧ (V m c main_v9 : FVec Ideal S1024x384 .f32) (ix2 r n) = a9 m c (ix3 0 r n)
    ∧ (V m c main_v10 : FVec Ideal S1024x1024 .f32) (ix2 r k) = a10 m c (ix3 0 r k)
    ∧ (V m c main_v11 : FVec Ideal S1024x1024 .f32) (ix2 r k) = a11 m c (ix3 0 r k) := by
  refine ⟨?_, ?_, ?_, ?_, ?_, ?_, ?_, ?_, ?_, ?_, ?_, ?_⟩
  all_goals
    unfold V
    simp only [List.flatten_cons, List.flatten_nil, hostOps0, List.cons_append, List.nil_append]
    after_reads_at

set_option maxHeartbeats 2000000 in
/-- The blocks of the operands. -/
theorem blk (t : Fin cfg0.N) (r : Fin 128) (n : Fin 384) (k : Fin 1024) :
    iblk m c 0 t (ix2 r n) = a0 m c (ix3 0 (rowAt t r) n) ∧ iblk m c 1 t (ix2 r k) = a1 m c (ix3 0 (rowAt t r) k)
    ∧ iblk m c 2 t (ix2 r k) = a2 m c (ix3 0 (rowAt t r) k) ∧ iblk m c 3 t (ix2 r n) = a3 m c (ix3 0 (rowAt t r) n)
    ∧ iblk m c 4 t (ix2 r k) = a4 m c (ix3 0 (rowAt t r) k) ∧ iblk m c 5 t (ix2 r k) = a5 m c (ix3 0 (rowAt t r) k)
    ∧ iblk m c 6 t (ix2 r n) = a6 m c (ix3 0 (rowAt t r) n) ∧ iblk m c 7 t (ix2 r k) = a7 m c (ix3 0 (rowAt t r) k)
    ∧ iblk m c 8 t (ix2 r k) = a8 m c (ix3 0 (rowAt t r) k) ∧ iblk m c 9 t (ix2 r n) = a9 m c (ix3 0 (rowAt t r) n)
    ∧ iblk m c 10 t (ix2 r k) = a10 m c (ix3 0 (rowAt t r) k) ∧ iblk m c 11 t (ix2 r k) = a11 m c (ix3 0 (rowAt t r) k) := by
  obtain ⟨h0, h1, h2, h3, h4, h5, h6, h7, h8, h9, h10, h11⟩ := host m c (rowAt t r) n k
  rw [← h0, ← h1, ← h2, ← h3, ← h4, ← h5, ← h6, ← h7, ← h8, ← h9, ← h10, ← h11]
  refine ⟨?_, ?_, ?_, ?_, ?_, ?_, ?_, ?_, ?_, ?_, ?_, ?_⟩
  all_goals
    blk_ext [iblk, idx t, rowAt]

/-- What the body stores of array 0. -/
theorem out0 (t : Fin cfg0.N) (r : Fin 128) (n : Fin 384) :
    k0_pay4 (iblk m c 3 t) (iblk m c 0 t) (iblk m c 6 t) (iblk m c 9 t) (ix2 r n) = AdamModel.delta (a0 m c (ix3 0 (rowAt t r) n)) (a3 m c (ix3 0 (rowAt t r) n)) (a6 m c (ix3 0 (rowAt t r) n)) (a9 m c (ix3 0 (rowAt t r) n))
    ∧ k0_pay2 (iblk m c 3 t) (iblk m c 6 t) (ix2 r n) = AdamModel.first (a3 m c (ix3 0 (rowAt t r) n)) (a6 m c (ix3 0 (rowAt t r) n))
    ∧ k0_pay3 (iblk m c 3 t) (iblk m c 9 t) (ix2 r n) = AdamModel.second (a3 m c (ix3 0 (rowAt t r) n)) (a9 m c (ix3 0 (rowAt t r) n))
    ∧ k0_pay1 (iblk m c 3 t) (ix2 r n) = a3 m c (ix3 0 (rowAt t r) n) := by
  have h := narrow (iblk m c 0 t) (iblk m c 3 t) (iblk m c 6 t) (iblk m c 9 t) (ix2 r n)
  obtain ⟨b0, b1, b2, b3, b4, b5, b6, b7, b8, b9, b10, b11⟩ := blk m c t r n 0
  rw [b0, b3, b6, b9] at h
  exact ⟨h.2.2.1, h.1, h.2.1, h.2.2.2⟩

/-- What the body stores of array 1. -/
theorem out1 (t : Fin cfg0.N) (r : Fin 128) (k : Fin 1024) :
    k0_pay8 (iblk m c 4 t) (iblk m c 1 t) (iblk m c 7 t) (iblk m c 10 t) (ix2 r k) = AdamModel.delta (a1 m c (ix3 0 (rowAt t r) k)) (a4 m c (ix3 0 (rowAt t r) k)) (a7 m c (ix3 0 (rowAt t r) k)) (a10 m c (ix3 0 (rowAt t r) k))
    ∧ k0_pay6 (iblk m c 4 t) (iblk m c 7 t) (ix2 r k) = AdamModel.first (a4 m c (ix3 0 (rowAt t r) k)) (a7 m c (ix3 0 (rowAt t r) k))
    ∧ k0_pay7 (iblk m c 4 t) (iblk m c 10 t) (ix2 r k) = AdamModel.second (a4 m c (ix3 0 (rowAt t r) k)) (a10 m c (ix3 0 (rowAt t r) k))
    ∧ k0_pay5 (iblk m c 4 t) (ix2 r k) = a4 m c (ix3 0 (rowAt t r) k) := by
  have h := wide (iblk m c 1 t) (iblk m c 4 t) (iblk m c 7 t) (iblk m c 10 t) (ix2 r k)
  obtain ⟨b0, b1, b2, b3, b4, b5, b6, b7, b8, b9, b10, b11⟩ := blk m c t r 0 k
  rw [b1, b4, b7, b10] at h
  exact ⟨h.2.2.1, h.1, h.2.1, h.2.2.2⟩

/-- What the body stores of array 2. -/
theorem out2 (t : Fin cfg0.N) (r : Fin 128) (k : Fin 1024) :
    k0_pay12 (iblk m c 5 t) (iblk m c 2 t) (iblk m c 8 t) (iblk m c 11 t) (ix2 r k) = AdamModel.delta (a2 m c (ix3 0 (rowAt t r) k)) (a5 m c (ix3 0 (rowAt t r) k)) (a8 m c (ix3 0 (rowAt t r) k)) (a11 m c (ix3 0 (rowAt t r) k))
    ∧ k0_pay10 (iblk m c 5 t) (iblk m c 8 t) (ix2 r k) = AdamModel.first (a5 m c (ix3 0 (rowAt t r) k)) (a8 m c (ix3 0 (rowAt t r) k))
    ∧ k0_pay11 (iblk m c 5 t) (iblk m c 11 t) (ix2 r k) = AdamModel.second (a5 m c (ix3 0 (rowAt t r) k)) (a11 m c (ix3 0 (rowAt t r) k))
    ∧ k0_pay9 (iblk m c 5 t) (ix2 r k) = a5 m c (ix3 0 (rowAt t r) k) := by
  have h := wide (iblk m c 2 t) (iblk m c 5 t) (iblk m c 8 t) (iblk m c 11 t) (ix2 r k)
  obtain ⟨b0, b1, b2, b3, b4, b5, b6, b7, b8, b9, b10, b11⟩ := blk m c t r 0 k
  rw [b2, b5, b8, b11] at h
  exact ⟨h.2.2.1, h.1, h.2.1, h.2.2.2⟩

end Cert.AdamKernel

end
-- ==== Proof.AdamClaim.lean ====
module

public import proofs.«01_k».proof.Defs
public import proofs.«01_k».proof.Proof.AdamKernel
public import proofs.«01_k».proof.Proof.Gen.AdamRefIdeal.Run

@[expose] public section

set_option maxRecDepth 16384

noncomputable section

/-! The optimiser's kernel and its reference compute the same arrays. -/

namespace Cert.AdamClaim

open Idealize.ShloMosaic Idealize.ShloMosaic.TcCoe Idealize.SL.Sem
open Cert.AdamIdeal Cert.AdamIdeal.Gen Cert.AdamKernel

/-- The two corrections by name. -/
theorem preserves : Cert.preserves_Adam_AdamIdeal :=
  ⟨IdealRules.named_const.statement Cert.AdamIdeal.κ "c1" .f32 0x3FC48605#32 (((5463681 / 8388608)⁻¹ : ℝ) : EReal) rfl,
   IdealRules.named_const.statement Cert.AdamIdeal.κ "c2" .f32 0x42C8E6D3#32 (((2672307 / 268435456)⁻¹ : ℝ) : EReal) rfl⟩

variable (m : (ℓ : Loc nD τ sig) → Buf (Elt Ideal) ℓ) (c : Dev nD)

/-- The results' arrays, of each width. -/
def narrowD (w g u v : FVec Ideal S1x1024x384 .f32) : FVec Ideal S1024x384 .f32 := fun i =>
  AdamModel.deltaAt (fun r k => w (ix3 0 r k)) (fun r k => g (ix3 0 r k)) (fun r k => u (ix3 0 r k)) (fun r k => v (ix3 0 r k))
    (i 0) (i 1)
def narrowF (g u : FVec Ideal S1x1024x384 .f32) : FVec Ideal S1024x384 .f32 := fun i =>
  AdamModel.firstAt (fun r k => g (ix3 0 r k)) (fun r k => u (ix3 0 r k)) (i 0) (i 1)
def narrowS (g v : FVec Ideal S1x1024x384 .f32) : FVec Ideal S1024x384 .f32 := fun i =>
  AdamModel.secondAt (fun r k => g (ix3 0 r k)) (fun r k => v (ix3 0 r k)) (i 0) (i 1)
def narrowG (g : FVec Ideal S1x1024x384 .f32) : FVec Ideal S1024x384 .f32 := fun i =>
  AdamModel.sameAt (fun r k => g (ix3 0 r k)) (i 0) (i 1)
def wideD (w g u v : FVec Ideal S1x1024x1024 .f32) : FVec Ideal S1024x1024 .f32 := fun i =>
  AdamModel.deltaAt (fun r k => w (ix3 0 r k)) (fun r k => g (ix3 0 r k)) (fun r k => u (ix3 0 r k)) (fun r k => v (ix3 0 r k))
    (i 0) (i 1)
def wideF (g u : FVec Ideal S1x1024x1024 .f32) : FVec Ideal S1024x1024 .f32 := fun i =>
  AdamModel.firstAt (fun r k => g (ix3 0 r k)) (fun r k => u (ix3 0 r k)) (i 0) (i 1)
def wideS (g v : FVec Ideal S1x1024x1024 .f32) : FVec Ideal S1024x1024 .f32 := fun i =>
  AdamModel.secondAt (fun r k => g (ix3 0 r k)) (fun r k => v (ix3 0 r k)) (i 0) (i 1)
def wideG (g : FVec Ideal S1x1024x1024 .f32) : FVec Ideal S1024x1024 .f32 := fun i =>
  AdamModel.sameAt (fun r k => g (ix3 0 r k)) (i 0) (i 1)

set_option maxHeartbeats 4000000 in
/-- What the kernel leaves in the twelve arrays. -/
theorem arrays :
    (dats m 0 c).arrAt 12 cfg0.N = narrowD (a0 m c) (a3 m c) (a6 m c) (a9 m c)
    ∧ (dats m 0 c).arrAt 13 cfg0.N = wideD (a1 m c) (a4 m c) (a7 m c) (a10 m c)
    ∧ (dats m 0 c).arrAt 14 cfg0.N = wideD (a2 m c) (a5 m c) (a8 m c) (a11 m c)
    ∧ (dats m 0 c).arrAt 15 cfg0.N = narrowF (a3 m c) (a6 m c)
    ∧ (dats m 0 c).arrAt 16 cfg0.N = wideF (a4 m c) (a7 m c)
    ∧ (dats m 0 c).arrAt 17 cfg0.N = wideF (a5 m c) (a8 m c)
    ∧ (dats m 0 c).arrAt 18 cfg0.N = narrowS (a3 m c) (a9 m c)
    ∧ (dats m 0 c).arrAt 19 cfg0.N = wideS (a4 m c) (a10 m c)
    ∧ (dats m 0 c).arrAt 20 cfg0.N = wideS (a5 m c) (a11 m c)
    ∧ (dats m 0 c).arrAt 21 cfg0.N = narrowG (a3 m c)
    ∧ (dats m 0 c).arrAt 22 cfg0.N = wideG (a4 m c)
    ∧ (dats m 0 c).arrAt 23 cfg0.N = wideG (a5 m c) := by
  refine ⟨(dats m 0 c).arrAt_eq_of_covers 12 _ (by decide +kernel) ?_,
    (dats m 0 c).arrAt_eq_of_covers 13 _ (by decide +kernel) ?_,
    (dats m 0 c).arrAt_eq_of_covers 14 _ (by decide +kernel) ?_,
    (dats m 0 c).arrAt_eq_of_covers 15 _ (by decide +kernel) ?_,
    (dats m 0 c).arrAt_eq_of_covers 16 _ (by decide +kernel) ?_,
    (dats m 0 c).arrAt_eq_of_covers 17 _ (by decide +kernel) ?_,
    (dats m 0 c).arrAt_eq_of_covers 18 _ (by decide +kernel) ?_,
    (dats m 0 c).arrAt_eq_of_covers 19 _ (by decide +kernel) ?_,
    (dats m 0 c).arrAt_eq_of_covers 20 _ (by decide +kernel) ?_,
    (dats m 0 c).arrAt_eq_of_covers 21 _ (by decide +kernel) ?_,
    (dats m 0 c).arrAt_eq_of_covers 22 _ (by decide +kernel) ?_,
    (dats m 0 c).arrAt_eq_of_covers 23 _ (by decide +kernel) ?_⟩
  all_goals
    intro t hf y
    blk_simp [narrowD, wideD, narrowF, wideF, narrowS, wideS, narrowG, wideG, idx t]
    simp only [after0_12, after0_13, after0_14, after0_15, after0_16, after0_17, after0_18, after0_19, after0_20, after0_21,
      after0_22, after0_23]
    first
      | obtain ⟨a, b, rfl⟩ : ∃ (a : Fin 128) (b : Fin 384), y = ix2 a b := ⟨y 0, y 1, by funext i; fin_cases i <;> rfl⟩
      | obtain ⟨a, b, rfl⟩ : ∃ (a : Fin 128) (b : Fin 1024), y = ix2 a b := ⟨y 0, y 1, by funext i; fin_cases i <;> rfl⟩
    frame_out
    refine Eq.trans ?_ (congrArg₂ _ (Fin.ext ?_ : rowAt t a = _) (Fin.ext ?_ : b = _))
    rotate_left
    · blk_simp [idx t, rowAt]
    · blk_simp [idx t]
  · exact (out0 m c t a b).1
  · exact (out1 m c t a b).1
  · exact (out2 m c t a b).1
  · exact (out0 m c t a b).2.1
  · exact (out1 m c t a b).2.1
  · exact (out2 m c t a b).2.1
  · exact (out0 m c t a b).2.2.1
  · exact (out1 m c t a b).2.2.1
  · exact (out2 m c t a b).2.2.1
  · exact (out0 m c t a b).2.2.2
  · exact (out1 m c t a b).2.2.2
  · exact (out2 m c t a b).2.2.2

section reference

open Cert.AdamRefIdeal.Read

/-- The reference's arrays, of each width. -/
theorem narrow_eq (w g u v : FVec Ideal S1x1024x384 .f32) :
    val_main_v72 (F := Ideal) w g u v = narrowD w g u v ∧ val_main_v75 (F := Ideal) g u = narrowF g u
    ∧ val_main_v78 (F := Ideal) g v = narrowS g v ∧ val_main_v81 (F := Ideal) g = narrowG g := by
  refine ⟨?_, ?_, ?_, ?_⟩ <;> funext i <;>
    obtain ⟨a, b, rfl⟩ : ∃ (a : Fin 1024) (b : Fin 384), i = ix2 a b := ⟨i 0, i 1, by funext i; fin_cases i <;> rfl⟩
  · exact (narrow_ref w g u v a b).1
  · exact (narrow_ref w g u v a b).2.1
  · exact (narrow_ref w g u v a b).2.2.1
  · exact (narrow_ref w g u v a b).2.2.2

theorem wide_eq (w g u v : FVec Ideal S1x1024x1024 .f32) :
    val_main_v73 (F := Ideal) w g u v = wideD w g u v ∧ val_main_v76 (F := Ideal) g u = wideF g u
    ∧ val_main_v79 (F := Ideal) g v = wideS g v ∧ val_main_v82 (F := Ideal) g = wideG g := by
  refine ⟨?_, ?_, ?_, ?_⟩ <;> funext i <;>
    obtain ⟨a, b, rfl⟩ : ∃ (a : Fin 1024) (b : Fin 1024), i = ix2 a b := ⟨i 0, i 1, by funext i; fin_cases i <;> rfl⟩
  · exact (wide_ref w g u v a b).1
  · exact (wide_ref w g u v a b).2.1
  · exact (wide_ref w g u v a b).2.2.1
  · exact (wide_ref w g u v a b).2.2.2

end reference

/-- The reference terminates, keeps its arguments and declares no semaphore. -/
theorem frame_ref (m : (ℓ : Loc AdamRefIdeal.nD AdamRefIdeal.τ AdamRefIdeal.sig) → Buf (Elt Ideal) ℓ)
    (ρ : Dev AdamRefIdeal.nD → PrngReg) :
    θ_run AdamRefIdeal.defs (onTc (τ := AdamRefIdeal.τ) (AdamRefIdeal.main (F := Ideal))) ⟨m, fun _ => 0, ρ⟩
      fun r => (∀ c : Dev AdamRefIdeal.nD,
        r.2.mem (c.tc.loc AdamRefIdeal.main_arg0) = m (c.tc.loc AdamRefIdeal.main_arg0)
        ∧ r.2.mem (c.tc.loc AdamRefIdeal.main_arg1) = m (c.tc.loc AdamRefIdeal.main_arg1)
        ∧ r.2.mem (c.tc.loc AdamRefIdeal.main_arg2) = m (c.tc.loc AdamRefIdeal.main_arg2)
        ∧ r.2.mem (c.tc.loc AdamRefIdeal.main_arg3) = m (c.tc.loc AdamRefIdeal.main_arg3)
        ∧ r.2.mem (c.tc.loc AdamRefIdeal.main_arg4) = m (c.tc.loc AdamRefIdeal.main_arg4)
        ∧ r.2.mem (c.tc.loc AdamRefIdeal.main_arg5) = m (c.tc.loc AdamRefIdeal.main_arg5)
        ∧ r.2.mem (c.tc.loc AdamRefIdeal.main_arg6) = m (c.tc.loc AdamRefIdeal.main_arg6)
        ∧ r.2.mem (c.tc.loc AdamRefIdeal.main_arg7) = m (c.tc.loc AdamRefIdeal.main_arg7)
        ∧ r.2.mem (c.tc.loc AdamRefIdeal.main_arg8) = m (c.tc.loc AdamRefIdeal.main_arg8)
        ∧ r.2.mem (c.tc.loc AdamRefIdeal.main_arg9) = m (c.tc.loc AdamRefIdeal.main_arg9)
        ∧ r.2.mem (c.tc.loc AdamRefIdeal.main_arg10) = m (c.tc.loc AdamRefIdeal.main_arg10)
        ∧ r.2.mem (c.tc.loc AdamRefIdeal.main_arg11) = m (c.tc.loc AdamRefIdeal.main_arg11))
        ∧ r.2.sem = fun _ => 0 :=
  (θ_run _ _ _).mono (fun r h => ⟨fun c => (h c).2.2.2.2.2.2.2.2.2.2.2.2, sem_eq_zero_of_no_sems (by decide) r.2⟩)
    (Cert.AdamRefIdeal.Value.run m ρ)

set_option maxHeartbeats 4000000 in
/-- The claim. -/
theorem algebraic : Cert.algebraic_AdamIdeal_AdamRefIdeal := by
  pair_intro
  · run_from Cert.AdamIdeal.Value.run_blocks m g
  · run_from Cert.AdamRefIdeal.Value.run m' g'
    all_goals
      obtain ⟨h0, h1, h2, h3, h4, h5, h6, h7, h8, h9, h10, h11⟩ := arrays m c
      have e0 := narrow_eq (a0 m c) (a3 m c) (a6 m c) (a9 m c)
      have e1 := wide_eq (a1 m c) (a4 m c) (a7 m c) (a10 m c)
      have e2 := wide_eq (a2 m c) (a5 m c) (a8 m c) (a11 m c)
    · exact e0.1.trans h0.symm
    · exact e1.1.trans h1.symm
    · exact e2.1.trans h2.symm
    · exact e0.2.1.trans h3.symm
    · exact e1.2.1.trans h4.symm
    · exact e2.2.1.trans h5.symm
    · exact e0.2.2.1.trans h6.symm
    · exact e1.2.2.1.trans h7.symm
    · exact e2.2.2.1.trans h8.symm
    · exact e0.2.2.2.trans h9.symm
    · exact e1.2.2.2.trans h10.symm
    · exact e2.2.2.2.trans h11.symm

end Cert.AdamClaim

end
-- ==== Proof.lean ====
module

public import proofs.«01_k».proof.Defs
public import proofs.«01_k».proof.Proof.Gen.MlpX.Frame
public import proofs.«01_k».proof.Proof.Gen.MlpXIdeal.Value
public import proofs.«01_k».proof.Proof.Gen.MlpXRefIdeal.Run
public import proofs.«01_k».proof.Proof.Gen.MlpXRefIdeal.Read
public import proofs.«01_k».proof.Proof.MlpClaim
public import proofs.«01_k».proof.Proof.Gen.In.Frame
public import proofs.«01_k».proof.Proof.Gen.InIdeal.Value
public import proofs.«01_k».proof.Proof.Gen.InRefIdeal.Run
public import proofs.«01_k».proof.Proof.Gen.InRefIdeal.Read
public import proofs.«01_k».proof.Proof.InClaim
public import proofs.«01_k».proof.Proof.Gen.Head.Frame
public import proofs.«01_k».proof.Proof.Gen.HeadIdeal.Value
public import proofs.«01_k».proof.Proof.Gen.HeadRefIdeal.Run
public import proofs.«01_k».proof.Proof.Gen.HeadRefIdeal.Read
public import proofs.«01_k».proof.Proof.HeadClaim
public import proofs.«01_k».proof.Proof.Gen.FwdMix.Frame
public import proofs.«01_k».proof.Proof.Gen.FwdMixIdeal.Value
public import proofs.«01_k».proof.Proof.Gen.FwdMixRefIdeal.Run
public import proofs.«01_k».proof.Proof.Gen.FwdMixRefIdeal.Read
public import proofs.«01_k».proof.Proof.FwdMixClaim
public import proofs.«01_k».proof.Proof.Gen.FwdMlp.Frame
public import proofs.«01_k».proof.Proof.Gen.FwdMlpIdeal.Value
public import proofs.«01_k».proof.Proof.Gen.FwdMlpRefIdeal.Run
public import proofs.«01_k».proof.Proof.Gen.FwdMlpRefIdeal.Read
public import proofs.«01_k».proof.Proof.FwdMlpClaim
public import proofs.«01_k».proof.Proof.Gen.MlpW.Frame
public import proofs.«01_k».proof.Proof.Gen.MlpWIdeal.Value
public import proofs.«01_k».proof.Proof.Gen.MlpWRefIdeal.Run
public import proofs.«01_k».proof.Proof.Gen.MlpWRefIdeal.Read
public import proofs.«01_k».proof.Proof.MlpWClaim
public import proofs.«01_k».proof.Proof.Gen.AddPairs.Frame
public import proofs.«01_k».proof.Proof.Gen.AddPairsIdeal.Value
public import proofs.«01_k».proof.Proof.Gen.AddPairsRefIdeal.Run
public import proofs.«01_k».proof.Proof.Gen.AddPairsRefIdeal.Read
public import proofs.«01_k».proof.Proof.AddPairsClaim
public import proofs.«01_k».proof.Proof.Gen.Adam.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim

@[expose] public section

noncomputable section

/-! The certificate: each call's frames, its idealisation, and its equality with the reference. -/

namespace Cert.Proof

open Idealize.ShloMosaic Idealize.SL.Sem

theorem claim : Cert.Claim := ⟨Cert.MlpX.Gen.facts,
  Cert.MlpXIdeal.Gen.facts,
  Cert.MlpXRefIdeal.Gen.facts,
  Cert.In.Gen.facts,
  Cert.InIdeal.Gen.facts,
  Cert.InRefIdeal.Gen.facts,
  Cert.Head.Gen.facts,
  Cert.HeadIdeal.Gen.facts,
  Cert.HeadRefIdeal.Gen.facts,
  Cert.FwdMix.Gen.facts,
  Cert.FwdMixIdeal.Gen.facts,
  Cert.FwdMixRefIdeal.Gen.facts,
  Cert.FwdMlp.Gen.facts,
  Cert.FwdMlpIdeal.Gen.facts,
  Cert.FwdMlpRefIdeal.Gen.facts,
  Cert.MlpW.Gen.facts,
  Cert.MlpWIdeal.Gen.facts,
  Cert.MlpWRefIdeal.Gen.facts,
  Cert.AddPairs.Gen.facts,
  Cert.AddPairsIdeal.Gen.facts,
  Cert.AddPairsRefIdeal.Gen.facts,
  Cert.Adam.Gen.facts,
  Cert.AdamIdeal.Gen.facts,
  Cert.AdamRefIdeal.Gen.facts,
  Cert.Pre_mlp_finite.Gen.facts,
  Cert.Pre_in_finite.Gen.facts,
  Cert.Pre_head_finite.Gen.facts,
  fun m ρ _ => Cert.MlpX.Gen.frame m ρ,
  fun m ρ _ => Cert.MlpXIdeal.Gen.frame m ρ, fun m ρ _ => Cert.MlpXIdeal.Gen.frame m ρ,
  fun m ρ _ => Cert.MlpClaim.frame_ref m ρ, fun m ρ _ => Cert.MlpClaim.frame_ref m ρ,
  fun m ρ _ => Cert.In.Gen.frame m ρ,
  fun m ρ _ => Cert.InIdeal.Gen.frame m ρ, fun m ρ _ => Cert.InIdeal.Gen.frame m ρ,
  fun m ρ _ => Cert.InClaim.frame_ref m ρ, fun m ρ _ => Cert.InClaim.frame_ref m ρ,
  fun m ρ _ => Cert.Head.Gen.frame m ρ,
  fun m ρ _ => Cert.HeadIdeal.Gen.frame m ρ, fun m ρ _ => Cert.HeadIdeal.Gen.frame m ρ,
  fun m ρ _ => Cert.HeadClaim.frame_ref m ρ, fun m ρ _ => Cert.HeadClaim.frame_ref m ρ,
  fun m ρ _ => Cert.FwdMix.Gen.frame m ρ,
  fun m ρ _ => Cert.FwdMixIdeal.Gen.frame m ρ,
  fun m ρ _ => Cert.FwdMixClaim.frame_ref m ρ,
  fun m ρ _ => Cert.FwdMlp.Gen.frame m ρ,
  fun m ρ _ => Cert.FwdMlpIdeal.Gen.frame m ρ,
  fun m ρ _ => Cert.FwdMlpClaim.frame_ref m ρ,
  fun m ρ _ => Cert.MlpW.Gen.frame m ρ,
  fun m ρ _ => Cert.MlpWIdeal.Gen.frame m ρ,
  fun m ρ _ => Cert.MlpWClaim.frame_ref m ρ,
  fun m ρ _ => Cert.AddPairs.Gen.frame m ρ,
  fun m ρ _ => Cert.AddPairsIdeal.Gen.frame m ρ,
  fun m ρ _ => Cert.AddPairsClaim.frame_ref m ρ,
  fun m ρ _ => Cert.Adam.Gen.frame m ρ,
  fun m ρ _ => Cert.AdamIdeal.Gen.frame m ρ,
  fun m ρ _ => Cert.AdamClaim.frame_ref m ρ,
  trivial, Cert.MlpClaim.algebraic,
  trivial, Cert.InClaim.algebraic,
  trivial, Cert.HeadClaim.algebraic,
  trivial, Cert.FwdMixClaim.algebraic,
  trivial, Cert.FwdMlpClaim.algebraic,
  trivial, Cert.MlpWClaim.algebraic,
  trivial, Cert.AddPairsClaim.algebraic,
  Cert.AdamClaim.preserves, Cert.AdamClaim.algebraic⟩

end Cert.Proof

end
